-- ==== Defs.lean ====
def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluIdeal_glu_finite [hPre_glu_finite : Cert.Pre_glu_finite.Facts] (m : (ℓ : Loc Cert.GluIdeal.nD Cert.GluIdeal.τ Cert.GluIdeal.sig) → Buf (Elt Ideal) ℓ) : Prop :=
  ∀ c : Dev Cert.GluIdeal.nD,
    (Cert.Pre_glu_finite.fn (F := Ideal) (m ((c.tc : Thread Cert.GluIdeal.nD Cert.GluIdeal.τ).loc Cert.GluIdeal.main_arg0)) (m ((c.tc : Thread Cert.GluIdeal.nD Cert.GluIdeal.τ).loc Cert.GluIdeal.main_arg1)) (m ((c.tc : Thread Cert.GluIdeal.nD Cert.GluIdeal.τ).loc Cert.GluIdeal.main_arg2)) (m ((c.tc : Thread Cert.GluIdeal.nD Cert.GluIdeal.τ).loc Cert.GluIdeal.main_arg3))) = (fun _ => 1#1)

def Pre_GluRefIdeal (m : (ℓ : Loc Cert.GluRefIdeal.nD Cert.GluRefIdeal.τ Cert.GluRefIdeal.sig) → Buf (Elt Ideal) ℓ) : Prop :=
  True

def Pre_GluRefIdeal_glu_finite [hPre_glu_finite : Cert.Pre_glu_finite.Facts] (m : (ℓ : Loc Cert.GluRefIdeal.nD Cert.GluRefIdeal.τ Cert.GluRefIdeal.sig) → Buf (Elt Ideal) ℓ) : Prop :=
  ∀ c : Dev Cert.GluRefIdeal.nD,
    (Cert.Pre_glu_finite.fn (F := Ideal) (m ((c.tc : Thread Cert.GluRefIdeal.nD Cert.GluRefIdeal.τ).loc Cert.GluRefIdeal.main_arg0)) (m ((c.tc : Thread Cert.GluRefIdeal.nD Cert.GluRefIdeal.τ).loc Cert.GluRefIdeal.main_arg1)) (m ((c.tc : Thread Cert.GluRefIdeal.nD Cert.GluRefIdeal.τ).loc Cert.GluRefIdeal.main_arg2)) (m ((c.tc : Thread Cert.GluRefIdeal.nD Cert.GluRefIdeal.τ).loc Cert.GluRefIdeal.main_arg3))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_UpFwd (m : (ℓ : Loc Cert.UpFwd.nD Cert.UpFwd.τ Cert.UpFwd.sig) → Buf (Elt Bits) ℓ) : Prop :=
  True

def Pre_UpFwdIdeal (m : (ℓ : Loc Cert.UpFwdIdeal.nD Cert.UpFwdIdeal.τ Cert.UpFwdIdeal.sig) → Buf (Elt Ideal) ℓ) : Prop :=
  True

def Pre_UpFwdRefIdeal (m : (ℓ : Loc Cert.UpFwdRefIdeal.nD Cert.UpFwdRefIdeal.τ Cert.UpFwdRefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2)
      ∧ r.2.mem ((c.tc : Thread Cert.Glu.nD Cert.Glu.τ).loc Cert.Glu.main_arg3) = m ((c.tc : Thread Cert.Glu.nD Cert.Glu.τ).loc Cert.Glu.main_arg3))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3))
      ∧ r.2.sem = fun _ => 0)

def quiescent_GluIdeal_pre_glu_finite [hGluIdeal : Cert.GluIdeal.Facts] [hPre_glu_finite : Cert.Pre_glu_finite.Facts] : Prop :=
  ∀ (m : (ℓ : Loc Cert.GluIdeal.nD Cert.GluIdeal.τ Cert.GluIdeal.sig) → Buf (Elt Ideal) ℓ) (g : Dev Cert.GluIdeal.nD → PrngReg), Pre_GluIdeal_glu_finite m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2)
      ∧ r.2.mem ((c.tc : Thread Cert.GluRefIdeal.nD Cert.GluRefIdeal.τ).loc Cert.GluRefIdeal.main_arg3) = m ((c.tc : Thread Cert.GluRefIdeal.nD Cert.GluRefIdeal.τ).loc Cert.GluRefIdeal.main_arg3))
      ∧ r.2.sem = fun _ => 0)

def quiescent_GluRefIdeal_pre_glu_finite [hGluRefIdeal : Cert.GluRefIdeal.Facts] [hPre_glu_finite : Cert.Pre_glu_finite.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal_glu_finite m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2)
      ∧ r.2.mem ((c.tc : Thread Cert.GluRefIdeal.nD Cert.GluRefIdeal.τ).loc Cert.GluRefIdeal.main_arg3) = m ((c.tc : Thread Cert.GluRefIdeal.nD Cert.GluRefIdeal.τ).loc Cert.GluRefIdeal.main_arg3))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1)
      ∧ r.2.mem ((c.tc : Thread Cert.UpDxRefIdeal.nD Cert.UpDxRefIdeal.τ).loc Cert.UpDxRefIdeal.main_arg2) = m ((c.tc : Thread Cert.UpDxRefIdeal.nD Cert.UpDxRefIdeal.τ).loc Cert.UpDxRefIdeal.main_arg2))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_UpFwd [hUpFwd : Cert.UpFwd.Facts] : Prop :=
  ∀ (m : (ℓ : Loc Cert.UpFwd.nD Cert.UpFwd.τ Cert.UpFwd.sig) → Buf (Elt Bits) ℓ) (g : Dev Cert.UpFwd.nD → PrngReg), Pre_UpFwd m →
    θ_run (Cert.UpFwd.defs (F := Bits)) (onTc (τ := Cert.UpFwd.τ) (Cert.UpFwd.main (F := Bits))) ⟨m, fun _ => 0, g⟩ (fun r => (∀ c : Dev Cert.UpFwd.nD,
      r.2.mem ((c.tc : Thread Cert.UpFwd.nD Cert.UpFwd.τ).loc Cert.UpFwd.main_arg0) = m ((c.tc : Thread Cert.UpFwd.nD Cert.UpFwd.τ).loc Cert.UpFwd.main_arg0)
      ∧ r.2.mem ((c.tc : Thread Cert.UpFwd.nD Cert.UpFwd.τ).loc Cert.UpFwd.main_arg1) = m ((c.tc : Thread Cert.UpFwd.nD Cert.UpFwd.τ).loc Cert.UpFwd.main_arg1))
      ∧ r.2.sem = fun _ => 0)

def quiescent_UpFwdIdeal [hUpFwdIdeal : Cert.UpFwdIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg), Pre_UpFwdIdeal m →
    θ_run (Cert.UpFwdIdeal.defs (F := Ideal)) (onTc (τ := Cert.UpFwdIdeal.τ) (Cert.UpFwdIdeal.main (F := Ideal))) ⟨m, fun _ => 0, g⟩ (fun r => (∀ c : Dev Cert.UpFwdIdeal.nD,
      r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
      ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ r.2.sem = fun _ => 0)

def quiescent_UpFwdRefIdeal [hUpFwdRefIdeal : Cert.UpFwdRefIdeal.Facts] : Prop :=
  ∀ (m : (ℓ : Loc Cert.UpFwdRefIdeal.nD Cert.UpFwdRefIdeal.τ Cert.UpFwdRefIdeal.sig) → Buf (Elt Ideal) ℓ) (g : Dev Cert.UpFwdRefIdeal.nD → PrngReg), Pre_UpFwdRefIdeal m →
    θ_run (Cert.UpFwdRefIdeal.defs (F := Ideal)) (onTc (τ := Cert.UpFwdRefIdeal.τ) (Cert.UpFwdRefIdeal.main (F := Ideal))) ⟨m, fun _ => 0, g⟩ (fun r => (∀ c : Dev Cert.UpFwdRefIdeal.nD,
      r.2.mem ((c.tc : Thread Cert.UpFwdRefIdeal.nD Cert.UpFwdRefIdeal.τ).loc Cert.UpFwdRefIdeal.main_arg0) = m ((c.tc : Thread Cert.UpFwdRefIdeal.nD Cert.UpFwdRefIdeal.τ).loc Cert.UpFwdRefIdeal.main_arg0)
      ∧ r.2.mem ((c.tc : Thread Cert.UpFwdRefIdeal.nD Cert.UpFwdRefIdeal.τ).loc Cert.UpFwdRefIdeal.main_arg1) = m ((c.tc : Thread Cert.UpFwdRefIdeal.nD Cert.UpFwdRefIdeal.τ).loc Cert.UpFwdRefIdeal.main_arg1))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1))
      ∧ r.2.sem = fun _ => 0)

def preserves_Glu_GluIdeal : Prop :=
  True

def algebraic_GluIdeal_GluRefIdeal_pre_glu_finite [hGluIdeal : Cert.GluIdeal.Facts] [hGluRefIdeal : Cert.GluRefIdeal.Facts] [hPre_glu_finite : Cert.Pre_glu_finite.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal_glu_finite m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)
      ∧ m' ((c.tc : Thread Cert.GluRefIdeal.nD Cert.GluRefIdeal.τ).loc Cert.GluRefIdeal.main_arg3) = m ((c.tc : Thread Cert.GluIdeal.nD Cert.GluIdeal.τ).loc Cert.GluIdeal.main_arg3)) →
    ∃ (v0 : (c : Dev Cert.GluIdeal.nD) → Buf (Elt Ideal) ((c.tc : Thread Cert.GluIdeal.nD Cert.GluIdeal.τ).loc Cert.GluIdeal.main_v33_0)) (v1 : (c : Dev Cert.GluIdeal.nD) → Buf (Elt Ideal) ((c.tc : Thread Cert.GluIdeal.nD Cert.GluIdeal.τ).loc Cert.GluIdeal.main_v33_1)) (v2 : (c : Dev Cert.GluIdeal.nD) → Buf (Elt Ideal) ((c.tc : Thread Cert.GluIdeal.nD Cert.GluIdeal.τ).loc Cert.GluIdeal.main_v33_2)) (v3 : (c : Dev Cert.GluIdeal.nD) → Buf (Elt Ideal) ((c.tc : Thread Cert.GluIdeal.nD Cert.GluIdeal.τ).loc Cert.GluIdeal.main_v33_3)) (v4 : (c : Dev Cert.GluIdeal.nD) → Buf (Elt Ideal) ((c.tc : Thread Cert.GluIdeal.nD Cert.GluIdeal.τ).loc Cert.GluIdeal.main_v33_4)) (v5 : (c : Dev Cert.GluIdeal.nD) → Buf (Elt Ideal) ((c.tc : Thread Cert.GluIdeal.nD Cert.GluIdeal.τ).loc Cert.GluIdeal.main_v33_5)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v33_0) = v0 c
          ∧ r.2.mem ((c.tc : Thread Cert.GluIdeal.nD Cert.GluIdeal.τ).loc Cert.GluIdeal.main_v33_1) = v1 c
          ∧ r.2.mem ((c.tc : Thread Cert.GluIdeal.nD Cert.GluIdeal.τ).loc Cert.GluIdeal.main_v33_2) = v2 c
          ∧ r.2.mem ((c.tc : Thread Cert.GluIdeal.nD Cert.GluIdeal.τ).loc Cert.GluIdeal.main_v33_3) = v3 c
          ∧ r.2.mem ((c.tc : Thread Cert.GluIdeal.nD Cert.GluIdeal.τ).loc Cert.GluIdeal.main_v33_4) = v4 c
          ∧ r.2.mem ((c.tc : Thread Cert.GluIdeal.nD Cert.GluIdeal.τ).loc Cert.GluIdeal.main_v33_5) = v5 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
          ∧ r.2.mem ((c.tc : Thread Cert.GluIdeal.nD Cert.GluIdeal.τ).loc Cert.GluIdeal.main_arg3) = m ((c.tc : Thread Cert.GluIdeal.nD Cert.GluIdeal.τ).loc Cert.GluIdeal.main_arg3))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v73) = v0 c
          ∧ r.2.mem ((c.tc : Thread Cert.GluRefIdeal.nD Cert.GluRefIdeal.τ).loc Cert.GluRefIdeal.main_v75) = v1 c
          ∧ r.2.mem ((c.tc : Thread Cert.GluRefIdeal.nD Cert.GluRefIdeal.τ).loc Cert.GluRefIdeal.main_v76) = v2 c
          ∧ r.2.mem ((c.tc : Thread Cert.GluRefIdeal.nD Cert.GluRefIdeal.τ).loc Cert.GluRefIdeal.main_v77) = v3 c
          ∧ r.2.mem ((c.tc : Thread Cert.GluRefIdeal.nD Cert.GluRefIdeal.τ).loc Cert.GluRefIdeal.main_v79) = v4 c
          ∧ r.2.mem ((c.tc : Thread Cert.GluRefIdeal.nD Cert.GluRefIdeal.τ).loc Cert.GluRefIdeal.main_v81) = v5 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2)
          ∧ r.2.mem ((c.tc : Thread Cert.GluRefIdeal.nD Cert.GluRefIdeal.τ).loc Cert.GluRefIdeal.main_arg3) = m' ((c.tc : Thread Cert.GluRefIdeal.nD Cert.GluRefIdeal.τ).loc Cert.GluRefIdeal.main_arg3))

def preserves_Attn_AttnIdeal : Prop :=
  IdealRules.named_const.Statement Cert.AttnIdeal.κ "ln2" .f32 0x3F317218#32 ((Real.log 2 : ℝ) : EReal)

def algebraic_AttnIdeal_AttnRefIdeal [hAttnIdeal : Cert.AttnIdeal.Facts] [hAttnRefIdeal : Cert.AttnRefIdeal.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)
      ∧ m' ((c.tc : Thread Cert.AttnRefIdeal.nD Cert.AttnRefIdeal.τ).loc Cert.AttnRefIdeal.main_arg7) = m ((c.tc : Thread Cert.AttnIdeal.nD Cert.AttnIdeal.τ).loc Cert.AttnIdeal.main_arg7)) →
    ∃ (v0 : (c : Dev Cert.AttnIdeal.nD) → Buf (Elt Ideal) ((c.tc : Thread Cert.AttnIdeal.nD Cert.AttnIdeal.τ).loc Cert.AttnIdeal.main_v0_0)) (v1 : (c : Dev Cert.AttnIdeal.nD) → Buf (Elt Ideal) ((c.tc : Thread Cert.AttnIdeal.nD Cert.AttnIdeal.τ).loc Cert.AttnIdeal.main_v0_1)) (v2 : (c : Dev Cert.AttnIdeal.nD) → Buf (Elt Ideal) ((c.tc : Thread Cert.AttnIdeal.nD Cert.AttnIdeal.τ).loc Cert.AttnIdeal.main_v0_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0_0) = v0 c
          ∧ r.2.mem ((c.tc : Thread Cert.AttnIdeal.nD Cert.AttnIdeal.τ).loc Cert.AttnIdeal.main_v0_1) = v1 c
          ∧ r.2.mem ((c.tc : Thread Cert.AttnIdeal.nD Cert.AttnIdeal.τ).loc Cert.AttnIdeal.main_v0_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v43) = v0 c
          ∧ r.2.mem ((c.tc : Thread Cert.AttnRefIdeal.nD Cert.AttnRefIdeal.τ).loc Cert.AttnRefIdeal.main_v45) = v1 c
          ∧ r.2.mem ((c.tc : Thread Cert.AttnRefIdeal.nD Cert.AttnRefIdeal.τ).loc Cert.AttnRefIdeal.main_v49) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6)
          ∧ r.2.mem ((c.tc : Thread Cert.AttnRefIdeal.nD Cert.AttnRefIdeal.τ).loc Cert.AttnRefIdeal.main_arg7) = m' ((c.tc : Thread Cert.AttnRefIdeal.nD Cert.AttnRefIdeal.τ).loc Cert.AttnRefIdeal.main_arg7))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)
      ∧ m' ((c.tc : Thread Cert.UpDxRefIdeal.nD Cert.UpDxRefIdeal.τ).loc Cert.UpDxRefIdeal.main_arg2) = m ((c.tc : Thread Cert.UpDxIdeal.nD Cert.UpDxIdeal.τ).loc Cert.UpDxIdeal.main_arg2)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v7) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1)
          ∧ r.2.mem ((c.tc : Thread Cert.UpDxRefIdeal.nD Cert.UpDxRefIdeal.τ).loc Cert.UpDxRefIdeal.main_arg2) = m' ((c.tc : Thread Cert.UpDxRefIdeal.nD Cert.UpDxRefIdeal.τ).loc Cert.UpDxRefIdeal.main_arg2))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v5) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v5) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v5) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v5) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v5) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)) →
    ∃ (v0 : (c : Dev Cert.InDxIdeal.nD) → Buf (Elt Ideal) ((c.tc : Thread Cert.InDxIdeal.nD Cert.InDxIdeal.τ).loc Cert.InDxIdeal.main_v0)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v0) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v5) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v5) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_UpFwd_UpFwdIdeal : Prop :=
  True

def algebraic_UpFwdIdeal_UpFwdRefIdeal [hUpFwdIdeal : Cert.UpFwdIdeal.Facts] [hUpFwdRefIdeal : Cert.UpFwdRefIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg)
    (m' : (ℓ : Loc Cert.UpFwdRefIdeal.nD Cert.UpFwdRefIdeal.τ Cert.UpFwdRefIdeal.sig) → Buf (Elt Ideal) ℓ) (g' : Dev Cert.UpFwdRefIdeal.nD → PrngReg), Pre_UpFwdIdeal m →
    (∀ c : Dev Cert.UpFwdIdeal.nD,
      m' ((c.tc : Thread Cert.UpFwdRefIdeal.nD Cert.UpFwdRefIdeal.τ).loc Cert.UpFwdRefIdeal.main_arg0) = m ((c.tc : Thread Cert.UpFwdIdeal.nD Cert.UpFwdIdeal.τ).loc Cert.UpFwdIdeal.main_arg0)
      ∧ m' ((c.tc : Thread Cert.UpFwdRefIdeal.nD Cert.UpFwdRefIdeal.τ).loc Cert.UpFwdRefIdeal.main_arg1) = m ((c.tc : Thread Cert.UpFwdIdeal.nD Cert.UpFwdIdeal.τ).loc Cert.UpFwdIdeal.main_arg1)) →
    ∃ (v0 : (c : Dev Cert.UpFwdIdeal.nD) → Buf (Elt Ideal) ((c.tc : Thread Cert.UpFwdIdeal.nD Cert.UpFwdIdeal.τ).loc Cert.UpFwdIdeal.main_v0)),
      θ_run (Cert.UpFwdIdeal.defs (F := Ideal)) (onTc (τ := Cert.UpFwdIdeal.τ) (Cert.UpFwdIdeal.main (F := Ideal))) ⟨m, fun _ => 0, g⟩ (fun r => ∀ c : Dev Cert.UpFwdIdeal.nD,
          r.2.mem ((c.tc : Thread Cert.UpFwdIdeal.nD Cert.UpFwdIdeal.τ).loc Cert.UpFwdIdeal.main_v0) = v0 c
          ∧ r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
          ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ θ_run (Cert.UpFwdRefIdeal.defs (F := Ideal)) (onTc (τ := Cert.UpFwdRefIdeal.τ) (Cert.UpFwdRefIdeal.main (F := Ideal))) ⟨m', fun _ => 0, g'⟩ (fun r => ∀ c : Dev Cert.UpFwdRefIdeal.nD,
          r.2.mem ((c.tc : Thread Cert.UpFwdRefIdeal.nD Cert.UpFwdRefIdeal.τ).loc Cert.UpFwdRefIdeal.main_v3) = v0 c
          ∧ r.2.mem ((c.tc : Thread Cert.UpFwdRefIdeal.nD Cert.UpFwdRefIdeal.τ).loc Cert.UpFwdRefIdeal.main_arg0) = m' ((c.tc : Thread Cert.UpFwdRefIdeal.nD Cert.UpFwdRefIdeal.τ).loc Cert.UpFwdRefIdeal.main_arg0)
          ∧ r.2.mem ((c.tc : Thread Cert.UpFwdRefIdeal.nD Cert.UpFwdRefIdeal.τ).loc Cert.UpFwdRefIdeal.main_arg1) = m' ((c.tc : Thread Cert.UpFwdRefIdeal.nD Cert.UpFwdRefIdeal.τ).loc Cert.UpFwdRefIdeal.main_arg1))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)) →
    ∃ (v0 : (c : Dev Cert.InFwdIdeal.nD) → Buf (Elt Ideal) ((c.tc : Thread Cert.InFwdIdeal.nD Cert.InFwdIdeal.τ).loc Cert.InFwdIdeal.main_v0)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v0) = v0 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v2) = v0 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1))

def Claim : Prop :=
  ∃ (hGlu : Cert.Glu.Facts) (hGluIdeal : Cert.GluIdeal.Facts) (hGluRefIdeal : Cert.GluRefIdeal.Facts) (hAttn : Cert.Attn.Facts) (hAttnIdeal : Cert.AttnIdeal.Facts) (hAttnRefIdeal : Cert.AttnRefIdeal.Facts) (hUpDx : Cert.UpDx.Facts) (hUpDxIdeal : Cert.UpDxIdeal.Facts) (hUpDxRefIdeal : Cert.UpDxRefIdeal.Facts) (hUpDw : Cert.UpDw.Facts) (hUpDwIdeal : Cert.UpDwIdeal.Facts) (hUpDwRefIdeal : Cert.UpDwRefIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hOutDx : Cert.OutDx.Facts) (hOutDxIdeal : Cert.OutDxIdeal.Facts) (hOutDxRefIdeal : Cert.OutDxRefIdeal.Facts) (hOutDw : Cert.OutDw.Facts) (hOutDwIdeal : Cert.OutDwIdeal.Facts) (hOutDwRefIdeal : Cert.OutDwRefIdeal.Facts) (hInDx : Cert.InDx.Facts) (hInDxIdeal : Cert.InDxIdeal.Facts) (hInDxRefIdeal : Cert.InDxRefIdeal.Facts) (hInDw : Cert.InDw.Facts) (hInDwIdeal : Cert.InDwIdeal.Facts) (hInDwRefIdeal : Cert.InDwRefIdeal.Facts) (hUpFwd : Cert.UpFwd.Facts) (hUpFwdIdeal : Cert.UpFwdIdeal.Facts) (hUpFwdRefIdeal : Cert.UpFwdRefIdeal.Facts) (hInFwd : Cert.InFwd.Facts) (hInFwdIdeal : Cert.InFwdIdeal.Facts) (hInFwdRefIdeal : Cert.InFwdRefIdeal.Facts) (hPre_glu_finite : Cert.Pre_glu_finite.Facts),
    quiescent_Glu (hGlu := hGlu)
    ∧ quiescent_GluIdeal (hGluIdeal := hGluIdeal)
    ∧ quiescent_GluIdeal_pre_glu_finite (hGluIdeal := hGluIdeal) (hPre_glu_finite := hPre_glu_finite)
    ∧ quiescent_GluRefIdeal (hGluRefIdeal := hGluRefIdeal)
    ∧ quiescent_GluRefIdeal_pre_glu_finite (hGluRefIdeal := hGluRefIdeal) (hPre_glu_finite := hPre_glu_finite)
    ∧ quiescent_Attn (hAttn := hAttn)
    ∧ quiescent_AttnIdeal (hAttnIdeal := hAttnIdeal)
    ∧ quiescent_AttnRefIdeal (hAttnRefIdeal := hAttnRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_InDx (hInDx := hInDx)
    ∧ quiescent_InDxIdeal (hInDxIdeal := hInDxIdeal)
    ∧ quiescent_InDxRefIdeal (hInDxRefIdeal := hInDxRefIdeal)
    ∧ quiescent_InDw (hInDw := hInDw)
    ∧ quiescent_InDwIdeal (hInDwIdeal := hInDwIdeal)
    ∧ quiescent_InDwRefIdeal (hInDwRefIdeal := hInDwRefIdeal)
    ∧ quiescent_UpFwd (hUpFwd := hUpFwd)
    ∧ quiescent_UpFwdIdeal (hUpFwdIdeal := hUpFwdIdeal)
    ∧ quiescent_UpFwdRefIdeal (hUpFwdRefIdeal := hUpFwdRefIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ preserves_Glu_GluIdeal
    ∧ algebraic_GluIdeal_GluRefIdeal_pre_glu_finite (hGluIdeal := hGluIdeal) (hGluRefIdeal := hGluRefIdeal) (hPre_glu_finite := hPre_glu_finite)
    ∧ preserves_Attn_AttnIdeal
    ∧ algebraic_AttnIdeal_AttnRefIdeal (hAttnIdeal := hAttnIdeal) (hAttnRefIdeal := hAttnRefIdeal)
    ∧ preserves_UpDx_UpDxIdeal
    ∧ algebraic_UpDxIdeal_UpDxRefIdeal (hUpDxIdeal := hUpDxIdeal) (hUpDxRefIdeal := hUpDxRefIdeal)
    ∧ preserves_UpDw_UpDwIdeal
    ∧ algebraic_UpDwIdeal_UpDwRefIdeal (hUpDwIdeal := hUpDwIdeal) (hUpDwRefIdeal := hUpDwRefIdeal)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_OutDx_OutDxIdeal
    ∧ algebraic_OutDxIdeal_OutDxRefIdeal (hOutDxIdeal := hOutDxIdeal) (hOutDxRefIdeal := hOutDxRefIdeal)
    ∧ preserves_OutDw_OutDwIdeal
    ∧ algebraic_OutDwIdeal_OutDwRefIdeal (hOutDwIdeal := hOutDwIdeal) (hOutDwRefIdeal := hOutDwRefIdeal)
    ∧ preserves_InDx_InDxIdeal
    ∧ algebraic_InDxIdeal_InDxRefIdeal (hInDxIdeal := hInDxIdeal) (hInDxRefIdeal := hInDxRefIdeal)
    ∧ preserves_InDw_InDwIdeal
    ∧ algebraic_InDwIdeal_InDwRefIdeal (hInDwIdeal := hInDwIdeal) (hInDwRefIdeal := hInDwRefIdeal)
    ∧ preserves_UpFwd_UpFwdIdeal
    ∧ algebraic_UpFwdIdeal_UpFwdRefIdeal (hUpFwdIdeal := hUpFwdIdeal) (hUpFwdRefIdeal := hUpFwdRefIdeal)
    ∧ preserves_InFwd_InFwdIdeal
    ∧ algebraic_InFwdIdeal_InFwdRefIdeal (hInFwdIdeal := hInFwdIdeal) (hInFwdRefIdeal := hInFwdRefIdeal)
-- ==== Pre_glu_finite.lean ====
abbrev S4x2048x5632 : Shape := ⟨3, ![4, 2048, 5632]⟩
abbrev S3x5632 : Shape := ⟨2, ![3, 5632]⟩
abbrev S5632 : Shape := ⟨1, ![5632]⟩
abbrev S4x2048x2816 : Shape := ⟨3, ![4, 2048, 2816]⟩
abbrev S_ : Shape := ⟨0, ![]⟩

class Facts : Prop where
  bcast_S_S4x2048x5632 : S_.BroadcastsInDim S4x2048x5632 (![] : Fin 0 → Fin S4x2048x5632.rank)
  reducesTo_S4x2048x5632_S_d0_1_2 : S4x2048x5632.ReducesTo [0, 1, 2] S_
  h_S_ : 0 < S_.numel
  bcast_S_S3x5632 : S_.BroadcastsInDim S3x5632 (![] : Fin 0 → Fin S3x5632.rank)
  reducesTo_S3x5632_S_d0_1 : S3x5632.ReducesTo [0, 1] S_
  bcast_S_S5632 : S_.BroadcastsInDim S5632 (![] : Fin 0 → Fin S5632.rank)
  reducesTo_S5632_S_d0 : S5632.ReducesTo [0] S_
  bcast_S_S4x2048x2816 : S_.BroadcastsInDim S4x2048x2816 (![] : Fin 0 → Fin S4x2048x2816.rank)
  reducesTo_S4x2048x2816_S_d0_1_2 : S4x2048x2816.ReducesTo [0, 1, 2] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S4x2048x5632 .f32) (main_arg1 : FVec F S3x5632 .f32) (main_arg2 : FVec F S5632 .f32) (main_arg3 : FVec F S4x2048x2816 .f32) : IVec S_ 1 :=
  let main_v0 : FVec F S4x2048x5632 .f32 := Host.absf main_arg0
  let main_cst : FVec F S_ .f32 := constant S_ .f32 0x7F800000#32
  let main_v1 : FVec F S4x2048x5632 .f32 := broadcastInDim S4x2048x5632 ![] bcast_S_S4x2048x5632 main_cst
  let main_v2 : IVec S4x2048x5632 1 := cmpf .olt main_v0 main_v1
  let main_c : IVec S_ 1 := constantI S_ 1 1#1
  let main_v3 : IVec S_ 1 := (fun x v => Host.reduce IntOp.andi x v reducesTo_S4x2048x5632_S_d0_1_2 h_S_) main_v2 main_c
  let main_v4 : FVec F S3x5632 .f32 := Host.absf main_arg1
  let main_cst_0 : FVec F S_ .f32 := constant S_ .f32 0x7F800000#32
  let main_v5 : FVec F S3x5632 .f32 := broadcastInDim S3x5632 ![] bcast_S_S3x5632 main_cst_0
  let main_v6 : IVec S3x5632 1 := cmpf .olt main_v4 main_v5
  let main_c_1 : IVec S_ 1 := constantI S_ 1 1#1
  let main_v7 : IVec S_ 1 := (fun x v => Host.reduce IntOp.andi x v reducesTo_S3x5632_S_d0_1 h_S_) main_v6 main_c_1
  let main_v8 : FVec F S5632 .f32 := Host.absf main_arg2
  let main_cst_2 : FVec F S_ .f32 := constant S_ .f32 0x7F800000#32
  let main_v9 : FVec F S5632 .f32 := broadcastInDim S5632 ![] bcast_S_S5632 main_cst_2
  let main_v10 : IVec S5632 1 := cmpf .olt main_v8 main_v9
  let main_c_3 : IVec S_ 1 := constantI S_ 1 1#1
  let main_v11 : IVec S_ 1 := (fun x v => Host.reduce IntOp.andi x v reducesTo_S5632_S_d0 h_S_) main_v10 main_c_3
  let main_v12 : FVec F S4x2048x2816 .f32 := Host.absf main_arg3
  let main_cst_4 : FVec F S_ .f32 := constant S_ .f32 0x7F800000#32
  let main_v13 : FVec F S4x2048x2816 .f32 := broadcastInDim S4x2048x2816 ![] bcast_S_S4x2048x2816 main_cst_4
  let main_v14 : IVec S4x2048x2816 1 := cmpf .olt main_v12 main_v13
  let main_c_5 : IVec S_ 1 := constantI S_ 1 1#1
  let main_v15 : IVec S_ 1 := (fun x v => Host.reduce IntOp.andi x v reducesTo_S4x2048x2816_S_d0_1_2 h_S_) main_v14 main_c_5
  fn_part1 (F := F) main_v3 main_v7 main_v11 main_v15
-- ==== Glu.lean ====
abbrev S4x2048x5632 : Shape := ⟨3, ![4, 2048, 5632]⟩
abbrev S3x5632 : Shape := ⟨2, ![3, 5632]⟩
abbrev S5632 : Shape := ⟨1, ![5632]⟩
abbrev S4x2048x2816 : Shape := ⟨3, ![4, 2048, 2816]⟩
abbrev S_ : Shape := ⟨0, ![]⟩
abbrev S4x2x5632 : Shape := ⟨3, ![4, 2, 5632]⟩
abbrev S4x2050x5632 : Shape := ⟨3, ![4, 2050, 5632]⟩
abbrev S1x5632 : Shape := ⟨2, ![1, 5632]⟩
abbrev S1x1x5632 : Shape := ⟨3, ![1, 1, 5632]⟩
abbrev S3x2816 : Shape := ⟨2, ![3, 2816]⟩
abbrev S1x2816 : Shape := ⟨2, ![1, 2816]⟩
abbrev S1x2048x256 : Shape := ⟨3, ![1, 2048, 256]⟩
abbrev S3x256 : Shape := ⟨2, ![3, 256]⟩
abbrev S1x256 : Shape := ⟨2, ![1, 256]⟩
abbrev S2048x256 : Shape := ⟨2, ![2048, 256]⟩
abbrev S256 : Shape := ⟨1, ![256]⟩

abbrev nBuf : Space → Nat
  | .hbm => 45
  | .vmem => 26
  | .smem => 0
  | _ => 0

abbrev bufTy : (tb : Table) → Fin (tcTables nBuf tb) → BufTy
  | .hbm, ⟨0, _⟩ => ⟨S4x2048x5632, .f32⟩
  | .hbm, ⟨1, _⟩ => ⟨S3x5632, .f32⟩
  | .hbm, ⟨2, _⟩ => ⟨S5632, .f32⟩
  | .hbm, ⟨3, _⟩ => ⟨S4x2048x2816, .f32⟩
  | .hbm, ⟨4, _⟩ => ⟨S_, .f32⟩
  | .hbm, ⟨5, _⟩ => ⟨S4x2x5632, .f32⟩
  | .hbm, ⟨6, _⟩ => ⟨S4x2050x5632, .f32⟩
  | .hbm, ⟨7, _⟩ => ⟨S4x2048x5632, .f32⟩
  | .hbm, ⟨8, _⟩ => ⟨S1x5632, .f32⟩
  | .hbm, ⟨9, _⟩ => ⟨S5632, .f32⟩
  | .hbm, ⟨10, _⟩ => ⟨S1x1x5632, .f32⟩
  | .hbm, ⟨11, _⟩ => ⟨S4x2048x5632, .f32⟩
  | .hbm, ⟨12, _⟩ => ⟨S4x2048x5632, .f32⟩
  | .hbm, ⟨13, _⟩ => ⟨S_, .f32⟩
  | .hbm, ⟨14, _⟩ => ⟨S4x2048x5632, .f32⟩
  | .hbm, ⟨15, _⟩ => ⟨S4x2048x5632, .f32⟩
  | .hbm, ⟨16, _⟩ => ⟨S4x2048x5632, .f32⟩
  | .hbm, ⟨17, _⟩ => ⟨S1x5632, .f32⟩
  | .hbm, ⟨18, _⟩ => ⟨S5632, .f32⟩
  | .hbm, ⟨19, _⟩ => ⟨S1x1x5632, .f32⟩
  | .hbm, ⟨20, _⟩ => ⟨S4x2048x5632, .f32⟩
  | .hbm, ⟨21, _⟩ => ⟨S4x2048x5632, .f32⟩
  | .hbm, ⟨22, _⟩ => ⟨S4x2048x5632, .f32⟩
  | .hbm, ⟨23, _⟩ => ⟨S4x2048x5632, .f32⟩
  | .hbm, ⟨24, _⟩ => ⟨S1x5632, .f32⟩
  | .hbm, ⟨25, _⟩ => ⟨S5632, .f32⟩
  | .hbm, ⟨26, _⟩ => ⟨S1x1x5632, .f32⟩
  | .hbm, ⟨27, _⟩ => ⟨S4x2048x5632, .f32⟩
  | .hbm, ⟨28, _⟩ => ⟨S4x2048x5632, .f32⟩
  | .hbm, ⟨29, _⟩ => ⟨S4x2048x5632, .f32⟩
  | .hbm, ⟨30, _⟩ => ⟨S1x1x5632, .f32⟩
  | .hbm, ⟨31, _⟩ => ⟨S4x2048x5632, .f32⟩
  | .hbm, ⟨32, _⟩ => ⟨S4x2048x5632, .f32⟩
  | .hbm, ⟨33, _⟩ => ⟨S4x2048x2816, .f32⟩
  | .hbm, ⟨34, _⟩ => ⟨S4x2048x2816, .bf16⟩
  | .hbm, ⟨35, _⟩ => ⟨S4x2048x2816, .f32⟩
  | .hbm, ⟨36, _⟩ => ⟨S4x2048x2816, .bf16⟩
  | .hbm, ⟨37, _⟩ => ⟨S4x2048x5632, .bf16⟩
  | .hbm, ⟨38, _⟩ => ⟨S4x2048x2816, .bf16⟩
  | .hbm, ⟨39, _⟩ => ⟨S4x2048x2816, .bf16⟩
  | .hbm, ⟨40, _⟩ => ⟨S4x2048x2816, .bf16⟩
  | .hbm, ⟨41, _⟩ => ⟨S3x2816, .f32⟩
  | .hbm, ⟨42, _⟩ => ⟨S3x2816, .f32⟩
  | .hbm, ⟨43, _⟩ => ⟨S1x2816, .f32⟩
  | .hbm, ⟨44, _⟩ => ⟨S1x2816, .f32⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x2048x256, .bf16⟩
  | .local _ .vmem, ⟨7, _⟩ => ⟨S1x2048x256, .bf16⟩
  | .local _ .vmem, ⟨8, _⟩ => ⟨S1x2048x256, .bf16⟩
  | .local _ .vmem, ⟨9, _⟩ => ⟨S1x2048x256, .bf16⟩
  | .local _ .vmem, ⟨10, _⟩ => ⟨S3x256, .f32⟩
  | .local _ .vmem, ⟨11, _⟩ => ⟨S3x256, .f32⟩
  | .local _ .vmem, ⟨12, _⟩ => ⟨S3x256, .f32⟩
  | .local _ .vmem, ⟨13, _⟩ => ⟨S3x256, .f32⟩
  | .local _ .vmem, ⟨14, _⟩ => ⟨S1x2048x256, .bf16⟩
  | .local _ .vmem, ⟨15, _⟩ => ⟨S1x2048x256, .bf16⟩
  | .local _ .vmem, ⟨16, _⟩ => ⟨S1x2048x256, .bf16⟩
  | .local _ .vmem, ⟨17, _⟩ => ⟨S1x2048x256, .bf16⟩
  | .local _ .vmem, ⟨18, _⟩ => ⟨S3x256, .f32⟩
  | .local _ .vmem, ⟨19, _⟩ => ⟨S3x256, .f32⟩
  | .local _ .vmem, ⟨20, _⟩ => ⟨S3x256, .f32⟩
  | .local _ .vmem, ⟨21, _⟩ => ⟨S3x256, .f32⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | _, _ => ⟨S4x2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33_0 : Ref sig .tc := ⟨.hbm, 39, rfl⟩
abbrev main_v33_1 : Ref sig .tc := ⟨.hbm, 40, rfl⟩
abbrev main_v33_2 : Ref sig .tc := ⟨.hbm, 41, rfl⟩
abbrev main_v33_3 : Ref sig .tc := ⟨.hbm, 42, rfl⟩
abbrev main_v33_4 : Ref sig .tc := ⟨.hbm, 43, rfl⟩
abbrev main_v33_5 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![11, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  ![arg1.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S3x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S3x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== GluRefIdeal.lean ====
abbrev S4x2048x5632 : Shape := ⟨3, ![4, 2048, 5632]⟩
abbrev S3x5632 : Shape := ⟨2, ![3, 5632]⟩
abbrev S5632 : Shape := ⟨1, ![5632]⟩
abbrev S4x2048x2816 : Shape := ⟨3, ![4, 2048, 2816]⟩
abbrev S_ : Shape := ⟨0, ![]⟩
abbrev S4x2x5632 : Shape := ⟨3, ![4, 2, 5632]⟩
abbrev S4x2050x5632 : Shape := ⟨3, ![4, 2050, 5632]⟩
abbrev S1x5632 : Shape := ⟨2, ![1, 5632]⟩
abbrev S1x1x5632 : Shape := ⟨3, ![1, 1, 5632]⟩
abbrev S3x2816 : Shape := ⟨2, ![3, 2816]⟩
abbrev S2816 : Shape := ⟨1, ![2816]⟩
abbrev S1x2816 : Shape := ⟨2, ![1, 2816]⟩

abbrev nBuf : Space → Nat
  | .hbm => 118
  | .vmem => 0
  | .smem => 0
  | _ => 0

abbrev bufTy : (tb : Table) → Fin (tcTables nBuf tb) → BufTy
  | .hbm, ⟨0, _⟩ => ⟨S4x2048x5632, .f32⟩
  | .hbm, ⟨1, _⟩ => ⟨S3x5632, .f32⟩
  | .hbm, ⟨2, _⟩ => ⟨S5632, .f32⟩
  | .hbm, ⟨3, _⟩ => ⟨S4x2048x2816, .f32⟩
  | .hbm, ⟨4, _⟩ => ⟨S_, .f32⟩
  | .hbm, ⟨5, _⟩ => ⟨S4x2x5632, .f32⟩
  | .hbm, ⟨6, _⟩ => ⟨S4x2050x5632, .f32⟩
  | .hbm, ⟨7, _⟩ => ⟨S_, .f32⟩
  | .hbm, ⟨8, _⟩ => ⟨S4x2x5632, .f32⟩
  | .hbm, ⟨9, _⟩ => ⟨S4x2048x5632, .f32⟩
  | .hbm, ⟨10, _⟩ => ⟨S1x5632, .f32⟩
  | .hbm, ⟨11, _⟩ => ⟨S5632, .f32⟩
  | .hbm, ⟨12, _⟩ => ⟨S1x1x5632, .f32⟩
  | .hbm, ⟨13, _⟩ => ⟨S4x2048x5632, .f32⟩
  | .hbm, ⟨14, _⟩ => ⟨S4x2048x5632, .f32⟩
  | .hbm, ⟨15, _⟩ => ⟨S_, .f32⟩
  | .hbm, ⟨16, _⟩ => ⟨S4x2048x5632, .f32⟩
  | .hbm, ⟨17, _⟩ => ⟨S4x2048x5632, .f32⟩
  | .hbm, ⟨18, _⟩ => ⟨S4x2048x5632, .f32⟩
  | .hbm, ⟨19, _⟩ => ⟨S1x5632, .f32⟩
  | .hbm, ⟨20, _⟩ => ⟨S5632, .f32⟩
  | .hbm, ⟨21, _⟩ => ⟨S1x1x5632, .f32⟩
  | .hbm, ⟨22, _⟩ => ⟨S4x2048x5632, .f32⟩
  | .hbm, ⟨23, _⟩ => ⟨S4x2048x5632, .f32⟩
  | .hbm, ⟨24, _⟩ => ⟨S4x2048x5632, .f32⟩
  | .hbm, ⟨25, _⟩ => ⟨S4x2048x5632, .f32⟩
  | .hbm, ⟨26, _⟩ => ⟨S1x5632, .f32⟩
  | .hbm, ⟨27, _⟩ => ⟨S5632, .f32⟩
  | .hbm, ⟨28, _⟩ => ⟨S1x1x5632, .f32⟩
  | .hbm, ⟨29, _⟩ => ⟨S4x2048x5632, .f32⟩
  | .hbm, ⟨30, _⟩ => ⟨S4x2048x5632, .f32⟩
  | .hbm, ⟨31, _⟩ => ⟨S4x2048x5632, .f32⟩
  | .hbm, ⟨32, _⟩ => ⟨S1x1x5632, .f32⟩
  | .hbm, ⟨33, _⟩ => ⟨S4x2048x5632, .f32⟩
  | .hbm, ⟨34, _⟩ => ⟨S4x2048x5632, .f32⟩
  | .hbm, ⟨35, _⟩ => ⟨S4x2048x2816, .f32⟩
  | .hbm, ⟨36, _⟩ => ⟨S4x2048x2816, .f32⟩
  | .hbm, ⟨37, _⟩ => ⟨S4x2048x2816, .f32⟩
  | .hbm, ⟨38, _⟩ => ⟨S4x2048x2816, .f32⟩
  | .hbm, ⟨39, _⟩ => ⟨S_, .f32⟩
  | .hbm, ⟨40, _⟩ => ⟨S4x2048x2816, .f32⟩
  | .hbm, ⟨41, _⟩ => ⟨S4x2048x2816, .f32⟩
  | .hbm, ⟨42, _⟩ => ⟨S_, .f32⟩
  | .hbm, ⟨43, _⟩ => ⟨S4x2048x2816, .f32⟩
  | .hbm, ⟨44, _⟩ => ⟨S4x2048x2816, .f32⟩
  | .hbm, ⟨45, _⟩ => ⟨S_, .f32⟩
  | .hbm, ⟨46, _⟩ => ⟨S4x2048x2816, .f32⟩
  | .hbm, ⟨47, _⟩ => ⟨S4x2048x2816, .f32⟩
  | .hbm, ⟨48, _⟩ => ⟨S4x2048x2816, .f32⟩
  | .hbm, ⟨49, _⟩ => ⟨S4x2048x2816, .f32⟩
  | .hbm, ⟨50, _⟩ => ⟨S4x2048x2816, .f32⟩
  | .hbm, ⟨51, _⟩ => ⟨S4x2048x2816, .f32⟩
  | .hbm, ⟨52, _⟩ => ⟨S4x2048x2816, .f32⟩
  | .hbm, ⟨53, _⟩ => ⟨S4x2048x2816, .f32⟩
  | .hbm, ⟨54, _⟩ => ⟨S4x2048x2816, .f32⟩
  | .hbm, ⟨55, _⟩ => ⟨S4x2048x2816, .f32⟩
  | .hbm, ⟨56, _⟩ => ⟨S4x2048x2816, .f32⟩
  | .hbm, ⟨57, _⟩ => ⟨S4x2048x5632, .f32⟩
  | .hbm, ⟨58, _⟩ => ⟨S_, .f32⟩
  | .hbm, ⟨59, _⟩ => ⟨S5632, .f32⟩
  | .hbm, ⟨60, _⟩ => ⟨S1x1x5632, .f32⟩
  | .hbm, ⟨61, _⟩ => ⟨S_, .f32⟩
  | .hbm, ⟨62, _⟩ => ⟨S5632, .f32⟩
  | .hbm, ⟨63, _⟩ => ⟨S4x2048x5632, .f32⟩
  | .hbm, ⟨64, _⟩ => ⟨S_, .f32⟩
  | .hbm, ⟨65, _⟩ => ⟨S5632, .f32⟩
  | .hbm, ⟨66, _⟩ => ⟨S1x1x5632, .f32⟩
  | .hbm, ⟨67, _⟩ => ⟨S4x2048x5632, .f32⟩
  | .hbm, ⟨68, _⟩ => ⟨S4x2048x5632, .f32⟩
  | .hbm, ⟨69, _⟩ => ⟨S_, .f32⟩
  | .hbm, ⟨70, _⟩ => ⟨S5632, .f32⟩
  | .hbm, ⟨71, _⟩ => ⟨S1x5632, .f32⟩
  | .hbm, ⟨72, _⟩ => ⟨S_, .f32⟩
  | .hbm, ⟨73, _⟩ => ⟨S3x5632, .f32⟩
  | .hbm, ⟨74, _⟩ => ⟨S_, .f32⟩
  | .hbm, ⟨75, _⟩ => ⟨S4x2050x5632, .f32⟩
  | .hbm, ⟨76, _⟩ => ⟨S4x2048x5632, .f32⟩
  | .hbm, ⟨77, _⟩ => ⟨S_, .f32⟩
  | .hbm, ⟨78, _⟩ => ⟨S5632, .f32⟩
  | .hbm, ⟨79, _⟩ => ⟨S1x1x5632, .f32⟩
  | .hbm, ⟨80, _⟩ => ⟨S4x2048x5632, .f32⟩
  | .hbm, ⟨81, _⟩ => ⟨S4x2048x5632, .f32⟩
  | .hbm, ⟨82, _⟩ => ⟨S_, .f32⟩
  | .hbm, ⟨83, _⟩ => ⟨S5632, .f32⟩
  | .hbm, ⟨84, _⟩ => ⟨S1x5632, .f32⟩
  | .hbm, ⟨85, _⟩ => ⟨S_, .f32⟩
  | .hbm, ⟨86, _⟩ => ⟨S3x5632, .f32⟩
  | .hbm, ⟨87, _⟩ => ⟨S3x5632, .f32⟩
  | .hbm, ⟨88, _⟩ => ⟨S_, .f32⟩
  | .hbm, ⟨89, _⟩ => ⟨S4x2050x5632, .f32⟩
  | .hbm, ⟨90, _⟩ => ⟨S4x2050x5632, .f32⟩
  | .hbm, ⟨91, _⟩ => ⟨S4x2048x5632, .f32⟩
  | .hbm, ⟨92, _⟩ => ⟨S_, .f32⟩
  | .hbm, ⟨93, _⟩ => ⟨S5632, .f32⟩
  | .hbm, ⟨94, _⟩ => ⟨S1x1x5632, .f32⟩
  | .hbm, ⟨95, _⟩ => ⟨S4x2048x5632, .f32⟩
  | .hbm, ⟨96, _⟩ => ⟨S4x2048x5632, .f32⟩
  | .hbm, ⟨97, _⟩ => ⟨S_, .f32⟩
  | .hbm, ⟨98, _⟩ => ⟨S5632, .f32⟩
  | .hbm, ⟨99, _⟩ => ⟨S1x5632, .f32⟩
  | .hbm, ⟨100, _⟩ => ⟨S_, .f32⟩
  | .hbm, ⟨101, _⟩ => ⟨S3x5632, .f32⟩
  | .hbm, ⟨102, _⟩ => ⟨S3x5632, .f32⟩
  | .hbm, ⟨103, _⟩ => ⟨S_, .f32⟩
  | .hbm, ⟨104, _⟩ => ⟨S4x2050x5632, .f32⟩
  | .hbm, ⟨105, _⟩ => ⟨S4x2050x5632, .f32⟩
  | .hbm, ⟨106, _⟩ => ⟨S4x2x5632, .f32⟩
  | .hbm, ⟨107, _⟩ => ⟨S4x2048x5632, .f32⟩
  | .hbm, ⟨108, _⟩ => ⟨S4x2048x2816, .f32⟩
  | .hbm, ⟨109, _⟩ => ⟨S4x2048x2816, .bf16⟩
  | .hbm, ⟨110, _⟩ => ⟨S4x2048x2816, .f32⟩
  | .hbm, ⟨111, _⟩ => ⟨S4x2048x2816, .bf16⟩
  | .hbm, ⟨112, _⟩ => ⟨S3x2816, .f32⟩
  | .hbm, ⟨113, _⟩ => ⟨S3x2816, .f32⟩
  | .hbm, ⟨114, _⟩ => ⟨S2816, .f32⟩
  | .hbm, ⟨115, _⟩ => ⟨S1x2816, .f32⟩
  | .hbm, ⟨116, _⟩ => ⟨S2816, .f32⟩
  | .hbm, ⟨117, _⟩ => ⟨S1x2816, .f32⟩
  | _, _ => ⟨S4x2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_v30_2 : Ref sig .tc := ⟨.hbm, 44, rfl⟩
abbrev main_call0_cst_1 : Ref sig .tc := ⟨.hbm, 45, rfl⟩
abbrev main_call0_v6 : Ref sig .tc := ⟨.hbm, 46, rfl⟩
abbrev main_call0_v7 : Ref sig .tc := ⟨.hbm, 47, rfl⟩
abbrev main_v30_1 : Ref sig .tc := ⟨.hbm, 48, rfl⟩
abbrev main_v30_0 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v34 : Ref sig .tc := ⟨.hbm, 56, rfl⟩
abbrev main_v35 : Ref sig .tc := ⟨.hbm, 57, rfl⟩
abbrev main_cst_2 : Ref sig .tc := ⟨.hbm, 58, rfl⟩
abbrev main_v36 : Ref sig .tc := ⟨.hbm, 59, rfl⟩
abbrev main_v37 : Ref sig .tc := ⟨.hbm, 60, rfl⟩
abbrev main_cst_3 : Ref sig .tc := ⟨.hbm, 61, rfl⟩
abbrev main_v38 : Ref sig .tc := ⟨.hbm, 62, rfl⟩
abbrev main_v39 : Ref sig .tc := ⟨.hbm, 63, rfl⟩
abbrev main_cst_4 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_5 : Ref sig .tc := ⟨.hbm, 69, rfl⟩
abbrev main_v44 : Ref sig .tc := ⟨.hbm, 70, rfl⟩
abbrev main_v45 : Ref sig .tc := ⟨.hbm, 71, rfl⟩
abbrev main_cst_6 : Ref sig .tc := ⟨.hbm, 72, rfl⟩
abbrev main_v46 : Ref sig .tc := ⟨.hbm, 73, rfl⟩
abbrev main_cst_7 : Ref sig .tc := ⟨.hbm, 74, rfl⟩
abbrev main_v47 : Ref sig .tc := ⟨.hbm, 75, rfl⟩
abbrev main_v48 : Ref sig .tc := ⟨.hbm, 76, rfl⟩
abbrev main_cst_8 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_9 : Ref sig .tc := ⟨.hbm, 82, rfl⟩
abbrev main_v53 : Ref sig .tc := ⟨.hbm, 83, rfl⟩
abbrev main_v54 : Ref sig .tc := ⟨.hbm, 84, rfl⟩
abbrev main_cst_10 : Ref sig .tc := ⟨.hbm, 85, rfl⟩
abbrev main_v55 : Ref sig .tc := ⟨.hbm, 86, rfl⟩
abbrev main_v56 : Ref sig .tc := ⟨.hbm, 87, rfl⟩
abbrev main_cst_11 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_12 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_13 : Ref sig .tc := ⟨.hbm, 97, rfl⟩
abbrev main_v64 : Ref sig .tc := ⟨.hbm, 98, rfl⟩
abbrev main_v65 : Ref sig .tc := ⟨.hbm, 99, rfl⟩
abbrev main_cst_14 : Ref sig .tc := ⟨.hbm, 100, rfl⟩
abbrev main_v66 : Ref sig .tc := ⟨.hbm, 101, rfl⟩
abbrev main_v67 : Ref sig .tc := ⟨.hbm, 102, rfl⟩
abbrev main_cst_15 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩

abbrev nD : Nat := 1
abbrev τ : Topo := Topo.v7x

variable {F : FTy → Type} [FloatOps F]
-- ==== Attn.lean ====
abbrev S4x2048x2048 : Shape := ⟨3, ![4, 2048, 2048]⟩
abbrev S4x2048x1024 : Shape := ⟨3, ![4, 2048, 1024]⟩
abbrev S4x8x1x2048 : Shape := ⟨4, ![4, 8, 1, 2048]⟩
abbrev S4x2048x128 : Shape := ⟨3, ![4, 2048, 128]⟩
abbrev S4x2048x256 : Shape := ⟨3, ![4, 2048, 256]⟩
abbrev S1x512x1024 : Shape := ⟨3, ![1, 512, 1024]⟩
abbrev S1x512x512 : Shape := ⟨3, ![1, 512, 512]⟩
abbrev S1x4x1x512 : Shape := ⟨4, ![1, 4, 1, 512]⟩
abbrev S1x512x128 : Shape := ⟨3, ![1, 512, 128]⟩
abbrev S4x512x256 : Shape := ⟨3, ![4, 512, 256]⟩
abbrev S4x512x128 : Shape := ⟨3, ![4, 512, 128]⟩
abbrev S4 : Shape := ⟨1, ![4]⟩
abbrev S1x512x256 : Shape := ⟨3, ![1, 512, 256]⟩
abbrev S512x256 : Shape := ⟨2, ![512, 256]⟩
abbrev S512x128 : Shape := ⟨2, ![512, 128]⟩
abbrev S512x512 : Shape := ⟨2, ![512, 512]⟩
abbrev S1x1x1x512 : Shape := ⟨4, ![1, 1, 1, 512]⟩
abbrev S1x512 : Shape := ⟨2, ![1, 512]⟩
abbrev S1 : Shape := ⟨1, ![1]⟩
abbrev S_ : Shape := ⟨0, ![]⟩

abbrev nBuf : Space → Nat
  | .hbm => 12
  | .vmem => 26
  | .smem => 0
  | _ => 0

abbrev bufTy : (tb : Table) → Fin (tcTables nBuf tb) → BufTy
  | .hbm, ⟨0, _⟩ => ⟨S4x2048x2048, .bf16⟩
  | .hbm, ⟨1, _⟩ => ⟨S4x2048x2048, .bf16⟩
  | .hbm, ⟨2, _⟩ => ⟨S4x2048x1024, .bf16⟩
  | .hbm, ⟨3, _⟩ => ⟨S4x2048x1024, .f32⟩
  | .hbm, ⟨4, _⟩ => ⟨S4x8x1x2048, .f32⟩
  | .hbm, ⟨5, _⟩ => ⟨S4x8x1x2048, .f32⟩
  | .hbm, ⟨6, _⟩ => ⟨S4x2048x128, .f32⟩
  | .hbm, ⟨7, _⟩ => ⟨S4x2048x128, .f32⟩
  | .hbm, ⟨8, _⟩ => ⟨S4x2048x1024, .bf16⟩
  | .hbm, ⟨9, _⟩ => ⟨S4x2048x1024, .bf16⟩
  | .hbm, ⟨10, _⟩ => ⟨S4x2048x256, .f32⟩
  | .hbm, ⟨11, _⟩ => ⟨S4x2048x2048, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .f32⟩
  | .local _ .vmem, ⟨7, _⟩ => ⟨S1x512x512, .f32⟩
  | .local _ .vmem, ⟨8, _⟩ => ⟨S1x4x1x512, .f32⟩
  | .local _ .vmem, ⟨9, _⟩ => ⟨S1x4x1x512, .f32⟩
  | .local _ .vmem, ⟨10, _⟩ => ⟨S1x4x1x512, .f32⟩
  | .local _ .vmem, ⟨11, _⟩ => ⟨S1x4x1x512, .f32⟩
  | .local _ .vmem, ⟨12, _⟩ => ⟨S1x512x128, .f32⟩
  | .local _ .vmem, ⟨13, _⟩ => ⟨S1x512x128, .f32⟩
  | .local _ .vmem, ⟨14, _⟩ => ⟨S1x512x128, .f32⟩
  | .local _ .vmem, ⟨15, _⟩ => ⟨S1x512x128, .f32⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | .local _ .vmem, ⟨19, _⟩ => ⟨S1x512x512, .bf16⟩
  | .local _ .vmem, ⟨20, _⟩ => ⟨S1x512x128, .f32⟩
  | .local _ .vmem, ⟨21, _⟩ => ⟨S1x512x128, .f32⟩
  | .local _ .vmem, ⟨22, _⟩ => ⟨S4x512x256, .f32⟩
  | .local _ .vmem, ⟨23, _⟩ => ⟨S4x512x128, .f32⟩
  | .local _ .vmem, ⟨24, _⟩ => ⟨S4x2048x256, .f32⟩
  | .local _ .vmem, ⟨25, _⟩ => ⟨S4x512x256, .bf16⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![4, 2, 10], ![false, false, false]⟩

def k0_mult1 (i : grid0.Coords) : BitVec 32 :=
  let c0_i32 : BitVec 32 := 0#32
  let arg2 : BitVec 32 := BitVec.ofNat 32 (i 2).val
  let c4_i32 : BitVec 32 := 4#32
  let v0 : BitVec 1 := Scalar.cmpi .sge arg2 c4_i32
  let v1 : BitVec 32 := Scalar.extui v0
  let v6 : BitVec 32 := Scalar.addi c0_i32 v1
  let c7_i32 : BitVec 32 := 7#32
  let v2 : BitVec 1 := Scalar.cmpi .sge arg2 c7_i32
  let v3 : BitVec 32 := Scalar.extui v2
  let v7 : BitVec 32 := Scalar.addi v6 v3
  let c9_i32 : BitVec 32 := 9#32
  let v4 : BitVec 1 := Scalar.cmpi .sge arg2 c9_i32
  let v5 : BitVec 32 := Scalar.extui v4
  let v8 : BitVec 32 := Scalar.addi v7 v5
  let v9 : BitVec 32 := Scalar.addi v8 arg2
  let c4_i32_0 : BitVec 32 := 4#32
  let v10 : BitVec 32 := Scalar.muli v8 c4_i32_0
  let c1_i32 : BitVec 32 := 1#32
  let v11 : BitVec 32 := Scalar.subi v8 c1_i32
  let v12 : BitVec 32 := Scalar.muli v8 v11
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c2_i32 : BitVec 32 := 2#32
  let c0_i32_3 : BitVec 32 := 0#32
  let v19 : BitVec 1 := Scalar.cmpi .sgt c2_i32 c0_i32_3
  let v20 : BitVec 32 := Scalar.extui v19
  let c0_i32_4 : BitVec 32 := 0#32
  let v21 : BitVec 1 := Scalar.cmpi .slt c2_i32 c0_i32_4
  let v22 : BitVec 32 := Scalar.extui v21
  let v23 : BitVec 32 := Scalar.subi v20 v22
  let v24 : BitVec 1 := Scalar.cmpi .ne v18 v23
  let v25 : BitVec 32 := Scalar.remsi v12 c2_i32
  let c0_i32_5 : BitVec 32 := 0#32
  let v26 : BitVec 1 := Scalar.cmpi .ne v25 c0_i32_5
  let v27 : BitVec 1 := Scalar.andi v24 v26
  let v13 : BitVec 32 := Scalar.divsi v12 c2_i32
  let c1_i32_6 : BitVec 32 := 1#32
  let v28 : BitVec 32 := Scalar.subi v13 c1_i32_6
  let v29 : BitVec 32 := Scalar.select v27 v28 v13
  let v30 : BitVec 32 := Scalar.subi v10 v29
  let v31 : BitVec 32 := Scalar.subi v9 v30
  let c512_i32 : BitVec 32 := 512#32
  let v32 : BitVec 32 := Scalar.muli v31 c512_i32
  v32
def k0_cond3 (i : grid0.Coords) : BitVec 1 :=
  let c0_i32 : BitVec 32 := 0#32
  let arg2 : BitVec 32 := BitVec.ofNat 32 (i 2).val
  let c4_i32 : BitVec 32 := 4#32
  let v0 : BitVec 1 := Scalar.cmpi .sge arg2 c4_i32
  let v1 : BitVec 32 := Scalar.extui v0
  let v6 : BitVec 32 := Scalar.addi c0_i32 v1
  let c7_i32 : BitVec 32 := 7#32
  let v2 : BitVec 1 := Scalar.cmpi .sge arg2 c7_i32
  let v3 : BitVec 32 := Scalar.extui v2
  let v7 : BitVec 32 := Scalar.addi v6 v3
  let c9_i32 : BitVec 32 := 9#32
  let v4 : BitVec 1 := Scalar.cmpi .sge arg2 c9_i32
  let v5 : BitVec 32 := Scalar.extui v4
  let v8 : BitVec 32 := Scalar.addi v7 v5
  let v9 : BitVec 32 := Scalar.addi v8 arg2
  let c4_i32_0 : BitVec 32 := 4#32
  let v10 : BitVec 32 := Scalar.muli v8 c4_i32_0
  let c1_i32 : BitVec 32 := 1#32
  let v11 : BitVec 32 := Scalar.subi v8 c1_i32
  let v12 : BitVec 32 := Scalar.muli v8 v11
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c2_i32 : BitVec 32 := 2#32
  let c0_i32_3 : BitVec 32 := 0#32
  let v19 : BitVec 1 := Scalar.cmpi .sgt c2_i32 c0_i32_3
  let v20 : BitVec 32 := Scalar.extui v19
  let c0_i32_4 : BitVec 32 := 0#32
  let v21 : BitVec 1 := Scalar.cmpi .slt c2_i32 c0_i32_4
  let v22 : BitVec 32 := Scalar.extui v21
  let v23 : BitVec 32 := Scalar.subi v20 v22
  let v24 : BitVec 1 := Scalar.cmpi .ne v18 v23
  let v25 : BitVec 32 := Scalar.remsi v12 c2_i32
  let c0_i32_5 : BitVec 32 := 0#32
  let v26 : BitVec 1 := Scalar.cmpi .ne v25 c0_i32_5
  let v27 : BitVec 1 := Scalar.andi v24 v26
  let v13 : BitVec 32 := Scalar.divsi v12 c2_i32
  let c1_i32_6 : BitVec 32 := 1#32
  let v28 : BitVec 32 := Scalar.subi v13 c1_i32_6
  let v29 : BitVec 32 := Scalar.select v27 v28 v13
  let v30 : BitVec 32 := Scalar.subi v10 v29
  let v31 : BitVec 32 := Scalar.subi v9 v30
  let v40 : BitVec 1 := Scalar.cmpi .sgt v31 v8
  let v41 : BitVec 32 := Scalar.extui v40
  let c0_i32_10 : BitVec 32 := 0#32
  let v42 : BitVec 1 := Scalar.cmpi .ne v41 c0_i32_10
  v42

def k0_off1 (i : grid0.Coords) : Fin 3 → Nat :=
  let c0_47 : Index := 0#32
  let c0_i32 : BitVec 32 := 0#32
  let arg2 : BitVec 32 := BitVec.ofNat 32 (i 2).val
  let c4_i32 : BitVec 32 := 4#32
  let v0 : BitVec 1 := Scalar.cmpi .sge arg2 c4_i32
  let v1 : BitVec 32 := Scalar.extui v0
  let v6 : BitVec 32 := Scalar.addi c0_i32 v1
  let c7_i32 : BitVec 32 := 7#32
  let v2 : BitVec 1 := Scalar.cmpi .sge arg2 c7_i32
  let v3 : BitVec 32 := Scalar.extui v2
  let v7 : BitVec 32 := Scalar.addi v6 v3
  let c9_i32 : BitVec 32 := 9#32
  let v4 : BitVec 1 := Scalar.cmpi .sge arg2 c9_i32
  let v5 : BitVec 32 := Scalar.extui v4
  let v8 : BitVec 32 := Scalar.addi v7 v5
  let v9 : BitVec 32 := Scalar.addi v8 arg2
  let c4_i32_0 : BitVec 32 := 4#32
  let v10 : BitVec 32 := Scalar.muli v8 c4_i32_0
  let c1_i32 : BitVec 32 := 1#32
  let v11 : BitVec 32 := Scalar.subi v8 c1_i32
  let v12 : BitVec 32 := Scalar.muli v8 v11
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c2_i32 : BitVec 32 := 2#32
  let c0_i32_3 : BitVec 32 := 0#32
  let v19 : BitVec 1 := Scalar.cmpi .sgt c2_i32 c0_i32_3
  let v20 : BitVec 32 := Scalar.extui v19
  let c0_i32_4 : BitVec 32 := 0#32
  let v21 : BitVec 1 := Scalar.cmpi .slt c2_i32 c0_i32_4
  let v22 : BitVec 32 := Scalar.extui v21
  let v23 : BitVec 32 := Scalar.subi v20 v22
  let v24 : BitVec 1 := Scalar.cmpi .ne v18 v23
  let v25 : BitVec 32 := Scalar.remsi v12 c2_i32
  let c0_i32_5 : BitVec 32 := 0#32
  let v26 : BitVec 1 := Scalar.cmpi .ne v25 c0_i32_5
  let v27 : BitVec 1 := Scalar.andi v24 v26
  let v13 : BitVec 32 := Scalar.divsi v12 c2_i32
  let c1_i32_6 : BitVec 32 := 1#32
  let v28 : BitVec 32 := Scalar.subi v13 c1_i32_6
  let v29 : BitVec 32 := Scalar.select v27 v28 v13
  let v30 : BitVec 32 := Scalar.subi v10 v29
  let v31 : BitVec 32 := Scalar.subi v9 v30
  let c512_i32 : BitVec 32 := 512#32
  let v32 : BitVec 32 := Scalar.muli v31 c512_i32
  let v33 : BitVec 32 := v32
  let v86 : Index := Scalar.indexCast v33
  let c0_48 : Index := 0#32
  ![0, v86.toNat, 0]
def k0_off2 (i : grid0.Coords) : Fin 3 → Nat :=
  let c1_85 : Index := 1#32
  let c0_i32 : BitVec 32 := 0#32
  let arg2 : BitVec 32 := BitVec.ofNat 32 (i 2).val
  let c4_i32 : BitVec 32 := 4#32
  let v0 : BitVec 1 := Scalar.cmpi .sge arg2 c4_i32
  let v1 : BitVec 32 := Scalar.extui v0
  let v6 : BitVec 32 := Scalar.addi c0_i32 v1
  let c7_i32 : BitVec 32 := 7#32
  let v2 : BitVec 1 := Scalar.cmpi .sge arg2 c7_i32
  let v3 : BitVec 32 := Scalar.extui v2
  let v7 : BitVec 32 := Scalar.addi v6 v3
  let c9_i32 : BitVec 32 := 9#32
  let v4 : BitVec 1 := Scalar.cmpi .sge arg2 c9_i32
  let v5 : BitVec 32 := Scalar.extui v4
  let v8 : BitVec 32 := Scalar.addi v7 v5
  let v9 : BitVec 32 := Scalar.addi v8 arg2
  let c4_i32_0 : BitVec 32 := 4#32
  let v10 : BitVec 32 := Scalar.muli v8 c4_i32_0
  let c1_i32 : BitVec 32 := 1#32
  let v11 : BitVec 32 := Scalar.subi v8 c1_i32
  let v12 : BitVec 32 := Scalar.muli v8 v11
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c2_i32 : BitVec 32 := 2#32
  let c0_i32_3 : BitVec 32 := 0#32
  let v19 : BitVec 1 := Scalar.cmpi .sgt c2_i32 c0_i32_3
  let v20 : BitVec 32 := Scalar.extui v19
  let c0_i32_4 : BitVec 32 := 0#32
  let v21 : BitVec 1 := Scalar.cmpi .slt c2_i32 c0_i32_4
  let v22 : BitVec 32 := Scalar.extui v21
  let v23 : BitVec 32 := Scalar.subi v20 v22
  let v24 : BitVec 1 := Scalar.cmpi .ne v18 v23
  let v25 : BitVec 32 := Scalar.remsi v12 c2_i32
  let c0_i32_5 : BitVec 32 := 0#32
  let v26 : BitVec 1 := Scalar.cmpi .ne v25 c0_i32_5
  let v27 : BitVec 1 := Scalar.andi v24 v26
  let v13 : BitVec 32 := Scalar.divsi v12 c2_i32
  let c1_i32_6 : BitVec 32 := 1#32
  let v28 : BitVec 32 := Scalar.subi v13 c1_i32_6
  let v29 : BitVec 32 := Scalar.select v27 v28 v13
  let v30 : BitVec 32 := Scalar.subi v10 v29
  let v31 : BitVec 32 := Scalar.subi v9 v30
  let c512_i32 : BitVec 32 := 512#32
  let v32 : BitVec 32 := Scalar.muli v31 c512_i32
  let v33 : BitVec 32 := v32
  let v132 : Index := Scalar.indexCast v33
  let c0_86 : Index := 0#32
  ![1, v132.toNat, 0]
def k0_off3 (i : grid0.Coords) : Fin 3 → Nat :=
  let c2_124 : Index := 2#32
  let c0_i32 : BitVec 32 := 0#32
  let arg2 : BitVec 32 := BitVec.ofNat 32 (i 2).val
  let c4_i32 : BitVec 32 := 4#32
  let v0 : BitVec 1 := Scalar.cmpi .sge arg2 c4_i32
  let v1 : BitVec 32 := Scalar.extui v0
  let v6 : BitVec 32 := Scalar.addi c0_i32 v1
  let c7_i32 : BitVec 32 := 7#32
  let v2 : BitVec 1 := Scalar.cmpi .sge arg2 c7_i32
  let v3 : BitVec 32 := Scalar.extui v2
  let v7 : BitVec 32 := Scalar.addi v6 v3
  let c9_i32 : BitVec 32 := 9#32
  let v4 : BitVec 1 := Scalar.cmpi .sge arg2 c9_i32
  let v5 : BitVec 32 := Scalar.extui v4
  let v8 : BitVec 32 := Scalar.addi v7 v5
  let v9 : BitVec 32 := Scalar.addi v8 arg2
  let c4_i32_0 : BitVec 32 := 4#32
  let v10 : BitVec 32 := Scalar.muli v8 c4_i32_0
  let c1_i32 : BitVec 32 := 1#32
  let v11 : BitVec 32 := Scalar.subi v8 c1_i32
  let v12 : BitVec 32 := Scalar.muli v8 v11
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c2_i32 : BitVec 32 := 2#32
  let c0_i32_3 : BitVec 32 := 0#32
  let v19 : BitVec 1 := Scalar.cmpi .sgt c2_i32 c0_i32_3
  let v20 : BitVec 32 := Scalar.extui v19
  let c0_i32_4 : BitVec 32 := 0#32
  let v21 : BitVec 1 := Scalar.cmpi .slt c2_i32 c0_i32_4
  let v22 : BitVec 32 := Scalar.extui v21
  let v23 : BitVec 32 := Scalar.subi v20 v22
  let v24 : BitVec 1 := Scalar.cmpi .ne v18 v23
  let v25 : BitVec 32 := Scalar.remsi v12 c2_i32
  let c0_i32_5 : BitVec 32 := 0#32
  let v26 : BitVec 1 := Scalar.cmpi .ne v25 c0_i32_5
  let v27 : BitVec 1 := Scalar.andi v24 v26
  let v13 : BitVec 32 := Scalar.divsi v12 c2_i32
  let c1_i32_6 : BitVec 32 := 1#32
  let v28 : BitVec 32 := Scalar.subi v13 c1_i32_6
  let v29 : BitVec 32 := Scalar.select v27 v28 v13
  let v30 : BitVec 32 := Scalar.subi v10 v29
  let v31 : BitVec 32 := Scalar.subi v9 v30
  let c512_i32 : BitVec 32 := 512#32
  let v32 : BitVec 32 := Scalar.muli v31 c512_i32
  let v33 : BitVec 32 := v32
  let v178 : Index := Scalar.indexCast v33
  let c0_125 : Index := 0#32
  ![2, v178.toNat, 0]
def k0_off4 (i : grid0.Coords) : Fin 3 → Nat :=
  let c3_162 : Index := 3#32
  let c0_i32 : BitVec 32 := 0#32
  let arg2 : BitVec 32 := BitVec.ofNat 32 (i 2).val
  let c4_i32 : BitVec 32 := 4#32
  let v0 : BitVec 1 := Scalar.cmpi .sge arg2 c4_i32
  let v1 : BitVec 32 := Scalar.extui v0
  let v6 : BitVec 32 := Scalar.addi c0_i32 v1
  let c7_i32 : BitVec 32 := 7#32
  let v2 : BitVec 1 := Scalar.cmpi .sge arg2 c7_i32
  let v3 : BitVec 32 := Scalar.extui v2
  let v7 : BitVec 32 := Scalar.addi v6 v3
  let c9_i32 : BitVec 32 := 9#32
  let v4 : BitVec 1 := Scalar.cmpi .sge arg2 c9_i32
  let v5 : BitVec 32 := Scalar.extui v4
  let v8 : BitVec 32 := Scalar.addi v7 v5
  let v9 : BitVec 32 := Scalar.addi v8 arg2
  let c4_i32_0 : BitVec 32 := 4#32
  let v10 : BitVec 32 := Scalar.muli v8 c4_i32_0
  let c1_i32 : BitVec 32 := 1#32
  let v11 : BitVec 32 := Scalar.subi v8 c1_i32
  let v12 : BitVec 32 := Scalar.muli v8 v11
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c2_i32 : BitVec 32 := 2#32
  let c0_i32_3 : BitVec 32 := 0#32
  let v19 : BitVec 1 := Scalar.cmpi .sgt c2_i32 c0_i32_3
  let v20 : BitVec 32 := Scalar.extui v19
  let c0_i32_4 : BitVec 32 := 0#32
  let v21 : BitVec 1 := Scalar.cmpi .slt c2_i32 c0_i32_4
  let v22 : BitVec 32 := Scalar.extui v21
  let v23 : BitVec 32 := Scalar.subi v20 v22
  let v24 : BitVec 1 := Scalar.cmpi .ne v18 v23
  let v25 : BitVec 32 := Scalar.remsi v12 c2_i32
  let c0_i32_5 : BitVec 32 := 0#32
  let v26 : BitVec 1 := Scalar.cmpi .ne v25 c0_i32_5
  let v27 : BitVec 1 := Scalar.andi v24 v26
  let v13 : BitVec 32 := Scalar.divsi v12 c2_i32
  let c1_i32_6 : BitVec 32 := 1#32
  let v28 : BitVec 32 := Scalar.subi v13 c1_i32_6
  let v29 : BitVec 32 := Scalar.select v27 v28 v13
  let v30 : BitVec 32 := Scalar.subi v10 v29
  let v31 : BitVec 32 := Scalar.subi v9 v30
  let c512_i32 : BitVec 32 := 512#32
  let v32 : BitVec 32 := Scalar.muli v31 c512_i32
  let v33 : BitVec 32 := v32
  let v224 : Index := Scalar.indexCast v33
  let c0_163 : Index := 0#32
  ![3, v224.toNat, 0]
def k0_cond4 (i : grid0.Coords) : BitVec 1 :=
  let c0_i32 : BitVec 32 := 0#32
  let arg2 : BitVec 32 := BitVec.ofNat 32 (i 2).val
  let c4_i32 : BitVec 32 := 4#32
  let v0 : BitVec 1 := Scalar.cmpi .sge arg2 c4_i32
  let v1 : BitVec 32 := Scalar.extui v0
  let v6 : BitVec 32 := Scalar.addi c0_i32 v1
  let c7_i32 : BitVec 32 := 7#32
  let v2 : BitVec 1 := Scalar.cmpi .sge arg2 c7_i32
  let v3 : BitVec 32 := Scalar.extui v2
  let v7 : BitVec 32 := Scalar.addi v6 v3
  let c9_i32 : BitVec 32 := 9#32
  let v4 : BitVec 1 := Scalar.cmpi .sge arg2 c9_i32
  let v5 : BitVec 32 := Scalar.extui v4
  let v8 : BitVec 32 := Scalar.addi v7 v5
  let v9 : BitVec 32 := Scalar.addi v8 arg2
  let c4_i32_0 : BitVec 32 := 4#32
  let v10 : BitVec 32 := Scalar.muli v8 c4_i32_0
  let c1_i32 : BitVec 32 := 1#32
  let v11 : BitVec 32 := Scalar.subi v8 c1_i32
  let v12 : BitVec 32 := Scalar.muli v8 v11
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c2_i32 : BitVec 32 := 2#32
  let c0_i32_3 : BitVec 32 := 0#32
  let v19 : BitVec 1 := Scalar.cmpi .sgt c2_i32 c0_i32_3
  let v20 : BitVec 32 := Scalar.extui v19
  let c0_i32_4 : BitVec 32 := 0#32
  let v21 : BitVec 1 := Scalar.cmpi .slt c2_i32 c0_i32_4
  let v22 : BitVec 32 := Scalar.extui v21
  let v23 : BitVec 32 := Scalar.subi v20 v22
  let v24 : BitVec 1 := Scalar.cmpi .ne v18 v23
  let v25 : BitVec 32 := Scalar.remsi v12 c2_i32
  let c0_i32_5 : BitVec 32 := 0#32
  let v26 : BitVec 1 := Scalar.cmpi .ne v25 c0_i32_5
  let v27 : BitVec 1 := Scalar.andi v24 v26
  let v13 : BitVec 32 := Scalar.divsi v12 c2_i32
  let c1_i32_6 : BitVec 32 := 1#32
  let v28 : BitVec 32 := Scalar.subi v13 c1_i32_6
  let v29 : BitVec 32 := Scalar.select v27 v28 v13
  let v30 : BitVec 32 := Scalar.subi v10 v29
  let v31 : BitVec 32 := Scalar.subi v9 v30
  let v43 : BitVec 1 := Scalar.cmpi .eq v31 v8
  let v44 : BitVec 32 := Scalar.extui v43
  let c0_i32_11 : BitVec 32 := 0#32
  let v45 : BitVec 1 := Scalar.cmpi .ne v44 c0_i32_11
  v45

def k0_off5 (i : grid0.Coords) : Fin 3 → Nat :=
  let c0_48 : Index := 0#32
  let c0_i32 : BitVec 32 := 0#32
  let arg2 : BitVec 32 := BitVec.ofNat 32 (i 2).val
  let c4_i32 : BitVec 32 := 4#32
  let v0 : BitVec 1 := Scalar.cmpi .sge arg2 c4_i32
  let v1 : BitVec 32 := Scalar.extui v0
  let v6 : BitVec 32 := Scalar.addi c0_i32 v1
  let c7_i32 : BitVec 32 := 7#32
  let v2 : BitVec 1 := Scalar.cmpi .sge arg2 c7_i32
  let v3 : BitVec 32 := Scalar.extui v2
  let v7 : BitVec 32 := Scalar.addi v6 v3
  let c9_i32 : BitVec 32 := 9#32
  let v4 : BitVec 1 := Scalar.cmpi .sge arg2 c9_i32
  let v5 : BitVec 32 := Scalar.extui v4
  let v8 : BitVec 32 := Scalar.addi v7 v5
  let v9 : BitVec 32 := Scalar.addi v8 arg2
  let c4_i32_0 : BitVec 32 := 4#32
  let v10 : BitVec 32 := Scalar.muli v8 c4_i32_0
  let c1_i32 : BitVec 32 := 1#32
  let v11 : BitVec 32 := Scalar.subi v8 c1_i32
  let v12 : BitVec 32 := Scalar.muli v8 v11
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c2_i32 : BitVec 32 := 2#32
  let c0_i32_3 : BitVec 32 := 0#32
  let v19 : BitVec 1 := Scalar.cmpi .sgt c2_i32 c0_i32_3
  let v20 : BitVec 32 := Scalar.extui v19
  let c0_i32_4 : BitVec 32 := 0#32
  let v21 : BitVec 1 := Scalar.cmpi .slt c2_i32 c0_i32_4
  let v22 : BitVec 32 := Scalar.extui v21
  let v23 : BitVec 32 := Scalar.subi v20 v22
  let v24 : BitVec 1 := Scalar.cmpi .ne v18 v23
  let v25 : BitVec 32 := Scalar.remsi v12 c2_i32
  let c0_i32_5 : BitVec 32 := 0#32
  let v26 : BitVec 1 := Scalar.cmpi .ne v25 c0_i32_5
  let v27 : BitVec 1 := Scalar.andi v24 v26
  let v13 : BitVec 32 := Scalar.divsi v12 c2_i32
  let c1_i32_6 : BitVec 32 := 1#32
  let v28 : BitVec 32 := Scalar.subi v13 c1_i32_6
  let v29 : BitVec 32 := Scalar.select v27 v28 v13
  let v30 : BitVec 32 := Scalar.subi v10 v29
  let v31 : BitVec 32 := Scalar.subi v9 v30
  let c512_i32 : BitVec 32 := 512#32
  let v32 : BitVec 32 := Scalar.muli v31 c512_i32
  let v33 : BitVec 32 := v32
  let v91 : Index := Scalar.indexCast v33
  let c0_49 : Index := 0#32
  ![0, v91.toNat, 0]
def k0_off6 (i : grid0.Coords) : Fin 3 → Nat :=
  let c1_87 : Index := 1#32
  let c0_i32 : BitVec 32 := 0#32
  let arg2 : BitVec 32 := BitVec.ofNat 32 (i 2).val
  let c4_i32 : BitVec 32 := 4#32
  let v0 : BitVec 1 := Scalar.cmpi .sge arg2 c4_i32
  let v1 : BitVec 32 := Scalar.extui v0
  let v6 : BitVec 32 := Scalar.addi c0_i32 v1
  let c7_i32 : BitVec 32 := 7#32
  let v2 : BitVec 1 := Scalar.cmpi .sge arg2 c7_i32
  let v3 : BitVec 32 := Scalar.extui v2
  let v7 : BitVec 32 := Scalar.addi v6 v3
  let c9_i32 : BitVec 32 := 9#32
  let v4 : BitVec 1 := Scalar.cmpi .sge arg2 c9_i32
  let v5 : BitVec 32 := Scalar.extui v4
  let v8 : BitVec 32 := Scalar.addi v7 v5
  let v9 : BitVec 32 := Scalar.addi v8 arg2
  let c4_i32_0 : BitVec 32 := 4#32
  let v10 : BitVec 32 := Scalar.muli v8 c4_i32_0
  let c1_i32 : BitVec 32 := 1#32
  let v11 : BitVec 32 := Scalar.subi v8 c1_i32
  let v12 : BitVec 32 := Scalar.muli v8 v11
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c2_i32 : BitVec 32 := 2#32
  let c0_i32_3 : BitVec 32 := 0#32
  let v19 : BitVec 1 := Scalar.cmpi .sgt c2_i32 c0_i32_3
  let v20 : BitVec 32 := Scalar.extui v19
  let c0_i32_4 : BitVec 32 := 0#32
  let v21 : BitVec 1 := Scalar.cmpi .slt c2_i32 c0_i32_4
  let v22 : BitVec 32 := Scalar.extui v21
  let v23 : BitVec 32 := Scalar.subi v20 v22
  let v24 : BitVec 1 := Scalar.cmpi .ne v18 v23
  let v25 : BitVec 32 := Scalar.remsi v12 c2_i32
  let c0_i32_5 : BitVec 32 := 0#32
  let v26 : BitVec 1 := Scalar.cmpi .ne v25 c0_i32_5
  let v27 : BitVec 1 := Scalar.andi v24 v26
  let v13 : BitVec 32 := Scalar.divsi v12 c2_i32
  let c1_i32_6 : BitVec 32 := 1#32
  let v28 : BitVec 32 := Scalar.subi v13 c1_i32_6
  let v29 : BitVec 32 := Scalar.select v27 v28 v13
  let v30 : BitVec 32 := Scalar.subi v10 v29
  let v31 : BitVec 32 := Scalar.subi v9 v30
  let c512_i32 : BitVec 32 := 512#32
  let v32 : BitVec 32 := Scalar.muli v31 c512_i32
  let v33 : BitVec 32 := v32
  let v142 : Index := Scalar.indexCast v33
  let c0_88 : Index := 0#32
  ![1, v142.toNat, 0]
def k0_off7 (i : grid0.Coords) : Fin 3 → Nat :=
  let c2_127 : Index := 2#32
  let c0_i32 : BitVec 32 := 0#32
  let arg2 : BitVec 32 := BitVec.ofNat 32 (i 2).val
  let c4_i32 : BitVec 32 := 4#32
  let v0 : BitVec 1 := Scalar.cmpi .sge arg2 c4_i32
  let v1 : BitVec 32 := Scalar.extui v0
  let v6 : BitVec 32 := Scalar.addi c0_i32 v1
  let c7_i32 : BitVec 32 := 7#32
  let v2 : BitVec 1 := Scalar.cmpi .sge arg2 c7_i32
  let v3 : BitVec 32 := Scalar.extui v2
  let v7 : BitVec 32 := Scalar.addi v6 v3
  let c9_i32 : BitVec 32 := 9#32
  let v4 : BitVec 1 := Scalar.cmpi .sge arg2 c9_i32
  let v5 : BitVec 32 := Scalar.extui v4
  let v8 : BitVec 32 := Scalar.addi v7 v5
  let v9 : BitVec 32 := Scalar.addi v8 arg2
  let c4_i32_0 : BitVec 32 := 4#32
  let v10 : BitVec 32 := Scalar.muli v8 c4_i32_0
  let c1_i32 : BitVec 32 := 1#32
  let v11 : BitVec 32 := Scalar.subi v8 c1_i32
  let v12 : BitVec 32 := Scalar.muli v8 v11
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c2_i32 : BitVec 32 := 2#32
  let c0_i32_3 : BitVec 32 := 0#32
  let v19 : BitVec 1 := Scalar.cmpi .sgt c2_i32 c0_i32_3
  let v20 : BitVec 32 := Scalar.extui v19
  let c0_i32_4 : BitVec 32 := 0#32
  let v21 : BitVec 1 := Scalar.cmpi .slt c2_i32 c0_i32_4
  let v22 : BitVec 32 := Scalar.extui v21
  let v23 : BitVec 32 := Scalar.subi v20 v22
  let v24 : BitVec 1 := Scalar.cmpi .ne v18 v23
  let v25 : BitVec 32 := Scalar.remsi v12 c2_i32
  let c0_i32_5 : BitVec 32 := 0#32
  let v26 : BitVec 1 := Scalar.cmpi .ne v25 c0_i32_5
  let v27 : BitVec 1 := Scalar.andi v24 v26
  let v13 : BitVec 32 := Scalar.divsi v12 c2_i32
  let c1_i32_6 : BitVec 32 := 1#32
  let v28 : BitVec 32 := Scalar.subi v13 c1_i32_6
  let v29 : BitVec 32 := Scalar.select v27 v28 v13
  let v30 : BitVec 32 := Scalar.subi v10 v29
  let v31 : BitVec 32 := Scalar.subi v9 v30
  let c512_i32 : BitVec 32 := 512#32
  let v32 : BitVec 32 := Scalar.muli v31 c512_i32
  let v33 : BitVec 32 := v32
  let v193 : Index := Scalar.indexCast v33
  let c0_128 : Index := 0#32
  ![2, v193.toNat, 0]
def k0_off8 (i : grid0.Coords) : Fin 3 → Nat :=
  let c3_166 : Index := 3#32
  let c0_i32 : BitVec 32 := 0#32
  let arg2 : BitVec 32 := BitVec.ofNat 32 (i 2).val
  let c4_i32 : BitVec 32 := 4#32
  let v0 : BitVec 1 := Scalar.cmpi .sge arg2 c4_i32
  let v1 : BitVec 32 := Scalar.extui v0
  let v6 : BitVec 32 := Scalar.addi c0_i32 v1
  let c7_i32 : BitVec 32 := 7#32
  let v2 : BitVec 1 := Scalar.cmpi .sge arg2 c7_i32
  let v3 : BitVec 32 := Scalar.extui v2
  let v7 : BitVec 32 := Scalar.addi v6 v3
  let c9_i32 : BitVec 32 := 9#32
  let v4 : BitVec 1 := Scalar.cmpi .sge arg2 c9_i32
  let v5 : BitVec 32 := Scalar.extui v4
  let v8 : BitVec 32 := Scalar.addi v7 v5
  let v9 : BitVec 32 := Scalar.addi v8 arg2
  let c4_i32_0 : BitVec 32 := 4#32
  let v10 : BitVec 32 := Scalar.muli v8 c4_i32_0
  let c1_i32 : BitVec 32 := 1#32
  let v11 : BitVec 32 := Scalar.subi v8 c1_i32
  let v12 : BitVec 32 := Scalar.muli v8 v11
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c2_i32 : BitVec 32 := 2#32
  let c0_i32_3 : BitVec 32 := 0#32
  let v19 : BitVec 1 := Scalar.cmpi .sgt c2_i32 c0_i32_3
  let v20 : BitVec 32 := Scalar.extui v19
  let c0_i32_4 : BitVec 32 := 0#32
  let v21 : BitVec 1 := Scalar.cmpi .slt c2_i32 c0_i32_4
  let v22 : BitVec 32 := Scalar.extui v21
  let v23 : BitVec 32 := Scalar.subi v20 v22
  let v24 : BitVec 1 := Scalar.cmpi .ne v18 v23
  let v25 : BitVec 32 := Scalar.remsi v12 c2_i32
  let c0_i32_5 : BitVec 32 := 0#32
  let v26 : BitVec 1 := Scalar.cmpi .ne v25 c0_i32_5
  let v27 : BitVec 1 := Scalar.andi v24 v26
  let v13 : BitVec 32 := Scalar.divsi v12 c2_i32
  let c1_i32_6 : BitVec 32 := 1#32
  let v28 : BitVec 32 := Scalar.subi v13 c1_i32_6
  let v29 : BitVec 32 := Scalar.select v27 v28 v13
  let v30 : BitVec 32 := Scalar.subi v10 v29
  let v31 : BitVec 32 := Scalar.subi v9 v30
  let c512_i32 : BitVec 32 := 512#32
  let v32 : BitVec 32 := Scalar.muli v31 c512_i32
  let v33 : BitVec 32 := v32
  let v244 : Index := Scalar.indexCast v33
  let c0_167 : Index := 0#32
  ![3, v244.toNat, 0]
def k0_mult2 (i : grid0.Coords) : BitVec 32 :=
  let arg1 : BitVec 32 := BitVec.ofNat 32 (i 1).val
  let c4_i32_188 : BitVec 32 := 4#32
  let v283 : BitVec 32 := Scalar.muli arg1 c4_i32_188
  let c0_i32_189 : BitVec 32 := 0#32
  let v284 : BitVec 32 := Scalar.addi v283 c0_i32_189
  let c256_i32 : BitVec 32 := 256#32
  let v285 : BitVec 32 := Scalar.muli v284 c256_i32
  v285
def k0_off9 (i : grid0.Coords) (c0_i32_189 : BitVec 32) : Fin 3 → Nat :=
  let arg0 : BitVec 32 := BitVec.ofNat 32 (i 0).val
  let c0_i32 : BitVec 32 := 0#32
  let arg2 : BitVec 32 := BitVec.ofNat 32 (i 2).val
  let c4_i32 : BitVec 32 := 4#32
  let v0 : BitVec 1 := Scalar.cmpi .sge arg2 c4_i32
  let v1 : BitVec 32 := Scalar.extui v0
  let v6 : BitVec 32 := Scalar.addi c0_i32 v1
  let c7_i32 : BitVec 32 := 7#32
  let v2 : BitVec 1 := Scalar.cmpi .sge arg2 c7_i32
  let v3 : BitVec 32 := Scalar.extui v2
  let v7 : BitVec 32 := Scalar.addi v6 v3
  let c9_i32 : BitVec 32 := 9#32
  let v4 : BitVec 1 := Scalar.cmpi .sge arg2 c9_i32
  let v5 : BitVec 32 := Scalar.extui v4
  let v8 : BitVec 32 := Scalar.addi v7 v5
  let v9 : BitVec 32 := Scalar.addi v8 arg2
  let c4_i32_0 : BitVec 32 := 4#32
  let v10 : BitVec 32 := Scalar.muli v8 c4_i32_0
  let c1_i32 : BitVec 32 := 1#32
  let v11 : BitVec 32 := Scalar.subi v8 c1_i32
  let v12 : BitVec 32 := Scalar.muli v8 v11
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c2_i32 : BitVec 32 := 2#32
  let c0_i32_3 : BitVec 32 := 0#32
  let v19 : BitVec 1 := Scalar.cmpi .sgt c2_i32 c0_i32_3
  let v20 : BitVec 32 := Scalar.extui v19
  let c0_i32_4 : BitVec 32 := 0#32
  let v21 : BitVec 1 := Scalar.cmpi .slt c2_i32 c0_i32_4
  let v22 : BitVec 32 := Scalar.extui v21
  let v23 : BitVec 32 := Scalar.subi v20 v22
  let v24 : BitVec 1 := Scalar.cmpi .ne v18 v23
  let v25 : BitVec 32 := Scalar.remsi v12 c2_i32
  let c0_i32_5 : BitVec 32 := 0#32
  let v26 : BitVec 1 := Scalar.cmpi .ne v25 c0_i32_5
  let v27 : BitVec 1 := Scalar.andi v24 v26
  let v13 : BitVec 32 := Scalar.divsi v12 c2_i32
  let c1_i32_6 : BitVec 32 := 1#32
  let v28 : BitVec 32 := Scalar.subi v13 c1_i32_6
  let v29 : BitVec 32 := Scalar.select v27 v28 v13
  let v30 : BitVec 32 := Scalar.subi v10 v29
  let v31 : BitVec 32 := Scalar.subi v9 v30
  let c512_i32 : BitVec 32 := 512#32
  let v32 : BitVec 32 := Scalar.muli v31 c512_i32
  let v33 : BitVec 32 := v32
  let arg1 : BitVec 32 := BitVec.ofNat 32 (i 1).val
  let c4_i32_188 : BitVec 32 := 4#32
  let v283 : BitVec 32 := Scalar.muli arg1 c4_i32_188
  let v284 : BitVec 32 := Scalar.addi v283 c0_i32_189
  let c256_i32 : BitVec 32 := 256#32
  let v285 : BitVec 32 := Scalar.muli v284 c256_i32
  let v286 : BitVec 32 := v285
  ![arg0.toNat, v33.toNat, v286.toNat]
def k0_mult3 (i : grid0.Coords) : BitVec 32 :=
  let arg1 : BitVec 32 := BitVec.ofNat 32 (i 1).val
  let c4_i32_217 : BitVec 32 := 4#32
  let v329 : BitVec 32 := Scalar.muli arg1 c4_i32_217
  let c1_i32_218 : BitVec 32 := 1#32
  let v330 : BitVec 32 := Scalar.addi v329 c1_i32_218
  let c256_i32_219 : BitVec 32 := 256#32
  let v331 : BitVec 32 := Scalar.muli v330 c256_i32_219
  v331
def k0_mult4 (i : grid0.Coords) : BitVec 32 :=
  let arg1 : BitVec 32 := BitVec.ofNat 32 (i 1).val
  let c4_i32_247 : BitVec 32 := 4#32
  let v375 : BitVec 32 := Scalar.muli arg1 c4_i32_247
  let c2_i32_248 : BitVec 32 := 2#32
  let v376 : BitVec 32 := Scalar.addi v375 c2_i32_248
  let c256_i32_249 : BitVec 32 := 256#32
  let v377 : BitVec 32 := Scalar.muli v376 c256_i32_249
  v377
def k0_mult5 (i : grid0.Coords) : BitVec 32 :=
  let arg1 : BitVec 32 := BitVec.ofNat 32 (i 1).val
  let c4_i32_277 : BitVec 32 := 4#32
  let v421 : BitVec 32 := Scalar.muli arg1 c4_i32_277
  let c3_i32_278 : BitVec 32 := 3#32
  let v422 : BitVec 32 := Scalar.addi v421 c3_i32_278
  let c256_i32_279 : BitVec 32 := 256#32
  let v423 : BitVec 32 := Scalar.muli v422 c256_i32_279
  v423
def k0_cond5 (i : grid0.Coords) : BitVec 1 :=
  let c0_i32 : BitVec 32 := 0#32
  let arg2 : BitVec 32 := BitVec.ofNat 32 (i 2).val
  let c4_i32 : BitVec 32 := 4#32
  let v0 : BitVec 1 := Scalar.cmpi .sge arg2 c4_i32
  let v1 : BitVec 32 := Scalar.extui v0
  let v6 : BitVec 32 := Scalar.addi c0_i32 v1
  let c7_i32 : BitVec 32 := 7#32
  let v2 : BitVec 1 := Scalar.cmpi .sge arg2 c7_i32
  let v3 : BitVec 32 := Scalar.extui v2
  let v7 : BitVec 32 := Scalar.addi v6 v3
  let c9_i32 : BitVec 32 := 9#32
  let v4 : BitVec 1 := Scalar.cmpi .sge arg2 c9_i32
  let v5 : BitVec 32 := Scalar.extui v4
  let v8 : BitVec 32 := Scalar.addi v7 v5
  let v9 : BitVec 32 := Scalar.addi v8 arg2
  let c4_i32_0 : BitVec 32 := 4#32
  let v10 : BitVec 32 := Scalar.muli v8 c4_i32_0
  let c1_i32 : BitVec 32 := 1#32
  let v11 : BitVec 32 := Scalar.subi v8 c1_i32
  let v12 : BitVec 32 := Scalar.muli v8 v11
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c2_i32 : BitVec 32 := 2#32
  let c0_i32_3 : BitVec 32 := 0#32
  let v19 : BitVec 1 := Scalar.cmpi .sgt c2_i32 c0_i32_3
  let v20 : BitVec 32 := Scalar.extui v19
  let c0_i32_4 : BitVec 32 := 0#32
  let v21 : BitVec 1 := Scalar.cmpi .slt c2_i32 c0_i32_4
  let v22 : BitVec 32 := Scalar.extui v21
  let v23 : BitVec 32 := Scalar.subi v20 v22
  let v24 : BitVec 1 := Scalar.cmpi .ne v18 v23
  let v25 : BitVec 32 := Scalar.remsi v12 c2_i32
  let c0_i32_5 : BitVec 32 := 0#32
  let v26 : BitVec 1 := Scalar.cmpi .ne v25 c0_i32_5
  let v27 : BitVec 1 := Scalar.andi v24 v26
  let v13 : BitVec 32 := Scalar.divsi v12 c2_i32
  let c1_i32_6 : BitVec 32 := 1#32
  let v28 : BitVec 32 := Scalar.subi v13 c1_i32_6
  let v29 : BitVec 32 := Scalar.select v27 v28 v13
  let v30 : BitVec 32 := Scalar.subi v10 v29
  let v31 : BitVec 32 := Scalar.subi v9 v30
  let c3_i32 : BitVec 32 := 3#32
  let v46 : BitVec 1 := Scalar.cmpi .eq v31 c3_i32
  let v47 : BitVec 32 := Scalar.extui v46
  let c0_i32_12 : BitVec 32 := 0#32
  let v48 : BitVec 1 := Scalar.cmpi .ne v47 c0_i32_12
  v48

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 1 := Scalar.cmpi .sge arg2 c4_i32
  let v1 : BitVec 32 := Scalar.extui v0
  let c7_i32 : BitVec 32 := 7#32
  let v2 : BitVec 1 := Scalar.cmpi .sge arg2 c7_i32
  let v3 : BitVec 32 := Scalar.extui v2
  let c9_i32 : BitVec 32 := 9#32
  let v4 : BitVec 1 := Scalar.cmpi .sge arg2 c9_i32
  let v5 : BitVec 32 := Scalar.extui v4
  let c0_i32 : BitVec 32 := 0#32
  let v6 : BitVec 32 := Scalar.addi c0_i32 v1
  let v7 : BitVec 32 := Scalar.addi v6 v3
  let v8 : BitVec 32 := Scalar.addi v7 v5
  let v9 : BitVec 32 := Scalar.addi v8 arg2
  let c4_i32_0 : BitVec 32 := 4#32
  let v10 : BitVec 32 := Scalar.muli v8 c4_i32_0
  let c1_i32 : BitVec 32 := 1#32
  let v11 : BitVec 32 := Scalar.subi v8 c1_i32
  let v12 : BitVec 32 := Scalar.muli v8 v11
  let c2_i32 : BitVec 32 := 2#32
  let v13 : BitVec 32 := Scalar.divsi v12 c2_i32
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c0_i32_3 : BitVec 32 := 0#32
  let v19 : BitVec 1 := Scalar.cmpi .sgt c2_i32 c0_i32_3
  let v20 : BitVec 32 := Scalar.extui v19
  let c0_i32_4 : BitVec 32 := 0#32
  let v21 : BitVec 1 := Scalar.cmpi .slt c2_i32 c0_i32_4
  let v22 : BitVec 32 := Scalar.extui v21
  let v23 : BitVec 32 := Scalar.subi v20 v22
  let v24 : BitVec 1 := Scalar.cmpi .ne v18 v23
  let v25 : BitVec 32 := Scalar.remsi v12 c2_i32
  let c0_i32_5 : BitVec 32 := 0#32
  let v26 : BitVec 1 := Scalar.cmpi .ne v25 c0_i32_5
  let v27 : BitVec 1 := Scalar.andi v24 v26
  let c1_i32_6 : BitVec 32 := 1#32
  let v28 : BitVec 32 := Scalar.subi v13 c1_i32_6
  let v29 : BitVec 32 := Scalar.select v27 v28 v13
  let v30 : BitVec 32 := Scalar.subi v10 v29
  let v31 : BitVec 32 := Scalar.subi v9 v30
  let c0_i32_7 : BitVec 32 := 0#32
  ![arg0.toNat, v31.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 1 := Scalar.cmpi .sge arg2 c4_i32
  let v1 : BitVec 32 := Scalar.extui v0
  let c7_i32 : BitVec 32 := 7#32
  let v2 : BitVec 1 := Scalar.cmpi .sge arg2 c7_i32
  let v3 : BitVec 32 := Scalar.extui v2
  let c9_i32 : BitVec 32 := 9#32
  let v4 : BitVec 1 := Scalar.cmpi .sge arg2 c9_i32
  let v5 : BitVec 32 := Scalar.extui v4
  let c0_i32 : BitVec 32 := 0#32
  let v6 : BitVec 32 := Scalar.addi c0_i32 v1
  let v7 : BitVec 32 := Scalar.addi v6 v3
  let v8 : BitVec 32 := Scalar.addi v7 v5
  let v9 : BitVec 32 := Scalar.addi v8 arg2
  let c4_i32_0 : BitVec 32 := 4#32
  let v10 : BitVec 32 := Scalar.muli v8 c4_i32_0
  let c1_i32 : BitVec 32 := 1#32
  let v11 : BitVec 32 := Scalar.subi v8 c1_i32
  let v12 : BitVec 32 := Scalar.muli v8 v11
  let c2_i32 : BitVec 32 := 2#32
  let v13 : BitVec 32 := Scalar.divsi v12 c2_i32
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c0_i32_3 : BitVec 32 := 0#32
  let v19 : BitVec 1 := Scalar.cmpi .sgt c2_i32 c0_i32_3
  let v20 : BitVec 32 := Scalar.extui v19
  let c0_i32_4 : BitVec 32 := 0#32
  let v21 : BitVec 1 := Scalar.cmpi .slt c2_i32 c0_i32_4
  let v22 : BitVec 32 := Scalar.extui v21
  let v23 : BitVec 32 := Scalar.subi v20 v22
  let v24 : BitVec 1 := Scalar.cmpi .ne v18 v23
  let v25 : BitVec 32 := Scalar.remsi v12 c2_i32
  let c0_i32_5 : BitVec 32 := 0#32
  let v26 : BitVec 1 := Scalar.cmpi .ne v25 c0_i32_5
  let v27 : BitVec 1 := Scalar.andi v24 v26
  let c1_i32_6 : BitVec 32 := 1#32
  let v28 : BitVec 32 := Scalar.subi v13 c1_i32_6
  let v29 : BitVec 32 := Scalar.select v27 v28 v13
  let v30 : BitVec 32 := Scalar.subi v10 v29
  let v31 : BitVec 32 := Scalar.subi v9 v30
  let c0_i32_7 : BitVec 32 := 0#32
  ![arg0.toNat, v8.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 1 := Scalar.cmpi .sge arg2 c4_i32
  let v1 : BitVec 32 := Scalar.extui v0
  let c7_i32 : BitVec 32 := 7#32
  let v2 : BitVec 1 := Scalar.cmpi .sge arg2 c7_i32
  let v3 : BitVec 32 := Scalar.extui v2
  let c9_i32 : BitVec 32 := 9#32
  let v4 : BitVec 1 := Scalar.cmpi .sge arg2 c9_i32
  let v5 : BitVec 32 := Scalar.extui v4
  let c0_i32 : BitVec 32 := 0#32
  let v6 : BitVec 32 := Scalar.addi c0_i32 v1
  let v7 : BitVec 32 := Scalar.addi v6 v3
  let v8 : BitVec 32 := Scalar.addi v7 v5
  let v9 : BitVec 32 := Scalar.addi v8 arg2
  let c4_i32_0 : BitVec 32 := 4#32
  let v10 : BitVec 32 := Scalar.muli v8 c4_i32_0
  let c1_i32 : BitVec 32 := 1#32
  let v11 : BitVec 32 := Scalar.subi v8 c1_i32
  let v12 : BitVec 32 := Scalar.muli v8 v11
  let c2_i32 : BitVec 32 := 2#32
  let v13 : BitVec 32 := Scalar.divsi v12 c2_i32
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c0_i32_3 : BitVec 32 := 0#32
  let v19 : BitVec 1 := Scalar.cmpi .sgt c2_i32 c0_i32_3
  let v20 : BitVec 32 := Scalar.extui v19
  let c0_i32_4 : BitVec 32 := 0#32
  let v21 : BitVec 1 := Scalar.cmpi .slt c2_i32 c0_i32_4
  let v22 : BitVec 32 := Scalar.extui v21
  let v23 : BitVec 32 := Scalar.subi v20 v22
  let v24 : BitVec 1 := Scalar.cmpi .ne v18 v23
  let v25 : BitVec 32 := Scalar.remsi v12 c2_i32
  let c0_i32_5 : BitVec 32 := 0#32
  let v26 : BitVec 1 := Scalar.cmpi .ne v25 c0_i32_5
  let v27 : BitVec 1 := Scalar.andi v24 v26
  let c1_i32_6 : BitVec 32 := 1#32
  let v28 : BitVec 32 := Scalar.subi v13 c1_i32_6
  let v29 : BitVec 32 := Scalar.select v27 v28 v13
  let v30 : BitVec 32 := Scalar.subi v10 v29
  let v31 : BitVec 32 := Scalar.subi v9 v30
  let c0_i32_7 : BitVec 32 := 0#32
  ![arg0.toNat, v8.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 1 := Scalar.cmpi .sge arg2 c4_i32
  let v1 : BitVec 32 := Scalar.extui v0
  let c7_i32 : BitVec 32 := 7#32
  let v2 : BitVec 1 := Scalar.cmpi .sge arg2 c7_i32
  let v3 : BitVec 32 := Scalar.extui v2
  let c9_i32 : BitVec 32 := 9#32
  let v4 : BitVec 1 := Scalar.cmpi .sge arg2 c9_i32
  let v5 : BitVec 32 := Scalar.extui v4
  let c0_i32 : BitVec 32 := 0#32
  let v6 : BitVec 32 := Scalar.addi c0_i32 v1
  let v7 : BitVec 32 := Scalar.addi v6 v3
  let v8 : BitVec 32 := Scalar.addi v7 v5
  let v9 : BitVec 32 := Scalar.addi v8 arg2
  let c4_i32_0 : BitVec 32 := 4#32
  let v10 : BitVec 32 := Scalar.muli v8 c4_i32_0
  let c1_i32 : BitVec 32 := 1#32
  let v11 : BitVec 32 := Scalar.subi v8 c1_i32
  let v12 : BitVec 32 := Scalar.muli v8 v11
  let c2_i32 : BitVec 32 := 2#32
  let v13 : BitVec 32 := Scalar.divsi v12 c2_i32
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c0_i32_3 : BitVec 32 := 0#32
  let v19 : BitVec 1 := Scalar.cmpi .sgt c2_i32 c0_i32_3
  let v20 : BitVec 32 := Scalar.extui v19
  let c0_i32_4 : BitVec 32 := 0#32
  let v21 : BitVec 1 := Scalar.cmpi .slt c2_i32 c0_i32_4
  let v22 : BitVec 32 := Scalar.extui v21
  let v23 : BitVec 32 := Scalar.subi v20 v22
  let v24 : BitVec 1 := Scalar.cmpi .ne v18 v23
  let v25 : BitVec 32 := Scalar.remsi v12 c2_i32
  let c0_i32_5 : BitVec 32 := 0#32
  let v26 : BitVec 1 := Scalar.cmpi .ne v25 c0_i32_5
  let v27 : BitVec 1 := Scalar.andi v24 v26
  let c1_i32_6 : BitVec 32 := 1#32
  let v28 : BitVec 32 := Scalar.subi v13 c1_i32_6
  let v29 : BitVec 32 := Scalar.select v27 v28 v13
  let v30 : BitVec 32 := Scalar.subi v10 v29
  let v31 : BitVec 32 := Scalar.subi v9 v30
  let c0_i32_7 : BitVec 32 := 0#32
  ![arg0.toNat, v31.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 1 := Scalar.cmpi .sge arg2 c4_i32
  let v1 : BitVec 32 := Scalar.extui v0
  let c7_i32 : BitVec 32 := 7#32
  let v2 : BitVec 1 := Scalar.cmpi .sge arg2 c7_i32
  let v3 : BitVec 32 := Scalar.extui v2
  let c9_i32 : BitVec 32 := 9#32
  let v4 : BitVec 1 := Scalar.cmpi .sge arg2 c9_i32
  let v5 : BitVec 32 := Scalar.extui v4
  let c0_i32 : BitVec 32 := 0#32
  let v6 : BitVec 32 := Scalar.addi c0_i32 v1
  let v7 : BitVec 32 := Scalar.addi v6 v3
  let v8 : BitVec 32 := Scalar.addi v7 v5
  let v9 : BitVec 32 := Scalar.addi v8 arg2
  let c4_i32_0 : BitVec 32 := 4#32
  let v10 : BitVec 32 := Scalar.muli v8 c4_i32_0
  let c1_i32 : BitVec 32 := 1#32
  let v11 : BitVec 32 := Scalar.subi v8 c1_i32
  let v12 : BitVec 32 := Scalar.muli v8 v11
  let c2_i32 : BitVec 32 := 2#32
  let v13 : BitVec 32 := Scalar.divsi v12 c2_i32
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c0_i32_3 : BitVec 32 := 0#32
  let v19 : BitVec 1 := Scalar.cmpi .sgt c2_i32 c0_i32_3
  let v20 : BitVec 32 := Scalar.extui v19
  let c0_i32_4 : BitVec 32 := 0#32
  let v21 : BitVec 1 := Scalar.cmpi .slt c2_i32 c0_i32_4
  let v22 : BitVec 32 := Scalar.extui v21
  let v23 : BitVec 32 := Scalar.subi v20 v22
  let v24 : BitVec 1 := Scalar.cmpi .ne v18 v23
  let v25 : BitVec 32 := Scalar.remsi v12 c2_i32
  let c0_i32_5 : BitVec 32 := 0#32
  let v26 : BitVec 1 := Scalar.cmpi .ne v25 c0_i32_5
  let v27 : BitVec 1 := Scalar.andi v24 v26
  let c1_i32_6 : BitVec 32 := 1#32
  let v28 : BitVec 32 := Scalar.subi v13 c1_i32_6
  let v29 : BitVec 32 := Scalar.select v27 v28 v13
  let v30 : BitVec 32 := Scalar.subi v10 v29
  let v31 : BitVec 32 := Scalar.subi v9 v30
  let c0_i32_7 : BitVec 32 := 0#32
  let c0_i32_8 : BitVec 32 := 0#32
  ![arg0.toNat, arg1.toNat, c0_i32_7.toNat, v31.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 1 := Scalar.cmpi .sge arg2 c4_i32
  let v1 : BitVec 32 := Scalar.extui v0
  let c7_i32 : BitVec 32 := 7#32
  let v2 : BitVec 1 := Scalar.cmpi .sge arg2 c7_i32
  let v3 : BitVec 32 := Scalar.extui v2
  let c9_i32 : BitVec 32 := 9#32
  let v4 : BitVec 1 := Scalar.cmpi .sge arg2 c9_i32
  let v5 : BitVec 32 := Scalar.extui v4
  let c0_i32 : BitVec 32 := 0#32
  let v6 : BitVec 32 := Scalar.addi c0_i32 v1
  let v7 : BitVec 32 := Scalar.addi v6 v3
  let v8 : BitVec 32 := Scalar.addi v7 v5
  let v9 : BitVec 32 := Scalar.addi v8 arg2
  let c4_i32_0 : BitVec 32 := 4#32
  let v10 : BitVec 32 := Scalar.muli v8 c4_i32_0
  let c1_i32 : BitVec 32 := 1#32
  let v11 : BitVec 32 := Scalar.subi v8 c1_i32
  let v12 : BitVec 32 := Scalar.muli v8 v11
  let c2_i32 : BitVec 32 := 2#32
  let v13 : BitVec 32 := Scalar.divsi v12 c2_i32
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c0_i32_3 : BitVec 32 := 0#32
  let v19 : BitVec 1 := Scalar.cmpi .sgt c2_i32 c0_i32_3
  let v20 : BitVec 32 := Scalar.extui v19
  let c0_i32_4 : BitVec 32 := 0#32
  let v21 : BitVec 1 := Scalar.cmpi .slt c2_i32 c0_i32_4
  let v22 : BitVec 32 := Scalar.extui v21
  let v23 : BitVec 32 := Scalar.subi v20 v22
  let v24 : BitVec 1 := Scalar.cmpi .ne v18 v23
  let v25 : BitVec 32 := Scalar.remsi v12 c2_i32
  let c0_i32_5 : BitVec 32 := 0#32
  let v26 : BitVec 1 := Scalar.cmpi .ne v25 c0_i32_5
  let v27 : BitVec 1 := Scalar.andi v24 v26
  let c1_i32_6 : BitVec 32 := 1#32
  let v28 : BitVec 32 := Scalar.subi v13 c1_i32_6
  let v29 : BitVec 32 := Scalar.select v27 v28 v13
  let v30 : BitVec 32 := Scalar.subi v10 v29
  let v31 : BitVec 32 := Scalar.subi v9 v30
  let c0_i32_7 : BitVec 32 := 0#32
  let c0_i32_8 : BitVec 32 := 0#32
  ![arg0.toNat, arg1.toNat, c0_i32_7.toNat, v31.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 1 := Scalar.cmpi .sge arg2 c4_i32
  let v1 : BitVec 32 := Scalar.extui v0
  let c7_i32 : BitVec 32 := 7#32
  let v2 : BitVec 1 := Scalar.cmpi .sge arg2 c7_i32
  let v3 : BitVec 32 := Scalar.extui v2
  let c9_i32 : BitVec 32 := 9#32
  let v4 : BitVec 1 := Scalar.cmpi .sge arg2 c9_i32
  let v5 : BitVec 32 := Scalar.extui v4
  let c0_i32 : BitVec 32 := 0#32
  let v6 : BitVec 32 := Scalar.addi c0_i32 v1
  let v7 : BitVec 32 := Scalar.addi v6 v3
  let v8 : BitVec 32 := Scalar.addi v7 v5
  let v9 : BitVec 32 := Scalar.addi v8 arg2
  let c4_i32_0 : BitVec 32 := 4#32
  let v10 : BitVec 32 := Scalar.muli v8 c4_i32_0
  let c1_i32 : BitVec 32 := 1#32
  let v11 : BitVec 32 := Scalar.subi v8 c1_i32
  let v12 : BitVec 32 := Scalar.muli v8 v11
  let c2_i32 : BitVec 32 := 2#32
  let v13 : BitVec 32 := Scalar.divsi v12 c2_i32
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c0_i32_3 : BitVec 32 := 0#32
  let v19 : BitVec 1 := Scalar.cmpi .sgt c2_i32 c0_i32_3
  let v20 : BitVec 32 := Scalar.extui v19
  let c0_i32_4 : BitVec 32 := 0#32
  let v21 : BitVec 1 := Scalar.cmpi .slt c2_i32 c0_i32_4
  let v22 : BitVec 32 := Scalar.extui v21
  let v23 : BitVec 32 := Scalar.subi v20 v22
  let v24 : BitVec 1 := Scalar.cmpi .ne v18 v23
  let v25 : BitVec 32 := Scalar.remsi v12 c2_i32
  let c0_i32_5 : BitVec 32 := 0#32
  let v26 : BitVec 1 := Scalar.cmpi .ne v25 c0_i32_5
  let v27 : BitVec 1 := Scalar.andi v24 v26
  let c1_i32_6 : BitVec 32 := 1#32
  let v28 : BitVec 32 := Scalar.subi v13 c1_i32_6
  let v29 : BitVec 32 := Scalar.select v27 v28 v13
  let v30 : BitVec 32 := Scalar.subi v10 v29
  let v31 : BitVec 32 := Scalar.subi v9 v30
  let c0_i32_7 : BitVec 32 := 0#32
  let c0_i32_8 : BitVec 32 := 0#32
  ![arg0.toNat, v31.toNat, c0_i32_7.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 1 := Scalar.cmpi .sge arg2 c4_i32
  let v1 : BitVec 32 := Scalar.extui v0
  let c7_i32 : BitVec 32 := 7#32
  let v2 : BitVec 1 := Scalar.cmpi .sge arg2 c7_i32
  let v3 : BitVec 32 := Scalar.extui v2
  let c9_i32 : BitVec 32 := 9#32
  let v4 : BitVec 1 := Scalar.cmpi .sge arg2 c9_i32
  let v5 : BitVec 32 := Scalar.extui v4
  let c0_i32 : BitVec 32 := 0#32
  let v6 : BitVec 32 := Scalar.addi c0_i32 v1
  let v7 : BitVec 32 := Scalar.addi v6 v3
  let v8 : BitVec 32 := Scalar.addi v7 v5
  let v9 : BitVec 32 := Scalar.addi v8 arg2
  let c4_i32_0 : BitVec 32 := 4#32
  let v10 : BitVec 32 := Scalar.muli v8 c4_i32_0
  let c1_i32 : BitVec 32 := 1#32
  let v11 : BitVec 32 := Scalar.subi v8 c1_i32
  let v12 : BitVec 32 := Scalar.muli v8 v11
  let c2_i32 : BitVec 32 := 2#32
  let v13 : BitVec 32 := Scalar.divsi v12 c2_i32
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c0_i32_3 : BitVec 32 := 0#32
  let v19 : BitVec 1 := Scalar.cmpi .sgt c2_i32 c0_i32_3
  let v20 : BitVec 32 := Scalar.extui v19
  let c0_i32_4 : BitVec 32 := 0#32
  let v21 : BitVec 1 := Scalar.cmpi .slt c2_i32 c0_i32_4
  let v22 : BitVec 32 := Scalar.extui v21
  let v23 : BitVec 32 := Scalar.subi v20 v22
  let v24 : BitVec 1 := Scalar.cmpi .ne v18 v23
  let v25 : BitVec 32 := Scalar.remsi v12 c2_i32
  let c0_i32_5 : BitVec 32 := 0#32
  let v26 : BitVec 1 := Scalar.cmpi .ne v25 c0_i32_5
  let v27 : BitVec 1 := Scalar.andi v24 v26
  let c1_i32_6 : BitVec 32 := 1#32
  let v28 : BitVec 32 := Scalar.subi v13 c1_i32_6
  let v29 : BitVec 32 := Scalar.select v27 v28 v13
  let v30 : BitVec 32 := Scalar.subi v10 v29
  let v31 : BitVec 32 := Scalar.subi v9 v30
  let c0_i32_7 : BitVec 32 := 0#32
  let c0_i32_8 : BitVec 32 := 0#32
  ![arg0.toNat, v31.toNat, c0_i32_7.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 1 := Scalar.cmpi .sge arg2 c4_i32
  let v1 : BitVec 32 := Scalar.extui v0
  let c7_i32 : BitVec 32 := 7#32
  let v2 : BitVec 1 := Scalar.cmpi .sge arg2 c7_i32
  let v3 : BitVec 32 := Scalar.extui v2
  let c9_i32 : BitVec 32 := 9#32
  let v4 : BitVec 1 := Scalar.cmpi .sge arg2 c9_i32
  let v5 : BitVec 32 := Scalar.extui v4
  let c0_i32 : BitVec 32 := 0#32
  let v6 : BitVec 32 := Scalar.addi c0_i32 v1
  let v7 : BitVec 32 := Scalar.addi v6 v3
  let v8 : BitVec 32 := Scalar.addi v7 v5
  let v9 : BitVec 32 := Scalar.addi v8 arg2
  let c4_i32_0 : BitVec 32 := 4#32
  let v10 : BitVec 32 := Scalar.muli v8 c4_i32_0
  let c1_i32 : BitVec 32 := 1#32
  let v11 : BitVec 32 := Scalar.subi v8 c1_i32
  let v12 : BitVec 32 := Scalar.muli v8 v11
  let c2_i32 : BitVec 32 := 2#32
  let v13 : BitVec 32 := Scalar.divsi v12 c2_i32
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c0_i32_3 : BitVec 32 := 0#32
  let v19 : BitVec 1 := Scalar.cmpi .sgt c2_i32 c0_i32_3
  let v20 : BitVec 32 := Scalar.extui v19
  let c0_i32_4 : BitVec 32 := 0#32
  let v21 : BitVec 1 := Scalar.cmpi .slt c2_i32 c0_i32_4
  let v22 : BitVec 32 := Scalar.extui v21
  let v23 : BitVec 32 := Scalar.subi v20 v22
  let v24 : BitVec 1 := Scalar.cmpi .ne v18 v23
  let v25 : BitVec 32 := Scalar.remsi v12 c2_i32
  let c0_i32_5 : BitVec 32 := 0#32
  let v26 : BitVec 1 := Scalar.cmpi .ne v25 c0_i32_5
  let v27 : BitVec 1 := Scalar.andi v24 v26
  let c1_i32_6 : BitVec 32 := 1#32
  let v28 : BitVec 32 := Scalar.subi v13 c1_i32_6
  let v29 : BitVec 32 := Scalar.select v27 v28 v13
  let v30 : BitVec 32 := Scalar.subi v10 v29
  let v31 : BitVec 32 := Scalar.subi v9 v30
  let c0_i32_7 : BitVec 32 := 0#32
  ![arg0.toNat, v8.toNat, arg1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 1 := Scalar.cmpi .sge arg2 c4_i32
  let v1 : BitVec 32 := Scalar.extui v0
  let c7_i32 : BitVec 32 := 7#32
  let v2 : BitVec 1 := Scalar.cmpi .sge arg2 c7_i32
  let v3 : BitVec 32 := Scalar.extui v2
  let c9_i32 : BitVec 32 := 9#32
  let v4 : BitVec 1 := Scalar.cmpi .sge arg2 c9_i32
  let v5 : BitVec 32 := Scalar.extui v4
  let c0_i32 : BitVec 32 := 0#32
  let v6 : BitVec 32 := Scalar.addi c0_i32 v1
  let v7 : BitVec 32 := Scalar.addi v6 v3
  let v8 : BitVec 32 := Scalar.addi v7 v5
  let v9 : BitVec 32 := Scalar.addi v8 arg2
  let c4_i32_0 : BitVec 32 := 4#32
  let v10 : BitVec 32 := Scalar.muli v8 c4_i32_0
  let c1_i32 : BitVec 32 := 1#32
  let v11 : BitVec 32 := Scalar.subi v8 c1_i32
  let v12 : BitVec 32 := Scalar.muli v8 v11
  let c2_i32 : BitVec 32 := 2#32
  let v13 : BitVec 32 := Scalar.divsi v12 c2_i32
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c0_i32_3 : BitVec 32 := 0#32
  let v19 : BitVec 1 := Scalar.cmpi .sgt c2_i32 c0_i32_3
  let v20 : BitVec 32 := Scalar.extui v19
  let c0_i32_4 : BitVec 32 := 0#32
  let v21 : BitVec 1 := Scalar.cmpi .slt c2_i32 c0_i32_4
  let v22 : BitVec 32 := Scalar.extui v21
  let v23 : BitVec 32 := Scalar.subi v20 v22
  let v24 : BitVec 1 := Scalar.cmpi .ne v18 v23
  let v25 : BitVec 32 := Scalar.remsi v12 c2_i32
  let c0_i32_5 : BitVec 32 := 0#32
  let v26 : BitVec 1 := Scalar.cmpi .ne v25 c0_i32_5
  let v27 : BitVec 1 := Scalar.andi v24 v26
  let c1_i32_6 : BitVec 32 := 1#32
  let v28 : BitVec 32 := Scalar.subi v13 c1_i32_6
  let v29 : BitVec 32 := Scalar.select v27 v28 v13
  let v30 : BitVec 32 := Scalar.subi v10 v29
  let v31 : BitVec 32 := Scalar.subi v9 v30
  let c0_i32_7 : BitVec 32 := 0#32
  ![arg0.toNat, v8.toNat, arg1.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 1 := Scalar.cmpi .sge arg2 c4_i32
  let v1 : BitVec 32 := Scalar.extui v0
  let c7_i32 : BitVec 32 := 7#32
  let v2 : BitVec 1 := Scalar.cmpi .sge arg2 c7_i32
  let v3 : BitVec 32 := Scalar.extui v2
  let c9_i32 : BitVec 32 := 9#32
  let v4 : BitVec 1 := Scalar.cmpi .sge arg2 c9_i32
  let v5 : BitVec 32 := Scalar.extui v4
  let c0_i32 : BitVec 32 := 0#32
  let v6 : BitVec 32 := Scalar.addi c0_i32 v1
  let v7 : BitVec 32 := Scalar.addi v6 v3
  let v8 : BitVec 32 := Scalar.addi v7 v5
  let v9 : BitVec 32 := Scalar.addi v8 arg2
  let c4_i32_0 : BitVec 32 := 4#32
  let v10 : BitVec 32 := Scalar.muli v8 c4_i32_0
  let c1_i32 : BitVec 32 := 1#32
  let v11 : BitVec 32 := Scalar.subi v8 c1_i32
  let v12 : BitVec 32 := Scalar.muli v8 v11
  let c2_i32 : BitVec 32 := 2#32
  let v13 : BitVec 32 := Scalar.divsi v12 c2_i32
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c0_i32_3 : BitVec 32 := 0#32
  let v19 : BitVec 1 := Scalar.cmpi .sgt c2_i32 c0_i32_3
  let v20 : BitVec 32 := Scalar.extui v19
  let c0_i32_4 : BitVec 32 := 0#32
  let v21 : BitVec 1 := Scalar.cmpi .slt c2_i32 c0_i32_4
  let v22 : BitVec 32 := Scalar.extui v21
  let v23 : BitVec 32 := Scalar.subi v20 v22
  let v24 : BitVec 1 := Scalar.cmpi .ne v18 v23
  let v25 : BitVec 32 := Scalar.remsi v12 c2_i32
  let c0_i32_5 : BitVec 32 := 0#32
  let v26 : BitVec 1 := Scalar.cmpi .ne v25 c0_i32_5
  let v27 : BitVec 1 := Scalar.andi v24 v26
  let c1_i32_6 : BitVec 32 := 1#32
  let v28 : BitVec 32 := Scalar.subi v13 c1_i32_6
  let v29 : BitVec 32 := Scalar.select v27 v28 v13
  let v30 : BitVec 32 := Scalar.subi v10 v29
  let v31 : BitVec 32 := Scalar.subi v9 v30
  let c0_i32_7 : BitVec 32 := 0#32
  ![arg0.toNat, v8.toNat, arg1.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x4x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x4x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== AttnIdeal.lean ====
variable {F : FTy → Type} [FloatOps F] [Named F]
def κ : String → Option EReal := fun
  | "ln2" => some ((Real.log 2 : ℝ) : EReal)
  | _ => none
-- ==== AttnRefIdeal.lean ====
abbrev S4x2048x2048 : Shape := ⟨3, ![4, 2048, 2048]⟩
abbrev S4x2048x1024 : Shape := ⟨3, ![4, 2048, 1024]⟩
abbrev S4x8x1x2048 : Shape := ⟨4, ![4, 8, 1, 2048]⟩
abbrev S4x2048x128 : Shape := ⟨3, ![4, 2048, 128]⟩
abbrev S4x2048x8x256 : Shape := ⟨4, ![4, 2048, 8, 256]⟩
abbrev S4x2048x8x128 : Shape := ⟨4, ![4, 2048, 8, 128]⟩
abbrev S4x8x2048x1 : Shape := ⟨4, ![4, 8, 2048, 1]⟩
abbrev S4x8x2048x2048 : Shape := ⟨4, ![4, 8, 2048, 2048]⟩
abbrev S_ : Shape := ⟨0, ![]⟩
abbrev S2048x2048 : Shape := ⟨2, ![2048, 2048]⟩
abbrev S4x8x128x2048 : Shape := ⟨4, ![4, 8, 128, 2048]⟩
abbrev S4x8x2048 : Shape := ⟨3, ![4, 8, 2048]⟩
abbrev S4x8x2048x256 : Shape := ⟨4, ![4, 8, 2048, 256]⟩
abbrev S4x2048x2x4x128 : Shape := ⟨5, ![4, 2048, 2, 4, 128]⟩
abbrev S4x2048x2x128 : Shape := ⟨4, ![4, 2048, 2, 128]⟩
abbrev S4x2048x256 : Shape := ⟨3, ![4, 2048, 256]⟩

abbrev nBuf : Space → Nat
  | .hbm => 79
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S4x2048x2048, .bf16⟩
  | .hbm, ⟨2, _⟩ => ⟨S4x2048x1024, .bf16⟩
  | .hbm, ⟨3, _⟩ => ⟨S4x2048x1024, .f32⟩
  | .hbm, ⟨4, _⟩ => ⟨S4x8x1x2048, .f32⟩
  | .hbm, ⟨5, _⟩ => ⟨S4x8x1x2048, .f32⟩
  | .hbm, ⟨6, _⟩ => ⟨S4x2048x128, .f32⟩
  | .hbm, ⟨7, _⟩ => ⟨S4x2048x128, .f32⟩
  | .hbm, ⟨8, _⟩ => ⟨S4x2048x2048, .f32⟩
  | .hbm, ⟨9, _⟩ => ⟨S4x2048x8x256, .f32⟩
  | .hbm, ⟨10, _⟩ => ⟨S4x2048x2048, .f32⟩
  | .hbm, ⟨11, _⟩ => ⟨S4x2048x8x256, .f32⟩
  | .hbm, ⟨12, _⟩ => ⟨S4x2048x1024, .f32⟩
  | .hbm, ⟨13, _⟩ => ⟨S4x2048x8x128, .f32⟩
  | .hbm, ⟨14, _⟩ => ⟨S4x2048x8x128, .f32⟩
  | .hbm, ⟨15, _⟩ => ⟨S4x8x2048x1, .f32⟩
  | .hbm, ⟨16, _⟩ => ⟨S4x8x2048x2048, .f32⟩
  | .hbm, ⟨17, _⟩ => ⟨S_, .i1⟩
  | .hbm, ⟨18, _⟩ => ⟨S2048x2048, .i1⟩
  | .hbm, ⟨19, _⟩ => ⟨S2048x2048, .i32⟩
  | .hbm, ⟨20, _⟩ => ⟨S_, .i32⟩
  | .hbm, ⟨21, _⟩ => ⟨S2048x2048, .i32⟩
  | .hbm, ⟨22, _⟩ => ⟨S2048x2048, .i32⟩
  | .hbm, ⟨23, _⟩ => ⟨S2048x2048, .i32⟩
  | .hbm, ⟨24, _⟩ => ⟨S2048x2048, .i1⟩
  | .hbm, ⟨25, _⟩ => ⟨S_, .i1⟩
  | .hbm, ⟨26, _⟩ => ⟨S2048x2048, .i1⟩
  | .hbm, ⟨27, _⟩ => ⟨S2048x2048, .i1⟩
  | .hbm, ⟨28, _⟩ => ⟨S_, .f32⟩
  | .hbm, ⟨29, _⟩ => ⟨S_, .f32⟩
  | .hbm, ⟨30, _⟩ => ⟨S4x8x2048x2048, .f32⟩
  | .hbm, ⟨31, _⟩ => ⟨S4x8x2048x2048, .f32⟩
  | .hbm, ⟨32, _⟩ => ⟨S4x8x2048x2048, .f32⟩
  | .hbm, ⟨33, _⟩ => ⟨S4x8x2048x2048, .f32⟩
  | .hbm, ⟨34, _⟩ => ⟨S4x8x2048x2048, .f32⟩
  | .hbm, ⟨35, _⟩ => ⟨S_, .f32⟩
  | .hbm, ⟨36, _⟩ => ⟨S_, .f32⟩
  | .hbm, ⟨37, _⟩ => ⟨S4x8x2048x2048, .i1⟩
  | .hbm, ⟨38, _⟩ => ⟨S4x8x2048x2048, .f32⟩
  | .hbm, ⟨39, _⟩ => ⟨S4x8x2048x2048, .f32⟩
  | .hbm, ⟨40, _⟩ => ⟨S_, .f32⟩
  | .hbm, ⟨41, _⟩ => ⟨S4x8x2048x2048, .f32⟩
  | .hbm, ⟨42, _⟩ => ⟨S4x8x2048x2048, .bf16⟩
  | .hbm, ⟨43, _⟩ => ⟨S4x8x2048x2048, .f32⟩
  | .hbm, ⟨44, _⟩ => ⟨S4x8x128x2048, .f32⟩
  | .hbm, ⟨45, _⟩ => ⟨S4x2048x8x128, .f32⟩
  | .hbm, ⟨46, _⟩ => ⟨S_, .f32⟩
  | .hbm, ⟨47, _⟩ => ⟨S4x8x2048, .f32⟩
  | .hbm, ⟨48, _⟩ => ⟨S4x8x2048x1, .f32⟩
  | .hbm, ⟨49, _⟩ => ⟨S4x8x2048x1, .f32⟩
  | .hbm, ⟨50, _⟩ => ⟨S4x8x2048x1, .f32⟩
  | .hbm, ⟨51, _⟩ => ⟨S_, .f32⟩
  | .hbm, ⟨52, _⟩ => ⟨S4x8x2048, .f32⟩
  | .hbm, ⟨53, _⟩ => ⟨S4x8x2048x2048, .f32⟩
  | .hbm, ⟨54, _⟩ => ⟨S4x8x128x2048, .f32⟩
  | .hbm, ⟨55, _⟩ => ⟨S4x8x2048x2048, .f32⟩
  | .hbm, ⟨56, _⟩ => ⟨S4x8x128x2048, .f32⟩
  | .hbm, ⟨57, _⟩ => ⟨S4x2048x8x128, .f32⟩
  | .hbm, ⟨58, _⟩ => ⟨S4x8x2048x2048, .bf16⟩
  | .hbm, ⟨59, _⟩ => ⟨S4x8x2048x2048, .f32⟩
  | .hbm, ⟨60, _⟩ => ⟨S4x8x2048x2048, .f32⟩
  | .hbm, ⟨61, _⟩ => ⟨S_, .f32⟩
  | .hbm, ⟨62, _⟩ => ⟨S4x8x2048x2048, .f32⟩
  | .hbm, ⟨63, _⟩ => ⟨S4x8x2048x2048, .f32⟩
  | .hbm, ⟨64, _⟩ => ⟨S4x8x2048x2048, .f32⟩
  | .hbm, ⟨65, _⟩ => ⟨S4x8x2048x2048, .f32⟩
  | .hbm, ⟨66, _⟩ => ⟨S4x8x2048x2048, .f32⟩
  | .hbm, ⟨67, _⟩ => ⟨S4x8x2048x256, .f32⟩
  | .hbm, ⟨68, _⟩ => ⟨S4x2048x8x256, .f32⟩
  | .hbm, ⟨69, _⟩ => ⟨S4x2048x8x128, .f32⟩
  | .hbm, ⟨70, _⟩ => ⟨S4x2048x1024, .f32⟩
  | .hbm, ⟨71, _⟩ => ⟨S4x2048x1024, .bf16⟩
  | .hbm, ⟨72, _⟩ => ⟨S4x2048x1024, .f32⟩
  | .hbm, ⟨73, _⟩ => ⟨S4x2048x1024, .bf16⟩
  | .hbm, ⟨74, _⟩ => ⟨S4x2048x8x128, .f32⟩
  | .hbm, ⟨75, _⟩ => ⟨S4x2048x2x4x128, .f32⟩
  | .hbm, ⟨76, _⟩ => ⟨S_, .f32⟩
  | .hbm, ⟨77, _⟩ => ⟨S4x2048x2x128, .f32⟩
  | .hbm, ⟨78, _⟩ => ⟨S4x2048x256, .f32⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_c_0 : Ref sig .tc := ⟨.hbm, 25, rfl⟩
abbrev main_call0_v5 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_0 : Ref sig .tc := ⟨.hbm, 35, rfl⟩
abbrev main_call1_v0 : Ref sig .tc := ⟨.hbm, 36, rfl⟩
abbrev main_v17_1 : Ref sig .tc := ⟨.hbm, 37, rfl⟩
abbrev main_call1_v2 : Ref sig .tc := ⟨.hbm, 38, rfl⟩
abbrev main_v17_0 : Ref sig .tc := ⟨.hbm, 39, rfl⟩
abbrev main_call1_cst : Ref sig .tc := ⟨.hbm, 40, rfl⟩
abbrev main_v17_2 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_1 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_2 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_call2_cst : Ref sig .tc := ⟨.hbm, 61, rfl⟩
abbrev main_call2_v0 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_3 : Ref sig .tc := ⟨.hbm, 76, rfl⟩
abbrev main_v48 : Ref sig .tc := ⟨.hbm, 77, rfl⟩
abbrev main_v49 : Ref sig .tc := ⟨.hbm, 78, rfl⟩

abbrev nD : Nat := 1
abbrev τ : Topo := Topo.v7x

variable {F : FTy → Type} [FloatOps F]
-- ==== UpDx.lean ====
abbrev S8192x2816 : Shape := ⟨2, ![8192, 2816]⟩
abbrev S1024x5632 : Shape := ⟨2, ![1024, 5632]⟩
abbrev S8192x1024 : Shape := ⟨2, ![8192, 1024]⟩
abbrev S512x2816 : Shape := ⟨2, ![512, 2816]⟩
abbrev S512x5632 : Shape := ⟨2, ![512, 5632]⟩
abbrev S512x512 : Shape := ⟨2, ![512, 512]⟩

abbrev nBuf : Space → Nat
  | .hbm => 4
  | .vmem => 9
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1024x5632, .bf16⟩
  | .hbm, ⟨3, _⟩ => ⟨S8192x1024, .bf16⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S512x5632, .bf16⟩
  | .local _ .vmem, ⟨5, _⟩ => ⟨S512x5632, .bf16⟩
  | .local _ .vmem, ⟨6, _⟩ => ⟨S512x512, .bf16⟩
  | .local _ .vmem, ⟨7, _⟩ => ⟨S512x512, .bf16⟩
  | .local _ .vmem, ⟨8, _⟩ => ⟨S512x512, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S512x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpDxRefIdeal.lean ====
abbrev S8192x2816 : Shape := ⟨2, ![8192, 2816]⟩
abbrev S1024x5632 : Shape := ⟨2, ![1024, 5632]⟩
abbrev S8192x5632 : Shape := ⟨2, ![8192, 5632]⟩
abbrev S_ : Shape := ⟨0, ![]⟩
abbrev S8192x1024 : Shape := ⟨2, ![8192, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1024x5632, .bf16⟩
  | .hbm, ⟨3, _⟩ => ⟨S8192x2816, .f32⟩
  | .hbm, ⟨4, _⟩ => ⟨S8192x2816, .f32⟩
  | .hbm, ⟨5, _⟩ => ⟨S1024x5632, .f32⟩
  | .hbm, ⟨6, _⟩ => ⟨S8192x5632, .f32⟩
  | .hbm, ⟨7, _⟩ => ⟨S_, .f32⟩
  | .hbm, ⟨8, _⟩ => ⟨S8192x1024, .f32⟩
  | .hbm, ⟨9, _⟩ => ⟨S8192x5632, .f32⟩
  | .hbm, ⟨10, _⟩ => ⟨S8192x1024, .f32⟩
  | .hbm, ⟨11, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== UpDw.lean ====
abbrev S8192x1024 : Shape := ⟨2, ![8192, 1024]⟩
abbrev S8192x2816 : Shape := ⟨2, ![8192, 2816]⟩
abbrev S1024x2816 : Shape := ⟨2, ![1024, 2816]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S1024x2816, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x1024, .f32⟩
  | .hbm, ⟨3, _⟩ => ⟨S_, .f32⟩
  | .hbm, ⟨4, _⟩ => ⟨S1024x2816, .f32⟩
  | .hbm, ⟨5, _⟩ => ⟨S8192x2816, .f32⟩
  | .hbm, ⟨6, _⟩ => ⟨S8192x2816, .f32⟩
  | .hbm, ⟨7, _⟩ => ⟨S2816x1024, .f32⟩
  | .hbm, ⟨8, _⟩ => ⟨S1024x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownDx.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxRefIdeal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2816x1024, .f32⟩
  | .hbm, ⟨3, _⟩ => ⟨S_, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S8192x2816, .f32⟩
  | .hbm, ⟨8, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownDw.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x512 : Shape := ⟨2, ![2048, 512]⟩
abbrev S1408x512 : Shape := ⟨2, ![1408, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x512, .bf16⟩
  | .local _ .vmem, ⟨3, _⟩ => ⟨S2048x512, .bf16⟩
  | .local _ .vmem, ⟨4, _⟩ => ⟨S1408x512, .f32⟩
  | .local _ .vmem, ⟨5, _⟩ => ⟨S1408x512, .f32⟩
  | .local _ .vmem, ⟨6, _⟩ => ⟨S1408x512, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S_, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutDx.lean ====
abbrev S8192x1024 : Shape := ⟨2, ![8192, 1024]⟩
abbrev S2048x1024 : Shape := ⟨2, ![2048, 1024]⟩
abbrev S8192x2048 : Shape := ⟨2, ![8192, 2048]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S8192x1024 : Shape := ⟨2, ![8192, 1024]⟩
abbrev S2048x1024 : Shape := ⟨2, ![2048, 1024]⟩
abbrev S_ : Shape := ⟨0, ![]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S2048x1024, .f32⟩
  | .hbm, ⟨3, _⟩ => ⟨S_, .f32⟩
  | .hbm, ⟨4, _⟩ => ⟨S8192x2048, .f32⟩
  | .hbm, ⟨5, _⟩ => ⟨S8192x1024, .f32⟩
  | .hbm, ⟨6, _⟩ => ⟨S8192x1024, .f32⟩
  | .hbm, ⟨7, _⟩ => ⟨S8192x2048, .f32⟩
  | .hbm, ⟨8, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutDw.lean ====
abbrev S8192x1024 : Shape := ⟨2, ![8192, 1024]⟩
abbrev S1024x1024 : Shape := ⟨2, ![1024, 1024]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InDx.lean ====
abbrev S8192x3456 : Shape := ⟨2, ![8192, 3456]⟩
abbrev S1024x3456 : Shape := ⟨2, ![1024, 3456]⟩
abbrev S8192x1024 : Shape := ⟨2, ![8192, 1024]⟩
abbrev S512x3456 : Shape := ⟨2, ![512, 3456]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x3456, .bf16⟩
  | .hbm, ⟨1, _⟩ => ⟨S1024x3456, .bf16⟩
  | .hbm, ⟨2, _⟩ => ⟨S8192x1024, .bf16⟩
  | .local _ .vmem, ⟨0, _⟩ => ⟨S1024x3456, .bf16⟩
  | .local _ .vmem, ⟨1, _⟩ => ⟨S1024x3456, .bf16⟩
  | .local _ .vmem, ⟨2, _⟩ => ⟨S512x3456, .bf16⟩
  | .local _ .vmem, ⟨3, _⟩ => ⟨S512x3456, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S8192x3456, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3456 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x3456 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxRefIdeal.lean ====
abbrev S8192x3456 : Shape := ⟨2, ![8192, 3456]⟩
abbrev S1024x3456 : Shape := ⟨2, ![1024, 3456]⟩
abbrev S_ : Shape := ⟨0, ![]⟩
abbrev S8192x1024 : Shape := ⟨2, ![8192, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x3456, .bf16⟩
  | .hbm, ⟨1, _⟩ => ⟨S1024x3456, .bf16⟩
  | .hbm, ⟨2, _⟩ => ⟨S1024x3456, .f32⟩
  | .hbm, ⟨3, _⟩ => ⟨S_, .f32⟩
  | .hbm, ⟨4, _⟩ => ⟨S8192x1024, .f32⟩
  | .hbm, ⟨5, _⟩ => ⟨S8192x3456, .f32⟩
  | .hbm, ⟨6, _⟩ => ⟨S8192x3456, .f32⟩
  | .hbm, ⟨7, _⟩ => ⟨S8192x1024, .f32⟩
  | .hbm, ⟨8, _⟩ => ⟨S8192x1024, .bf16⟩
  | _, _ => ⟨S8192x3456, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InDw.lean ====
abbrev S8192x1024 : Shape := ⟨2, ![8192, 1024]⟩
abbrev S8192x3456 : Shape := ⟨2, ![8192, 3456]⟩
abbrev S1024x3456 : Shape := ⟨2, ![1024, 3456]⟩
abbrev S2048x1024 : Shape := ⟨2, ![2048, 1024]⟩
abbrev S2048x384 : Shape := ⟨2, ![2048, 384]⟩
abbrev S1024x384 : Shape := ⟨2, ![1024, 384]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3456, .bf16⟩
  | .hbm, ⟨2, _⟩ => ⟨S1024x3456, .f32⟩
  | .local _ .vmem, ⟨0, _⟩ => ⟨S2048x1024, .bf16⟩
  | .local _ .vmem, ⟨1, _⟩ => ⟨S2048x1024, .bf16⟩
  | .local _ .vmem, ⟨2, _⟩ => ⟨S2048x384, .bf16⟩
  | .local _ .vmem, ⟨3, _⟩ => ⟨S2048x384, .bf16⟩
  | .local _ .vmem, ⟨4, _⟩ => ⟨S1024x384, .f32⟩
  | .local _ .vmem, ⟨5, _⟩ => ⟨S1024x384, .f32⟩
  | .local _ .vmem, ⟨6, _⟩ => ⟨S1024x384, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 9, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S8192x1024 : Shape := ⟨2, ![8192, 1024]⟩
abbrev S8192x3456 : Shape := ⟨2, ![8192, 3456]⟩
abbrev S_ : Shape := ⟨0, ![]⟩
abbrev S1024x3456 : Shape := ⟨2, ![1024, 3456]⟩
abbrev S3456x1024 : Shape := ⟨2, ![3456, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3456, .bf16⟩
  | .hbm, ⟨2, _⟩ => ⟨S8192x1024, .f32⟩
  | .hbm, ⟨3, _⟩ => ⟨S_, .f32⟩
  | .hbm, ⟨4, _⟩ => ⟨S1024x3456, .f32⟩
  | .hbm, ⟨5, _⟩ => ⟨S8192x3456, .f32⟩
  | .hbm, ⟨6, _⟩ => ⟨S8192x3456, .f32⟩
  | .hbm, ⟨7, _⟩ => ⟨S3456x1024, .f32⟩
  | .hbm, ⟨8, _⟩ => ⟨S1024x3456, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UpFwd.lean ====
abbrev S8192x1024 : Shape := ⟨2, ![8192, 1024]⟩
abbrev S1024x5632 : Shape := ⟨2, ![1024, 5632]⟩
abbrev S8192x5632 : Shape := ⟨2, ![8192, 5632]⟩
abbrev S1024x1024 : Shape := ⟨2, ![1024, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpFwdRefIdeal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x1024, .f32⟩
  | .hbm, ⟨3, _⟩ => ⟨S1024x5632, .f32⟩
  | .hbm, ⟨4, _⟩ => ⟨S8192x5632, .f32⟩
  | .hbm, ⟨5, _⟩ => ⟨S8192x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InFwd.lean ====
abbrev S8192x1024 : Shape := ⟨2, ![8192, 1024]⟩
abbrev S1024x3456 : Shape := ⟨2, ![1024, 3456]⟩
abbrev S8192x3456 : Shape := ⟨2, ![8192, 3456]⟩
abbrev S1024x1024 : Shape := ⟨2, ![1024, 1024]⟩
abbrev S1024x384 : Shape := ⟨2, ![1024, 384]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x3456, .bf16⟩
  | .hbm, ⟨2, _⟩ => ⟨S8192x3456, .f32⟩
  | .local _ .vmem, ⟨0, _⟩ => ⟨S1024x1024, .bf16⟩
  | .local _ .vmem, ⟨1, _⟩ => ⟨S1024x1024, .bf16⟩
  | .local _ .vmem, ⟨2, _⟩ => ⟨S1024x384, .bf16⟩
  | .local _ .vmem, ⟨3, _⟩ => ⟨S1024x384, .bf16⟩
  | .local _ .vmem, ⟨4, _⟩ => ⟨S1024x384, .f32⟩
  | .local _ .vmem, ⟨5, _⟩ => ⟨S1024x384, .f32⟩
  | .local _ .vmem, ⟨6, _⟩ => ⟨S1024x384, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 9, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InFwdRefIdeal.lean ====
abbrev S8192x1024 : Shape := ⟨2, ![8192, 1024]⟩
abbrev S1024x3456 : Shape := ⟨2, ![1024, 3456]⟩
abbrev S8192x3456 : Shape := ⟨2, ![8192, 3456]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3456, .bf16⟩
  | .hbm, ⟨2, _⟩ => ⟨S8192x1024, .f32⟩
  | .hbm, ⟨3, _⟩ => ⟨S1024x3456, .f32⟩
  | .hbm, ⟨4, _⟩ => ⟨S8192x3456, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.GluHost.lean ====
module

public import proofs.«01_k».proof.Proof.Gen.GluIdeal.Value
public import Idealize.ShloMosaic.Lib.Pipeline.Value
public import Idealize.ShloMosaic.Lib.Pointwise
public import Idealize.ShloMosaic.Lib.Tactic
public import Idealize.ShloMosaic.Lib.StableHlo.ReadAt

@[expose] public section

set_option maxRecDepth 16384

noncomputable section

namespace Cert.GluIdeal.Hand

open Cert.GluIdeal Cert.GluIdeal.Gen Idealize.ShloMosaic Idealize.ShloMosaic.TcCoe Idealize.SL.Sem
open Idealize.ShloMosaic.Pipeline (Dat)

variable (m : (ℓ : Loc nD τ sig) → Buf (Elt Ideal) ℓ) (c : Dev nD)

open Idealize.ShloMosaic.StableHlo (upto)

theorem U0 (i : S4x2x5632.Idx) : upto hostOps0 (fun b => m (c, b)) 2 (Proc.tc.devRef main_v0) i = (0 : EReal) := by
  after_reads_at

theorem UA (i : S4x2048x5632.Idx) : upto hostOps0 (fun b => m (c, b)) 2 (Proc.tc.devRef main_arg0) i = m (c, Proc.tc.devRef main_arg0) i := by
  after_reads_at

/-- The input with its two rows of zeros in front. -/
def P (u : S4x2048x5632.Idx → EReal) (b : Fin 4) (n : ℕ) (hn : n < 2050) (f : Fin 5632) : EReal :=
  if h : n < 2 then 0 else u (ix3 b ⟨n - 2, by omega⟩ f)

/-- The convolution with its bias. -/
def pre (u : S4x2048x5632.Idx → EReal) (w : S3x5632.Idx → EReal) (bi : S5632.Idx → EReal) (b : Fin 4) (s : Fin 2048) (f : Fin 5632) : EReal :=
  P u b s.val (by omega) f * w (ix2 0 f) + P u b (1 + s.val) (by omega) f * w (ix2 1 f) + u (ix3 b s f) * w (ix2 2 f) + bi (ix1 f)

/-- `P` over any two rows in front. -/
def PZ (z : S4x2x5632.Idx → EReal) (u : S4x2048x5632.Idx → EReal) (b : Fin 4) (n : ℕ) (hn : n < 2050) (f : Fin 5632) : EReal :=
  if h : n < 2 then z (ix3 b ⟨n, h⟩ f) else u (ix3 b ⟨n - 2, by omega⟩ f)

/-- `pre` over any two rows in front. -/
def preZ (z : S4x2x5632.Idx → EReal) (u : S4x2048x5632.Idx → EReal) (w : S3x5632.Idx → EReal) (bi : S5632.Idx → EReal) (b : Fin 4) (s : Fin 2048) (f : Fin 5632) : EReal :=
  PZ z u b s.val (by omega) f * w (ix2 0 f) + PZ z u b (1 + s.val) (by omega) f * w (ix2 1 f) + u (ix3 b s f) * w (ix2 2 f) + bi (ix1 f)

theorem preZ_eq (z : S4x2x5632.Idx → EReal) (hz : ∀ i, z i = 0) (u : S4x2048x5632.Idx → EReal) (w : S3x5632.Idx → EReal) (bi : S5632.Idx → EReal) (b : Fin 4) (s : Fin 2048) (f : Fin 5632) :
    preZ z u w bi b s f = pre u w bi b s f := by
  unfold preZ pre PZ P; simp only [hz]

theorem V31 (b : Fin 4) (s : Fin 2048) (f : Fin 5632) : V m c main_v31 (ix3 b s f) = m ((c : Thread nD τ).loc main_arg0) (ix3 b s f) := by
  unfold V
  after_reads_at

theorem V32 (b : Fin 4) (s : Fin 2048) (f : Fin 2816) : V m c main_v32 (ix3 b s f) = m ((c : Thread nD τ).loc main_arg3) (ix3 b s f) := by
  unfold V
  after_reads_at

theorem V28Z (b : Fin 4) (s : Fin 2048) (f : Fin 2816) : V m c main_v28 (ix3 b s f) = preZ (upto hostOps0 (fun b => m (c, b)) 2 (Proc.tc.devRef main_v0)) (m ((c : Thread nD τ).loc main_arg0)) (m ((c : Thread nD τ).loc main_arg1)) (m ((c : Thread nD τ).loc main_arg2)) b s ⟨f.val, by omega⟩ := by
  unfold V
  after_reads_at
  rfl

theorem V28 (b : Fin 4) (s : Fin 2048) (f : Fin 2816) : V m c main_v28 (ix3 b s f) = pre (m ((c : Thread nD τ).loc main_arg0)) (m ((c : Thread nD τ).loc main_arg1)) (m ((c : Thread nD τ).loc main_arg2)) b s ⟨f.val, by omega⟩ := by
  rw [V28Z, preZ_eq _ (U0 m c)]

theorem V30Z (b : Fin 4) (s : Fin 2048) (f : Fin 2816) : V m c main_v30 (ix3 b s f) = preZ (upto hostOps0 (fun b => m (c, b)) 2 (Proc.tc.devRef main_v0)) (m ((c : Thread nD τ).loc main_arg0)) (m ((c : Thread nD τ).loc main_arg1)) (m ((c : Thread nD τ).loc main_arg2)) b s ⟨2816 + f.val, by omega⟩ := by
  unfold V
  after_reads_at
  rfl

theorem V30 (b : Fin 4) (s : Fin 2048) (f : Fin 2816) : V m c main_v30 (ix3 b s f) = pre (m ((c : Thread nD τ).loc main_arg0)) (m ((c : Thread nD τ).loc main_arg1)) (m ((c : Thread nD τ).loc main_arg2)) b s ⟨2816 + f.val, by omega⟩ := by
  rw [V30Z, preZ_eq _ (U0 m c)]

end Cert.GluIdeal.Hand
-- ==== Proof.GluBlk.lean ====
module

public import proofs.«01_k».proof.Proof.Gen.GluIdeal.Value
public import Idealize.ShloMosaic.Lib.Pipeline.Value
public import Idealize.ShloMosaic.Lib.Pointwise
public import Idealize.ShloMosaic.Lib.Tactic

@[expose] public section

set_option maxRecDepth 16384
set_option maxHeartbeats 400000
set_option maxHeartbeats 400000

noncomputable section

namespace Cert.GluIdeal.Hand

open Cert.GluIdeal Cert.GluIdeal.Gen Idealize.ShloMosaic Idealize.ShloMosaic.TcCoe Idealize.SL.Sem
open Idealize.ShloMosaic.Pipeline (Dat)

/-! ## The functions of one feature column -/

/-- Row `s + n` of a column, zero past its end. -/
def up (n : ℕ) (D : Fin 2048 → EReal) (s : Fin 2048) : EReal :=
  if h : s.val + n < 2048 then D ⟨s.val + n, h⟩ else 0

/-- `silu`. -/
def sil (g : EReal) : EReal := g * Ideal.logistic g

/-- The derivative of `silu`, in the factored form. -/
def dsil (g : EReal) : EReal := Ideal.logistic g * (1 + g * (1 - Ideal.logistic g))

/-- The gate gradient of one element. -/
def dgp (a v g : EReal) : EReal := a * v * dsil g

/-- The value gradient of one element. -/
def dvp (a g : EReal) : EReal := a * sil g

/-- The inner product of two columns. -/
def colsum (D u : Fin 2048 → EReal) : EReal := ∑ s : Fin 2048, D s * u s

theorem up_zero (D : Fin 2048 → EReal) (s : Fin 2048) : up 0 D s = D s := by
  unfold up; rw [dif_pos (show s.val + 0 < 2048 by omega)]; rfl

/-- A row kept where its index is at least `2048 - n`, as a condition on the index. -/
theorem sel_sge (s : Fin 2048) (k : ℕ) (hk : k < 2048) (a b : EReal) :
    Scalar.select (IntOp.cmpi CmpIPredicate.sge (BitVec.ofNat 32 s.val) (BitVec.ofNat 32 k)) a b
      = if k ≤ s.val then a else b := by
  have hs := s.isLt
  have h : (BitVec.ofNat 32 k).sle (BitVec.ofNat 32 s.val) = decide (k ≤ s.val) := by
    rw [BitVec.sle_eq_decide, BitVec.toInt_ofNat', BitVec.toInt_ofNat']
    congr 1
    rw [eq_iff_iff]
    simp only [Int.bmod_def]
    omega
  unfold Scalar.select IntOp.cmpi
  by_cases hks : k ≤ s.val
  · simp [h, hks]
  · simp [h, hks]

theorem hz2 : (![0, 0] : Fin 2 → Nat) = fun _ => 0 := funext fun a => by fin_cases a <;> rfl
theorem hz3 : (![0, 0, 0] : Fin 3 → Nat) = fun _ => 0 := funext fun a => by fin_cases a <;> rfl

/-! ## Rows of the three-row accumulators -/

section Rows
variable {Val : EltTy → Type} [∀ e, Nonempty (Val e)] {e : EltTy}

theorem row_emb {off : Fin 2 → ℕ} (a : Fin 3) (hoff : off = ![a.val, 0])
    (inb : ∀ x, off x + (![1, 256] : Fin 2 → ℕ) x ≤ S3x256.size x) (l : Fin 256) :
    (Rect.unit (s := S3x256) off ![1, 256] inb).emb (ix2 0 l) = ix2 a l := by
  subst hoff
  funext x
  apply Fin.ext
  rw [Rect.emb_apply]
  fin_cases x
  · show a.val + 1 * 0 = a.val; omega
  · show 0 + 1 * l.val = l.val; omega

/-- The row last written holds what was written. -/
theorem canon_row (off : Fin 2 → ℕ) (a : Fin 3) (hoff : off = ![a.val, 0]) (inb) (w : (⟨2, ![1, 256]⟩ : Shape).Idx → Val e)
    (L : List (View.Piece Val S3x256 e)) (l : Fin 256) :
    View.canon (⟨Rect.unit (s := S3x256) off ![1, 256] inb, w⟩ :: L) (ix2 a l) = w (ix2 0 l) := by
  have h := View.canon_cons_emb (Rect.unit (s := S3x256) off ![1, 256] inb) w L (ix2 0 l)
  rwa [row_emb a hoff] at h

/-- Another row holds what it held. -/
theorem canon_row_ne (off : Fin 2 → ℕ) (a k : Fin 3) (hoff : off = ![a.val, 0]) (hne : k ≠ a) (inb)
    (w : (⟨2, ![1, 256]⟩ : Shape).Idx → Val e) (L : List (View.Piece Val S3x256 e)) (l : Fin 256) :
    View.canon (⟨Rect.unit (s := S3x256) off ![1, 256] inb, w⟩ :: L) (ix2 k l) = View.canon L (ix2 k l) := by
  subst hoff
  refine View.canon_cons_of_not_mem _ _ fun h => hne ?_
  have h1 : a.val ≤ k.val ∧ k.val < a.val + 1 := (Rect.mem_set_unit (inb := inb) (i := ix2 k l)).mp h 0
  exact Fin.ext (by omega)

/-- A row read back through its own rectangle. -/
theorem idx_row (off : Fin 2 → ℕ) (a : Fin 3) (hoff : off = ![a.val, 0]) (inb) (l : Fin 256) :
    (Rect.unit (s := S3x256) off ![1, 256] inb).toLoadRect.idx (ix2 0 l) = ix2 a l :=
  row_emb a hoff inb l

/-- A row loaded through its own rectangle. -/
theorem ld_row (off : Fin 2 → ℕ) (a : Fin 3) (hoff : off = ![a.val, 0]) (inb) (X : S3x256.Idx → Val e) (l : Fin 256) :
    View.ld X (Rect.unit (s := S3x256) off ![1, 256] inb) (ix2 0 l) = X (ix2 a l) :=
  congrArg X (row_emb a hoff inb l)

theorem idx_one (inb) (l : Fin 256) :
    (Rect.unit (s := S1x256) ![0, 0] ![1, 256] inb).toLoadRect.idx (ix2 0 l) = ix2 0 l := by
  funext x
  apply Fin.ext
  fin_cases x
  · rfl
  · show 0 + 1 * l.val = l.val; omega

end Rows

/-! ## The payloads at an index -/

section Pay
variable (x9 x14 x17 x0 : Vec Ideal S1x2048x256 .bf16) (D u : FVec Ideal S2048x256 .f32) (w : Vec Ideal S3x256 .f32)
  (acc y : Vec Ideal S1x256 .f32) (s : Fin 2048) (l : Fin 256)

theorem sel_up (n : ℕ) (hn : n ≤ 2048) (hp : 0 < n) (f : Fin 2048 → EReal) (k : ℕ) (hk : k + n = 2048) (h) :
    (if k ≤ s.val then 0 else f ⟨(s.val + 2048 - k) % 2048, h⟩) = up n f s := by
  have hs := s.isLt
  unfold up
  by_cases hks : k ≤ s.val
  · rw [if_pos hks, dif_neg (by omega)]
  · rw [if_neg hks, dif_pos (by omega)]
    congr 1
    apply Fin.ext
    show (s.val + 2048 - k) % 2048 = s.val + n
    rw [show s.val + 2048 - k = s.val + n by omega, Nat.mod_eq_of_lt (by omega)]

theorem pay10_apply : k0_pay10 x0 (ix2 s l) = x0 (ix3 0 s l) := by unfold k0_pay10; pointwise
theorem pay11_apply : k0_pay11 x0 (ix2 s l) = x0 (ix3 0 s l) := by unfold k0_pay11; pointwise
theorem pay14_apply : k0_pay14 x9 x14 x17 (ix2 s l) = dgp (x9 (ix3 0 s l)) (x17 (ix3 0 s l)) (x14 (ix3 0 s l)) := by
  unfold k0_pay14 k0_pay13 k0_pay12; pointwise; rfl
theorem pay15_apply : k0_pay15 x9 x14 (ix2 s l) = dvp (x9 (ix3 0 s l)) (x14 (ix3 0 s l)) := by
  unfold k0_pay15 k0_pay13 k0_pay12; pointwise; rfl
theorem pay18_apply : k0_pay18 D (ix2 s l) = up 1 (fun s => D (ix2 s l)) s := by
  unfold k0_pay18; pointwise; rw [sel_sge s 2047 (by omega)]; exact sel_up s 1 (by omega) (by omega) (fun s => D (ix2 s l)) 2047 rfl _
theorem pay24_apply : k0_pay24 D (ix2 s l) = up 1 (fun s => D (ix2 s l)) s := by
  unfold k0_pay24; pointwise; rw [sel_sge s 2047 (by omega)]; exact sel_up s 1 (by omega) (by omega) (fun s => D (ix2 s l)) 2047 rfl _
theorem pay20_apply : k0_pay20 D (ix2 s l) = up 2 (fun s => D (ix2 s l)) s := by
  unfold k0_pay20; pointwise; rw [sel_sge s 2046 (by omega)]; exact sel_up s 2 (by omega) (by omega) (fun s => D (ix2 s l)) 2046 rfl _
theorem pay28_apply : k0_pay28 D (ix2 s l) = up 2 (fun s => D (ix2 s l)) s := by
  unfold k0_pay28; pointwise; rw [sel_sge s 2046 (by omega)]; exact sel_up s 2 (by omega) (by omega) (fun s => D (ix2 s l)) 2046 rfl _

/-- The transposed convolution of a column. -/
def tconv (w : Fin 3 → EReal) (D : Fin 2048 → EReal) (s : Fin 2048) : EReal := w 2 * D s + w 1 * up 1 D s + w 0 * up 2 D s

theorem dug_apply : k0_pay29 (k0_pay21 w D (k0_pay16 w)) (ix3 0 s l)
    = tconv (fun k => w (ix2 k l)) (fun s => D (ix2 s l)) s := by
  unfold k0_pay29 k0_pay21 k0_pay16; pointwise; rw [pay18_apply, pay20_apply]; rfl
theorem duv_apply : k0_pay30 w D (k0_pay25 w D) (ix3 0 s l)
    = tconv (fun k => w (ix2 k l)) (fun s => D (ix2 s l)) s := by
  unfold k0_pay30 k0_pay25; pointwise; rw [pay24_apply, pay28_apply]; rfl

theorem pay17_apply : k0_pay17 u D (ix2 0 l) = colsum (up 0 fun s => D (ix2 s l)) (fun s => u (ix2 s l)) := by unfold k0_pay17; pointwise; exact Finset.sum_congr rfl fun s _ => by rw [up_zero]
theorem pay23_apply : k0_pay23 u D (ix2 0 l) = colsum (up 0 fun s => D (ix2 s l)) (fun s => u (ix2 s l)) := by unfold k0_pay23; pointwise; exact Finset.sum_congr rfl fun s _ => by rw [up_zero]
theorem pay19_apply : k0_pay19 u D (ix2 0 l) = colsum (up 1 fun s => D (ix2 s l)) (fun s => u (ix2 s l)) := by
  unfold k0_pay19; pointwise; exact Finset.sum_congr rfl fun s _ => by rw [pay18_apply]
theorem pay22_apply : k0_pay22 u D (ix2 0 l) = colsum (up 2 fun s => D (ix2 s l)) (fun s => u (ix2 s l)) := by
  unfold k0_pay22; pointwise; exact Finset.sum_congr rfl fun s _ => by rw [pay20_apply]
theorem pay27_apply : k0_pay27 (k0_pay26 u D) (ix2 0 l) = colsum (up 1 fun s => D (ix2 s l)) (fun s => u (ix2 s l)) := by
  unfold k0_pay27 k0_pay26; pointwise; exact Finset.sum_congr rfl fun s _ => by rw [pay24_apply]
theorem pay32_apply : k0_pay32 u D acc (ix2 0 l) = acc (ix2 0 l) + colsum (up 2 fun s => D (ix2 s l)) (fun s => u (ix2 s l)) := by
  unfold k0_pay32; pointwise; congr 1; exact Finset.sum_congr rfl fun s _ => by rw [pay28_apply]
theorem pay1_apply : k0_pay1 y acc (ix2 0 l) = acc (ix2 0 l) + y (ix2 0 l) := by unfold k0_pay1; pointwise
theorem pay2_apply : k0_pay2 y acc (ix2 0 l) = acc (ix2 0 l) + y (ix2 0 l) := by unfold k0_pay2; pointwise
theorem pay3_apply : k0_pay3 y acc (ix2 0 l) = acc (ix2 0 l) + y (ix2 0 l) := by unfold k0_pay3; pointwise
theorem pay31_apply : k0_pay31 y acc (ix2 0 l) = acc (ix2 0 l) + y (ix2 0 l) := by unfold k0_pay31; pointwise
theorem pay33_apply : k0_pay33 y acc (ix2 0 l) = acc (ix2 0 l) + y (ix2 0 l) := by unfold k0_pay33; pointwise
theorem pay4_apply : k0_pay4 D acc (ix2 0 l) = acc (ix2 0 l) + ∑ s : Fin 2048, D (ix2 s l) := by unfold k0_pay4; pointwise
theorem pay5_apply : k0_pay5 D acc (ix2 0 l) = acc (ix2 0 l) + ∑ s : Fin 2048, D (ix2 s l) := by unfold k0_pay5; pointwise
theorem pay6_apply (k : Fin 3) : (k0_pay6 : FVec Ideal S3x256 .f32) (ix2 k l) = 0 := by unfold k0_pay6; pointwise
theorem pay7_apply (k : Fin 3) : (k0_pay7 : FVec Ideal S3x256 .f32) (ix2 k l) = 0 := by unfold k0_pay7; pointwise
theorem pay8_apply : (k0_pay8 : FVec Ideal S1x256 .f32) (ix2 0 l) = 0 := by unfold k0_pay8; pointwise
theorem pay9_apply : (k0_pay9 : FVec Ideal S1x256 .f32) (ix2 0 l) = 0 := by unfold k0_pay9; pointwise

end Pay

/-! ## What a grid point leaves in each output block -/

section Blocks
variable (m : (ℓ : Loc nD τ sig) → Buf (Elt Ideal) ℓ) (c : Dev nD) (t : Fin cfg0.N)

/-- The gate gradient of the point's blocks, lane `l`, row `s`. -/
def DG (m : (ℓ : Loc nD τ sig) → Buf (Elt Ideal) ℓ) (c : Dev nD) (t : Fin cfg0.N) (l : Fin 256) (s : Fin 2048) : EReal :=
  dgp (iblk m c 4 t (ix3 0 s l)) (iblk m c 3 t (ix3 0 s l)) (iblk m c 2 t (ix3 0 s l))

/-- The value gradient of the point's blocks. -/
def DV (m : (ℓ : Loc nD τ sig) → Buf (Elt Ideal) ℓ) (c : Dev nD) (t : Fin cfg0.N) (l : Fin 256) (s : Fin 2048) : EReal :=
  dvp (iblk m c 4 t (ix3 0 s l)) (iblk m c 2 t (ix3 0 s l))

theorem o7_A (h0 : t.val % 4 = 0) (s : Fin 2048) (l : Fin 256) :
    (outsAt0 m c t.val t.isLt).1 (ix3 0 s l) = tconv (fun k => iblk m c 5 t (ix2 k l)) (DG m c t l) s := by
  rw [outsAt0_A m c t h0]
  dsimp only
  unfold out0_A_7
  rw [View.read_writes_eq_canon _ _ _ (fun y => cover0_A_7 ..)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, View.ld_unit_zero (S := S1x2048x256) hz3, shapeCast_self, View.ld_unit_zero (S := S3x256) hz2]
  rw [View.canon_unit_zero hz3, dug_apply]
  simp only [pay14_apply]
  unfold DG
  rfl

theorem o7_B (h0 : ¬ t.val % 4 = 0) (s : Fin 2048) (l : Fin 256) :
    (outsAt0 m c t.val t.isLt).1 (ix3 0 s l) = tconv (fun k => iblk m c 5 t (ix2 k l)) (DG m c t l) s := by
  rw [outsAt0_B m c t h0]
  dsimp only
  unfold out0_B_7
  rw [View.read_writes_eq_canon _ _ _ (fun y => cover0_B_7 ..)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, View.ld_unit_zero (S := S1x2048x256) hz3, shapeCast_self, View.ld_unit_zero (S := S3x256) hz2]
  rw [View.canon_unit_zero hz3, dug_apply]
  simp only [pay14_apply]
  unfold DG
  rfl

theorem o8_A (h0 : t.val % 4 = 0) (s : Fin 2048) (l : Fin 256) :
    (outsAt0 m c t.val t.isLt).2.1 (ix3 0 s l) = tconv (fun k => iblk m c 6 t (ix2 k l)) (DV m c t l) s := by
  rw [outsAt0_A m c t h0]
  dsimp only
  unfold out0_A_8
  rw [View.read_writes_eq_canon _ _ _ (fun y => cover0_A_8 ..)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, View.ld_unit_zero (S := S1x2048x256) hz3, shapeCast_self, View.ld_unit_zero (S := S3x256) hz2]
  rw [View.canon_unit_zero hz3, duv_apply]
  simp only [pay15_apply]
  unfold DV
  rfl

theorem o8_B (h0 : ¬ t.val % 4 = 0) (s : Fin 2048) (l : Fin 256) :
    (outsAt0 m c t.val t.isLt).2.1 (ix3 0 s l) = tconv (fun k => iblk m c 6 t (ix2 k l)) (DV m c t l) s := by
  rw [outsAt0_B m c t h0]
  dsimp only
  unfold out0_B_8
  rw [View.read_writes_eq_canon _ _ _ (fun y => cover0_B_8 ..)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, View.ld_unit_zero (S := S1x2048x256) hz3, shapeCast_self, View.ld_unit_zero (S := S3x256) hz2]
  rw [View.canon_unit_zero hz3, duv_apply]
  simp only [pay15_apply]
  unfold DV
  rfl

theorem o9_A0 (h0 : t.val % 4 = 0) (l : Fin 256) :
    (outsAt0 m c t.val t.isLt).2.2.1 (ix2 0 l) = 0 + colsum (up 2 (DG m c t l)) (fun s => iblk m c 0 t (ix3 0 s l)) := by
  rw [outsAt0_A m c t h0]
  dsimp only
  unfold out0_A_9
  rw [View.read_writes_eq_canon _ _ _ (fun y => cover0_A_9 ..)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, View.ld_unit_zero (S := S1x2048x256) hz3, shapeCast_self, View.readCov_eq_canon']
  rw [canon_row_ne ![2, 0] 2 0 rfl (by decide), canon_row_ne ![1, 0] 1 0 rfl (by decide), canon_row ![0, 0] 0 rfl, pay31_apply, pay22_apply]
  simp only [idx_row ![0, 0] 0 rfl]
  rw [View.canon_unit_zero hz2, pay6_apply]
  simp only [pay14_apply, pay10_apply]
  unfold DG
  rfl

theorem o9_B0 (h0 : ¬ t.val % 4 = 0) (l : Fin 256) :
    (outsAt0 m c t.val t.isLt).2.2.1 (ix2 0 l)
      = (outsAt0 m c (t.val - 1) (Nat.lt_of_le_of_lt (Nat.sub_le _ _) t.isLt)).2.2.1 (ix2 0 l) + colsum (up 2 (DG m c t l)) (fun s => iblk m c 0 t (ix3 0 s l)) := by
  rw [outsAt0_B m c t h0]
  dsimp only
  unfold out0_B_9
  rw [View.read_writes_eq_canon _ _ _ (fun y => cover0_B_9 ..)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_9 t).read_unread, View.ld_unit_zero (S := S1x2048x256) hz3, shapeCast_self]
  rw [canon_row_ne ![2, 0] 2 0 rfl (by decide), canon_row_ne ![1, 0] 1 0 rfl (by decide), canon_row ![0, 0] 0 rfl, pay31_apply, pay22_apply, ld_row ![0, 0] 0 rfl]
  simp only [pay14_apply, pay10_apply]
  unfold DG
  rfl

theorem o9_A1 (h0 : t.val % 4 = 0) (l : Fin 256) :
    (outsAt0 m c t.val t.isLt).2.2.1 (ix2 1 l) = 0 + colsum (up 1 (DG m c t l)) (fun s => iblk m c 0 t (ix3 0 s l)) := by
  rw [outsAt0_A m c t h0]
  dsimp only
  unfold out0_A_9
  rw [View.read_writes_eq_canon _ _ _ (fun y => cover0_A_9 ..)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, View.ld_unit_zero (S := S1x2048x256) hz3, shapeCast_self, View.readCov_eq_canon']
  rw [canon_row_ne ![2, 0] 2 1 rfl (by decide), canon_row ![1, 0] 1 rfl, pay33_apply, pay19_apply]
  simp only [idx_row ![1, 0] 1 rfl]
  rw [canon_row_ne ![0, 0] 0 1 rfl (by decide), View.canon_unit_zero hz2, pay6_apply]
  simp only [pay14_apply, pay10_apply]
  unfold DG
  rfl

theorem o9_B1 (h0 : ¬ t.val % 4 = 0) (l : Fin 256) :
    (outsAt0 m c t.val t.isLt).2.2.1 (ix2 1 l)
      = (outsAt0 m c (t.val - 1) (Nat.lt_of_le_of_lt (Nat.sub_le _ _) t.isLt)).2.2.1 (ix2 1 l) + colsum (up 1 (DG m c t l)) (fun s => iblk m c 0 t (ix3 0 s l)) := by
  rw [outsAt0_B m c t h0]
  dsimp only
  unfold out0_B_9
  rw [View.read_writes_eq_canon _ _ _ (fun y => cover0_B_9 ..)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_9 t).read_unread, View.ld_unit_zero (S := S1x2048x256) hz3, shapeCast_self]
  rw [canon_row_ne ![2, 0] 2 1 rfl (by decide), canon_row ![1, 0] 1 rfl, pay33_apply, pay19_apply, ld_row ![1, 0] 1 rfl]
  simp only [pay14_apply, pay10_apply]
  unfold DG
  rfl

theorem o9_A2 (h0 : t.val % 4 = 0) (l : Fin 256) :
    (outsAt0 m c t.val t.isLt).2.2.1 (ix2 2 l) = 0 + colsum (up 0 (DG m c t l)) (fun s => iblk m c 0 t (ix3 0 s l)) := by
  rw [outsAt0_A m c t h0]
  dsimp only
  unfold out0_A_9
  rw [View.read_writes_eq_canon _ _ _ (fun y => cover0_A_9 ..)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, View.ld_unit_zero (S := S1x2048x256) hz3, shapeCast_self, View.readCov_eq_canon']
  rw [canon_row ![2, 0] 2 rfl, pay2_apply, pay17_apply]
  simp only [idx_row ![2, 0] 2 rfl]
  rw [canon_row_ne ![1, 0] 1 2 rfl (by decide), canon_row_ne ![0, 0] 0 2 rfl (by decide), View.canon_unit_zero hz2, pay6_apply]
  simp only [pay14_apply, pay10_apply]
  unfold DG
  rfl

theorem o9_B2 (h0 : ¬ t.val % 4 = 0) (l : Fin 256) :
    (outsAt0 m c t.val t.isLt).2.2.1 (ix2 2 l)
      = (outsAt0 m c (t.val - 1) (Nat.lt_of_le_of_lt (Nat.sub_le _ _) t.isLt)).2.2.1 (ix2 2 l) + colsum (up 0 (DG m c t l)) (fun s => iblk m c 0 t (ix3 0 s l)) := by
  rw [outsAt0_B m c t h0]
  dsimp only
  unfold out0_B_9
  rw [View.read_writes_eq_canon _ _ _ (fun y => cover0_B_9 ..)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_9 t).read_unread, View.ld_unit_zero (S := S1x2048x256) hz3, shapeCast_self]
  rw [canon_row ![2, 0] 2 rfl, pay2_apply, pay17_apply, ld_row ![2, 0] 2 rfl]
  simp only [pay14_apply, pay10_apply]
  unfold DG
  rfl

theorem o10_A0 (h0 : t.val % 4 = 0) (l : Fin 256) :
    (outsAt0 m c t.val t.isLt).2.2.2.1 (ix2 0 l) = 0 + colsum (up 2 (DV m c t l)) (fun s => iblk m c 1 t (ix3 0 s l)) := by
  rw [outsAt0_A m c t h0]
  dsimp only
  unfold out0_A_10
  rw [View.read_writes_eq_canon _ _ _ (fun y => cover0_A_10 ..)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, View.ld_unit_zero (S := S1x2048x256) hz3, shapeCast_self, View.readCov_eq_canon']
  rw [canon_row_ne ![2, 0] 2 0 rfl (by decide), canon_row_ne ![1, 0] 1 0 rfl (by decide), canon_row ![0, 0] 0 rfl, pay32_apply]
  simp only [idx_row ![0, 0] 0 rfl]
  rw [View.canon_unit_zero hz2, pay7_apply]
  simp only [pay15_apply, pay11_apply]
  unfold DV
  rfl

theorem o10_B0 (h0 : ¬ t.val % 4 = 0) (l : Fin 256) :
    (outsAt0 m c t.val t.isLt).2.2.2.1 (ix2 0 l)
      = (outsAt0 m c (t.val - 1) (Nat.lt_of_le_of_lt (Nat.sub_le _ _) t.isLt)).2.2.2.1 (ix2 0 l) + colsum (up 2 (DV m c t l)) (fun s => iblk m c 1 t (ix3 0 s l)) := by
  rw [outsAt0_B m c t h0]
  dsimp only
  unfold out0_B_10
  rw [View.read_writes_eq_canon _ _ _ (fun y => cover0_B_10 ..)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_10 t).read_unread, View.ld_unit_zero (S := S1x2048x256) hz3, shapeCast_self]
  rw [canon_row_ne ![2, 0] 2 0 rfl (by decide), canon_row_ne ![1, 0] 1 0 rfl (by decide), canon_row ![0, 0] 0 rfl, pay32_apply, ld_row ![0, 0] 0 rfl]
  simp only [pay15_apply, pay11_apply]
  unfold DV
  rfl

theorem o10_A1 (h0 : t.val % 4 = 0) (l : Fin 256) :
    (outsAt0 m c t.val t.isLt).2.2.2.1 (ix2 1 l) = 0 + colsum (up 1 (DV m c t l)) (fun s => iblk m c 1 t (ix3 0 s l)) := by
  rw [outsAt0_A m c t h0]
  dsimp only
  unfold out0_A_10
  rw [View.read_writes_eq_canon _ _ _ (fun y => cover0_A_10 ..)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, View.ld_unit_zero (S := S1x2048x256) hz3, shapeCast_self, View.readCov_eq_canon']
  rw [canon_row_ne ![2, 0] 2 1 rfl (by decide), canon_row ![1, 0] 1 rfl, pay1_apply, pay27_apply]
  simp only [idx_row ![1, 0] 1 rfl]
  rw [canon_row_ne ![0, 0] 0 1 rfl (by decide), View.canon_unit_zero hz2, pay7_apply]
  simp only [pay15_apply, pay11_apply]
  unfold DV
  rfl

theorem o10_B1 (h0 : ¬ t.val % 4 = 0) (l : Fin 256) :
    (outsAt0 m c t.val t.isLt).2.2.2.1 (ix2 1 l)
      = (outsAt0 m c (t.val - 1) (Nat.lt_of_le_of_lt (Nat.sub_le _ _) t.isLt)).2.2.2.1 (ix2 1 l) + colsum (up 1 (DV m c t l)) (fun s => iblk m c 1 t (ix3 0 s l)) := by
  rw [outsAt0_B m c t h0]
  dsimp only
  unfold out0_B_10
  rw [View.read_writes_eq_canon _ _ _ (fun y => cover0_B_10 ..)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_10 t).read_unread, View.ld_unit_zero (S := S1x2048x256) hz3, shapeCast_self]
  rw [canon_row_ne ![2, 0] 2 1 rfl (by decide), canon_row ![1, 0] 1 rfl, pay1_apply, pay27_apply, ld_row ![1, 0] 1 rfl]
  simp only [pay15_apply, pay11_apply]
  unfold DV
  rfl

theorem o10_A2 (h0 : t.val % 4 = 0) (l : Fin 256) :
    (outsAt0 m c t.val t.isLt).2.2.2.1 (ix2 2 l) = 0 + colsum (up 0 (DV m c t l)) (fun s => iblk m c 1 t (ix3 0 s l)) := by
  rw [outsAt0_A m c t h0]
  dsimp only
  unfold out0_A_10
  rw [View.read_writes_eq_canon _ _ _ (fun y => cover0_A_10 ..)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, View.ld_unit_zero (S := S1x2048x256) hz3, shapeCast_self, View.readCov_eq_canon']
  rw [canon_row ![2, 0] 2 rfl, pay3_apply, pay23_apply]
  simp only [idx_row ![2, 0] 2 rfl]
  rw [canon_row_ne ![1, 0] 1 2 rfl (by decide), canon_row_ne ![0, 0] 0 2 rfl (by decide), View.canon_unit_zero hz2, pay7_apply]
  simp only [pay15_apply, pay11_apply]
  unfold DV
  rfl

theorem o10_B2 (h0 : ¬ t.val % 4 = 0) (l : Fin 256) :
    (outsAt0 m c t.val t.isLt).2.2.2.1 (ix2 2 l)
      = (outsAt0 m c (t.val - 1) (Nat.lt_of_le_of_lt (Nat.sub_le _ _) t.isLt)).2.2.2.1 (ix2 2 l) + colsum (up 0 (DV m c t l)) (fun s => iblk m c 1 t (ix3 0 s l)) := by
  rw [outsAt0_B m c t h0]
  dsimp only
  unfold out0_B_10
  rw [View.read_writes_eq_canon _ _ _ (fun y => cover0_B_10 ..)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_10 t).read_unread, View.ld_unit_zero (S := S1x2048x256) hz3, shapeCast_self]
  rw [canon_row ![2, 0] 2 rfl, pay3_apply, pay23_apply, ld_row ![2, 0] 2 rfl]
  simp only [pay15_apply, pay11_apply]
  unfold DV
  rfl

theorem o11_A (h0 : t.val % 4 = 0) (l : Fin 256) :
    (outsAt0 m c t.val t.isLt).2.2.2.2.1 (ix2 0 l) = 0 + ∑ s : Fin 2048, DG m c t l s := by
  rw [outsAt0_A m c t h0]
  dsimp only
  unfold out0_A_11
  rw [View.read_writes_eq_canon _ _ _ (fun y => cover0_A_11 ..)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, View.ld_unit_zero (S := S1x2048x256) hz3, shapeCast_self, View.readCov_eq_canon', View.ld_unit_zero (S := S1x256) hz2]
  rw [View.canon_cons_unit_zero hz2, pay4_apply]
  simp only [View.canon_unit_zero (S := S1x256) hz2, idx_one, pay8_apply, pay9_apply, pay14_apply]
  unfold DG
  rfl

theorem o11_B (h0 : ¬ t.val % 4 = 0) (l : Fin 256) :
    (outsAt0 m c t.val t.isLt).2.2.2.2.1 (ix2 0 l)
      = (outsAt0 m c (t.val - 1) (Nat.lt_of_le_of_lt (Nat.sub_le _ _) t.isLt)).2.2.2.2.1 (ix2 0 l) + ∑ s : Fin 2048, DG m c t l s := by
  rw [outsAt0_B m c t h0]
  dsimp only
  unfold out0_B_11
  rw [View.read_writes_eq_canon _ _ _ (fun y => cover0_B_11 ..)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_11 t).read_unread, View.ld_unit_zero (S := S1x2048x256) hz3, shapeCast_self, View.ld_unit_zero (S := S1x256) hz2]
  rw [View.canon_unit_zero hz2, pay4_apply]
  simp only [pay14_apply]
  unfold DG
  rfl

theorem o12_A (h0 : t.val % 4 = 0) (l : Fin 256) :
    (outsAt0 m c t.val t.isLt).2.2.2.2.2 (ix2 0 l) = 0 + ∑ s : Fin 2048, DV m c t l s := by
  rw [outsAt0_A m c t h0]
  dsimp only
  unfold out0_A_12
  rw [View.read_writes_eq_canon _ _ _ (fun y => cover0_A_12 ..)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, View.ld_unit_zero (S := S1x2048x256) hz3, shapeCast_self, View.readCov_eq_canon', View.ld_unit_zero (S := S1x256) hz2]
  rw [View.canon_cons_unit_zero hz2, pay5_apply]
  simp only [View.canon_unit_zero (S := S1x256) hz2, idx_one, pay8_apply, pay9_apply, pay15_apply]
  unfold DV
  rfl

theorem o12_B (h0 : ¬ t.val % 4 = 0) (l : Fin 256) :
    (outsAt0 m c t.val t.isLt).2.2.2.2.2 (ix2 0 l)
      = (outsAt0 m c (t.val - 1) (Nat.lt_of_le_of_lt (Nat.sub_le _ _) t.isLt)).2.2.2.2.2 (ix2 0 l) + ∑ s : Fin 2048, DV m c t l s := by
  rw [outsAt0_B m c t h0]
  dsimp only
  unfold out0_B_12
  rw [View.read_writes_eq_canon _ _ _ (fun y => cover0_B_12 ..)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_12 t).read_unread, View.ld_unit_zero (S := S1x2048x256) hz3, shapeCast_self, View.ld_unit_zero (S := S1x256) hz2]
  rw [View.canon_unit_zero hz2, pay5_apply]
  simp only [pay15_apply]
  unfold DV
  rfl

end Blocks

end Cert.GluIdeal.Hand
-- ==== Proof.GluRef.lean ====
module

public import proofs.«01_k».proof.Proof.Gen.GluRefIdeal.Read
public import proofs.«01_k».proof.Proof.GluHost
public import proofs.«01_k».proof.Proof.GluBlk
public import Idealize.ShloMosaic.Lib.Pipeline.Value
public import Idealize.ShloMosaic.Lib.Pointwise
public import Idealize.ShloMosaic.Lib.IdealHost
public import Idealize.ShloMosaic.Lib.Tactic

@[expose] public section

set_option maxRecDepth 16384

noncomputable section

namespace Cert.GluRefIdeal.Hand

open Cert.GluRefIdeal Cert.GluRefIdeal.Gen Idealize.ShloMosaic Idealize.ShloMosaic.TcCoe Idealize.SL.Sem
open Cert.GluRefIdeal.Read
open Cert.GluIdeal.Hand (P pre up)

/-! ## A sum over the two leading axes -/

theorem drop01 {n0 n1 n2 : ℕ} (h : (⟨3, ![n0, n1, n2]⟩ : Shape).ReducesTo [0, 1] (⟨1, ![n2]⟩ : Shape)) (f : Fin n2)
    (i : (⟨3, ![n0, n1, n2]⟩ : Shape).Idx) :
    h.drop i = ix1 f ↔ ∃ k : Fin n0 × Fin n1, ix3 k.1 k.2 f = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
  · rintro ⟨k, rfl⟩
    funext b; apply Fin.ext
    match b with
    | ⟨0, _⟩ => rfl

theorem sum01 {n0 n1 n2 : ℕ} (h : (⟨3, ![n0, n1, n2]⟩ : Shape).ReducesTo [0, 1] (⟨1, ![n2]⟩ : Shape))
    (v : (⟨3, ![n0, n1, n2]⟩ : Shape).Idx → EReal) (init : EReal) (f : Fin n2) :
    Ideal.hostReduceAdd h v init (ix1 f) = init + ∑ b : Fin n0, ∑ s : Fin n1, v (ix3 b s f) := by
  refine congrArg (init + ·) ?_
  refine (Finset.sum_filter_eq_sum_of_fiber _ (fun k : Fin n0 × Fin n1 => ix3 k.1 k.2 f)
    (fun _ _ e => Prod.ext (congrFun e 0) (congrFun e 1)) (drop01 h f) v).trans ?_
  simp only [Fintype.sum_prod_type]

variable (x0 : (⟨S4x2048x5632, .f32⟩ : BufTy).Contents (Elt Ideal)) (x1 : (⟨S3x5632, .f32⟩ : BufTy).Contents (Elt Ideal))
  (x2 : (⟨S5632, .f32⟩ : BufTy).Contents (Elt Ideal)) (x3 : (⟨S4x2048x2816, .f32⟩ : BufTy).Contents (Elt Ideal))

theorem v1_at (b : Fin 4) (n : Fin 2050) (f : Fin 5632) : val_main_v1 x0 (ix3 b n f) = P x0 b n.val n.isLt f := by
  unfold val_main_v1 val_main_v0 val_main_cst
  pointwise
  unfold P
  rfl

theorem v27_at (b : Fin 4) (s : Fin 2048) (f : Fin 5632) : val_main_v27 x0 x1 x2 (ix3 b s f) = pre x0 x1 x2 b s f := by
  simp only [val_main_v27_apply, val_main_v24_apply, val_main_v17_apply, val_main_v10_apply, val_main_v8_apply, val_main_v16_apply, val_main_v23_apply]
  unfold val_main_v3 val_main_v11 val_main_v18 val_main_v26 val_main_v25 val_main_v22 val_main_v21 val_main_v20 val_main_v19 val_main_v15 val_main_v14 val_main_v13 val_main_v12 val_main_v7 val_main_v6 val_main_v5 val_main_v4 val_main_v9
  unfold val_main_v1 val_main_v0 val_main_cst val_main_cst_1
  pointwise
  rfl

/-- The gradient of the gate's half before the convolution, as the reference writes it. -/
def rdg (a v g : EReal) : EReal := a * v * Ideal.logistic g + g * (a * v) * (Ideal.logistic g * (1 - Ideal.logistic g))

/-- The gradient of the value's half. -/
def rdv (a g : EReal) : EReal := g * Ideal.logistic g * a

theorem v28_at (b : Fin 4) (s : Fin 2048) (f : Fin 2816) : val_main_v28 x0 x1 x2 (ix3 b s f) = pre x0 x1 x2 b s ⟨f.val, by omega⟩ := by
  rw [← v27_at]; unfold val_main_v28; generalize val_main_v27 x0 x1 x2 = y; pointwise

theorem v29_at (b : Fin 4) (s : Fin 2048) (f : Fin 2816) : val_main_v29 x0 x1 x2 (ix3 b s f) = pre x0 x1 x2 b s ⟨2816 + f.val, by omega⟩ := by
  rw [← v27_at]; unfold val_main_v29; generalize val_main_v27 x0 x1 x2 = y; pointwise

theorem sig_at (b : Fin 4) (s : Fin 2048) (f : Fin 2816) : val_main_v30_2 x0 x1 x2 (ix3 b s f) = Ideal.logistic (pre x0 x1 x2 b s ⟨f.val, by omega⟩) := by
  rw [← v28_at]
  unfold val_main_v30_2 val_main_call0_v4 val_main_call0_cst_0 val_main_call0_v3 val_main_call0_v2 val_main_call0_cst val_main_call0_v1 val_main_call0_v0
  generalize val_main_v28 x0 x1 x2 = y
  pointwise
  rfl

theorem v34_at (b : Fin 4) (s : Fin 2048) (f : Fin 2816) : val_main_v34 x0 x1 x2 x3 (ix3 b s f)
    = rdg (x3 (ix3 b s f)) (pre x0 x1 x2 b s ⟨2816 + f.val, by omega⟩) (pre x0 x1 x2 b s ⟨f.val, by omega⟩) := by
  rw [val_main_v34_apply, val_main_call1_v1_apply, val_main_call1_v2_apply, val_main_call1_v0_apply, val_main_v33_apply, val_main_v30_1_apply, val_main_call0_v7_apply, sig_at, v28_at, v29_at]
  unfold val_main_call0_v6 val_main_call0_cst_1 rdg
  pointwise

theorem v32_at (b : Fin 4) (s : Fin 2048) (f : Fin 2816) : val_main_v32 x0 x1 x2 x3 (ix3 b s f)
    = rdv (x3 (ix3 b s f)) (pre x0 x1 x2 b s ⟨f.val, by omega⟩) := by
  rw [val_main_v32_apply, val_main_v30_0_apply, sig_at, v28_at]
  unfold rdv
  pointwise

/-- The gradient of the convolution's result. -/
def RD (b : Fin 4) (f : Fin 5632) (s : Fin 2048) : EReal := val_main_v35 x0 x1 x2 x3 (ix3 b s f)

theorem RD_lo (b : Fin 4) (s : Fin 2048) (f : Fin 2816) : RD x0 x1 x2 x3 b ⟨f.val, by omega⟩ s
    = rdg (x3 (ix3 b s f)) (pre x0 x1 x2 b s ⟨2816 + f.val, by omega⟩) (pre x0 x1 x2 b s ⟨f.val, by omega⟩) := by
  rw [← v34_at, RD]
  unfold val_main_v35
  generalize val_main_v34 x0 x1 x2 x3 = y
  generalize val_main_v32 x0 x1 x2 x3 = z
  pointwise

theorem RD_hi (b : Fin 4) (s : Fin 2048) (f : Fin 2816) : RD x0 x1 x2 x3 b ⟨2816 + f.val, by omega⟩ s
    = rdv (x3 (ix3 b s f)) (pre x0 x1 x2 b s ⟨f.val, by omega⟩) := by
  rw [← v32_at, RD]
  unfold val_main_v35
  generalize val_main_v34 x0 x1 x2 x3 = y
  generalize val_main_v32 x0 x1 x2 x3 = z
  pointwise

theorem red_at (x : FVec Ideal S4x2048x5632 .f32) (cst : FVec Ideal S_ .f32) (hc : cst = constant S_ .f32 0x00000000#32)
    (f : Fin 5632) : Host.reduceAdd x cst reducesTo_S4x2048x5632_S5632_d0_1 h_S_ (ix1 f) = ∑ b : Fin 4, ∑ s : Fin 2048, x (ix3 b s f) := by
  subst hc
  show Ideal.hostReduceAdd _ _ _ _ = _
  refine (sum01 (n0 := 4) (n1 := 2048) (n2 := 5632) _ _ _ f).trans ?_
  pointwise

theorem red1_at (x : FVec Ideal S1x1x5632 .f32) (cst : FVec Ideal S_ .f32) (hc : cst = constant S_ .f32 0x00000000#32)
    (f : Fin 5632) : Host.reduceAdd x cst reducesTo_S1x1x5632_S5632_d0_1 h_S_ (ix1 f) = x (ix3 0 0 f) := by
  subst hc
  show Ideal.hostReduceAdd _ _ _ _ = _
  refine (sum01 (n0 := 1) (n1 := 1) (n2 := 5632) _ _ _ f).trans ?_
  pointwise
  rw [Fintype.sum_unique, Fintype.sum_unique]
  rfl

theorem cast_at (y : FVec Ideal S5632 .f32) (f : Fin 5632) : shapeCast S1x1x5632 y shapeCasts_S5632_S1x1x5632 (ix3 0 0 f) = y (ix1 f) := by
  pointwise

theorem v38_at (f : Fin 5632) : val_main_v38 x0 x1 x2 x3 (ix1 f) = ∑ b : Fin 4, ∑ s : Fin 2048, RD x0 x1 x2 x3 b f s := by
  unfold val_main_v38 val_main_v37 val_main_v36
  exact (red1_at _ _ rfl f).trans ((cast_at _ f).trans (red_at _ _ rfl f))

theorem v44_at (f : Fin 5632) : val_main_v44 x0 x1 x2 x3 (ix1 f) = ∑ b : Fin 4, ∑ s : Fin 2048, x0 (ix3 b s f) * RD x0 x1 x2 x3 b f s := by
  unfold val_main_v44 val_main_v41 val_main_v40
  refine (red1_at _ _ rfl f).trans ((cast_at _ f).trans ((red_at _ _ rfl f).trans ?_))
  refine Finset.sum_congr rfl fun b _ => Finset.sum_congr rfl fun s _ => ?_
  rw [val_main_v39_apply]
  unfold val_main_v18 val_main_v1 val_main_v0 val_main_cst RD
  pointwise

theorem v53_at (f : Fin 5632) : val_main_v53 x0 x1 x2 x3 (ix1 f) = ∑ b : Fin 4, ∑ s : Fin 2048, P x0 b (1 + s.val) (by omega) f * RD x0 x1 x2 x3 b f s := by
  unfold val_main_v53 val_main_v50 val_main_v49
  refine (red1_at _ _ rfl f).trans ((cast_at _ f).trans ((red_at _ _ rfl f).trans ?_))
  refine Finset.sum_congr rfl fun b _ => Finset.sum_congr rfl fun s _ => ?_
  rw [val_main_v48_apply, ← v1_at x0 b ⟨1 + s.val, by omega⟩ f]
  unfold val_main_v11 RD
  generalize val_main_v1 x0 = y
  pointwise

theorem v64_at (f : Fin 5632) : val_main_v64 x0 x1 x2 x3 (ix1 f) = ∑ b : Fin 4, ∑ s : Fin 2048, P x0 b s.val (by omega) f * RD x0 x1 x2 x3 b f s := by
  unfold val_main_v64 val_main_v61 val_main_v60
  refine (red1_at _ _ rfl f).trans ((cast_at _ f).trans ((red_at _ _ rfl f).trans ?_))
  refine Finset.sum_congr rfl fun b _ => Finset.sum_congr rfl fun s _ => ?_
  rw [val_main_v59_apply, ← v1_at x0 b ⟨s.val, by omega⟩ f]
  unfold val_main_v3 RD
  generalize val_main_v1 x0 = y
  pointwise

/-- Row `k` of the weights' gradient: the rows of the padded input `k` later against the gradient. -/
def RW (k : Fin 3) (f : Fin 5632) : EReal := ∑ b : Fin 4, ∑ s : Fin 2048, P x0 b (k.val + s.val) (by omega) f * RD x0 x1 x2 x3 b f s

theorem v67_at (k : Fin 3) (f : Fin 5632) : val_main_v67 x0 x1 x2 x3 (ix2 k f) = RW x0 x1 x2 x3 k f := by
  have e0 := v64_at x0 x1 x2 x3 f
  have e1 := v53_at x0 x1 x2 x3 f
  have e2 := v44_at x0 x1 x2 x3 f
  unfold val_main_v67 val_main_v66 val_main_v65 val_main_v56 val_main_v55 val_main_v54 val_main_v46 val_main_v45
  revert e0 e1 e2
  generalize val_main_v64 x0 x1 x2 x3 = y64
  generalize val_main_v53 x0 x1 x2 x3 = y53
  generalize val_main_v44 x0 x1 x2 x3 = y44
  intro e0 e1 e2
  unfold val_main_cst_6 val_main_cst_10 val_main_cst_14
  pointwise
  rw [e0, e1, e2]
  unfold RW
  match k with
  | ⟨0, _⟩ =>
    simp only [Nat.reduceLeDiff, false_and, dite_false, Nat.lt_one_iff, dite_true, zero_add]
  | ⟨1, _⟩ => simp
  | ⟨2, _⟩ =>
    simp only [Nat.reduceLeDiff, Nat.reduceSub, Nat.reduceLT, and_true, and_false, lt_self_iff_false, le_refl, true_and, dite_true, dite_false, add_zero]
    norm_num only [dite_true, dite_false, add_zero, true_and, and_true]
    refine Finset.sum_congr rfl fun b _ => Finset.sum_congr rfl fun s _ => ?_
    unfold P
    rw [dif_neg (by omega)]
    congr 2; apply congrArg (ix3 b · f); apply Fin.ext; show s.val = 2 + s.val - 2; omega

theorem v71_at (b : Fin 4) (s : Fin 2048) (f : Fin 5632) : val_main_v71 x0 x1 x2 x3 (ix3 b s f)
    = RD x0 x1 x2 x3 b f s * x1 (ix2 2 f) + up 1 (RD x0 x1 x2 x3 b f) s * x1 (ix2 1 f) + up 2 (RD x0 x1 x2 x3 b f) s * x1 (ix2 0 f) := by
  unfold RD
  unfold val_main_v71 val_main_v69 val_main_v68 val_main_v58 val_main_v57 val_main_v47
  unfold val_main_v63 val_main_v62 val_main_v6 val_main_v5 val_main_v4
  unfold val_main_v52 val_main_v51 val_main_v14 val_main_v13 val_main_v12
  unfold val_main_v43 val_main_v42 val_main_v21 val_main_v20 val_main_v19
  generalize val_main_v35 x0 x1 x2 x3 = y
  unfold val_main_cst_11 val_main_cst_15
  pointwise
  congr 1
  · congr 1
    unfold up
    by_cases h : s.val + 1 < 2048
    · rw [dif_pos (show 1 ≤ 2 + s.val ∧ 2 + s.val - 1 < 2048 by omega), dif_pos h]
      congr 2; apply congrArg (ix3 b · f); apply Fin.ext; show 2 + s.val - 1 = s.val + 1; omega
    · rw [dif_neg (show ¬ (1 ≤ 2 + s.val ∧ 2 + s.val - 1 < 2048) by omega), dif_neg h, zero_mul]
  · unfold up
    by_cases h : s.val + 2 < 2048
    · rw [dif_pos (show 2 + s.val < 2048 by omega), dif_pos h]
      congr 2; apply congrArg (ix3 b · f); apply Fin.ext; show 2 + s.val = s.val + 2; omega
    · rw [dif_neg (show ¬ (2 + s.val < 2048) by omega), dif_neg h, zero_mul]

/-! ## The results -/

theorem v73_at (b : Fin 4) (s : Fin 2048) (f : Fin 2816) : val_main_v73 x0 x1 x2 x3 (ix3 b s f) = val_main_v71 x0 x1 x2 x3 (ix3 b s ⟨f.val, by omega⟩) := by
  unfold val_main_v73 val_main_v72
  generalize val_main_v71 x0 x1 x2 x3 = y
  pointwise

theorem v75_at (b : Fin 4) (s : Fin 2048) (f : Fin 2816) : val_main_v75 x0 x1 x2 x3 (ix3 b s f) = val_main_v71 x0 x1 x2 x3 (ix3 b s ⟨2816 + f.val, by omega⟩) := by
  unfold val_main_v75 val_main_v74
  generalize val_main_v71 x0 x1 x2 x3 = y
  pointwise

theorem v76_at (k : Fin 3) (f : Fin 2816) : val_main_v76 x0 x1 x2 x3 (ix2 k f) = RW x0 x1 x2 x3 k ⟨f.val, by omega⟩ := by
  rw [← v67_at]
  unfold val_main_v76
  generalize val_main_v67 x0 x1 x2 x3 = y
  pointwise

theorem v77_at (k : Fin 3) (f : Fin 2816) : val_main_v77 x0 x1 x2 x3 (ix2 k f) = RW x0 x1 x2 x3 k ⟨2816 + f.val, by omega⟩ := by
  rw [← v67_at]
  unfold val_main_v77
  generalize val_main_v67 x0 x1 x2 x3 = y
  pointwise

theorem v79_at (f : Fin 2816) : val_main_v79 x0 x1 x2 x3 (ix2 0 f) = ∑ b : Fin 4, ∑ s : Fin 2048, RD x0 x1 x2 x3 b ⟨f.val, by omega⟩ s := by
  rw [← v38_at]
  unfold val_main_v79 val_main_v78
  generalize val_main_v38 x0 x1 x2 x3 = y
  pointwise

theorem v81_at (f : Fin 2816) : val_main_v81 x0 x1 x2 x3 (ix2 0 f) = ∑ b : Fin 4, ∑ s : Fin 2048, RD x0 x1 x2 x3 b ⟨2816 + f.val, by omega⟩ s := by
  rw [← v38_at]
  unfold val_main_v81 val_main_v80
  generalize val_main_v38 x0 x1 x2 x3 = y
  pointwise

end Cert.GluRefIdeal.Hand
-- ==== Proof.GluVal.lean ====
module

public import proofs.«01_k».proof.Proof.Gen.GluIdeal.Value
public import proofs.«01_k».proof.Proof.GluHost
public import proofs.«01_k».proof.Proof.GluBlk
public import Idealize.ShloMosaic.Lib.Pipeline.Value
public import Idealize.ShloMosaic.Lib.Pointwise
public import Idealize.ShloMosaic.Lib.Tactic
public import Idealize.ShloMosaic.Lib.StableHlo.ReadAt

@[expose] public section

set_option maxRecDepth 16384

noncomputable section

namespace Cert.GluIdeal.Hand

open Cert.GluIdeal Cert.GluIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-! ## The grid: point `t` is example `t % 4` of feature block `t / 4` -/

theorem idx0 : ∀ t : Fin cfg0.N, win0_0.index t 0 = t.val % 4 ∧ win0_0.index t 1 = 0 ∧ win0_0.index t 2 = t.val / 4 :=
  (by decide +kernel : ∀ t : Fin grid0.N, win0_0.index t 0 = t.val % 4 ∧ win0_0.index t 1 = 0 ∧ win0_0.index t 2 = t.val / 4)
theorem idx1 : ∀ t : Fin cfg0.N, win0_1.index t 0 = t.val % 4 ∧ win0_1.index t 1 = 0 ∧ win0_1.index t 2 = 11 + t.val / 4 :=
  (by decide +kernel : ∀ t : Fin grid0.N, win0_1.index t 0 = t.val % 4 ∧ win0_1.index t 1 = 0 ∧ win0_1.index t 2 = 11 + t.val / 4)
theorem idx2 : ∀ t : Fin cfg0.N, win0_2.index t 0 = t.val % 4 ∧ win0_2.index t 1 = 0 ∧ win0_2.index t 2 = t.val / 4 :=
  (by decide +kernel : ∀ t : Fin grid0.N, win0_2.index t 0 = t.val % 4 ∧ win0_2.index t 1 = 0 ∧ win0_2.index t 2 = t.val / 4)
theorem idx3 : ∀ t : Fin cfg0.N, win0_3.index t 0 = t.val % 4 ∧ win0_3.index t 1 = 0 ∧ win0_3.index t 2 = t.val / 4 :=
  (by decide +kernel : ∀ t : Fin grid0.N, win0_3.index t 0 = t.val % 4 ∧ win0_3.index t 1 = 0 ∧ win0_3.index t 2 = t.val / 4)
theorem idx4 : ∀ t : Fin cfg0.N, win0_4.index t 0 = t.val % 4 ∧ win0_4.index t 1 = 0 ∧ win0_4.index t 2 = t.val / 4 :=
  (by decide +kernel : ∀ t : Fin grid0.N, win0_4.index t 0 = t.val % 4 ∧ win0_4.index t 1 = 0 ∧ win0_4.index t 2 = t.val / 4)
theorem idx7 : ∀ t : Fin cfg0.N, win0_7.index t 0 = t.val % 4 ∧ win0_7.index t 1 = 0 ∧ win0_7.index t 2 = t.val / 4 :=
  (by decide +kernel : ∀ t : Fin grid0.N, win0_7.index t 0 = t.val % 4 ∧ win0_7.index t 1 = 0 ∧ win0_7.index t 2 = t.val / 4)
theorem idx8 : ∀ t : Fin cfg0.N, win0_8.index t 0 = t.val % 4 ∧ win0_8.index t 1 = 0 ∧ win0_8.index t 2 = t.val / 4 :=
  (by decide +kernel : ∀ t : Fin grid0.N, win0_8.index t 0 = t.val % 4 ∧ win0_8.index t 1 = 0 ∧ win0_8.index t 2 = t.val / 4)
theorem idx5 : ∀ t : Fin cfg0.N, win0_5.index t 0 = 0 ∧ win0_5.index t 1 = t.val / 4 :=
  (by decide +kernel : ∀ t : Fin grid0.N, win0_5.index t 0 = 0 ∧ win0_5.index t 1 = t.val / 4)
theorem idx6 : ∀ t : Fin cfg0.N, win0_6.index t 0 = 0 ∧ win0_6.index t 1 = 11 + t.val / 4 :=
  (by decide +kernel : ∀ t : Fin grid0.N, win0_6.index t 0 = 0 ∧ win0_6.index t 1 = 11 + t.val / 4)
theorem idx9 : ∀ t : Fin cfg0.N, win0_9.index t 0 = 0 ∧ win0_9.index t 1 = t.val / 4 :=
  (by decide +kernel : ∀ t : Fin grid0.N, win0_9.index t 0 = 0 ∧ win0_9.index t 1 = t.val / 4)
theorem idx10 : ∀ t : Fin cfg0.N, win0_10.index t 0 = 0 ∧ win0_10.index t 1 = t.val / 4 :=
  (by decide +kernel : ∀ t : Fin grid0.N, win0_10.index t 0 = 0 ∧ win0_10.index t 1 = t.val / 4)
theorem idx11 : ∀ t : Fin cfg0.N, win0_11.index t 0 = 0 ∧ win0_11.index t 1 = t.val / 4 :=
  (by decide +kernel : ∀ t : Fin grid0.N, win0_11.index t 0 = 0 ∧ win0_11.index t 1 = t.val / 4)
theorem idx12 : ∀ t : Fin cfg0.N, win0_12.index t 0 = 0 ∧ win0_12.index t 1 = t.val / 4 :=
  (by decide +kernel : ∀ t : Fin grid0.N, win0_12.index t 0 = 0 ∧ win0_12.index t 1 = t.val / 4)

theorem t_lt (t : Fin cfg0.N) : t.val < 44 := lt_of_lt_of_eq t.isLt N_0

/-- The point's example. -/
def bt (t : Fin cfg0.N) : Fin 4 := ⟨t.val % 4, Nat.mod_lt _ (by decide)⟩

/-- The point's feature block. -/
def jt (t : Fin cfg0.N) : Fin 11 := ⟨t.val / 4, by have := t_lt t; omega⟩

/-- Feature `l` of block `j`. -/
def col (j : Fin 11) (l : Fin 256) : Fin 2816 := ⟨j.val * 256 + l.val, by omega⟩

/-- A feature in the first half of the convolution's. -/
def lo (f : Fin 2816) : Fin 5632 := ⟨f.val, by omega⟩

/-- A feature in the second half. -/
def hi (f : Fin 2816) : Fin 5632 := ⟨2816 + f.val, by omega⟩

/-! ## The arguments -/

def aU : S4x2048x5632.Idx → EReal := m ((c : Thread nD τ).loc main_arg0)
def aW : S3x5632.Idx → EReal := m ((c : Thread nD τ).loc main_arg1)
def aB : S5632.Idx → EReal := m ((c : Thread nD τ).loc main_arg2)
def aD : S4x2048x2816.Idx → EReal := m ((c : Thread nD τ).loc main_arg3)

/-- The gate before its activation. -/
def gG (b : Fin 4) (s : Fin 2048) (f : Fin 2816) : EReal := pre (aU m c) (aW m c) (aB m c) b s (lo f)

/-- The value before the product. -/
def gV (b : Fin 4) (s : Fin 2048) (f : Fin 2816) : EReal := pre (aU m c) (aW m c) (aB m c) b s (hi f)

/-- The gradients of the two. -/
def KDG (b : Fin 4) (f : Fin 2816) (s : Fin 2048) : EReal := dgp (aD m c (ix3 b s f)) (gV m c b s f) (gG m c b s f)
def KDV (b : Fin 4) (f : Fin 2816) (s : Fin 2048) : EReal := dvp (aD m c (ix3 b s f)) (gG m c b s f)

/-! ## The blocks of the arguments -/

theorem iblk0 (t : Fin cfg0.N) (s : Fin 2048) (l : Fin 256) : iblk m c 0 t (ix3 0 s l) = aU m c (ix3 (bt t) s (lo (col (jt t) l))) := by
  refine Eq.trans ?_ (V31 m c (bt t) s (lo (col (jt t) l)))
  unfold iblk
  rw [View.read_apply]
  show V m c main_v31 _ = V m c main_v31 _
  obtain ⟨h0, h1, h2⟩ := idx0 t
  refine congrArg (V m c main_v31) ?_
  funext a; apply Fin.ext
  match a with
  | ⟨0, _⟩ => show win0_0.index t 0 * 1 + 1 * 0 = t.val % 4; rw [h0]; omega
  | ⟨1, _⟩ => show win0_0.index t 1 * 2048 + 1 * s.val = s.val; rw [h1]; omega
  | ⟨2, _⟩ => show win0_0.index t 2 * 256 + 1 * l.val = (jt t).val * 256 + l.val; rw [h2]; unfold jt; dsimp only; omega

theorem iblk1 (t : Fin cfg0.N) (s : Fin 2048) (l : Fin 256) : iblk m c 1 t (ix3 0 s l) = aU m c (ix3 (bt t) s (hi (col (jt t) l))) := by
  refine Eq.trans ?_ (V31 m c (bt t) s (hi (col (jt t) l)))
  unfold iblk
  rw [View.read_apply]
  show V m c main_v31 _ = V m c main_v31 _
  obtain ⟨h0, h1, h2⟩ := idx1 t
  refine congrArg (V m c main_v31) ?_
  funext a; apply Fin.ext
  match a with
  | ⟨0, _⟩ => show win0_1.index t 0 * 1 + 1 * 0 = t.val % 4; rw [h0]; omega
  | ⟨1, _⟩ => show win0_1.index t 1 * 2048 + 1 * s.val = s.val; rw [h1]; omega
  | ⟨2, _⟩ => show win0_1.index t 2 * 256 + 1 * l.val = 2816 + ((jt t).val * 256 + l.val); rw [h2]; unfold jt; dsimp only; omega

theorem iblk2 (t : Fin cfg0.N) (s : Fin 2048) (l : Fin 256) : iblk m c 2 t (ix3 0 s l) = gG m c (bt t) s (col (jt t) l) := by
  refine Eq.trans ?_ (V28 m c (bt t) s (col (jt t) l))
  unfold iblk
  rw [View.read_apply]
  show V m c main_v28 _ = V m c main_v28 _
  obtain ⟨h0, h1, h2⟩ := idx2 t
  refine congrArg (V m c main_v28) ?_
  funext a; apply Fin.ext
  match a with
  | ⟨0, _⟩ => show win0_2.index t 0 * 1 + 1 * 0 = t.val % 4; rw [h0]; omega
  | ⟨1, _⟩ => show win0_2.index t 1 * 2048 + 1 * s.val = s.val; rw [h1]; omega
  | ⟨2, _⟩ => show win0_2.index t 2 * 256 + 1 * l.val = (jt t).val * 256 + l.val; rw [h2]; unfold jt; dsimp only; omega

theorem iblk3 (t : Fin cfg0.N) (s : Fin 2048) (l : Fin 256) : iblk m c 3 t (ix3 0 s l) = gV m c (bt t) s (col (jt t) l) := by
  refine Eq.trans ?_ (V30 m c (bt t) s (col (jt t) l))
  unfold iblk
  rw [View.read_apply]
  show V m c main_v30 _ = V m c main_v30 _
  obtain ⟨h0, h1, h2⟩ := idx3 t
  refine congrArg (V m c main_v30) ?_
  funext a; apply Fin.ext
  match a with
  | ⟨0, _⟩ => show win0_3.index t 0 * 1 + 1 * 0 = t.val % 4; rw [h0]; omega
  | ⟨1, _⟩ => show win0_3.index t 1 * 2048 + 1 * s.val = s.val; rw [h1]; omega
  | ⟨2, _⟩ => show win0_3.index t 2 * 256 + 1 * l.val = (jt t).val * 256 + l.val; rw [h2]; unfold jt; dsimp only; omega

theorem iblk4 (t : Fin cfg0.N) (s : Fin 2048) (l : Fin 256) : iblk m c 4 t (ix3 0 s l) = aD m c (ix3 (bt t) s (col (jt t) l)) := by
  refine Eq.trans ?_ (V32 m c (bt t) s (col (jt t) l))
  unfold iblk
  rw [View.read_apply]
  show V m c main_v32 _ = V m c main_v32 _
  obtain ⟨h0, h1, h2⟩ := idx4 t
  refine congrArg (V m c main_v32) ?_
  funext a; apply Fin.ext
  match a with
  | ⟨0, _⟩ => show win0_4.index t 0 * 1 + 1 * 0 = t.val % 4; rw [h0]; omega
  | ⟨1, _⟩ => show win0_4.index t 1 * 2048 + 1 * s.val = s.val; rw [h1]; omega
  | ⟨2, _⟩ => show win0_4.index t 2 * 256 + 1 * l.val = (jt t).val * 256 + l.val; rw [h2]; unfold jt; dsimp only; omega

theorem Vkeep1 : V m c main_arg1 = m ((c : Thread nD τ).loc main_arg1) := by
  funext i; unfold V; after_reads_at

theorem iblk5 (t : Fin cfg0.N) (k : Fin 3) (l : Fin 256) : iblk m c 5 t (ix2 k l) = aW m c (ix2 k (lo (col (jt t) l))) := by
  unfold iblk
  rw [View.read_apply]
  show V m c main_arg1 _ = m ((c : Thread nD τ).loc main_arg1) _
  obtain ⟨h0, h1⟩ := idx5 t
  refine (congrFun (Vkeep1 m c) _).trans (congrArg (m ((c : Thread nD τ).loc main_arg1)) ?_)
  funext a; apply Fin.ext
  match a with
  | ⟨0, _⟩ => show win0_5.index t 0 * 3 + 1 * k.val = k.val; rw [h0]; omega
  | ⟨1, _⟩ => show win0_5.index t 1 * 256 + 1 * l.val = (jt t).val * 256 + l.val; rw [h1]; unfold jt; dsimp only; omega

theorem iblk6 (t : Fin cfg0.N) (k : Fin 3) (l : Fin 256) : iblk m c 6 t (ix2 k l) = aW m c (ix2 k (hi (col (jt t) l))) := by
  unfold iblk
  rw [View.read_apply]
  show V m c main_arg1 _ = m ((c : Thread nD τ).loc main_arg1) _
  obtain ⟨h0, h1⟩ := idx6 t
  refine (congrFun (Vkeep1 m c) _).trans (congrArg (m ((c : Thread nD τ).loc main_arg1)) ?_)
  funext a; apply Fin.ext
  match a with
  | ⟨0, _⟩ => show win0_6.index t 0 * 3 + 1 * k.val = k.val; rw [h0]; omega
  | ⟨1, _⟩ => show win0_6.index t 1 * 256 + 1 * l.val = 2816 + ((jt t).val * 256 + l.val); rw [h1]; unfold jt; dsimp only; omega

theorem DG_eq (t : Fin cfg0.N) (l : Fin 256) : DG m c t l = KDG m c (bt t) (col (jt t) l) := by
  funext s; unfold DG KDG; rw [iblk4, iblk3, iblk2]

theorem DV_eq (t : Fin cfg0.N) (l : Fin 256) : DV m c t l = KDV m c (bt t) (col (jt t) l) := by
  funext s; unfold DV KDV; rw [iblk4, iblk2]

/-! ## Sums over the examples -/

/-- An accumulator that starts from zero at a feature block's first example holds, after its fourth, the sum of the
    four. -/
theorem acc4 (X : (n : ℕ) → n < cfg0.N → EReal) (F : Fin 4 → Fin 11 → EReal)
    (hA : ∀ t : Fin cfg0.N, t.val % 4 = 0 → X t.val t.isLt = 0 + F (bt t) (jt t))
    (hB : ∀ t : Fin cfg0.N, ¬ t.val % 4 = 0 → X t.val t.isLt = X (t.val - 1) (Nat.lt_of_le_of_lt (Nat.sub_le _ _) t.isLt) + F (bt t) (jt t))
    (t : Fin cfg0.N) (h3 : t.val % 4 = 3) : X t.val t.isLt = ∑ b : Fin 4, F b (jt t) := by
  have hN := t_lt t
  have hl : ∀ n, n ≤ t.val → n < cfg0.N := fun n hn => Nat.lt_of_le_of_lt hn t.isLt
  have e3 := hB t (by omega)
  have e2 := hB ⟨t.val - 1, hl _ (by omega)⟩ (by show ¬ (t.val - 1) % 4 = 0; omega)
  have e1 := hB ⟨t.val - 1 - 1, hl _ (by omega)⟩ (by show ¬ (t.val - 1 - 1) % 4 = 0; omega)
  have e0 := hA ⟨t.val - 1 - 1 - 1, hl _ (by omega)⟩ (by show (t.val - 1 - 1 - 1) % 4 = 0; omega)
  dsimp only at e2 e1 e0
  rw [e3, e2, e1, e0, Fin.sum_univ_four, zero_add]
  have b3 : bt t = 3 := Fin.ext h3
  have b2 : bt ⟨t.val - 1, hl _ (by omega)⟩ = 2 := Fin.ext (by show (t.val - 1) % 4 = 2; omega)
  have b1 : bt ⟨t.val - 1 - 1, hl _ (by omega)⟩ = 1 := Fin.ext (by show (t.val - 1 - 1) % 4 = 1; omega)
  have b0 : bt ⟨t.val - 1 - 1 - 1, hl _ (by omega)⟩ = 0 := Fin.ext (by show (t.val - 1 - 1 - 1) % 4 = 0; omega)
  have j2 : jt ⟨t.val - 1, hl _ (by omega)⟩ = jt t := Fin.ext (by show (t.val - 1) / 4 = t.val / 4; omega)
  have j1 : jt ⟨t.val - 1 - 1, hl _ (by omega)⟩ = jt t := Fin.ext (by show (t.val - 1 - 1) / 4 = t.val / 4; omega)
  have j0 : jt ⟨t.val - 1 - 1 - 1, hl _ (by omega)⟩ = jt t := Fin.ext (by show (t.val - 1 - 1 - 1) / 4 = t.val / 4; omega)
  rw [b3, b2, b1, b0, j2, j1, j0]

/-! ## The results -/

/-- The gradient of the input's first half. -/
def R7 : S4x2048x2816.Idx → EReal := fun i => tconv (fun k => aW m c (ix2 k (lo (i 2)))) (KDG m c (i 0) (i 2)) (i 1)

theorem out7 (t : Fin cfg0.N) (s : Fin 2048) (l : Fin 256) :
    (outsAt0 m c t.val t.isLt).1 (ix3 0 s l) = R7 m c (ix3 (bt t) s (col (jt t) l)) := by
  have h : (outsAt0 m c t.val t.isLt).1 (ix3 0 s l) = tconv (fun k => iblk m c 5 t (ix2 k l)) (DG m c t l) s := by
    by_cases h0 : t.val % 4 = 0
    · exact o7_A m c t h0 s l
    · exact o7_B m c t h0 s l
  rw [h, DG_eq]
  show tconv _ _ _ = tconv _ _ _
  congr 1
  funext k
  exact iblk5 m c t k l

theorem flushed7_eq (t : Fin cfg0.N) : (dats m 0 c).flushed 7 t = ((cfg0.win 7).blk t).view.read (Elt Ideal) (R7 m c) := by
  rw [Value.flushed7]
  funext j
  idx_vars j
  obtain ⟨h0, h1, h2⟩ := idx7 t
  rw [View.read_apply]
  have hz : j0 = 0 := Fin.ext (by have := j0.isLt; omega)
  subst hz
  refine (out7 m c t j1 j2).trans ?_
  show R7 m c _ = R7 m c _
  refine congrArg (R7 m c) ?_
  funext a; apply Fin.ext
  match a with
  | ⟨0, _⟩ => show t.val % 4 = win0_7.index t 0 * 1 + 1 * 0; rw [h0]; omega
  | ⟨1, _⟩ => show j1.val = win0_7.index t 1 * 2048 + 1 * j1.val; rw [h1]; omega
  | ⟨2, _⟩ => show (jt t).val * 256 + j2.val = win0_7.index t 2 * 256 + 1 * j2.val; rw [h2]; unfold jt; dsimp only; omega

theorem final7 : (dats m 0 c).arrAt 7 cfg0.N = R7 m c :=
  (dats m 0 c).arrAt_eq_of_cover 7 (R7 m c) (fun t _ => flushed7_eq m c t) fun i => by
    have hi0 : (i 0 : Nat) < 4 := (i 0).isLt
    have hi1 : (i 1 : Nat) < 2048 := (i 1).isLt
    have hi2 : (i 2 : Nat) < 2816 := (i 2).isLt
    have ht : (i 2).val / 256 * 4 + (i 0).val < cfg0.N := lt_of_lt_of_eq (by omega) N_0.symm
    refine ⟨⟨(i 2).val / 256 * 4 + (i 0).val, ht⟩, flush0_7 _, ?_⟩
    obtain ⟨h0, h1, h2⟩ := idx7 ⟨(i 2).val / 256 * 4 + (i 0).val, ht⟩
    show i ∈ ((View.whole main_v33_0).slice (win0_7.rect ⟨(i 2).val / 256 * 4 + (i 0).val, ht⟩)).set
    rw [View.set_slice_whole, Rect.mem_set_unit]
    intro a
    match a with
    | ⟨0, _⟩ => show win0_7.index _ 0 * 1 ≤ (i 0 : Nat) ∧ (i 0 : Nat) < win0_7.index _ 0 * 1 + 1; rw [h0]; dsimp only; omega
    | ⟨1, _⟩ => show win0_7.index _ 1 * 2048 ≤ (i 1 : Nat) ∧ (i 1 : Nat) < win0_7.index _ 1 * 2048 + 2048; rw [h1]; omega
    | ⟨2, _⟩ => show win0_7.index _ 2 * 256 ≤ (i 2 : Nat) ∧ (i 2 : Nat) < win0_7.index _ 2 * 256 + 256; rw [h2]; dsimp only; omega

/-- The gradient of the input's second half. -/
def R8 : S4x2048x2816.Idx → EReal := fun i => tconv (fun k => aW m c (ix2 k (hi (i 2)))) (KDV m c (i 0) (i 2)) (i 1)

theorem out8 (t : Fin cfg0.N) (s : Fin 2048) (l : Fin 256) :
    (outsAt0 m c t.val t.isLt).2.1 (ix3 0 s l) = R8 m c (ix3 (bt t) s (col (jt t) l)) := by
  have h : (outsAt0 m c t.val t.isLt).2.1 (ix3 0 s l) = tconv (fun k => iblk m c 6 t (ix2 k l)) (DV m c t l) s := by
    by_cases h0 : t.val % 4 = 0
    · exact o8_A m c t h0 s l
    · exact o8_B m c t h0 s l
  rw [h, DV_eq]
  show tconv _ _ _ = tconv _ _ _
  congr 1
  funext k
  exact iblk6 m c t k l

theorem flushed8_eq (t : Fin cfg0.N) : (dats m 0 c).flushed 8 t = ((cfg0.win 8).blk t).view.read (Elt Ideal) (R8 m c) := by
  rw [Value.flushed8]
  funext j
  idx_vars j
  obtain ⟨h0, h1, h2⟩ := idx8 t
  rw [View.read_apply]
  have hz : j0 = 0 := Fin.ext (by have := j0.isLt; omega)
  subst hz
  refine (out8 m c t j1 j2).trans ?_
  show R8 m c _ = R8 m c _
  refine congrArg (R8 m c) ?_
  funext a; apply Fin.ext
  match a with
  | ⟨0, _⟩ => show t.val % 4 = win0_8.index t 0 * 1 + 1 * 0; rw [h0]; omega
  | ⟨1, _⟩ => show j1.val = win0_8.index t 1 * 2048 + 1 * j1.val; rw [h1]; omega
  | ⟨2, _⟩ => show (jt t).val * 256 + j2.val = win0_8.index t 2 * 256 + 1 * j2.val; rw [h2]; unfold jt; dsimp only; omega

theorem final8 : (dats m 0 c).arrAt 8 cfg0.N = R8 m c :=
  (dats m 0 c).arrAt_eq_of_cover 8 (R8 m c) (fun t _ => flushed8_eq m c t) fun i => by
    have hi0 : (i 0 : Nat) < 4 := (i 0).isLt
    have hi1 : (i 1 : Nat) < 2048 := (i 1).isLt
    have hi2 : (i 2 : Nat) < 2816 := (i 2).isLt
    have ht : (i 2).val / 256 * 4 + (i 0).val < cfg0.N := lt_of_lt_of_eq (by omega) N_0.symm
    refine ⟨⟨(i 2).val / 256 * 4 + (i 0).val, ht⟩, flush0_8 _, ?_⟩
    obtain ⟨h0, h1, h2⟩ := idx8 ⟨(i 2).val / 256 * 4 + (i 0).val, ht⟩
    show i ∈ ((View.whole main_v33_1).slice (win0_8.rect ⟨(i 2).val / 256 * 4 + (i 0).val, ht⟩)).set
    rw [View.set_slice_whole, Rect.mem_set_unit]
    intro a
    match a with
    | ⟨0, _⟩ => show win0_8.index _ 0 * 1 ≤ (i 0 : Nat) ∧ (i 0 : Nat) < win0_8.index _ 0 * 1 + 1; rw [h0]; dsimp only; omega
    | ⟨1, _⟩ => show win0_8.index _ 1 * 2048 ≤ (i 1 : Nat) ∧ (i 1 : Nat) < win0_8.index _ 1 * 2048 + 2048; rw [h1]; omega
    | ⟨2, _⟩ => show win0_8.index _ 2 * 256 ≤ (i 2 : Nat) ∧ (i 2 : Nat) < win0_8.index _ 2 * 256 + 256; rw [h2]; dsimp only; omega

/-- The gradient of the weights, first half. -/
def R9 : S3x2816.Idx → EReal := fun i => ∑ b : Fin 4, colsum (up (2 - (i 0).val) (KDG m c b (i 1))) (fun s => aU m c (ix3 b s (lo (i 1))))

theorem out9 (t : Fin cfg0.N) (h3 : t.val % 4 = 3) (k : Fin 3) (l : Fin 256) :
    (outsAt0 m c t.val t.isLt).2.2.1 (ix2 k l) = R9 m c (ix2 k (col (jt t) l)) := by
  refine acc4 (fun n h => (outsAt0 m c n h).2.2.1 (ix2 k l)) (fun b j => colsum (up (2 - k.val) (KDG m c b (col j l))) (fun s => aU m c (ix3 b s (lo (col j l))))) ?_ ?_ t h3
  · intro t h0
    match k with
    | ⟨0, _⟩ => exact (o9_A0 m c t h0 l).trans (by rw [DG_eq]; simp only [iblk0])
    | ⟨1, _⟩ => exact (o9_A1 m c t h0 l).trans (by rw [DG_eq]; simp only [iblk0])
    | ⟨2, _⟩ => exact (o9_A2 m c t h0 l).trans (by rw [DG_eq]; simp only [iblk0])
  · intro t h0
    match k with
    | ⟨0, _⟩ => exact (o9_B0 m c t h0 l).trans (by rw [DG_eq]; simp only [iblk0]; rfl)
    | ⟨1, _⟩ => exact (o9_B1 m c t h0 l).trans (by rw [DG_eq]; simp only [iblk0]; rfl)
    | ⟨2, _⟩ => exact (o9_B2 m c t h0 l).trans (by rw [DG_eq]; simp only [iblk0]; rfl)

theorem flushed9_eq (t : Fin cfg0.N) (hf : (cfg0.win 9).flush t = true) : (dats m 0 c).flushed 9 t = ((cfg0.win 9).blk t).view.read (Elt Ideal) (R9 m c) := by
  have h3 := (flush0_9 t).mp hf
  rw [Value.flushed9]
  funext j
  idx_vars j
  obtain ⟨h0, h1⟩ := idx9 t
  rw [View.read_apply]
  refine (out9 m c t h3 j0 j1).trans ?_
  show R9 m c _ = R9 m c _
  refine congrArg (R9 m c) ?_
  funext a; apply Fin.ext
  match a with
  | ⟨0, _⟩ => show j0.val = win0_9.index t 0 * 3 + 1 * j0.val; rw [h0]; omega
  | ⟨1, _⟩ => show (jt t).val * 256 + j1.val = win0_9.index t 1 * 256 + 1 * j1.val; rw [h1]; unfold jt; dsimp only; omega

theorem final9 : (dats m 0 c).arrAt 9 cfg0.N = R9 m c :=
  (dats m 0 c).arrAt_eq_of_cover 9 (R9 m c) (flushed9_eq m c) fun i => by
    have hi0 : (i 0 : Nat) < 3 := (i 0).isLt
    have hi1 : (i 1 : Nat) < 2816 := (i 1).isLt
    have ht : (i 1).val / 256 * 4 + 3 < cfg0.N := lt_of_lt_of_eq (by omega) N_0.symm
    refine ⟨⟨(i 1).val / 256 * 4 + 3, ht⟩, (flush0_9 _).mpr (by dsimp only; omega), ?_⟩
    obtain ⟨h0, h1⟩ := idx9 ⟨(i 1).val / 256 * 4 + 3, ht⟩
    show i ∈ ((View.whole main_v33_2).slice (win0_9.rect ⟨(i 1).val / 256 * 4 + 3, ht⟩)).set
    rw [View.set_slice_whole, Rect.mem_set_unit]
    intro a
    match a with
    | ⟨0, _⟩ => show win0_9.index _ 0 * 3 ≤ (i 0 : Nat) ∧ (i 0 : Nat) < win0_9.index _ 0 * 3 + 3; rw [h0]; omega
    | ⟨1, _⟩ => show win0_9.index _ 1 * 256 ≤ (i 1 : Nat) ∧ (i 1 : Nat) < win0_9.index _ 1 * 256 + 256; rw [h1]; dsimp only; omega

/-- The gradient of the weights, second half. -/
def R10 : S3x2816.Idx → EReal := fun i => ∑ b : Fin 4, colsum (up (2 - (i 0).val) (KDV m c b (i 1))) (fun s => aU m c (ix3 b s (hi (i 1))))

theorem out10 (t : Fin cfg0.N) (h3 : t.val % 4 = 3) (k : Fin 3) (l : Fin 256) :
    (outsAt0 m c t.val t.isLt).2.2.2.1 (ix2 k l) = R10 m c (ix2 k (col (jt t) l)) := by
  refine acc4 (fun n h => (outsAt0 m c n h).2.2.2.1 (ix2 k l)) (fun b j => colsum (up (2 - k.val) (KDV m c b (col j l))) (fun s => aU m c (ix3 b s (hi (col j l))))) ?_ ?_ t h3
  · intro t h0
    match k with
    | ⟨0, _⟩ => exact (o10_A0 m c t h0 l).trans (by rw [DV_eq]; simp only [iblk1])
    | ⟨1, _⟩ => exact (o10_A1 m c t h0 l).trans (by rw [DV_eq]; simp only [iblk1])
    | ⟨2, _⟩ => exact (o10_A2 m c t h0 l).trans (by rw [DV_eq]; simp only [iblk1])
  · intro t h0
    match k with
    | ⟨0, _⟩ => exact (o10_B0 m c t h0 l).trans (by rw [DV_eq]; simp only [iblk1]; rfl)
    | ⟨1, _⟩ => exact (o10_B1 m c t h0 l).trans (by rw [DV_eq]; simp only [iblk1]; rfl)
    | ⟨2, _⟩ => exact (o10_B2 m c t h0 l).trans (by rw [DV_eq]; simp only [iblk1]; rfl)

theorem flushed10_eq (t : Fin cfg0.N) (hf : (cfg0.win 10).flush t = true) : (dats m 0 c).flushed 10 t = ((cfg0.win 10).blk t).view.read (Elt Ideal) (R10 m c) := by
  have h3 := (flush0_10 t).mp hf
  rw [Value.flushed10]
  funext j
  idx_vars j
  obtain ⟨h0, h1⟩ := idx10 t
  rw [View.read_apply]
  refine (out10 m c t h3 j0 j1).trans ?_
  show R10 m c _ = R10 m c _
  refine congrArg (R10 m c) ?_
  funext a; apply Fin.ext
  match a with
  | ⟨0, _⟩ => show j0.val = win0_10.index t 0 * 3 + 1 * j0.val; rw [h0]; omega
  | ⟨1, _⟩ => show (jt t).val * 256 + j1.val = win0_10.index t 1 * 256 + 1 * j1.val; rw [h1]; unfold jt; dsimp only; omega

theorem final10 : (dats m 0 c).arrAt 10 cfg0.N = R10 m c :=
  (dats m 0 c).arrAt_eq_of_cover 10 (R10 m c) (flushed10_eq m c) fun i => by
    have hi0 : (i 0 : Nat) < 3 := (i 0).isLt
    have hi1 : (i 1 : Nat) < 2816 := (i 1).isLt
    have ht : (i 1).val / 256 * 4 + 3 < cfg0.N := lt_of_lt_of_eq (by omega) N_0.symm
    refine ⟨⟨(i 1).val / 256 * 4 + 3, ht⟩, (flush0_10 _).mpr (by dsimp only; omega), ?_⟩
    obtain ⟨h0, h1⟩ := idx10 ⟨(i 1).val / 256 * 4 + 3, ht⟩
    show i ∈ ((View.whole main_v33_3).slice (win0_10.rect ⟨(i 1).val / 256 * 4 + 3, ht⟩)).set
    rw [View.set_slice_whole, Rect.mem_set_unit]
    intro a
    match a with
    | ⟨0, _⟩ => show win0_10.index _ 0 * 3 ≤ (i 0 : Nat) ∧ (i 0 : Nat) < win0_10.index _ 0 * 3 + 3; rw [h0]; omega
    | ⟨1, _⟩ => show win0_10.index _ 1 * 256 ≤ (i 1 : Nat) ∧ (i 1 : Nat) < win0_10.index _ 1 * 256 + 256; rw [h1]; dsimp only; omega

/-- The gradient of the bias, first half. -/
def R11 : S1x2816.Idx → EReal := fun i => ∑ b : Fin 4, ∑ s : Fin 2048, KDG m c b (i 1) s

theorem out11 (t : Fin cfg0.N) (h3 : t.val % 4 = 3) (l : Fin 256) :
    (outsAt0 m c t.val t.isLt).2.2.2.2.1 (ix2 0 l) = R11 m c (ix2 0 (col (jt t) l)) := by
  refine acc4 (fun n h => (outsAt0 m c n h).2.2.2.2.1 (ix2 0 l)) (fun b j => ∑ s : Fin 2048, KDG m c b (col j l) s) ?_ ?_ t h3
  · intro t h0
    exact (o11_A m c t h0 l).trans (by rw [DG_eq])
  · intro t h0
    exact (o11_B m c t h0 l).trans (by rw [DG_eq])

theorem flushed11_eq (t : Fin cfg0.N) (hf : (cfg0.win 11).flush t = true) : (dats m 0 c).flushed 11 t = ((cfg0.win 11).blk t).view.read (Elt Ideal) (R11 m c) := by
  have h3 := (flush0_11 t).mp hf
  rw [Value.flushed11]
  funext j
  idx_vars j
  obtain ⟨h0, h1⟩ := idx11 t
  rw [View.read_apply]
  have hz : j0 = 0 := Fin.ext (by have := j0.isLt; omega)
  subst hz
  refine (out11 m c t h3 j1).trans ?_
  show R11 m c _ = R11 m c _
  refine congrArg (R11 m c) ?_
  funext a; apply Fin.ext
  match a with
  | ⟨0, _⟩ => show 0 = win0_11.index t 0 * 1 + 1 * 0; rw [h0]
  | ⟨1, _⟩ => show (jt t).val * 256 + j1.val = win0_11.index t 1 * 256 + 1 * j1.val; rw [h1]; unfold jt; dsimp only; omega

theorem final11 : (dats m 0 c).arrAt 11 cfg0.N = R11 m c :=
  (dats m 0 c).arrAt_eq_of_cover 11 (R11 m c) (flushed11_eq m c) fun i => by
    have hi0 : (i 0 : Nat) < 1 := (i 0).isLt
    have hi1 : (i 1 : Nat) < 2816 := (i 1).isLt
    have ht : (i 1).val / 256 * 4 + 3 < cfg0.N := lt_of_lt_of_eq (by omega) N_0.symm
    refine ⟨⟨(i 1).val / 256 * 4 + 3, ht⟩, (flush0_11 _).mpr (by dsimp only; omega), ?_⟩
    obtain ⟨h0, h1⟩ := idx11 ⟨(i 1).val / 256 * 4 + 3, ht⟩
    show i ∈ ((View.whole main_v33_4).slice (win0_11.rect ⟨(i 1).val / 256 * 4 + 3, ht⟩)).set
    rw [View.set_slice_whole, Rect.mem_set_unit]
    intro a
    match a with
    | ⟨0, _⟩ => show win0_11.index _ 0 * 1 ≤ (i 0 : Nat) ∧ (i 0 : Nat) < win0_11.index _ 0 * 1 + 1; rw [h0]; omega
    | ⟨1, _⟩ => show win0_11.index _ 1 * 256 ≤ (i 1 : Nat) ∧ (i 1 : Nat) < win0_11.index _ 1 * 256 + 256; rw [h1]; dsimp only; omega

/-- The gradient of the bias, second half. -/
def R12 : S1x2816.Idx → EReal := fun i => ∑ b : Fin 4, ∑ s : Fin 2048, KDV m c b (i 1) s

theorem out12 (t : Fin cfg0.N) (h3 : t.val % 4 = 3) (l : Fin 256) :
    (outsAt0 m c t.val t.isLt).2.2.2.2.2 (ix2 0 l) = R12 m c (ix2 0 (col (jt t) l)) := by
  refine acc4 (fun n h => (outsAt0 m c n h).2.2.2.2.2 (ix2 0 l)) (fun b j => ∑ s : Fin 2048, KDV m c b (col j l) s) ?_ ?_ t h3
  · intro t h0
    exact (o12_A m c t h0 l).trans (by rw [DV_eq])
  · intro t h0
    exact (o12_B m c t h0 l).trans (by rw [DV_eq])

theorem flushed12_eq (t : Fin cfg0.N) (hf : (cfg0.win 12).flush t = true) : (dats m 0 c).flushed 12 t = ((cfg0.win 12).blk t).view.read (Elt Ideal) (R12 m c) := by
  have h3 := (flush0_12 t).mp hf
  rw [Value.flushed12]
  funext j
  idx_vars j
  obtain ⟨h0, h1⟩ := idx12 t
  rw [View.read_apply]
  have hz : j0 = 0 := Fin.ext (by have := j0.isLt; omega)
  subst hz
  refine (out12 m c t h3 j1).trans ?_
  show R12 m c _ = R12 m c _
  refine congrArg (R12 m c) ?_
  funext a; apply Fin.ext
  match a with
  | ⟨0, _⟩ => show 0 = win0_12.index t 0 * 1 + 1 * 0; rw [h0]
  | ⟨1, _⟩ => show (jt t).val * 256 + j1.val = win0_12.index t 1 * 256 + 1 * j1.val; rw [h1]; unfold jt; dsimp only; omega

theorem final12 : (dats m 0 c).arrAt 12 cfg0.N = R12 m c :=
  (dats m 0 c).arrAt_eq_of_cover 12 (R12 m c) (flushed12_eq m c) fun i => by
    have hi0 : (i 0 : Nat) < 1 := (i 0).isLt
    have hi1 : (i 1 : Nat) < 2816 := (i 1).isLt
    have ht : (i 1).val / 256 * 4 + 3 < cfg0.N := lt_of_lt_of_eq (by omega) N_0.symm
    refine ⟨⟨(i 1).val / 256 * 4 + 3, ht⟩, (flush0_12 _).mpr (by dsimp only; omega), ?_⟩
    obtain ⟨h0, h1⟩ := idx12 ⟨(i 1).val / 256 * 4 + 3, ht⟩
    show i ∈ ((View.whole main_v33_5).slice (win0_12.rect ⟨(i 1).val / 256 * 4 + 3, ht⟩)).set
    rw [View.set_slice_whole, Rect.mem_set_unit]
    intro a
    match a with
    | ⟨0, _⟩ => show win0_12.index _ 0 * 1 ≤ (i 0 : Nat) ∧ (i 0 : Nat) < win0_12.index _ 0 * 1 + 1; rw [h0]; omega
    | ⟨1, _⟩ => show win0_12.index _ 1 * 256 ≤ (i 1 : Nat) ∧ (i 1 : Nat) < win0_12.index _ 1 * 256 + 256; rw [h1]; dsimp only; omega

end Cert.GluIdeal.Hand
-- ==== Proof.GluAlg.lean ====
module

public import proofs.«01_k».proof.Proof.GluRef
public import proofs.«01_k».proof.Proof.GluVal
public import proofs.«01_k».proof.Proof.Gen.Pre_glu_finite
public import Idealize.ShloMosaic.Lib.ReduceAll

@[expose] public section

set_option maxRecDepth 16384

noncomputable section

namespace Cert.GluIdeal.Hand

open Idealize.ShloMosaic Idealize.ShloMosaic.TcCoe Idealize.SL.Sem
open Cert.GluRefIdeal.Hand (rdg rdv RD RW RD_lo RD_hi)

/-! ## Real elements -/

/-- An element that is a real number. -/
def IsR (x : EReal) : Prop := ∃ r : ℝ, x = (r : EReal)

theorem IsR.add {x y : EReal} (hx : IsR x) (hy : IsR y) : IsR (x + y) := by
  obtain ⟨a, rfl⟩ := hx; obtain ⟨b, rfl⟩ := hy; exact ⟨a + b, (EReal.coe_add a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

theorem isR_of_abs_lt {x : EReal} (h : FloatOps.cmpf (F := Ideal) (φ := .f32) CmpFPredicate.olt (FloatOps.hostAbsf (F := Ideal) (φ := .f32) x) (FloatOps.ofBits (F := Ideal) .f32 0x7F800000#32) = 1#1) : IsR x := by
  have htop : Ideal.ofBits .f32 0x7F800000#32 = ⊤ := by simp [Ideal.ofBits, Ideal.ieee]
  induction x using EReal.rec with
  | coe r => exact ⟨r, rfl⟩
  | bot => exfalso; revert h; pointwise; rw [htop, Ideal.absf_def]; simp
  | top => exfalso; revert h; pointwise; rw [htop, Ideal.absf_def]; simp

theorem pre_real {u : S4x2048x5632.Idx → EReal} {w : S3x5632.Idx → EReal} {bi : S5632.Idx → EReal}
    (hu : ∀ i, IsR (u i)) (hw : ∀ i, IsR (w i)) (hb : ∀ i, IsR (bi i)) (b : Fin 4) (s : Fin 2048) (f : Fin 5632) :
    IsR (pre u w bi b s f) := by
  have hP : ∀ n hn, IsR (P u b n hn f) := fun n hn => by
    unfold P; split
    · exact ⟨0, rfl⟩
    · exact hu _
  exact ((((hP _ _).mul (hw _)).add ((hP _ _).mul (hw _))).add ((hu _).mul (hw _))).add (hb _)

/-- The two forms of the gate's gradient agree on reals. -/
theorem rdg_eq {a v g : EReal} (ha : IsR a) (hv : IsR v) (hg : IsR g) : dgp a v g = rdg a v g := by
  obtain ⟨a, rfl⟩ := ha; obtain ⟨v, rfl⟩ := hv; obtain ⟨g, rfl⟩ := hg
  unfold dgp rdg dsil
  rw [Ideal.logistic_coe, ← EReal.coe_one]
  simp only [← EReal.coe_mul, ← EReal.coe_add, ← EReal.coe_sub]
  congr 1
  ring

/-- The two forms of the value's gradient agree. -/
theorem rdv_eq (a g : EReal) : dvp a g = rdv a g := by unfold dvp rdv sil; exact mul_comm _ _

/-- A column `n` rows later against another is the first against the second moved `n` rows up. -/
theorem shift_sum (n : ℕ) (D u : Fin 2048 → EReal) :
    ∑ s : Fin 2048, (if h : s.val < n then 0 else u ⟨s.val - n, by omega⟩) * D s = ∑ s : Fin 2048, up n D s * u s := by
  let F : ℕ → EReal := fun i => if h : n ≤ i ∧ i < 2048 then u ⟨i - n, by omega⟩ * D ⟨i, h.2⟩ else 0
  have hl : ∑ s : Fin 2048, (if h : s.val < n then 0 else u ⟨s.val - n, by omega⟩) * D s = ∑ i ∈ Finset.range 2048, F i := by
    rw [Finset.sum_range]
    refine Finset.sum_congr rfl fun s _ => ?_
    show _ = F s.val
    unfold F
    by_cases h : s.val < n
    · rw [dif_pos h, dif_neg (by omega), zero_mul]
    · rw [dif_neg h, dif_pos ⟨by omega, s.isLt⟩]
  have hr : ∑ s : Fin 2048, up n D s * u s = ∑ i ∈ Finset.range 2048, F (n + i) := by
    rw [Finset.sum_range]
    refine Finset.sum_congr rfl fun s _ => ?_
    show _ = F (n + s.val)
    unfold F up
    by_cases h : s.val + n < 2048
    · rw [dif_pos h, dif_pos ⟨by omega, by omega⟩, mul_comm]
      congr 2 <;> apply Fin.ext <;> dsimp only <;> omega
    · rw [dif_neg h, dif_neg (by omega), zero_mul]
  rw [hl, hr]
  have h1 : ∑ i ∈ Finset.range (n + 2048), F i = ∑ i ∈ Finset.range 2048, F (n + i) := by
    rw [Finset.sum_range_add, Finset.sum_eq_zero (s := Finset.range n), zero_add]
    intro i hi
    have := Finset.mem_range.mp hi
    exact dif_neg (by omega)
  have h2 : ∑ i ∈ Finset.range (2048 + n), F i = ∑ i ∈ Finset.range 2048, F i := by
    rw [Finset.sum_range_add, Finset.sum_eq_zero (s := Finset.range n), add_zero]
    intro i hi
    exact dif_neg (by omega)
  rw [← h1, ← h2, Nat.add_comm]

/-! ## The precondition -/

instance : Subsingleton Cert.Pre_glu_finite.S_.Idx := ⟨fun a b => funext fun i => i.elim0⟩

theorem finite_of_pre {x0 : S4x2048x5632.Idx → EReal} {x1 : S3x5632.Idx → EReal} {x2 : S5632.Idx → EReal} {x3 : S4x2048x2816.Idx → EReal}
    (h : Cert.Pre_glu_finite.fn (F := Ideal) x0 x1 x2 x3 = fun _ => 1#1) :
    (∀ i, IsR (x0 i)) ∧ (∀ i, IsR (x1 i)) ∧ (∀ i, IsR (x2 i)) ∧ (∀ i, IsR (x3 i)) := by
  have h0 := congrFun h (fun i => i.elim0)
  obtain ⟨h1, h3⟩ := IntOp.andi_eq_one.mp h0
  obtain ⟨h1, h2⟩ := IntOp.andi_eq_one.mp h1
  obtain ⟨ha, hb⟩ := IntOp.andi_eq_one.mp h1
  exact ⟨fun i => isR_of_abs_lt (Host.reduce_andi_all _ _ _ _ _ ha i), fun i => isR_of_abs_lt (Host.reduce_andi_all _ _ _ _ _ hb i),
    fun i => isR_of_abs_lt (Host.reduce_andi_all _ _ _ _ _ h2 i), fun i => isR_of_abs_lt (Host.reduce_andi_all _ _ _ _ _ h3 i)⟩

/-! ## The two programs' results -/

section
variable (m : (ℓ : Loc nD τ sig) → Buf (Elt Ideal) ℓ) (c : Dev nD)

variable (h0 : ∀ i, IsR (aU m c i)) (h1 : ∀ i, IsR (aW m c i)) (h2 : ∀ i, IsR (aB m c i)) (h3 : ∀ i, IsR (aD m c i))
include h0 h1 h2 h3

theorem KDG_eq (b : Fin 4) (f : Fin 2816) : KDG m c b f = RD (aU m c) (aW m c) (aB m c) (aD m c) b (lo f) := by
  funext s
  refine Eq.trans ?_ (RD_lo (aU m c) (aW m c) (aB m c) (aD m c) b s f).symm
  exact rdg_eq (h3 _) (pre_real h0 h1 h2 b s _) (pre_real h0 h1 h2 b s _)

omit h0 h1 h2 h3 in
theorem KDV_eq (b : Fin 4) (f : Fin 2816) : KDV m c b f = RD (aU m c) (aW m c) (aB m c) (aD m c) b (hi f) := by
  funext s
  refine Eq.trans ?_ (RD_hi (aU m c) (aW m c) (aB m c) (aD m c) b s f).symm
  exact rdv_eq _ _

omit h0 h1 h2 h3 in
theorem tconv_eq (w : Fin 3 → EReal) (D : Fin 2048 → EReal) (s : Fin 2048) :
    tconv w D s = D s * w 2 + up 1 D s * w 1 + up 2 D s * w 0 := by
  unfold tconv; rw [mul_comm (w 2), mul_comm (w 1), mul_comm (w 0)]

omit h0 h1 h2 h3 in
theorem colsum_eq (k : Fin 3) (u : S4x2048x5632.Idx → EReal) (D : Fin 2048 → EReal) (b : Fin 4) (f : Fin 5632) :
    colsum (up (2 - k.val) D) (fun s => u (ix3 b s f)) = ∑ s : Fin 2048, P u b (k.val + s.val) (by omega) f * D s := by
  unfold colsum
  refine (shift_sum (2 - k.val) D (fun s => u (ix3 b s f))).symm.trans (Finset.sum_congr rfl fun s _ => ?_)
  unfold P
  by_cases h : s.val < 2 - k.val
  · rw [dif_pos h, dif_pos (by omega)]
  · rw [dif_neg h, dif_neg (by omega)]
    have e : (⟨s.val - (2 - k.val), by omega⟩ : Fin 2048) = ⟨k.val + s.val - 2, by omega⟩ := Fin.ext (by show s.val - (2 - k.val) = k.val + s.val - 2; omega)
    rw [e]

theorem res7 : R7 m c = Cert.GluRefIdeal.Read.val_main_v73 (F := Ideal) (aU m c) (aW m c) (aB m c) (aD m c) := by
  funext i; idx_vars i
  rw [Cert.GluRefIdeal.Hand.v73_at, Cert.GluRefIdeal.Hand.v71_at]
  refine (tconv_eq _ _ _).trans ?_
  show KDG m c i0 i2 i1 * aW m c (ix2 2 (lo i2)) + up 1 (KDG m c i0 i2) i1 * aW m c (ix2 1 (lo i2)) + up 2 (KDG m c i0 i2) i1 * aW m c (ix2 0 (lo i2)) = _
  rw [KDG_eq m c h0 h1 h2 h3]
  rfl

omit h0 h1 h2 h3 in
theorem res8 : R8 m c = Cert.GluRefIdeal.Read.val_main_v75 (F := Ideal) (aU m c) (aW m c) (aB m c) (aD m c) := by
  funext i; idx_vars i
  rw [Cert.GluRefIdeal.Hand.v75_at, Cert.GluRefIdeal.Hand.v71_at]
  refine (tconv_eq _ _ _).trans ?_
  show KDV m c i0 i2 i1 * aW m c (ix2 2 (hi i2)) + up 1 (KDV m c i0 i2) i1 * aW m c (ix2 1 (hi i2)) + up 2 (KDV m c i0 i2) i1 * aW m c (ix2 0 (hi i2)) = _
  rw [KDV_eq m c]
  rfl

theorem res9 : R9 m c = Cert.GluRefIdeal.Read.val_main_v76 (F := Ideal) (aU m c) (aW m c) (aB m c) (aD m c) := by
  funext i; idx_vars i
  rw [Cert.GluRefIdeal.Hand.v76_at]
  unfold RW
  refine Finset.sum_congr rfl fun b _ => ?_
  refine (colsum_eq _ _ _ b _).trans ?_
  show (∑ s : Fin 2048, P (aU m c) b (i0.val + s.val) (by omega) (lo i1) * KDG m c b i1 s) = _
  rw [KDG_eq m c h0 h1 h2 h3]
  rfl

omit h0 h1 h2 h3 in
theorem res10 : R10 m c = Cert.GluRefIdeal.Read.val_main_v77 (F := Ideal) (aU m c) (aW m c) (aB m c) (aD m c) := by
  funext i; idx_vars i
  rw [Cert.GluRefIdeal.Hand.v77_at]
  unfold RW
  refine Finset.sum_congr rfl fun b _ => ?_
  refine (colsum_eq _ _ _ b _).trans ?_
  show (∑ s : Fin 2048, P (aU m c) b (i0.val + s.val) (by omega) (hi i1) * KDV m c b i1 s) = _
  rw [KDV_eq m c]
  rfl

theorem res11 : R11 m c = Cert.GluRefIdeal.Read.val_main_v79 (F := Ideal) (aU m c) (aW m c) (aB m c) (aD m c) := by
  funext i; idx_vars i
  obtain rfl : i0 = 0 := Subsingleton.elim _ _
  rw [Cert.GluRefIdeal.Hand.v79_at]
  refine Finset.sum_congr rfl fun b _ => ?_
  show (∑ s : Fin 2048, KDG m c b i1 s) = _
  rw [KDG_eq m c h0 h1 h2 h3]
  rfl

omit h0 h1 h2 h3 in
theorem res12 : R12 m c = Cert.GluRefIdeal.Read.val_main_v81 (F := Ideal) (aU m c) (aW m c) (aB m c) (aD m c) := by
  funext i; idx_vars i
  obtain rfl : i0 = 0 := Subsingleton.elim _ _
  rw [Cert.GluRefIdeal.Hand.v81_at]
  refine Finset.sum_congr rfl fun b _ => ?_
  show (∑ s : Fin 2048, KDV m c b i1 s) = _
  rw [KDV_eq m c]
  rfl
end

end Cert.GluIdeal.Hand
-- ==== Proof.AttnKit.lean ====
module

public import proofs.«01_k».proof.Proof.Gen.AttnIdeal.Frame
public import proofs.«01_k».proof.Proof.Gen.AttnIdeal.Skeleton

@[expose] public section

set_option maxRecDepth 16384

noncomputable section

namespace Cert.AttnIdeal.Att

open Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- Writing @main up to its one region, with the bookkeeping of the kernel's own copies. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- The point is the first of its (batch, head group) pair. -/
abbrev condFirst (i : grid0.Coords) : Prop := Scalar.cmpi .ne (Scalar.extui (Scalar.cmpi .eq (BitVec.ofNat 32 (i 2).val) 0#32) : BitVec 32) 0#32 = 1#1

/-- The point lies on the diagonal. -/
abbrev condDiag (i : grid0.Coords) : Prop := k0_cond4 i = 1#1

/-- The result left in HBM that the body's own copies write, whole. -/
abbrev hbM : Memref sig .tc .hbm S4x2048x2048 .bf16 := Memref.whole main_v0_3

/-- The contents of a memref's buffer on core `c`. -/
abbrev HbBuf (c : Dev nD) {sp : Space} {S : Shape} {e : EltTy} (M : Memref sig .tc sp S e) : Type := Buf (Elt F) (M.view.loc (c : Thread nD τ))

/-- A memref's buffer on core `c`, held whole at `f`. -/
abbrev hbPt (c : Dev nD) {sp : Space} {S : Shape} {e : EltTy} (M : Memref sig .tc sp S e) (f : HbBuf (F := F) c M) : sProp 𝕄 :=
  M.view.loc (c : Thread nD τ) ↦{fullShare} f

/-- The first row of the query block the point works on, in the query accumulator. -/
def rowOff (i : grid0.Coords) : ℕ := k0_off1 i 1

theorem off1_eq : ∀ i : grid0.Coords, k0_off1 i = ![0, rowOff i, 0] := by decide +kernel
instance (i : grid0.Coords) : ClosedOff (k0_off1 i) := ⟨![0, rowOff i, 0], off1_eq i⟩
theorem off2_eq : ∀ i : grid0.Coords, k0_off2 i = ![1, rowOff i, 0] := by decide +kernel
instance (i : grid0.Coords) : ClosedOff (k0_off2 i) := ⟨![1, rowOff i, 0], off2_eq i⟩
theorem off3_eq : ∀ i : grid0.Coords, k0_off3 i = ![2, rowOff i, 0] := by decide +kernel
instance (i : grid0.Coords) : ClosedOff (k0_off3 i) := ⟨![2, rowOff i, 0], off3_eq i⟩
theorem off4_eq : ∀ i : grid0.Coords, k0_off4 i = ![3, rowOff i, 0] := by decide +kernel
instance (i : grid0.Coords) : ClosedOff (k0_off4 i) := ⟨![3, rowOff i, 0], off4_eq i⟩
theorem off5_eq : ∀ i : grid0.Coords, k0_off5 i = ![0, rowOff i, 0] := by decide +kernel
instance (i : grid0.Coords) : ClosedOff (k0_off5 i) := ⟨![0, rowOff i, 0], off5_eq i⟩
theorem off6_eq : ∀ i : grid0.Coords, k0_off6 i = ![1, rowOff i, 0] := by decide +kernel
instance (i : grid0.Coords) : ClosedOff (k0_off6 i) := ⟨![1, rowOff i, 0], off6_eq i⟩
theorem off7_eq : ∀ i : grid0.Coords, k0_off7 i = ![2, rowOff i, 0] := by decide +kernel
instance (i : grid0.Coords) : ClosedOff (k0_off7 i) := ⟨![2, rowOff i, 0], off7_eq i⟩
theorem off8_eq : ∀ i : grid0.Coords, k0_off8 i = ![3, rowOff i, 0] := by decide +kernel
instance (i : grid0.Coords) : ClosedOff (k0_off8 i) := ⟨![3, rowOff i, 0], off8_eq i⟩

end Cert.AttnIdeal.Att

end
-- ==== Proof.AttnRunOff.lean ====
module

public import proofs.«01_k».proof.Proof.AttnKit

@[expose] public section

set_option maxRecDepth 16384

noncomputable section

namespace Cert.AttnIdeal.Att

open Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

set_option backward.proofsInPublic true in
set_option maxHeartbeats 4000000 in
set_option sl_exec.closedPieces true in
/-- What the body does at a point above the diagonal (its query block lies after its key block): with the inputs at their blocks, the two accumulators at what the points before left and the query accumulator at anything, it leaves the pieces `LK` and `LV` written over the two accumulators and, at the last query block, `L0`–`L2` over the three results. -/
noncomputable def runOff (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole) (arg6 : Memref sig .tc .vmem S1x512x512 .f32) (harg6 : arg6.IsWhole) (arg7 : Memref sig .tc .vmem S1x4x1x512 .f32) (harg7 : arg7.IsWhole) (arg8 : Memref sig .tc .vmem S1x4x1x512 .f32) (harg8 : arg8.IsWhole) (arg9 : Memref sig .tc .vmem S1x512x128 .f32) (harg9 : arg9.IsWhole) (arg10 : Memref sig .tc .vmem S1x512x128 .f32) (harg10 : arg10.IsWhole) (arg11 : Memref sig .tc .vmem S1x512x512 .bf16) (harg11 : arg11.IsWhole) (arg12 : Memref sig .tc .vmem S1x512x512 .bf16) (harg12 : arg12.IsWhole) (arg13 : Memref sig .tc .vmem S1x512x128 .f32) (harg13 : arg13.IsWhole) (arg15 : Memref sig .tc .vmem S4x512x256 .f32) (harg15 : arg15.IsWhole) (arg16 : Memref sig .tc .vmem S4x512x128 .f32) (harg16 : arg16.IsWhole) (arg17 : Memref sig .tc .vmem S4x2048x256 .f32) (harg17 : arg17.IsWhole) (arg18 : Memref sig .tc .vmem S4x512x256 .bf16) (harg18 : arg18.IsWhole)
    (hc1 : ¬condFirst i) (hc2 : ¬condDiag i) (hc3 : k0_cond3 i = 1#1) (hc4 : ¬k0_cond4 i = 1#1)
    (x0 : Vec F S1x512x1024 .bf16) (x1 : Vec F S1x512x1024 .bf16) (x2 : Vec F S1x512x512 .bf16) (x3 : Vec F S1x512x512 .f32) (x4 : Vec F S1x4x1x512 .f32) (x5 : Vec F S1x4x1x512 .f32) (x6 : Vec F S1x512x128 .f32) (x7 : Vec F S1x512x128 .f32) (y0 : Vec F S1x512x512 .bf16) (y1 : Vec F S1x512x512 .bf16) (y2 : Vec F S1x512x128 .f32) (xk : Vec F S4x512x256 .f32) (xv : Vec F S4x512x128 .f32) :
    Σ' (LK : List (View.Piece (Elt F) S4x512x256 .f32)), Σ' (LV : List (View.Piece (Elt F) S4x512x128 .f32)), Σ' (L0 : List (View.Piece (Elt F) S1x512x512 .bf16)), Σ' (L1 : List (View.Piece (Elt F) S1x512x512 .bf16)), { L2 : List (View.Piece (Elt F) S1x512x128 .f32) //
      ∀ (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare y0 ∗ owns (c : Thread nD τ) arg12 fullShare y1 ∗ owns (c : Thread nD τ) arg13 fullShare y2 ∗ owns (c : Thread nD τ) arg15 fullShare xk ∗ owns (c : Thread nD τ) arg16 fullShare xv ∗ (∃ d, owns (c : Thread nD τ) arg17 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (arg11.view.loc (c : Thread nD τ) ↦[arg11.view.set]{fullShare} (if k0_cond5 i = 1#1 then arg11.view.writes (Elt F) (harg11.unread y0) L0 else harg11.unread y0)) ∗ (arg12.view.loc (c : Thread nD τ) ↦[arg12.view.set]{fullShare} (if k0_cond5 i = 1#1 then arg12.view.writes (Elt F) (harg12.unread y1) L1 else harg12.unread y1)) ∗ (arg13.view.loc (c : Thread nD τ) ↦[arg13.view.set]{fullShare} (if k0_cond5 i = 1#1 then arg13.view.writes (Elt F) (harg13.unread y2) L2 else harg13.unread y2)) ∗ (arg15.view.loc (c : Thread nD τ) ↦[arg15.view.set]{fullShare} arg15.view.writes (Elt F) (harg15.unread xk) LK) ∗ (arg16.view.loc (c : Thread nD τ) ↦[arg16.view.set]{fullShare} arg16.view.writes (Elt F) (harg16.unread xv) LV) ∗ (∃ d, owns (c : Thread nD τ) arg17 fullShare d)) -∗ K ⟨⟩))
          ⊢ wp frame (wpE (defs₀ (F := F)) Variants.none c none) Set.univ (cc0_attn_bwd i arg3 harg3 arg4 harg4 arg5 harg5 arg6 harg6 arg7 harg7 arg8 harg8 arg9 harg9 arg10 harg10 arg11 harg11 arg12 harg12 arg13 harg13 (Memref.whole main_v0_3) (Memref.isWhole_whole _) arg15 harg15 arg16 harg16 arg17 harg17 arg18 harg18 cc0_scratch4) K } := by
  refine ⟨?_, ?_, ?_, ?_, ?_, fun K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%g0, %hg0, G0⟩, ⟨%g1, %hg1, G1⟩, ⟨%g2, %hg2, G2⟩, ⟨%fk, %hfk, HK⟩, ⟨%fv, %hfv, HV⟩, ⟨%dq, %fq, -, HQ⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hg0; obtain rfl := harg12.eq_unread hg1; obtain rfl := harg13.eq_unread hg2; obtain rfl := harg15.eq_unread hfk; obtain rfl := harg16.eq_unread hfv
    by_cases hc5 : k0_cond5 i = 1#1
    on_goal 1 => rw [if_pos hc5, if_pos hc5, if_pos hc5]
    on_goal 2 => rw [if_neg hc5, if_neg hc5, if_neg hc5]
    all_goals
      sl_exec (disch := first | sl_exact hc1 | sl_exact hc2 | sl_exact hc3 | sl_exact hc4 | sl_exact hc5)
      sl_step
      iapply Hk
      isplitl [H0]
      · iexists _; isplitr; · ipureintro; exact harg3.read_unread _
        iexact H0
      isplitl [H1]
      · iexists _; isplitr; · ipureintro; exact harg4.read_unread _
        iexact H1
      isplitl [H2]
      · iexists _; isplitr; · ipureintro; exact harg5.read_unread _
        iexact H2
      isplitl [H3]
      · iexists _; isplitr; · ipureintro; exact harg6.read_unread _
        iexact H3
      isplitl [H4]
      · iexists _; isplitr; · ipureintro; exact harg7.read_unread _
        iexact H4
      isplitl [H5]
      · iexists _; isplitr; · ipureintro; exact harg8.read_unread _
        iexact H5
      isplitl [H6]
      · iexists _; isplitr; · ipureintro; exact harg9.read_unread _
        iexact H6
      isplitl [H7]
      · iexists _; isplitr; · ipureintro; exact harg10.read_unread _
        iexact H7
      isplitl [G0]; · iexact G0
      isplitl [G1]; · iexact G1
      isplitl [G2]; · iexact G2
      isplitl [HK]; · iexact HK
      isplitl [HV]; · iexact HV
      iexists _, _; isplitr; swap; · iexact HQ
      ipureintro; rfl

end Cert.AttnIdeal.Att

end
-- ==== Proof.AttnRunDiag.lean ====
module

public import proofs.«01_k».proof.Proof.AttnKit

@[expose] public section

set_option maxRecDepth 16384

noncomputable section

namespace Cert.AttnIdeal.Att

open Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

set_option backward.proofsInPublic true in
set_option maxHeartbeats 4000000 in
set_option sl_exec.closedPieces true in
set_option sl_exec.dmaWindow true in
set_option sl_exec.dmaWindowSet true in
/-- What the body does at a point on the diagonal: it zeroes the two accumulators, adds the masked products, sends the finished query block out by its own copies, each waited for, and leaves the accumulators at the pieces `LK` and `LV` whatever they held. -/
noncomputable def runDiag (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole) (arg6 : Memref sig .tc .vmem S1x512x512 .f32) (harg6 : arg6.IsWhole) (arg7 : Memref sig .tc .vmem S1x4x1x512 .f32) (harg7 : arg7.IsWhole) (arg8 : Memref sig .tc .vmem S1x4x1x512 .f32) (harg8 : arg8.IsWhole) (arg9 : Memref sig .tc .vmem S1x512x128 .f32) (harg9 : arg9.IsWhole) (arg10 : Memref sig .tc .vmem S1x512x128 .f32) (harg10 : arg10.IsWhole) (arg11 : Memref sig .tc .vmem S1x512x512 .bf16) (harg11 : arg11.IsWhole) (arg12 : Memref sig .tc .vmem S1x512x512 .bf16) (harg12 : arg12.IsWhole) (arg13 : Memref sig .tc .vmem S1x512x128 .f32) (harg13 : arg13.IsWhole) (arg15 : Memref sig .tc .vmem S4x512x256 .f32) (harg15 : arg15.IsWhole) (arg16 : Memref sig .tc .vmem S4x512x128 .f32) (harg16 : arg16.IsWhole) (arg17 : Memref sig .tc .vmem S4x2048x256 .f32) (harg17 : arg17.IsWhole) (arg18 : Memref sig .tc .vmem S4x512x256 .bf16) (harg18 : arg18.IsWhole)
    (hx : ¬(condFirst i ∧ k0_cond5 i = 1#1)) (hc2 : condDiag i) (hc3 : ¬k0_cond3 i = 1#1) (hc4 : k0_cond4 i = 1#1)
    (x0 : Vec F S1x512x1024 .bf16) (x1 : Vec F S1x512x1024 .bf16) (x2 : Vec F S1x512x512 .bf16) (x3 : Vec F S1x512x512 .f32) (x4 : Vec F S1x4x1x512 .f32) (x5 : Vec F S1x4x1x512 .f32) (x6 : Vec F S1x512x128 .f32) (x7 : Vec F S1x512x128 .f32) (y0 : Vec F S1x512x512 .bf16) (y1 : Vec F S1x512x512 .bf16) (y2 : Vec F S1x512x128 .f32) (xk : Vec F S4x512x256 .f32) (xv : Vec F S4x512x128 .f32) :
    Σ' (LK : List (View.Piece (Elt F) S4x512x256 .f32)), Σ' (LV : List (View.Piece (Elt F) S4x512x128 .f32)), Σ' (L0 : List (View.Piece (Elt F) S1x512x512 .bf16)), Σ' (L1 : List (View.Piece (Elt F) S1x512x512 .bf16)), { L2 : List (View.Piece (Elt F) S1x512x128 .f32) //
      ∀ (W : Waits sig Unit) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare y0 ∗ owns (c : Thread nD τ) arg12 fullShare y1 ∗ owns (c : Thread nD τ) arg13 fullShare y2 ∗ owns (c : Thread nD τ) arg15 fullShare xk ∗ owns (c : Thread nD τ) arg16 fullShare xv ∗ (∃ d, owns (c : Thread nD τ) arg17 fullShare d) ∗ (∃ d, owns (c : Thread nD τ) arg18 fullShare d) ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ (∃ f, hbPt c hbM f) ∗ owes (c : Thread nD τ) 0 W
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (arg11.view.loc (c : Thread nD τ) ↦[arg11.view.set]{fullShare} (if k0_cond5 i = 1#1 then arg11.view.writes (Elt F) (harg11.unread y0) L0 else harg11.unread y0)) ∗ (arg12.view.loc (c : Thread nD τ) ↦[arg12.view.set]{fullShare} (if k0_cond5 i = 1#1 then arg12.view.writes (Elt F) (harg12.unread y1) L1 else harg12.unread y1)) ∗ (arg13.view.loc (c : Thread nD τ) ↦[arg13.view.set]{fullShare} (if k0_cond5 i = 1#1 then arg13.view.writes (Elt F) (harg13.unread y2) L2 else harg13.unread y2)) ∗ (arg15.view.loc (c : Thread nD τ) ↦[arg15.view.set]{fullShare} arg15.view.writes (Elt F) (harg15.unread xk) LK) ∗ (arg16.view.loc (c : Thread nD τ) ↦[arg16.view.set]{fullShare} arg16.view.writes (Elt F) (harg16.unread xv) LV) ∗ (∃ d, owns (c : Thread nD τ) arg17 fullShare d) ∗ (∃ d, owns (c : Thread nD τ) arg18 fullShare d) ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ (∃ f, hbPt c hbM f) ∗ (∃ W', owes (c : Thread nD τ) 0 W')) -∗ K ⟨⟩))
          ⊢ wp frame (wpE (defs₀ (F := F)) Variants.none c none) Set.univ (cc0_attn_bwd i arg3 harg3 arg4 harg4 arg5 harg5 arg6 harg6 arg7 harg7 arg8 harg8 arg9 harg9 arg10 harg10 arg11 harg11 arg12 harg12 arg13 harg13 (Memref.whole main_v0_3) (Memref.isWhole_whole _) arg15 harg15 arg16 harg16 arg17 harg17 arg18 harg18 cc0_scratch4) K } := by
  refine ⟨?_, ?_, ?_, ?_, ?_, fun W K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%g0, %hg0, G0⟩, ⟨%g1, %hg1, G1⟩, ⟨%g2, %hg2, G2⟩, ⟨%fk, %hfk, HK⟩, ⟨%fv, %hfv, HV⟩, ⟨%dq, %fq, -, HQ⟩, ⟨%ds, %fs, -, HS⟩, Hq0, Hq1, Hq2, Hq3, ⟨%fw, Hh⟩, HW, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hg0; obtain rfl := harg12.eq_unread hg1; obtain rfl := harg13.eq_unread hg2; obtain rfl := harg15.eq_unread hfk; obtain rfl := harg16.eq_unread hfv
    by_cases hc5 : k0_cond5 i = 1#1
    on_goal 1 => have hc1 : ¬condFirst i := fun h => hx ⟨h, hc5⟩
    on_goal 1 => rw [if_pos hc5, if_pos hc5, if_pos hc5]
    on_goal 2 => rw [if_neg hc5, if_neg hc5, if_neg hc5]
    on_goal 2 => by_cases hc1 : condFirst i
    all_goals
      sl_exec (disch := first | sl_exact hc1 | sl_exact hc2 | sl_exact hc3 | sl_exact hc4 | sl_exact hc5)
      sl_step
      iapply Hk
      isplitl [H0]
      · iexists _; isplitr; · ipureintro; exact harg3.read_unread _
        iexact H0
      isplitl [H1]
      · iexists _; isplitr; · ipureintro; exact harg4.read_unread _
        iexact H1
      isplitl [H2]
      · iexists _; isplitr; · ipureintro; exact harg5.read_unread _
        iexact H2
      isplitl [H3]
      · iexists _; isplitr; · ipureintro; exact harg6.read_unread _
        iexact H3
      isplitl [H4]
      · iexists _; isplitr; · ipureintro; exact harg7.read_unread _
        iexact H4
      isplitl [H5]
      · iexists _; isplitr; · ipureintro; exact harg8.read_unread _
        iexact H5
      isplitl [H6]
      · iexists _; isplitr; · ipureintro; exact harg9.read_unread _
        iexact H6
      isplitl [H7]
      · iexists _; isplitr; · ipureintro; exact harg10.read_unread _
        iexact H7
      isplitl [G0]; · iexact G0
      isplitl [G1]; · iexact G1
      isplitl [G2]; · iexact G2
      isplitl [HK]; · iexact HK
      isplitl [HV]; · iexact HV
      isplitl [HQ]
      · iexists _, _; isplitr; swap; · iexact HQ
        ipureintro; rfl
      isplitl [HS]
      · iexists _, _; isplitr; swap; · iexact HS
        ipureintro; rfl
      isplitl [Hq0]; · iexact Hq0
      isplitl [Hq1]; · iexact Hq1
      isplitl [Hq2]; · iexact Hq2
      isplitl [Hq3]; · iexact Hq3
      isplitl [Hh]; · iexists _; iexact Hh
      iexists _; iexact HW

end Cert.AttnIdeal.Att

end
-- ==== Proof.AttnFrame.lean ====
module

public import proofs.«01_k».proof.Proof.AttnRunOff
public import proofs.«01_k».proof.Proof.AttnRunDiag
public import Idealize.ShloMosaic.Lib.Claim

@[expose] public section

set_option maxRecDepth 16384

noncomputable section

namespace Cert.AttnIdeal.Att

open Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## The staging buffers, the kernel's own memory, and the launch's invariant -/

abbrev ms0 (t : Fin cfg0.N) : Memref sig .tc .vmem S1x512x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512x512 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x4x1x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x4x1x512 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x512x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x512x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x512x512 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x512x512 .bf16 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x512x128 .f32 := win0_10.stage (cfg0.slots t 10)
abbrev hs10 (t : Fin cfg0.N) : (ms10 t).IsWhole := hstage0_10 ((cfg0.slots t 10).cast nbuf0_10)

/-- The row accumulator of the key gradient. -/
abbrev scK : Memref sig .tc .vmem S4x512x256 .f32 := Memref.whole cc0_scratch0
/-- The row accumulator of the value gradient. -/
abbrev scV : Memref sig .tc .vmem S4x512x128 .f32 := Memref.whole cc0_scratch1
/-- The buffer the query gradient's rows are staged in. -/
abbrev scQ := Memref.whole cc0_scratch2
/-- The buffer the query gradient's rows are sent from. -/
abbrev scS := Memref.whole cc0_scratch3

abbrev osem0 : Fin 4 → SemLoc sig := fun j => (![SemLoc.dma 22, SemLoc.dma 23, SemLoc.dma 24, SemLoc.dma 25] : Fin 4 → SemLoc sig) j
theorem ownSemFacts0 : Pipeline.OwnSemFacts spec0 osem0 := by decide

/-- The kernel's own counters, all at zero. -/
abbrev semsZ (c : Dev nD) : sProp 𝕄 :=
  iprop(semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0)

theorem ownSems0_list (c : Dev nD) :
    (Pipeline.ownSems0 (Ix := Unit) (Name := ℕ) (U := Pipeline.UD sig nD τ) (Lvl := ℕ) (Val := Elt F) (τ := τ) osem0 c : sProp 𝕄) = semsZ c := by
  rw [Pipeline.ownSems0_eq_of_list c osem0 [0, 1, 2, 3] (by decide) (by decide)]; rfl

def H0 : Finset (Ref sig .tc) := {}
def R0 : Finset (Ref sig .tc) := {main_v0_3}
theorem H0_sub : H0 ⊆ Pipeline.restRefs sig spec0 := by decide
theorem R0_sub : R0 ⊆ Pipeline.restRefs sig spec0 \ H0 := by decide

theorem hbmRead_list (c : Dev nD) :
    (bigSep H0 (fun b => ((c : Thread nD τ).loc b) ↦{fullShare} V m c b) : sProp 𝕄) = iprop(emp) := by
  rw [BI.bigSep_eq_bigSepL_of_eq [] (by decide) (by decide)]; rfl
theorem hbmOwned_list (c : Dev nD) :
    (Pipeline.owned R0 c : sProp 𝕄) = iprop(∃ f, hbPt (F := F) c hbM f) := by
  unfold Pipeline.owned; rw [BI.bigSep_eq_bigSepL_of_eq [main_v0_3] (by decide) (by decide)]; rfl

/-- The launch's invariant, conjunct by conjunct. -/
theorem launch_inv (c : Dev nD) :
    (Pipeline.ΦDR osem0 spec0 H0 R0 (V m) c : sProp 𝕄)
      = iprop(iprop((∃ d, owns (c : Thread nD τ) scK fullShare d) ∗ (∃ d, owns (c : Thread nD τ) scV fullShare d) ∗ (∃ d, owns (c : Thread nD τ) scQ fullShare d) ∗ (∃ d, owns (c : Thread nD τ) scS fullShare d))
        ∗ (∃ r, prngReg c r) ∗ semsZ c ∗ iprop(emp) ∗ iprop(∃ f, hbPt (F := F) c hbM f)) := by
  rw [Pipeline.ΦDR_eq, scopedRest0_eq, ownSems0_list, hbmRead_list, hbmOwned_list]; simp only [scK, scV, scQ, scS, owns_whole]; try rfl

/-! ## Which points do what -/

theorem off_facts : ∀ t : Fin cfg0.N, ¬condDiag (grid0.coords t) → ¬condFirst (grid0.coords t) ∧ k0_cond3 (grid0.coords t) = 1#1 :=
  (by decide +kernel : ∀ t : Fin grid0.N, ¬condDiag (grid0.coords t) → ¬condFirst (grid0.coords t) ∧ k0_cond3 (grid0.coords t) = 1#1)
theorem diag_facts : ∀ t : Fin cfg0.N, condDiag (grid0.coords t) → ¬(condFirst (grid0.coords t) ∧ k0_cond5 (grid0.coords t) = 1#1) ∧ ¬k0_cond3 (grid0.coords t) = 1#1 :=
  (by decide +kernel : ∀ t : Fin grid0.N, condDiag (grid0.coords t) → ¬(condFirst (grid0.coords t) ∧ k0_cond5 (grid0.coords t) = 1#1) ∧ ¬k0_cond3 (grid0.coords t) = 1#1)
theorem first_diag : ∀ t : Fin cfg0.N, t.val = 0 → condDiag (grid0.coords t) :=
  (by decide +kernel : ∀ t : Fin grid0.N, t.val = 0 → condDiag (grid0.coords t))

theorem flush8 : ∀ t : Fin cfg0.N, ¬k0_cond5 (grid0.coords t) = 1#1 → (cfg0.win 8).flush t = false :=
  (by decide +kernel : ∀ t : Fin grid0.N, ¬k0_cond5 (grid0.coords t) = 1#1 → win0_8.flush t = false)
theorem idle8 (i : grid0.Coords) : cfg0.idle 8 i = !(k0_cond5 i == 1#1) := rfl
theorem flush9 : ∀ t : Fin cfg0.N, ¬k0_cond5 (grid0.coords t) = 1#1 → (cfg0.win 9).flush t = false :=
  (by decide +kernel : ∀ t : Fin grid0.N, ¬k0_cond5 (grid0.coords t) = 1#1 → win0_9.flush t = false)
theorem idle9 (i : grid0.Coords) : cfg0.idle 9 i = !(k0_cond5 i == 1#1) := rfl
theorem flush10 : ∀ t : Fin cfg0.N, ¬k0_cond5 (grid0.coords t) = 1#1 → (cfg0.win 10).flush t = false :=
  (by decide +kernel : ∀ t : Fin grid0.N, ¬k0_cond5 (grid0.coords t) = 1#1 → win0_10.flush t = false)
theorem idle10 (i : grid0.Coords) : cfg0.idle 10 i = !(k0_cond5 i == 1#1) := rfl

/-! ## What a point computes -/

/-- What a point writes: into the two accumulators and into the three results. -/
structure Pcs (F : FTy → Type) where
  LK : List (View.Piece (Elt F) S4x512x256 .f32)
  LV : List (View.Piece (Elt F) S4x512x128 .f32)
  L0 : List (View.Piece (Elt F) S1x512x512 .bf16)
  L1 : List (View.Piece (Elt F) S1x512x512 .bf16)
  L2 : List (View.Piece (Elt F) S1x512x128 .f32)

/-- The run at a point below the diagonal, on that point's buffers and blocks. -/
abbrev runOffAt (c : Dev nD) (t : Fin cfg0.N) (hd : ¬condDiag (grid0.coords t)) (y0 y1 : Vec F S1x512x512 .bf16) (y2 : Vec F S1x512x128 .f32) (xk : Vec F S4x512x256 .f32) (xv : Vec F S4x512x128 .f32) :=
  runOff c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (Memref.whole cc0_scratch0) (Memref.isWhole_whole _) (Memref.whole cc0_scratch1) (Memref.isWhole_whole _) (Memref.whole cc0_scratch2) (Memref.isWhole_whole _) (Memref.whole cc0_scratch3) (Memref.isWhole_whole _) (off_facts t hd).1 hd (off_facts t hd).2 hd (iblk m c 0 t) (iblk m c 1 t) (iblk m c 2 t) (iblk m c 3 t) (iblk m c 4 t) (iblk m c 5 t) (iblk m c 6 t) (iblk m c 7 t) y0 y1 y2 xk xv

/-- The run at a point on the diagonal, on that point's buffers and blocks. -/
abbrev runDiagAt (c : Dev nD) (t : Fin cfg0.N) (hd : condDiag (grid0.coords t)) (y0 y1 : Vec F S1x512x512 .bf16) (y2 : Vec F S1x512x128 .f32) (xk : Vec F S4x512x256 .f32) (xv : Vec F S4x512x128 .f32) :=
  runDiag c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (Memref.whole cc0_scratch0) (Memref.isWhole_whole _) (Memref.whole cc0_scratch1) (Memref.isWhole_whole _) (Memref.whole cc0_scratch2) (Memref.isWhole_whole _) (Memref.whole cc0_scratch3) (Memref.isWhole_whole _) (diag_facts t hd).1 hd (diag_facts t hd).2 hd (iblk m c 0 t) (iblk m c 1 t) (iblk m c 2 t) (iblk m c 3 t) (iblk m c 4 t) (iblk m c 5 t) (iblk m c 6 t) (iblk m c 7 t) y0 y1 y2 xk xv

/-- What a point below the diagonal writes, of the accumulators it finds. -/
def pcsOff (c : Dev nD) (t : Fin cfg0.N) (hd : ¬condDiag (grid0.coords t)) (xk : Vec F S4x512x256 .f32) (xv : Vec F S4x512x128 .f32) : Pcs F :=
  ⟨(runOffAt m c t hd (iblk m c 2 t) (iblk m c 2 t) (iblk m c 6 t) xk xv).1, (runOffAt m c t hd (iblk m c 2 t) (iblk m c 2 t) (iblk m c 6 t) xk xv).2.1, (runOffAt m c t hd (iblk m c 2 t) (iblk m c 2 t) (iblk m c 6 t) xk xv).2.2.1, (runOffAt m c t hd (iblk m c 2 t) (iblk m c 2 t) (iblk m c 6 t) xk xv).2.2.2.1, (runOffAt m c t hd (iblk m c 2 t) (iblk m c 2 t) (iblk m c 6 t) xk xv).2.2.2.2.1⟩

/-- What a point on the diagonal writes, of the accumulators it finds. -/
def pcsDiag (c : Dev nD) (t : Fin cfg0.N) (hd : condDiag (grid0.coords t)) (xk : Vec F S4x512x256 .f32) (xv : Vec F S4x512x128 .f32) : Pcs F :=
  ⟨(runDiagAt m c t hd (iblk m c 2 t) (iblk m c 2 t) (iblk m c 6 t) xk xv).1, (runDiagAt m c t hd (iblk m c 2 t) (iblk m c 2 t) (iblk m c 6 t) xk xv).2.1, (runDiagAt m c t hd (iblk m c 2 t) (iblk m c 2 t) (iblk m c 6 t) xk xv).2.2.1, (runDiagAt m c t hd (iblk m c 2 t) (iblk m c 2 t) (iblk m c 6 t) xk xv).2.2.2.1, (runDiagAt m c t hd (iblk m c 2 t) (iblk m c 2 t) (iblk m c 6 t) xk xv).2.2.2.2.1⟩

open Classical in
/-- What point `t` writes, of the accumulators it finds. -/
def pcs (c : Dev nD) (t : Fin cfg0.N) (xk : Vec F S4x512x256 .f32) (xv : Vec F S4x512x128 .f32) : Pcs F :=
  if hd : condDiag (grid0.coords t) then pcsDiag m c t hd xk xv else pcsOff m c t hd xk xv

theorem pcs_diag (c : Dev nD) (t : Fin cfg0.N) (hd : condDiag (grid0.coords t)) (xk : Vec F S4x512x256 .f32) (xv : Vec F S4x512x128 .f32) :
    pcs m c t xk xv = pcsDiag m c t hd xk xv := dif_pos hd
theorem pcs_off (c : Dev nD) (t : Fin cfg0.N) (hd : ¬condDiag (grid0.coords t)) (xk : Vec F S4x512x256 .f32) (xv : Vec F S4x512x128 .f32) :
    pcs m c t xk xv = pcsOff m c t hd xk xv := dif_neg hd

/-- The two accumulators. -/
abbrev St (F : FTy → Type) := Vec F S4x512x256 .f32 × Vec F S4x512x128 .f32

/-- The accumulators after a point, of the accumulators before it. -/
def stepS (c : Dev nD) (t : Fin cfg0.N) (s : St F) : St F :=
  (scK.view.read (Elt F) (scK.view.writes (Elt F) ((Memref.isWhole_whole cc0_scratch0).unread s.1) (pcs m c t s.1 s.2).LK),
   scV.view.read (Elt F) (scV.view.writes (Elt F) ((Memref.isWhole_whole cc0_scratch1).unread s.2) (pcs m c t s.1 s.2).LV))

/-- The accumulators before point `n`. -/
def stAt (c : Dev nD) : ℕ → St F
  | 0 => (k0_pay1 (F := F), k0_pay2 (F := F))
  | n + 1 => if h : n < cfg0.N then stepS m c ⟨n, h⟩ (stAt c n) else stAt c n

theorem stAt_succ (c : Dev nD) (t : Fin cfg0.N) : stAt m c (t.val + 1) = stepS m c t (stAt m c t.val) := by
  rw [stAt, dif_pos t.isLt]

/-- The pieces of point `t`. -/
abbrev pcsAt (c : Dev nD) (t : Fin cfg0.N) : Pcs F := pcs m c t (stAt m c t.val).1 (stAt m c t.val).2

def out8 (c : Dev nD) (t : Fin cfg0.N) : Vec F S1x512x512 .bf16 :=
  (ms8 t).view.read (Elt F) ((ms8 t).view.writes (Elt F) ((hs8 t).unread (iblk m c 2 t)) (pcsAt m c t).L0)
def out9 (c : Dev nD) (t : Fin cfg0.N) : Vec F S1x512x512 .bf16 :=
  (ms9 t).view.read (Elt F) ((ms9 t).view.writes (Elt F) ((hs9 t).unread (iblk m c 2 t)) (pcsAt m c t).L1)
def out10 (c : Dev nD) (t : Fin cfg0.N) : Vec F S1x512x128 .f32 :=
  (ms10 t).view.read (Elt F) ((ms10 t).view.writes (Elt F) ((hs10 t).unread (iblk m c 6 t)) (pcsAt m c t).L2)

/-! ## The invariant and the proof data -/

/-- Before point `n`: the accumulators hold what the points before left (anything before the first), the
    rest of the kernel's own memory anything, its counters zero. -/
def PhiS (c : Dev nD) (n : ℕ) (_ : n ≤ cfg0.N) : sProp 𝕄 :=
  iprop(∃ dk dv, ⌜n ≠ 0 → dk = (stAt m c n).1 ∧ dv = (stAt m c n).2⌝
    ∗ owns (c : Thread nD τ) scK fullShare dk ∗ owns (c : Thread nD τ) scV fullShare dv ∗ (∃ d, owns (c : Thread nD τ) scQ fullShare d) ∗ (∃ d, owns (c : Thread nD τ) scS fullShare d)
    ∗ (∃ r, prngReg c r) ∗ semsZ c ∗ (∃ f, hbPt (F := F) c hbM f))

/-- The proof data: the inputs as found, the results what each point writes. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out8 m c t
    | ⟨9, _⟩ => out9 m c t
    | ⟨10, _⟩ => out10 m c t
  Φ t := PhiS m c t.val (Nat.lt_succ_iff.mp t.isLt)
  q _ := fullShare
  owed _ := 0

theorem A_eq (c : Dev nD) (w : Fin cfg0.W) : (dats m 0 c).A w = V m c (Pipeline.arrRef spec0 w) := by dsimp only [dats]
theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = out8 m c t := by dsimp only [dats]
theorem after9 (c : Dev nD) (t : Fin cfg0.N) : (dats m 0 c).after 9 t = out9 m c t := by dsimp only [dats]
theorem after10 (c : Dev nD) (t : Fin cfg0.N) : (dats m 0 c).after 10 t = out10 m c t := by dsimp only [dats]
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem before6 (c : Dev nD) (t : Fin cfg0.N) (d) : (dats m 0 c).before 6 t d = iblk m c 6 t :=
  ((dats m 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)
theorem before7 (c : Dev nD) (t : Fin cfg0.N) (d) : (dats m 0 c).before 7 t d = iblk m c 7 t :=
  ((dats m 0 c).before_in_eq_fetched 7 rfl (fun _ => rfl) (fun _ _ _ => rfl) (fun t => by rw [after7]; unfold Dat.blockOf iblk; rw [A_eq]; try rfl) t d).trans
    (by unfold Dat.fetched Dat.blockOf iblk; rw [A_eq]; try rfl)

/-! ## The body at a point -/

/-- A result window after a point: written where the point writes it, as found elsewhere. -/
theorem leaves_of (c : Dev nD) (w : Fin cfg0.W) (t : Fin cfg0.N) (hw : ((cfg0.win w).stage (cfg0.slots t w)).IsWhole)
    (d : (cfg0.win w).block.Idx → Elt F (cfg0.win w).elt) (f' : Buf (Elt F) (((cfg0.win w).stage (cfg0.slots t w)).view.loc (c : Thread nD τ)))
    (L : List (View.Piece (Elt F) (cfg0.win w).block (cfg0.win w).elt))
    (hcov : ∀ y, ∃ p ∈ L, y ∈ p.1.set)
    (hafter : (dats m 0 c).after w t = ((cfg0.win w).stage (cfg0.slots t w)).view.read (Elt F) (((cfg0.win w).stage (cfg0.slots t w)).view.writes (Elt F) f' L))
    (hidle : cfg0.idle w (cfg0.grid.coords t) = !(k0_cond5 (grid0.coords t) == 1#1))
    (hflush : ¬k0_cond5 (grid0.coords t) = 1#1 → (cfg0.win w).flush t = false) :
    (((cfg0.win w).stage (cfg0.slots t w)).view.loc (c : Thread nD τ) ↦[((cfg0.win w).stage (cfg0.slots t w)).view.set]{fullShare}
      (if k0_cond5 (grid0.coords t) = 1#1 then ((cfg0.win w).stage (cfg0.slots t w)).view.writes (Elt F) (hw.unread ((dats m 0 c).before w t d)) L else hw.unread ((dats m 0 c).before w t d)) : sProp 𝕄)
      ⊢ (dats m 0 c).leavesExact w t := by
  by_cases h5 : k0_cond5 (grid0.coords t) = 1#1
  · rw [if_pos h5]
    have hi : cfg0.idle w (cfg0.grid.coords t) = false := by rw [hidle, h5]; rfl
    unfold Dat.leavesExact; rw [hi, hafter]
    iintro H
    unfold owns; iexists _; isplitr
    swap; · iexact H
    ipureintro; exact View.read_writes_of_cover _ _ _ _ _ hcov
  · rw [if_neg h5]
    have hi : cfg0.idle w (cfg0.grid.coords t) = true := by rw [hidle]; simpa using h5
    unfold Dat.leavesExact; rw [hi, hflush h5]
    iintro H
    iexists d
    unfold owns; iexists _; isplitr
    swap; · iexact H
    ipureintro; exact hw.read_unread _

theorem covOffK (c : Dev nD) (t : Fin cfg0.N) (hd : ¬condDiag (grid0.coords t)) (y0 y1 : Vec F S1x512x512 .bf16) (y2 : Vec F S1x512x128 .f32) (xk : Vec F S4x512x256 .f32) (xv : Vec F S4x512x128 .f32) :
    ∀ y, ∃ p ∈ (runOffAt m c t hd y0 y1 y2 xk xv).1, y ∈ p.1.set := fun y =>
  View.cover_of_tiledBy (runOffAt m c t hd y0 y1 y2 xk xv).1 ![1, 512, 256] (by sl_kernel_rfl) y
theorem covOffV (c : Dev nD) (t : Fin cfg0.N) (hd : ¬condDiag (grid0.coords t)) (y0 y1 : Vec F S1x512x512 .bf16) (y2 : Vec F S1x512x128 .f32) (xk : Vec F S4x512x256 .f32) (xv : Vec F S4x512x128 .f32) :
    ∀ y, ∃ p ∈ (runOffAt m c t hd y0 y1 y2 xk xv).2.1, y ∈ p.1.set := fun y =>
  View.cover_of_tiledBy (runOffAt m c t hd y0 y1 y2 xk xv).2.1 ![1, 512, 128] (by sl_kernel_rfl) y
theorem covOff0 (c : Dev nD) (t : Fin cfg0.N) (hd : ¬condDiag (grid0.coords t)) (y0 y1 : Vec F S1x512x512 .bf16) (y2 : Vec F S1x512x128 .f32) (xk : Vec F S4x512x256 .f32) (xv : Vec F S4x512x128 .f32) :
    ∀ y, ∃ p ∈ (runOffAt m c t hd y0 y1 y2 xk xv).2.2.1, y ∈ p.1.set := fun y =>
  View.cover_of_tiledBy (runOffAt m c t hd y0 y1 y2 xk xv).2.2.1 ![1, 512, 128] (by sl_kernel_rfl) y
theorem covOff1 (c : Dev nD) (t : Fin cfg0.N) (hd : ¬condDiag (grid0.coords t)) (y0 y1 : Vec F S1x512x512 .bf16) (y2 : Vec F S1x512x128 .f32) (xk : Vec F S4x512x256 .f32) (xv : Vec F S4x512x128 .f32) :
    ∀ y, ∃ p ∈ (runOffAt m c t hd y0 y1 y2 xk xv).2.2.2.1, y ∈ p.1.set := fun y =>
  View.cover_of_tiledBy (runOffAt m c t hd y0 y1 y2 xk xv).2.2.2.1 ![1, 512, 128] (by sl_kernel_rfl) y
theorem covOff2 (c : Dev nD) (t : Fin cfg0.N) (hd : ¬condDiag (grid0.coords t)) (y0 y1 : Vec F S1x512x512 .bf16) (y2 : Vec F S1x512x128 .f32) (xk : Vec F S4x512x256 .f32) (xv : Vec F S4x512x128 .f32) :
    ∀ y, ∃ p ∈ (runOffAt m c t hd y0 y1 y2 xk xv).2.2.2.2.1, y ∈ p.1.set := fun y =>
  View.cover_of_tiledBy (runOffAt m c t hd y0 y1 y2 xk xv).2.2.2.2.1 ![1, 512, 128] (by sl_kernel_rfl) y
theorem covDiagK (c : Dev nD) (t : Fin cfg0.N) (hd : condDiag (grid0.coords t)) (y0 y1 : Vec F S1x512x512 .bf16) (y2 : Vec F S1x512x128 .f32) (xk : Vec F S4x512x256 .f32) (xv : Vec F S4x512x128 .f32) :
    ∀ y, ∃ p ∈ (runDiagAt m c t hd y0 y1 y2 xk xv).1, y ∈ p.1.set := fun y =>
  View.cover_of_tiledBy (runDiagAt m c t hd y0 y1 y2 xk xv).1 ![1, 512, 256] (by sl_kernel_rfl) y
theorem covDiagV (c : Dev nD) (t : Fin cfg0.N) (hd : condDiag (grid0.coords t)) (y0 y1 : Vec F S1x512x512 .bf16) (y2 : Vec F S1x512x128 .f32) (xk : Vec F S4x512x256 .f32) (xv : Vec F S4x512x128 .f32) :
    ∀ y, ∃ p ∈ (runDiagAt m c t hd y0 y1 y2 xk xv).2.1, y ∈ p.1.set := fun y =>
  View.cover_of_tiledBy (runDiagAt m c t hd y0 y1 y2 xk xv).2.1 ![1, 512, 128] (by sl_kernel_rfl) y
theorem covDiag0 (c : Dev nD) (t : Fin cfg0.N) (hd : condDiag (grid0.coords t)) (y0 y1 : Vec F S1x512x512 .bf16) (y2 : Vec F S1x512x128 .f32) (xk : Vec F S4x512x256 .f32) (xv : Vec F S4x512x128 .f32) :
    ∀ y, ∃ p ∈ (runDiagAt m c t hd y0 y1 y2 xk xv).2.2.1, y ∈ p.1.set := fun y =>
  View.cover_of_tiledBy (runDiagAt m c t hd y0 y1 y2 xk xv).2.2.1 ![1, 512, 128] (by sl_kernel_rfl) y
theorem covDiag1 (c : Dev nD) (t : Fin cfg0.N) (hd : condDiag (grid0.coords t)) (y0 y1 : Vec F S1x512x512 .bf16) (y2 : Vec F S1x512x128 .f32) (xk : Vec F S4x512x256 .f32) (xv : Vec F S4x512x128 .f32) :
    ∀ y, ∃ p ∈ (runDiagAt m c t hd y0 y1 y2 xk xv).2.2.2.1, y ∈ p.1.set := fun y =>
  View.cover_of_tiledBy (runDiagAt m c t hd y0 y1 y2 xk xv).2.2.2.1 ![1, 512, 128] (by sl_kernel_rfl) y
theorem covDiag2 (c : Dev nD) (t : Fin cfg0.N) (hd : condDiag (grid0.coords t)) (y0 y1 : Vec F S1x512x512 .bf16) (y2 : Vec F S1x512x128 .f32) (xk : Vec F S4x512x256 .f32) (xv : Vec F S4x512x128 .f32) :
    ∀ y, ∃ p ∈ (runDiagAt m c t hd y0 y1 y2 xk xv).2.2.2.2.1, y ∈ p.1.set := fun y =>
  View.cover_of_tiledBy (runDiagAt m c t hd y0 y1 y2 xk xv).2.2.2.2.1 ![1, 512, 128] (by sl_kernel_rfl) y

/-- What the body is given at a point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ (dats m 0 c).leavesExact 8 t
    ∗ (dats m 0 c).leavesExact 9 t
    ∗ (dats m 0 c).leavesExact 10 t)

theorem sameOffK (c : Dev nD) (t : Fin cfg0.N) (hd : ¬condDiag (grid0.coords t)) (y0 y1 : Vec F S1x512x512 .bf16) (y2 : Vec F S1x512x128 .f32) (xk  : Vec F S4x512x256 .f32) (xv  : Vec F S4x512x128 .f32) :
    (runOffAt m c t hd y0 y1 y2 xk xv).1 = (pcsOff m c t hd xk xv).LK := rfl
theorem sameOffV (c : Dev nD) (t : Fin cfg0.N) (hd : ¬condDiag (grid0.coords t)) (y0 y1 : Vec F S1x512x512 .bf16) (y2 : Vec F S1x512x128 .f32) (xk  : Vec F S4x512x256 .f32) (xv  : Vec F S4x512x128 .f32) :
    (runOffAt m c t hd y0 y1 y2 xk xv).2.1 = (pcsOff m c t hd xk xv).LV := rfl
theorem sameOff0 (c : Dev nD) (t : Fin cfg0.N) (hd : ¬condDiag (grid0.coords t)) (y0 y1 : Vec F S1x512x512 .bf16) (y2 : Vec F S1x512x128 .f32) (xk  : Vec F S4x512x256 .f32) (xv  : Vec F S4x512x128 .f32) :
    (runOffAt m c t hd y0 y1 y2 xk xv).2.2.1 = (pcsOff m c t hd xk xv).L0 := rfl
theorem sameOff1 (c : Dev nD) (t : Fin cfg0.N) (hd : ¬condDiag (grid0.coords t)) (y0 y1 : Vec F S1x512x512 .bf16) (y2 : Vec F S1x512x128 .f32) (xk  : Vec F S4x512x256 .f32) (xv  : Vec F S4x512x128 .f32) :
    (runOffAt m c t hd y0 y1 y2 xk xv).2.2.2.1 = (pcsOff m c t hd xk xv).L1 := rfl
theorem sameOff2 (c : Dev nD) (t : Fin cfg0.N) (hd : ¬condDiag (grid0.coords t)) (y0 y1 : Vec F S1x512x512 .bf16) (y2 : Vec F S1x512x128 .f32) (xk  : Vec F S4x512x256 .f32) (xv  : Vec F S4x512x128 .f32) :
    (runOffAt m c t hd y0 y1 y2 xk xv).2.2.2.2.1 = (pcsOff m c t hd xk xv).L2 := rfl
theorem sameDiagK (c : Dev nD) (t : Fin cfg0.N) (hd : condDiag (grid0.coords t)) (y0 y1 : Vec F S1x512x512 .bf16) (y2 : Vec F S1x512x128 .f32) (xk xk' : Vec F S4x512x256 .f32) (xv xv' : Vec F S4x512x128 .f32) :
    (runDiagAt m c t hd y0 y1 y2 xk xv).1 = (pcsDiag m c t hd xk' xv').LK := rfl
theorem sameDiagV (c : Dev nD) (t : Fin cfg0.N) (hd : condDiag (grid0.coords t)) (y0 y1 : Vec F S1x512x512 .bf16) (y2 : Vec F S1x512x128 .f32) (xk xk' : Vec F S4x512x256 .f32) (xv xv' : Vec F S4x512x128 .f32) :
    (runDiagAt m c t hd y0 y1 y2 xk xv).2.1 = (pcsDiag m c t hd xk' xv').LV := rfl
theorem sameDiag0 (c : Dev nD) (t : Fin cfg0.N) (hd : condDiag (grid0.coords t)) (y0 y1 : Vec F S1x512x512 .bf16) (y2 : Vec F S1x512x128 .f32) (xk xk' : Vec F S4x512x256 .f32) (xv xv' : Vec F S4x512x128 .f32) :
    (runDiagAt m c t hd y0 y1 y2 xk xv).2.2.1 = (pcsDiag m c t hd xk' xv').L0 := rfl
theorem sameDiag1 (c : Dev nD) (t : Fin cfg0.N) (hd : condDiag (grid0.coords t)) (y0 y1 : Vec F S1x512x512 .bf16) (y2 : Vec F S1x512x128 .f32) (xk xk' : Vec F S4x512x256 .f32) (xv xv' : Vec F S4x512x128 .f32) :
    (runDiagAt m c t hd y0 y1 y2 xk xv).2.2.2.1 = (pcsDiag m c t hd xk' xv').L1 := rfl
theorem sameDiag2 (c : Dev nD) (t : Fin cfg0.N) (hd : condDiag (grid0.coords t)) (y0 y1 : Vec F S1x512x512 .bf16) (y2 : Vec F S1x512x128 .f32) (xk xk' : Vec F S4x512x256 .f32) (xv xv' : Vec F S4x512x128 .f32) :
    (runDiagAt m c t hd y0 y1 y2 xk xv).2.2.2.2.1 = (pcsDiag m c t hd xk' xv').L2 := rfl

end Cert.AttnIdeal.Att

end
-- ==== Proof.AttnLeaves.lean ====
module

public import proofs.«01_k».proof.Proof.AttnFrame

@[expose] public section

set_option maxRecDepth 16384

noncomputable section

namespace Cert.AttnIdeal.Att

open Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

theorem after8_of (c : Dev nD) (t : Fin cfg0.N) (L : List (View.Piece (Elt F) S1x512x512 .bf16)) (hL : L = (pcsAt m c t).L0) :
    (dats m 0 c).after 8 t = (ms8 t).view.read (Elt F) ((ms8 t).view.writes (Elt F) ((hs8 t).unread (iblk m c 2 t)) L) := by
  subst hL; exact after8 m c t

theorem after9_of (c : Dev nD) (t : Fin cfg0.N) (L : List (View.Piece (Elt F) S1x512x512 .bf16)) (hL : L = (pcsAt m c t).L1) :
    (dats m 0 c).after 9 t = (ms9 t).view.read (Elt F) ((ms9 t).view.writes (Elt F) ((hs9 t).unread (iblk m c 2 t)) L) := by
  subst hL; exact after9 m c t

theorem after10_of (c : Dev nD) (t : Fin cfg0.N) (L : List (View.Piece (Elt F) S1x512x128 .f32)) (hL : L = (pcsAt m c t).L2) :
    (dats m 0 c).after 10 t = (ms10 t).view.read (Elt F) ((ms10 t).view.writes (Elt F) ((hs10 t).unread (iblk m c 6 t)) L) := by
  subst hL; exact after10 m c t

theorem leavesOff0 (c : Dev nD) (t : Fin cfg0.N) (hd : ¬condDiag (grid0.coords t)) (d8 d9 : Vec F S1x512x512 .bf16) (d10 : Vec F S1x512x128 .f32)  :
    ((ms8 t).view.loc (c : Thread nD τ) ↦[(ms8 t).view.set]{fullShare}
      (if k0_cond5 (grid0.coords t) = 1#1 then (ms8 t).view.writes (Elt F) ((hs8 t).unread ((dats m 0 c).before 8 t d8)) (runOffAt m c t hd ((dats m 0 c).before 8 t d8) ((dats m 0 c).before 9 t d9) ((dats m 0 c).before 10 t d10) (stAt m c t.val).1 (stAt m c t.val).2).2.2.1 else (hs8 t).unread ((dats m 0 c).before 8 t d8)) : sProp 𝕄)
      ⊢ (dats m 0 c).leavesExact 8 t :=
  leaves_of m c 8 t (hs8 t) d8 ((hs8 t).unread (iblk m c 2 t)) (runOffAt m c t hd ((dats m 0 c).before 8 t d8) ((dats m 0 c).before 9 t d9) ((dats m 0 c).before 10 t d10) (stAt m c t.val).1 (stAt m c t.val).2).2.2.1 (covOff0 m c t hd _ _ _ _ _)
    (after8_of m c t _ ((sameOff0 m c t hd ((dats m 0 c).before 8 t d8) ((dats m 0 c).before 9 t d9) ((dats m 0 c).before 10 t d10) (stAt m c t.val).1 (stAt m c t.val).2).trans (congrArg Pcs.L0 (pcs_off m c t hd _ _).symm))) (idle8 _) (flush8 t)

theorem leavesOff1 (c : Dev nD) (t : Fin cfg0.N) (hd : ¬condDiag (grid0.coords t)) (d8 d9 : Vec F S1x512x512 .bf16) (d10 : Vec F S1x512x128 .f32)  :
    ((ms9 t).view.loc (c : Thread nD τ) ↦[(ms9 t).view.set]{fullShare}
      (if k0_cond5 (grid0.coords t) = 1#1 then (ms9 t).view.writes (Elt F) ((hs9 t).unread ((dats m 0 c).before 9 t d9)) (runOffAt m c t hd ((dats m 0 c).before 8 t d8) ((dats m 0 c).before 9 t d9) ((dats m 0 c).before 10 t d10) (stAt m c t.val).1 (stAt m c t.val).2).2.2.2.1 else (hs9 t).unread ((dats m 0 c).before 9 t d9)) : sProp 𝕄)
      ⊢ (dats m 0 c).leavesExact 9 t :=
  leaves_of m c 9 t (hs9 t) d9 ((hs9 t).unread (iblk m c 2 t)) (runOffAt m c t hd ((dats m 0 c).before 8 t d8) ((dats m 0 c).before 9 t d9) ((dats m 0 c).before 10 t d10) (stAt m c t.val).1 (stAt m c t.val).2).2.2.2.1 (covOff1 m c t hd _ _ _ _ _)
    (after9_of m c t _ ((sameOff1 m c t hd ((dats m 0 c).before 8 t d8) ((dats m 0 c).before 9 t d9) ((dats m 0 c).before 10 t d10) (stAt m c t.val).1 (stAt m c t.val).2).trans (congrArg Pcs.L1 (pcs_off m c t hd _ _).symm))) (idle9 _) (flush9 t)

theorem leavesOff2 (c : Dev nD) (t : Fin cfg0.N) (hd : ¬condDiag (grid0.coords t)) (d8 d9 : Vec F S1x512x512 .bf16) (d10 : Vec F S1x512x128 .f32)  :
    ((ms10 t).view.loc (c : Thread nD τ) ↦[(ms10 t).view.set]{fullShare}
      (if k0_cond5 (grid0.coords t) = 1#1 then (ms10 t).view.writes (Elt F) ((hs10 t).unread ((dats m 0 c).before 10 t d10)) (runOffAt m c t hd ((dats m 0 c).before 8 t d8) ((dats m 0 c).before 9 t d9) ((dats m 0 c).before 10 t d10) (stAt m c t.val).1 (stAt m c t.val).2).2.2.2.2.1 else (hs10 t).unread ((dats m 0 c).before 10 t d10)) : sProp 𝕄)
      ⊢ (dats m 0 c).leavesExact 10 t :=
  leaves_of m c 10 t (hs10 t) d10 ((hs10 t).unread (iblk m c 6 t)) (runOffAt m c t hd ((dats m 0 c).before 8 t d8) ((dats m 0 c).before 9 t d9) ((dats m 0 c).before 10 t d10) (stAt m c t.val).1 (stAt m c t.val).2).2.2.2.2.1 (covOff2 m c t hd _ _ _ _ _)
    (after10_of m c t _ ((sameOff2 m c t hd ((dats m 0 c).before 8 t d8) ((dats m 0 c).before 9 t d9) ((dats m 0 c).before 10 t d10) (stAt m c t.val).1 (stAt m c t.val).2).trans (congrArg Pcs.L2 (pcs_off m c t hd _ _).symm))) (idle10 _) (flush10 t)

theorem leavesDiag0 (c : Dev nD) (t : Fin cfg0.N) (hd : condDiag (grid0.coords t)) (d8 d9 : Vec F S1x512x512 .bf16) (d10 : Vec F S1x512x128 .f32) (dk : Vec F S4x512x256 .f32) (dv : Vec F S4x512x128 .f32) :
    ((ms8 t).view.loc (c : Thread nD τ) ↦[(ms8 t).view.set]{fullShare}
      (if k0_cond5 (grid0.coords t) = 1#1 then (ms8 t).view.writes (Elt F) ((hs8 t).unread ((dats m 0 c).before 8 t d8)) (runDiagAt m c t hd ((dats m 0 c).before 8 t d8) ((dats m 0 c).before 9 t d9) ((dats m 0 c).before 10 t d10) dk dv).2.2.1 else (hs8 t).unread ((dats m 0 c).before 8 t d8)) : sProp 𝕄)
      ⊢ (dats m 0 c).leavesExact 8 t :=
  leaves_of m c 8 t (hs8 t) d8 ((hs8 t).unread (iblk m c 2 t)) (runDiagAt m c t hd ((dats m 0 c).before 8 t d8) ((dats m 0 c).before 9 t d9) ((dats m 0 c).before 10 t d10) dk dv).2.2.1 (covDiag0 m c t hd _ _ _ _ _)
    (after8_of m c t _ ((sameDiag0 m c t hd ((dats m 0 c).before 8 t d8) ((dats m 0 c).before 9 t d9) ((dats m 0 c).before 10 t d10) dk (stAt m c t.val).1 dv (stAt m c t.val).2).trans (congrArg Pcs.L0 (pcs_diag m c t hd _ _).symm))) (idle8 _) (flush8 t)

theorem leavesDiag1 (c : Dev nD) (t : Fin cfg0.N) (hd : condDiag (grid0.coords t)) (d8 d9 : Vec F S1x512x512 .bf16) (d10 : Vec F S1x512x128 .f32) (dk : Vec F S4x512x256 .f32) (dv : Vec F S4x512x128 .f32) :
    ((ms9 t).view.loc (c : Thread nD τ) ↦[(ms9 t).view.set]{fullShare}
      (if k0_cond5 (grid0.coords t) = 1#1 then (ms9 t).view.writes (Elt F) ((hs9 t).unread ((dats m 0 c).before 9 t d9)) (runDiagAt m c t hd ((dats m 0 c).before 8 t d8) ((dats m 0 c).before 9 t d9) ((dats m 0 c).before 10 t d10) dk dv).2.2.2.1 else (hs9 t).unread ((dats m 0 c).before 9 t d9)) : sProp 𝕄)
      ⊢ (dats m 0 c).leavesExact 9 t :=
  leaves_of m c 9 t (hs9 t) d9 ((hs9 t).unread (iblk m c 2 t)) (runDiagAt m c t hd ((dats m 0 c).before 8 t d8) ((dats m 0 c).before 9 t d9) ((dats m 0 c).before 10 t d10) dk dv).2.2.2.1 (covDiag1 m c t hd _ _ _ _ _)
    (after9_of m c t _ ((sameDiag1 m c t hd ((dats m 0 c).before 8 t d8) ((dats m 0 c).before 9 t d9) ((dats m 0 c).before 10 t d10) dk (stAt m c t.val).1 dv (stAt m c t.val).2).trans (congrArg Pcs.L1 (pcs_diag m c t hd _ _).symm))) (idle9 _) (flush9 t)

theorem leavesDiag2 (c : Dev nD) (t : Fin cfg0.N) (hd : condDiag (grid0.coords t)) (d8 d9 : Vec F S1x512x512 .bf16) (d10 : Vec F S1x512x128 .f32) (dk : Vec F S4x512x256 .f32) (dv : Vec F S4x512x128 .f32) :
    ((ms10 t).view.loc (c : Thread nD τ) ↦[(ms10 t).view.set]{fullShare}
      (if k0_cond5 (grid0.coords t) = 1#1 then (ms10 t).view.writes (Elt F) ((hs10 t).unread ((dats m 0 c).before 10 t d10)) (runDiagAt m c t hd ((dats m 0 c).before 8 t d8) ((dats m 0 c).before 9 t d9) ((dats m 0 c).before 10 t d10) dk dv).2.2.2.2.1 else (hs10 t).unread ((dats m 0 c).before 10 t d10)) : sProp 𝕄)
      ⊢ (dats m 0 c).leavesExact 10 t :=
  leaves_of m c 10 t (hs10 t) d10 ((hs10 t).unread (iblk m c 6 t)) (runDiagAt m c t hd ((dats m 0 c).before 8 t d8) ((dats m 0 c).before 9 t d9) ((dats m 0 c).before 10 t d10) dk dv).2.2.2.2.1 (covDiag2 m c t hd _ _ _ _ _)
    (after10_of m c t _ ((sameDiag2 m c t hd ((dats m 0 c).before 8 t d8) ((dats m 0 c).before 9 t d9) ((dats m 0 c).before 10 t d10) dk (stAt m c t.val).1 dv (stAt m c t.val).2).trans (congrArg Pcs.L2 (pcs_diag m c t hd _ _).symm))) (idle10 _) (flush10 t)

theorem stepK (c : Dev nD) (t : Fin cfg0.N) (f : Buf (Elt F) (scK.view.loc (c : Thread nD τ))) (L : List (View.Piece (Elt F) S4x512x256 .f32))
    (hL : L = (pcsAt m c t).LK) (hcov : ∀ y, ∃ p ∈ L, y ∈ p.1.set) :
    scK.view.read (Elt F) (scK.view.writes (Elt F) f L) = (stAt m c (t.val + 1)).1 := by
  subst hL; rw [stAt_succ]; unfold stepS; dsimp only; exact View.read_writes_of_cover _ _ _ _ _ hcov

theorem stepV (c : Dev nD) (t : Fin cfg0.N) (f : Buf (Elt F) (scV.view.loc (c : Thread nD τ))) (L : List (View.Piece (Elt F) S4x512x128 .f32))
    (hL : L = (pcsAt m c t).LV) (hcov : ∀ y, ∃ p ∈ L, y ∈ p.1.set) :
    scV.view.read (Elt F) (scV.view.writes (Elt F) f L) = (stAt m c (t.val + 1)).2 := by
  subst hL; rw [stAt_succ]; unfold stepS; dsimp only; exact View.read_writes_of_cover _ _ _ _ _ hcov

end Cert.AttnIdeal.Att

end
-- ==== Proof.AttnBodyDiag.lean ====
module

public import proofs.«01_k».proof.Proof.AttnLeaves

@[expose] public section

set_option maxRecDepth 16384

noncomputable section

namespace Cert.AttnIdeal.Att

open Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

set_option maxHeartbeats 6400000 in
/-- The body at a point on the diagonal. -/
theorem sound_diag (c : Dev nD) (t : Fin cfg0.N) (hd : condDiag (grid0.coords t)) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = PhiS m c (t.val + 1) t.isLt from rfl, PhiS_castSucc, after0, after1, after2, after3, after4, after5, after6, after7]
  unfold PhiS
  unfold Dat.owesAt Pipeline.owesWithin
  rw [show (dats m 0 c).owed t.castSucc = 0 from rfl, show (dats m 0 c).owed t.succ = 0 from rfl]
  iintro ⟨⟨%dk, %dv, %hst, HK, HV, HQ, HS, Hg, ⟨Hq0, Hq1, Hq2, Hq3⟩, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runDiagAt m c t hd ((dats m 0 c).before 8 t d8) ((dats m 0 c).before 9 t d9) ((dats m 0 c).before 10 t d10) dk dv).2.2.2.2.2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HK]; · iexact HK
  isplitl [HV]; · iexact HV
  isplitl [HQ]; · iexact HQ
  isplitl [HS]; · iexact HS
  isplitl [Hq0]; · iexact Hq0
  isplitl [Hq1]; · iexact Hq1
  isplitl [Hq2]; · iexact Hq2
  isplitl [Hq3]; · iexact Hq3
  isplitl [Hh]; · iexact Hh
  isplitl [HW]; · iexact HW
  iintro ⟨H0, H1, H2, H3, H4, H5, H6, H7, H8, H9, H10, HK, HV, HQ, HS, Hq0, Hq1, Hq2, Hq3, Hh, ⟨%W', HW'⟩⟩
  isplitl [HK HV HQ HS Hg Hq0 Hq1 Hq2 Hq3 Hh]
  · iexists (stAt m c (t.val + 1)).1, (stAt m c (t.val + 1)).2
    isplitr; · ipureintro; exact fun _ => ⟨rfl, rfl⟩
    isplitl [HK]
    · unfold owns; iexists _; isplitr
      swap; · iexact HK
      ipureintro; exact stepK m c t _ _ ((sameDiagK m c t hd ((dats m 0 c).before 8 t d8) ((dats m 0 c).before 9 t d9) ((dats m 0 c).before 10 t d10) dk (stAt m c t.val).1 dv (stAt m c t.val).2).trans (congrArg Pcs.LK (pcs_diag m c t hd _ _).symm)) (covDiagK m c t hd _ _ _ _ _)
    isplitl [HV]
    · unfold owns; iexists _; isplitr
      swap; · iexact HV
      ipureintro; exact stepV m c t _ _ ((sameDiagV m c t hd ((dats m 0 c).before 8 t d8) ((dats m 0 c).before 9 t d9) ((dats m 0 c).before 10 t d10) dk (stAt m c t.val).1 dv (stAt m c t.val).2).trans (congrArg Pcs.LV (pcs_diag m c t hd _ _).symm)) (covDiagV m c t hd _ _ _ _ _)
    isplitl [HQ]; · iexact HQ
    isplitl [HS]; · iexact HS
    isplitl [Hg]; · iexact Hg
    isplitl [Hq0 Hq1 Hq2 Hq3]
    · isplitl [Hq0]; · iexact Hq0
      isplitl [Hq1]; · iexact Hq1
      isplitl [Hq2]; · iexact Hq2
      iexact Hq3
    iexact Hh
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (leavesDiag0 m c t hd d8 d9 d10 dk dv); iexact H8
  isplitl [H9]; · iapply (leavesDiag1 m c t hd d8 d9 d10 dk dv); iexact H9
  iapply (leavesDiag2 m c t hd d8 d9 d10 dk dv); iexact H10

end Cert.AttnIdeal.Att

end
-- ==== Proof.AttnBodyOff.lean ====
module

public import proofs.«01_k».proof.Proof.AttnLeaves

@[expose] public section

set_option maxRecDepth 16384

noncomputable section

namespace Cert.AttnIdeal.Att

open Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

set_option maxHeartbeats 6400000 in
/-- The body at a point below the diagonal. -/
theorem sound_off (c : Dev nD) (t : Fin cfg0.N) (hd : ¬condDiag (grid0.coords t)) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = PhiS m c (t.val + 1) t.isLt from rfl, PhiS_castSucc, after0, after1, after2, after3, after4, after5, after6, after7]
  unfold PhiS
  unfold Dat.owesAt Pipeline.owesWithin
  rw [show (dats m 0 c).owed t.castSucc = 0 from rfl, show (dats m 0 c).owed t.succ = 0 from rfl]
  iintro ⟨⟨%dk, %dv, %hst, HK, HV, HQ, HS, Hg, ⟨Hq0, Hq1, Hq2, Hq3⟩, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have hz : t.val ≠ 0 := fun h => hd (first_diag t h)
  obtain ⟨rfl, rfl⟩ := hst hz
  iapply ((runOffAt m c t hd ((dats m 0 c).before 8 t d8) ((dats m 0 c).before 9 t d9) ((dats m 0 c).before 10 t d10) (stAt m c t.val).1 (stAt m c t.val).2).2.2.2.2.2 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HK]; · iexact HK
  isplitl [HV]; · iexact HV
  isplitl [HQ]; · iexact HQ
  iintro ⟨H0, H1, H2, H3, H4, H5, H6, H7, H8, H9, H10, HK, HV, HQ⟩
  isplitl [HK HV HQ HS Hg Hq0 Hq1 Hq2 Hq3 Hh]
  · iexists (stAt m c (t.val + 1)).1, (stAt m c (t.val + 1)).2
    isplitr; · ipureintro; exact fun _ => ⟨rfl, rfl⟩
    isplitl [HK]
    · unfold owns; iexists _; isplitr
      swap; · iexact HK
      ipureintro; exact stepK m c t _ _ ((sameOffK m c t hd ((dats m 0 c).before 8 t d8) ((dats m 0 c).before 9 t d9) ((dats m 0 c).before 10 t d10) (stAt m c t.val).1 (stAt m c t.val).2).trans (congrArg Pcs.LK (pcs_off m c t hd _ _).symm)) (covOffK m c t hd _ _ _ _ _)
    isplitl [HV]
    · unfold owns; iexists _; isplitr
      swap; · iexact HV
      ipureintro; exact stepV m c t _ _ ((sameOffV m c t hd ((dats m 0 c).before 8 t d8) ((dats m 0 c).before 9 t d9) ((dats m 0 c).before 10 t d10) (stAt m c t.val).1 (stAt m c t.val).2).trans (congrArg Pcs.LV (pcs_off m c t hd _ _).symm)) (covOffV m c t hd _ _ _ _ _)
    isplitl [HQ]; · iexact HQ
    isplitl [HS]; · iexact HS
    isplitl [Hg]; · iexact Hg
    isplitl [Hq0 Hq1 Hq2 Hq3]
    · isplitl [Hq0]; · iexact Hq0
      isplitl [Hq1]; · iexact Hq1
      isplitl [Hq2]; · iexact Hq2
      iexact Hq3
    iexact Hh
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (leavesOff0 m c t hd d8 d9 d10 ); iexact H8
  isplitl [H9]; · iapply (leavesOff1 m c t hd d8 d9 d10 ); iexact H9
  iapply (leavesOff2 m c t hd d8 d9 d10 ); iexact H10

end Cert.AttnIdeal.Att

end
-- ==== Proof.AttnRun.lean ====
module

public import proofs.«01_k».proof.Proof.AttnBodyDiag
public import proofs.«01_k».proof.Proof.AttnBodyOff

@[expose] public section

set_option maxRecDepth 16384

noncomputable section

namespace Cert.AttnIdeal.Att

open Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases hd : condDiag (grid0.coords t)
  · exact sound_diag m c t hd
  · exact sound_off m c t hd

theorem defs₀_row (t : Fin cfg0.N) : defs₀ .tc cfg0.body (cfg0.bodyArgs t (cfg0.slots t)) = bodyAt0 (F := F) t := by
  unfold defs₀; rw [Defs.onTc_tc]

set_option maxHeartbeats 1600000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦDR osem0 spec0 H0 R0 (V m) c ⊢ (dats m 0 c).Φ 0 := by
  rw [show (dats m 0 c).Φ 0 = PhiS m c 0 (Nat.zero_le _) from rfl, launch_inv]
  unfold PhiS
  iintro ⟨⟨⟨%dk, HK⟩, ⟨%dv, HV⟩, HQ, HS⟩, Hg, Hq, -, Hh⟩
  iexists dk, dv
  isplitr; · ipureintro; exact fun h => absurd rfl h
  isplitl [HK]; · iexact HK
  isplitl [HV]; · iexact HV
  isplitl [HQ]; · iexact HQ
  isplitl [HS]; · iexact HS
  isplitl [Hg]; · iexact Hg
  isplitl [Hq]; · iexact Hq
  iexact Hh

theorem hout (c : Dev nD) : (dats m 0 c).Φ (Fin.last cfg0.N) ⊢ Pipeline.ΦDR osem0 spec0 H0 R0 (V m) c := by
  rw [show (dats m 0 c).Φ (Fin.last cfg0.N) = PhiS m c cfg0.N le_rfl from rfl, launch_inv]
  unfold PhiS
  iintro ⟨%dk, %dv, -, HK, HV, HQ, HS, Hg, Hq, Hh⟩
  isplitl [HK HV HQ HS]
  · isplitl [HK]; · iexists dk; iexact HK
    isplitl [HV]; · iexists dv; iexact HV
    isplitl [HQ]; · iexact HQ
    iexact HS
  isplitl [Hg]; · iexact Hg
  isplitl [Hq]; · iexact Hq
  isplitr; · iempintro
  iexact Hh

set_option backward.isDefEq.respectTransparency.types false in
/-- The launch: every window's array ends as the proof data says, and every counter at zero. -/
theorem run_main_quiescent : θ_run defs (onTc (τ := τ) (main (F := F))) (s₀ m ρ) (fun r => (Pipeline.FramePostR cfgs (dats m) 0 R0 (V m)) r ∧ r.2.sem = fun _ => 0) :=
  Pipeline.θ_run_frame_dmaR (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) ⟨m, fun _ => 0, ρ⟩ (Pipeline.FramePostR cfgs (dats m) 0 R0 (V m)) :=
  (θ_run defs _ _).mono (fun _ h => h.1) (run_main_quiescent m ρ)

/-- The argument arrays end as launched. -/
theorem unchanged : θ_run defs (onTc (τ := τ) (main (F := F))) ⟨m, fun _ => 0, ρ⟩ (fun r => ∀ c : Dev nD,
    r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7)) :=
  (θ_run defs _ _).mono (fun _ h c => ⟨((h c).1 0).trans (((dats m 0 c).arrAt_in 0 rfl _).trans ((A_eq m c 0).trans (V_main_arg0 m c))), ((h c).1 1).trans (((dats m 0 c).arrAt_in 1 rfl _).trans ((A_eq m c 1).trans (V_main_arg1 m c))), ((h c).1 2).trans (((dats m 0 c).arrAt_in 2 rfl _).trans ((A_eq m c 2).trans (V_main_arg2 m c))), ((h c).1 3).trans (((dats m 0 c).arrAt_in 3 rfl _).trans ((A_eq m c 3).trans (V_main_arg3 m c))), ((h c).1 4).trans (((dats m 0 c).arrAt_in 4 rfl _).trans ((A_eq m c 4).trans (V_main_arg4 m c))), ((h c).1 5).trans (((dats m 0 c).arrAt_in 5 rfl _).trans ((A_eq m c 5).trans (V_main_arg5 m c))), ((h c).1 6).trans (((dats m 0 c).arrAt_in 6 rfl _).trans ((A_eq m c 6).trans (V_main_arg6 m c))), ((h c).1 7).trans (((dats m 0 c).arrAt_in 7 rfl _).trans ((A_eq m c 7).trans (V_main_arg7 m c)))⟩) (run_main m ρ)

theorem frame_claim : θ_run defs (onTc (τ := τ) (main (F := F))) ⟨m, fun _ => 0, ρ⟩ (fun r => (∀ c : Dev nD,
    r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7)) ∧ r.2.sem = fun _ => 0) :=
  θ_run_and (unchanged m ρ) ((θ_run defs _ _).mono (fun _ h => h.2) (run_main_quiescent m ρ))

end Cert.AttnIdeal.Att

end
-- ==== Proof.AttnStep.lean ====
module

public import proofs.«01_k».proof.Proof.AttnRunOff
public import proofs.«01_k».proof.Proof.AttnRunDiag
public import proofs.«01_k».proof.Proof.GluBlk
public import Idealize.ShloMosaic.Lib.WholeRead
public import Idealize.ShloMosaic.Lib.WritesUnit
public import Idealize.ShloMosaic.Lib.Pipeline.ReadBack
public import Idealize.ShloMosaic.Lib.Pointwise
public import Idealize.ShloMosaic.Lib.Tactic

@[expose] public section

set_option maxRecDepth 16384

noncomputable section

namespace Cert.AttnIdeal.Att

open Cert.AttnIdeal Cert.AttnIdeal.Gen Idealize.ShloMosaic Idealize.ShloMosaic.TcCoe Idealize.SL.Sem

/-! ## One head's part of a grid point, at an index

`r` is a row of the block of keys, `n` a row of the block of queries. The weight of a query on a key is two to the
power of their product less the query's row sum's logarithm. -/

section Head
variable (q k : Vec Ideal S1x512x256 .bf16) (v : Vec Ideal S1x512x128 .bf16) (g : Vec Ideal S1x512x128 .f32)
  (l d : Vec Ideal S1x1x1x512 .f32) (aK : Vec Ideal S1x512x256 .f32) (aV : Vec Ideal S1x512x128 .f32)

/-- The weight of query `n` on key `r`. -/
def wgt (r n : Fin 512) : EReal :=
  Ideal.exp2 ((∑ e : Fin 256, k (ix3 0 r e) * q (ix3 0 n e)) - l (ix4 0 0 0 n))

/-- The gradient of a weight before the weight's own factor. -/
def dwg (r n : Fin 512) : EReal :=
  (∑ e : Fin 128, v (ix3 0 r e) * g (ix3 0 n e)) - d (ix4 0 0 0 n)

/-- The weight on the diagonal block: none of a query before the key. -/
def wgtD (r n : Fin 512) : EReal := if r ≤ n then wgt q k l r n else 0

theorem pay10_apply (r n : Fin 512) : k0_pay10 q k l (ix2 r n) = wgt q k l r n := by
  unfold k0_pay10 k0_pay8 k0_pay7 wgt
  pointwise
  rfl

theorem pay12_apply (r n : Fin 512) : k0_pay12 q k g l v d (ix2 r n) = wgt q k l r n * dwg v g d r n := by
  unfold k0_pay12 k0_pay9
  pointwise
  rw [pay10_apply]
  rfl

theorem offV_apply (r : Fin 512) (x : Fin 128) :
    k0_pay11 q k g l aV (ix3 0 r x) = aV (ix3 0 r x) + ∑ n : Fin 512, wgt q k l r n * g (ix3 0 n x) := by
  unfold k0_pay11 k0_pay9
  pointwise
  simp only [pay10_apply]

theorem offK_apply (r : Fin 512) (x : Fin 256) :
    k0_pay13 (k0_pay7 q) (k0_pay12 q k g l v d) aK (ix3 0 r x)
      = aK (ix3 0 r x) + ∑ n : Fin 512, wgt q k l r n * dwg v g d r n * q (ix3 0 n x) := by
  unfold k0_pay13 k0_pay7
  pointwise
  simp only [pay12_apply]

theorem pay42_apply (r n : Fin 512) : k0_pay42 q k l (ix2 r n) = wgtD q k l r n := by
  unfold k0_pay42 k0_pay40 k0_pay39 wgtD wgt
  pointwise
  exact Cert.GluIdeal.Hand.sel_sge ⟨n.val, by omega⟩ r.val (by omega) _ _

theorem pay45_apply (r n : Fin 512) : k0_pay45 (k0_pay42 q k l) (k0_pay44 g v) d (ix2 r n) = wgtD q k l r n * dwg v g d r n := by
  unfold k0_pay45 k0_pay44 k0_pay41
  pointwise
  rw [pay42_apply]
  rfl

theorem diagV_apply (r : Fin 512) (x : Fin 128) :
    k0_pay43 q k g l aV (ix3 0 r x) = aV (ix3 0 r x) + ∑ n : Fin 512, wgtD q k l r n * g (ix3 0 n x) := by
  unfold k0_pay43 k0_pay41
  pointwise
  simp only [pay42_apply]

theorem diagK_apply (r : Fin 512) (x : Fin 256) :
    k0_pay46 (k0_pay39 q) (k0_pay42 q k l) (k0_pay44 g v) d aK (ix3 0 r x)
      = aK (ix3 0 r x) + ∑ n : Fin 512, wgtD q k l r n * dwg v g d r n * q (ix3 0 n x) := by
  unfold k0_pay46 k0_pay39
  pointwise
  simp only [pay45_apply]

end Head

/-! ## A head's columns of a block, and a head's row of an accumulator -/

def hq (X : Vec Ideal S1x512x1024 .bf16) (h : Fin 4) : Vec Ideal S1x512x256 .bf16 :=
  fun i => X (ix3 0 (i 1) ⟨256 * h.val + (i 2).val, by have := (i 2).isLt; simp at this; omega⟩)
def hv {e : EltTy} (X : Vec Ideal S1x512x512 e) (h : Fin 4) : Vec Ideal S1x512x128 e :=
  fun i => X (ix3 0 (i 1) ⟨128 * h.val + (i 2).val, by have := (i 2).isLt; simp at this; omega⟩)
def hl (X : Vec Ideal S1x4x1x512 .f32) (h : Fin 4) : Vec Ideal S1x1x1x512 .f32 := fun i => X (ix4 0 h 0 (i 3))
def hK (X : Vec Ideal S4x512x256 .f32) (h : Fin 4) : Vec Ideal S1x512x256 .f32 := fun i => X (ix3 h (i 1) (i 2))
def hV (X : Vec Ideal S4x512x128 .f32) (h : Fin 4) : Vec Ideal S1x512x128 .f32 := fun i => X (ix3 h (i 1) (i 2))

theorem z1 (j : Fin 1) : j = 0 := Subsingleton.elim _ _

theorem rd_q (M : Memref sig .tc .vmem S1x512x1024 .bf16) (hM : M.IsWhole) (X : Vec Ideal S1x512x1024 .bf16) (h : Fin 4)
    (off : Fin 3 → ℕ) (ho : off = ![0, 0, 256 * h.val]) (inb) :
    View.readAt (Elt Ideal) M.view (Rect.unit (s := S1x512x1024) off S1x512x256.size inb).toLoadRect (hM.unread X) = hq X h := by
  subst ho
  funext i
  refine (hM.readAt_unread X _ i).trans (congrArg X ?_)
  funext a; apply Fin.ext
  match a with
  | ⟨0, _⟩ => show 0 + 1 * (i 0).val = 0; have := (i 0).isLt; simp at this; omega
  | ⟨1, _⟩ => show 0 + 1 * (i 1).val = (i 1).val; omega
  | ⟨2, _⟩ => show 256 * h.val + 1 * (i 2).val = 256 * h.val + (i 2).val; omega

theorem rd_v {e : EltTy} (M : Memref sig .tc .vmem S1x512x512 e) (hM : M.IsWhole) (X : Vec Ideal S1x512x512 e) (h : Fin 4)
    (off : Fin 3 → ℕ) (ho : off = ![0, 0, 128 * h.val]) (inb) :
    View.readAt (Elt Ideal) M.view (Rect.unit (s := S1x512x512) off S1x512x128.size inb).toLoadRect (hM.unread X) = hv X h := by
  subst ho
  funext i
  refine (hM.readAt_unread X _ i).trans (congrArg X ?_)
  funext a; apply Fin.ext
  match a with
  | ⟨0, _⟩ => show 0 + 1 * (i 0).val = 0; have := (i 0).isLt; simp at this; omega
  | ⟨1, _⟩ => show 0 + 1 * (i 1).val = (i 1).val; omega
  | ⟨2, _⟩ => show 128 * h.val + 1 * (i 2).val = 128 * h.val + (i 2).val; omega

theorem rd_l (M : Memref sig .tc .vmem S1x4x1x512 .f32) (hM : M.IsWhole) (X : Vec Ideal S1x4x1x512 .f32) (h : Fin 4)
    (off : Fin 4 → ℕ) (ho : off = ![0, h.val, 0, 0]) (inb) :
    View.readAt (Elt Ideal) M.view (Rect.unit (s := S1x4x1x512) off S1x1x1x512.size inb).toLoadRect (hM.unread X) = hl X h := by
  subst ho
  funext i
  refine (hM.readAt_unread X _ i).trans (congrArg X ?_)
  funext a; apply Fin.ext
  match a with
  | ⟨0, _⟩ => show 0 + 1 * (i 0).val = 0; have := (i 0).isLt; simp at this; omega
  | ⟨1, _⟩ => show h.val + 1 * (i 1).val = h.val; have := (i 1).isLt; simp at this; omega
  | ⟨2, _⟩ => show 0 + 1 * (i 2).val = 0; have := (i 2).isLt; simp at this; omega
  | ⟨3, _⟩ => show 0 + 1 * (i 3).val = (i 3).val; omega

theorem idx_K (h : Fin 4) (off : Fin 3 → ℕ) (ho : off = ![h.val, 0, 0]) (inb) (i : S1x512x256.Idx) :
    (Rect.unit (s := S4x512x256) off S1x512x256.size inb).toLoadRect.idx i = ix3 h (i 1) (i 2) := by
  subst ho
  funext a; apply Fin.ext
  match a with
  | ⟨0, _⟩ => show h.val + 1 * (i 0).val = h.val; have := (i 0).isLt; simp at this; omega
  | ⟨1, _⟩ => show 0 + 1 * (i 1).val = (i 1).val; omega
  | ⟨2, _⟩ => show 0 + 1 * (i 2).val = (i 2).val; omega

theorem idx_V (h : Fin 4) (off : Fin 3 → ℕ) (ho : off = ![h.val, 0, 0]) (inb) (i : S1x512x128.Idx) :
    (Rect.unit (s := S4x512x128) off S1x512x128.size inb).toLoadRect.idx i = ix3 h (i 1) (i 2) := by
  subst ho
  funext a; apply Fin.ext
  match a with
  | ⟨0, _⟩ => show h.val + 1 * (i 0).val = h.val; have := (i 0).isLt; simp at this; omega
  | ⟨1, _⟩ => show 0 + 1 * (i 1).val = (i 1).val; omega
  | ⟨2, _⟩ => show 0 + 1 * (i 2).val = (i 2).val; omega

theorem rd_K (M : Memref sig .tc .vmem S4x512x256 .f32) (hM : M.IsWhole) (X : Vec Ideal S4x512x256 .f32) (h : Fin 4)
    (off : Fin 3 → ℕ) (ho : off = ![h.val, 0, 0]) (inb) :
    View.readAt (Elt Ideal) M.view (Rect.unit (s := S4x512x256) off S1x512x256.size inb).toLoadRect (hM.unread X) = hK X h :=
  funext fun i => (hM.readAt_unread X _ i).trans (congrArg X (idx_K h off ho inb i))

theorem rd_V (M : Memref sig .tc .vmem S4x512x128 .f32) (hM : M.IsWhole) (X : Vec Ideal S4x512x128 .f32) (h : Fin 4)
    (off : Fin 3 → ℕ) (ho : off = ![h.val, 0, 0]) (inb) :
    View.readAt (Elt Ideal) M.view (Rect.unit (s := S4x512x128) off S1x512x128.size inb).toLoadRect (hM.unread X) = hV X h :=
  funext fun i => (hM.readAt_unread X _ i).trans (congrArg X (idx_V h off ho inb i))

/-- Four rows written, the newest first: a row holds what was written to it. -/
theorem read4 {d : ℕ} {e : EltTy} (M : View sig .tc .vmem ⟨3, ![4, 512, d]⟩ e) (f : M.ty.Contents (Elt Ideal))
    (i0 i1 i2 i3) (w0 w1 w2 w3 : (⟨3, ![1, 512, d]⟩ : Shape).Idx → Elt Ideal e) (L : List (View.Piece (Elt Ideal) ⟨3, ![4, 512, d]⟩ e))
    (h : Fin 4) (r : Fin 512) (x : Fin d) :
    M.read (Elt Ideal) (M.writes (Elt Ideal) f (⟨Rect.unit (s := ⟨3, ![4, 512, d]⟩) ![3, 0, 0] (⟨3, ![1, 512, d]⟩ : Shape).size i3, w3⟩
      :: ⟨Rect.unit (s := ⟨3, ![4, 512, d]⟩) ![2, 0, 0] (⟨3, ![1, 512, d]⟩ : Shape).size i2, w2⟩
      :: ⟨Rect.unit (s := ⟨3, ![4, 512, d]⟩) ![1, 0, 0] (⟨3, ![1, 512, d]⟩ : Shape).size i1, w1⟩
      :: ⟨Rect.unit (s := ⟨3, ![4, 512, d]⟩) ![0, 0, 0] (⟨3, ![1, 512, d]⟩ : Shape).size i0, w0⟩ :: L)) (ix3 h r x)
      = (![w0, w1, w2, w3] h) (ix3 0 r x) := by
  have hin : ∀ (k : Fin 4) (a : Fin 3), ((ix3 k r x : (⟨3, ![4, 512, d]⟩ : Shape).Idx) a).val = (![k.val, 0, 0] : Fin 3 → ℕ) a + ((ix3 0 r x : (⟨3, ![1, 512, d]⟩ : Shape).Idx) a).val := by
    intro k a
    match a with
    | ⟨0, _⟩ => show k.val = k.val + 0; omega
    | ⟨1, _⟩ => show r.val = 0 + r.val; omega
    | ⟨2, _⟩ => show x.val = 0 + x.val; omega
  match h with
  | ⟨3, _⟩ => exact View.read_writes_cons_unit_of_mem M f i3 w3 _ (ix3 3 r x) (ix3 0 r x) rfl (hin 3)
  | ⟨2, _⟩ =>
    rw [View.read_writes_cons_unit_of_not_mem M f i3 w3 _ _ rfl 0 (Or.inl (by show 2 < 3; omega))]
    exact View.read_writes_cons_unit_of_mem M f i2 w2 _ (ix3 2 r x) (ix3 0 r x) rfl (hin 2)
  | ⟨1, _⟩ =>
    rw [View.read_writes_cons_unit_of_not_mem M f i3 w3 _ _ rfl 0 (Or.inl (by show 1 < 3; omega)),
      View.read_writes_cons_unit_of_not_mem M f i2 w2 _ _ rfl 0 (Or.inl (by show 1 < 2; omega))]
    exact View.read_writes_cons_unit_of_mem M f i1 w1 _ (ix3 1 r x) (ix3 0 r x) rfl (hin 1)
  | ⟨0, _⟩ =>
    rw [View.read_writes_cons_unit_of_not_mem M f i3 w3 _ _ rfl 0 (Or.inl (by show 0 < 3; omega)),
      View.read_writes_cons_unit_of_not_mem M f i2 w2 _ _ rfl 0 (Or.inl (by show 0 < 2; omega)),
      View.read_writes_cons_unit_of_not_mem M f i1 w1 _ _ rfl 0 (Or.inl (by show 0 < 1; omega))]
    exact View.read_writes_cons_unit_of_mem M f i0 w0 _ (ix3 0 r x) (ix3 0 r x) rfl (hin 0)

/-! ## A point's accumulators -/

section Lists
variable (x0 x1 : Vec Ideal S1x512x1024 .bf16) (x2 : Vec Ideal S1x512x512 .bf16) (x3 : Vec Ideal S1x512x512 .f32)
  (x4 x5 : Vec Ideal S1x4x1x512 .f32)

/-- What one point below the diagonal adds to head `h` of the key gradient; -/
def addK (h : Fin 4) (r : Fin 512) (x : Fin 256) : EReal :=
  ∑ n : Fin 512, wgt (hq x0 h) (hq x1 h) (hl x4 h) r n * dwg (hv x2 h) (hv x3 h) (hl x5 h) r n * hq x0 h (ix3 0 n x)
/-- of the value gradient; -/
def addV (h : Fin 4) (r : Fin 512) (x : Fin 128) : EReal :=
  ∑ n : Fin 512, wgt (hq x0 h) (hq x1 h) (hl x4 h) r n * hv x3 h (ix3 0 n x)
/-- and what one on the diagonal adds. -/
def addKD (h : Fin 4) (r : Fin 512) (x : Fin 256) : EReal :=
  ∑ n : Fin 512, wgtD (hq x0 h) (hq x1 h) (hl x4 h) r n * dwg (hv x2 h) (hv x3 h) (hl x5 h) r n * hq x0 h (ix3 0 n x)
def addVD (h : Fin 4) (r : Fin 512) (x : Fin 128) : EReal :=
  ∑ n : Fin 512, wgtD (hq x0 h) (hq x1 h) (hl x4 h) r n * hv x3 h (ix3 0 n x)

variable (c : Dev nD)
  (arg3 : Memref sig .tc .vmem S1x512x1024 .bf16) (harg3 : arg3.IsWhole) (arg4 : Memref sig .tc .vmem S1x512x1024 .bf16) (harg4 : arg4.IsWhole)
  (arg5 : Memref sig .tc .vmem S1x512x512 .bf16) (harg5 : arg5.IsWhole) (arg6 : Memref sig .tc .vmem S1x512x512 .f32) (harg6 : arg6.IsWhole)
  (arg7 : Memref sig .tc .vmem S1x4x1x512 .f32) (harg7 : arg7.IsWhole) (arg8 : Memref sig .tc .vmem S1x4x1x512 .f32) (harg8 : arg8.IsWhole)
  (arg15 : Memref sig .tc .vmem S4x512x256 .f32) (harg15 : arg15.IsWhole) (arg16 : Memref sig .tc .vmem S4x512x128 .f32) (harg16 : arg16.IsWhole)
  (xk : Vec Ideal S4x512x256 .f32) (xv : Vec Ideal S4x512x128 .f32)

section Fin
variable {x0 x1 x2 x3 x4 x5 xk xv}
variable {q k : Vec Ideal S1x512x256 .bf16} {v : Vec Ideal S1x512x128 .bf16} {g : Vec Ideal S1x512x128 .f32}
  {l d : Vec Ideal S1x1x1x512 .f32} {aK : Vec Ideal S1x512x256 .f32} {aV : Vec Ideal S1x512x128 .f32} {h : Fin 4}
  (hq' : q = hq x0 h) (hk' : k = hq x1 h) (hv' : v = hv x2 h) (hg' : g = hv x3 h) (hl' : l = hl x4 h) (hd' : d = hl x5 h)
include hq' hk' hg' hl'

theorem fin_offV (ha : aV = hV xv h) (r : Fin 512) (x : Fin 128) :
    k0_pay11 q k g l aV (ix3 0 r x) = xv (ix3 h r x) + addV x0 x1 x3 x4 h r x := by
  rw [offV_apply]; subst hq' hk' hg' hl' ha; rfl

theorem fin_diagV (ha : aV = fun _ => 0) (r : Fin 512) (x : Fin 128) :
    k0_pay43 q k g l aV (ix3 0 r x) = 0 + addVD x0 x1 x3 x4 h r x := by
  rw [diagV_apply]; subst hq' hk' hg' hl' ha; rfl

include hv' hd'

theorem fin_offK (ha : aK = hK xk h) (r : Fin 512) (x : Fin 256) :
    k0_pay13 (k0_pay7 q) (k0_pay12 q k g l v d) aK (ix3 0 r x) = xk (ix3 h r x) + addK x0 x1 x2 x3 x4 x5 h r x := by
  rw [offK_apply]; subst hq' hk' hv' hg' hl' hd' ha; rfl

theorem fin_diagK (ha : aK = fun _ => 0) (r : Fin 512) (x : Fin 256) :
    k0_pay46 (k0_pay39 q) (k0_pay42 q k l) (k0_pay44 g v) d aK (ix3 0 r x) = 0 + addKD x0 x1 x2 x3 x4 x5 h r x := by
  rw [diagK_apply]; subst hq' hk' hv' hg' hl' hd' ha; rfl

end Fin

theorem offHK (f : arg15.view.ty.Contents (Elt Ideal)) (h : Fin 4) (r : Fin 512) (x : Fin 256) :
    arg15.view.read (Elt Ideal) (arg15.view.writes (Elt Ideal) f
      (runOff.sl.HK_4 c arg3 harg3 arg4 harg4 arg5 harg5 arg6 harg6 arg7 harg7 arg8 harg8 arg15 harg15 x0 x1 x2 x3 x4 x5 xk)) (ix3 h r x)
      = xk (ix3 h r x) + addK x0 x1 x2 x3 x4 x5 h r x := by
  unfold runOff.sl.HK_4
  refine (read4 (d := 256) arg15.view f _ _ _ _ _ _ _ _ [] h r x).trans ?_
  match h with
  | ⟨0, _⟩ => exact fin_offK (h := 0) (rd_q arg3 harg3 x0 0 _ rfl _) (rd_q arg4 harg4 x1 0 _ rfl _) (rd_v arg5 harg5 x2 0 _ rfl _) (rd_v arg6 harg6 x3 0 _ rfl _) (rd_l arg7 harg7 x4 0 _ rfl _) (rd_l arg8 harg8 x5 0 _ rfl _) (rd_K arg15 harg15 xk 0 _ rfl _) r x
  | ⟨1, _⟩ => exact fin_offK (h := 1) (rd_q arg3 harg3 x0 1 _ rfl _) (rd_q arg4 harg4 x1 1 _ rfl _) (rd_v arg5 harg5 x2 1 _ rfl _) (rd_v arg6 harg6 x3 1 _ rfl _) (rd_l arg7 harg7 x4 1 _ rfl _) (rd_l arg8 harg8 x5 1 _ rfl _) (rd_K arg15 harg15 xk 1 _ rfl _) r x
  | ⟨2, _⟩ => exact fin_offK (h := 2) (rd_q arg3 harg3 x0 2 _ rfl _) (rd_q arg4 harg4 x1 2 _ rfl _) (rd_v arg5 harg5 x2 2 _ rfl _) (rd_v arg6 harg6 x3 2 _ rfl _) (rd_l arg7 harg7 x4 2 _ rfl _) (rd_l arg8 harg8 x5 2 _ rfl _) (rd_K arg15 harg15 xk 2 _ rfl _) r x
  | ⟨3, _⟩ => exact fin_offK (h := 3) (rd_q arg3 harg3 x0 3 _ rfl _) (rd_q arg4 harg4 x1 3 _ rfl _) (rd_v arg5 harg5 x2 3 _ rfl _) (rd_v arg6 harg6 x3 3 _ rfl _) (rd_l arg7 harg7 x4 3 _ rfl _) (rd_l arg8 harg8 x5 3 _ rfl _) (rd_K arg15 harg15 xk 3 _ rfl _) r x

theorem offHV (f : arg16.view.ty.Contents (Elt Ideal)) (h : Fin 4) (r : Fin 512) (x : Fin 128) :
    arg16.view.read (Elt Ideal) (arg16.view.writes (Elt Ideal) f
      (runOff.sl.HV_4 c arg3 harg3 arg4 harg4 arg6 harg6 arg7 harg7 arg16 harg16 x0 x1 x3 x4 xv)) (ix3 h r x)
      = xv (ix3 h r x) + addV x0 x1 x3 x4 h r x := by
  unfold runOff.sl.HV_4
  refine (read4 (d := 128) arg16.view f _ _ _ _ _ _ _ _ [] h r x).trans ?_
  match h with
  | ⟨0, _⟩ => exact fin_offV (h := 0) (rd_q arg3 harg3 x0 0 _ rfl _) (rd_q arg4 harg4 x1 0 _ rfl _) (rd_v arg6 harg6 x3 0 _ rfl _) (rd_l arg7 harg7 x4 0 _ rfl _) (rd_V arg16 harg16 xv 0 _ rfl _) r x
  | ⟨1, _⟩ => exact fin_offV (h := 1) (rd_q arg3 harg3 x0 1 _ rfl _) (rd_q arg4 harg4 x1 1 _ rfl _) (rd_v arg6 harg6 x3 1 _ rfl _) (rd_l arg7 harg7 x4 1 _ rfl _) (rd_V arg16 harg16 xv 1 _ rfl _) r x
  | ⟨2, _⟩ => exact fin_offV (h := 2) (rd_q arg3 harg3 x0 2 _ rfl _) (rd_q arg4 harg4 x1 2 _ rfl _) (rd_v arg6 harg6 x3 2 _ rfl _) (rd_l arg7 harg7 x4 2 _ rfl _) (rd_V arg16 harg16 xv 2 _ rfl _) r x
  | ⟨3, _⟩ => exact fin_offV (h := 3) (rd_q arg3 harg3 x0 3 _ rfl _) (rd_q arg4 harg4 x1 3 _ rfl _) (rd_v arg6 harg6 x3 3 _ rfl _) (rd_l arg7 harg7 x4 3 _ rfl _) (rd_V arg16 harg16 xv 3 _ rfl _) r x

theorem pay1_zero : (k0_pay1 : FVec Ideal S4x512x256 .f32) = fun _ => 0 := by
  funext i; unfold k0_pay1; pointwise
theorem pay2_zero : (k0_pay2 : FVec Ideal S4x512x128 .f32) = fun _ => 0 := by
  funext i; unfold k0_pay2; pointwise

theorem diagHK (f : arg15.view.ty.Contents (Elt Ideal)) (h : Fin 4) (r : Fin 512) (x : Fin 256) :
    arg15.view.read (Elt Ideal) (arg15.view.writes (Elt Ideal) f
      (runDiag.sl.HK_5 c arg3 harg3 arg4 harg4 arg5 harg5 arg6 harg6 arg7 harg7 arg8 harg8 arg15 x0 x1 x2 x3 x4 x5)) (ix3 h r x)
      = 0 + addKD x0 x1 x2 x3 x4 x5 h r x := by
  unfold runDiag.sl.HK_5 runDiag.sl.HK_4 runDiag.sl.HK_3 runDiag.sl.HK_2 runDiag.sl.HK_1
  refine (read4 (d := 256) arg15.view f _ _ _ _ _ _ _ _ [_] h r x).trans ?_
  have hz : ∀ (R : Rect S4x512x256), View.ld (Val := Elt Ideal) (e' := .f32) (k0_pay1 : FVec Ideal S4x512x256 .f32) R = (fun _ => (0 : EReal)) := fun R => by rw [pay1_zero]
  match h with
  | ⟨0, _⟩ => exact fin_diagK (h := 0) (rd_q arg3 harg3 x0 0 _ rfl _) (rd_q arg4 harg4 x1 0 _ rfl _) (rd_v arg5 harg5 x2 0 _ rfl _) (rd_v arg6 harg6 x3 0 _ rfl _) (rd_l arg7 harg7 x4 0 _ rfl _) (rd_l arg8 harg8 x5 0 _ rfl _) ((View.readCov_fill arg15.view _ _ [] _ (by decide)).trans (hz _)) r x
  | ⟨1, _⟩ => exact fin_diagK (h := 1) (rd_q arg3 harg3 x0 1 _ rfl _) (rd_q arg4 harg4 x1 1 _ rfl _) (rd_v arg5 harg5 x2 1 _ rfl _) (rd_v arg6 harg6 x3 1 _ rfl _) (rd_l arg7 harg7 x4 1 _ rfl _) (rd_l arg8 harg8 x5 1 _ rfl _) ((View.readCov_skip arg15.view _ _ _ _ (by decide)).trans ((View.readCov_fill arg15.view _ _ [] _ (by decide)).trans (hz _))) r x
  | ⟨2, _⟩ => exact fin_diagK (h := 2) (rd_q arg3 harg3 x0 2 _ rfl _) (rd_q arg4 harg4 x1 2 _ rfl _) (rd_v arg5 harg5 x2 2 _ rfl _) (rd_v arg6 harg6 x3 2 _ rfl _) (rd_l arg7 harg7 x4 2 _ rfl _) (rd_l arg8 harg8 x5 2 _ rfl _) ((View.readCov_skip arg15.view _ _ _ _ (by decide)).trans ((View.readCov_skip arg15.view _ _ _ _ (by decide)).trans ((View.readCov_fill arg15.view _ _ [] _ (by decide)).trans (hz _)))) r x
  | ⟨3, _⟩ =>
    have ha : runDiag.sl.v237 c arg3 harg3 arg4 harg4 arg5 harg5 arg6 harg6 arg7 harg7 arg8 harg8 arg15 x0 x1 x2 x3 x4 x5 = fun _ => 0 := by
      unfold runDiag.sl.v237
      exact ((View.readCov_skip arg15.view _ _ _ _ (by decide)).trans ((View.readCov_skip arg15.view _ _ _ _ (by decide)).trans ((View.readCov_skip arg15.view _ _ _ _ (by decide)).trans ((View.readCov_fill arg15.view _ _ [] _ (by decide)).trans (hz _)))))
    exact fin_diagK (h := 3) (rd_q arg3 harg3 x0 3 _ rfl _) (rd_q arg4 harg4 x1 3 _ rfl _) (rd_v arg5 harg5 x2 3 _ rfl _) (rd_v arg6 harg6 x3 3 _ rfl _) (rd_l arg7 harg7 x4 3 _ rfl _) (rd_l arg8 harg8 x5 3 _ rfl _) ha r x

theorem diagHV (f : arg16.view.ty.Contents (Elt Ideal)) (h : Fin 4) (r : Fin 512) (x : Fin 128) :
    arg16.view.read (Elt Ideal) (arg16.view.writes (Elt Ideal) f
      (runDiag.sl.HV_5 c arg3 harg3 arg4 harg4 arg6 harg6 arg7 harg7 arg16 x0 x1 x3 x4)) (ix3 h r x)
      = 0 + addVD x0 x1 x3 x4 h r x := by
  unfold runDiag.sl.HV_5 runDiag.sl.HV_4 runDiag.sl.HV_3 runDiag.sl.HV_2 runDiag.sl.HV_1
  refine (read4 (d := 128) arg16.view f _ _ _ _ _ _ _ _ [_] h r x).trans ?_
  have hz : ∀ (R : Rect S4x512x128), View.ld (Val := Elt Ideal) (e' := .f32) (k0_pay2 : FVec Ideal S4x512x128 .f32) R = (fun _ => (0 : EReal)) := fun R => by rw [pay2_zero]
  match h with
  | ⟨0, _⟩ => exact fin_diagV (h := 0) (rd_q arg3 harg3 x0 0 _ rfl _) (rd_q arg4 harg4 x1 0 _ rfl _) (rd_v arg6 harg6 x3 0 _ rfl _) (rd_l arg7 harg7 x4 0 _ rfl _) ((View.readCov_fill arg16.view _ _ [] _ (by decide)).trans (hz _)) r x
  | ⟨1, _⟩ => exact fin_diagV (h := 1) (rd_q arg3 harg3 x0 1 _ rfl _) (rd_q arg4 harg4 x1 1 _ rfl _) (rd_v arg6 harg6 x3 1 _ rfl _) (rd_l arg7 harg7 x4 1 _ rfl _) ((View.readCov_skip arg16.view _ _ _ _ (by decide)).trans ((View.readCov_fill arg16.view _ _ [] _ (by decide)).trans (hz _))) r x
  | ⟨2, _⟩ => exact fin_diagV (h := 2) (rd_q arg3 harg3 x0 2 _ rfl _) (rd_q arg4 harg4 x1 2 _ rfl _) (rd_v arg6 harg6 x3 2 _ rfl _) (rd_l arg7 harg7 x4 2 _ rfl _) ((View.readCov_skip arg16.view _ _ _ _ (by decide)).trans ((View.readCov_skip arg16.view _ _ _ _ (by decide)).trans ((View.readCov_fill arg16.view _ _ [] _ (by decide)).trans (hz _)))) r x
  | ⟨3, _⟩ => exact fin_diagV (h := 3) (rd_q arg3 harg3 x0 3 _ rfl _) (rd_q arg4 harg4 x1 3 _ rfl _) (rd_v arg6 harg6 x3 3 _ rfl _) (rd_l arg7 harg7 x4 3 _ rfl _) ((View.readCov_skip arg16.view _ _ _ _ (by decide)).trans ((View.readCov_skip arg16.view _ _ _ _ (by decide)).trans ((View.readCov_skip arg16.view _ _ _ _ (by decide)).trans ((View.readCov_fill arg16.view _ _ [] _ (by decide)).trans (hz _))))) r x

end Lists

end Cert.AttnIdeal.Att
-- ==== Proof.AttnOut.lean ====
module

public import proofs.«01_k».proof.Proof.AttnFrame
public import proofs.«01_k».proof.Proof.AttnStep

@[expose] public section

set_option maxRecDepth 16384

noncomputable section

namespace Cert.AttnIdeal.Att

open Cert.AttnIdeal Cert.AttnIdeal.Gen Idealize.ShloMosaic Idealize.ShloMosaic.TcCoe Idealize.SL.Sem

/-! ## What a key block's last point stores, of the accumulators it leaves -/

/-- The natural logarithm of two, as the kernel's constant denotes it. -/
def ln2 : EReal := ((Real.log 2 : ℝ) : EReal)

theorem ln2_named : Named.named (F := Ideal) κ "ln2" (φ := .f32) 0x3F317218#32 = ln2 :=
  IdealRules.named_const.ideal_named_scalar _ _ _ _ rfl

theorem pay96_apply (w : Vec Ideal S1x512x128 .f32) (r : Fin 512) (x : Fin 128) : (k0_pay96 w : FVec Ideal S1x512x128 .bf16) (ix3 0 r x) = ((w (ix3 0 r x) : EReal) * ln2 : EReal) := by
  unfold k0_pay96; rw [ln2_named]; pointwise
theorem pay99_apply (w : Vec Ideal S1x512x128 .f32) (r : Fin 512) (x : Fin 128) : (k0_pay99 w : FVec Ideal S1x512x128 .bf16) (ix3 0 r x) = ((w (ix3 0 r x) : EReal) * ln2 : EReal) := by
  unfold k0_pay99; rw [ln2_named]; pointwise
theorem pay102_apply (w : Vec Ideal S1x512x128 .f32) (r : Fin 512) (x : Fin 128) : (k0_pay102 w : FVec Ideal S1x512x128 .bf16) (ix3 0 r x) = ((w (ix3 0 r x) : EReal) * ln2 : EReal) := by
  unfold k0_pay102; rw [ln2_named]; pointwise
theorem pay4_apply (w : Vec Ideal S1x512x128 .f32) (r : Fin 512) (x : Fin 128) : (k0_pay4 (k0_pay105 w) : FVec Ideal S1x512x128 .bf16) (ix3 0 r x) = ((w (ix3 0 r x) : EReal) * ln2 : EReal) := by
  unfold k0_pay4 k0_pay105; rw [ln2_named]; pointwise
theorem pay97_apply (w : Vec Ideal S1x512x128 .f32) (r : Fin 512) (x : Fin 128) : (k0_pay97 w : FVec Ideal S1x512x128 .bf16) (ix3 0 r x) = w (ix3 0 r x) := by
  unfold k0_pay97; pointwise
theorem pay103_apply (w : Vec Ideal S1x512x128 .f32) (r : Fin 512) (x : Fin 128) : (k0_pay103 w : FVec Ideal S1x512x128 .bf16) (ix3 0 r x) = w (ix3 0 r x) := by
  unfold k0_pay103; pointwise
theorem pay5_apply (w : Vec Ideal S1x512x128 .f32) (r : Fin 512) (x : Fin 128) : (k0_pay5 w : FVec Ideal S1x512x128 .bf16) (ix3 0 r x) = w (ix3 0 r x) := by
  unfold k0_pay5; pointwise
theorem pay101_apply (w : Vec Ideal S1x512x128 .f32) (r : Fin 512) (x : Fin 128) : (k0_pay101 (k0_pay100 w) : FVec Ideal S1x512x128 .bf16) (ix3 0 r x) = w (ix3 0 r x) := by
  unfold k0_pay101 k0_pay100; pointwise
theorem pay6_apply (w0 w1 w2 w3 : Vec Ideal S1x512x128 .f32) (r : Fin 512) (x : Fin 128) : (k0_pay6 (k0_pay104 (k0_pay98 w0) w1 w2) w3 : FVec Ideal S1x512x128 .f32) (ix3 0 r x)
    = ((((0 + w0 (ix3 0 r x)) + w1 (ix3 0 r x)) + w2 (ix3 0 r x)) + w3 (ix3 0 r x)) * ln2 := by
  unfold k0_pay6 k0_pay104 k0_pay98; rw [ln2_named]; pointwise

theorem pay96_of {w : Vec Ideal S1x512x128 .f32} {r : Fin 512} {x : Fin 128} {y : EReal} (h : w (ix3 0 r x) = y) : (k0_pay96 w : FVec Ideal S1x512x128 .bf16) (ix3 0 r x) = (y * ln2 : EReal) := by
  rw [pay96_apply, h]
theorem pay99_of {w : Vec Ideal S1x512x128 .f32} {r : Fin 512} {x : Fin 128} {y : EReal} (h : w (ix3 0 r x) = y) : (k0_pay99 w : FVec Ideal S1x512x128 .bf16) (ix3 0 r x) = (y * ln2 : EReal) := by
  rw [pay99_apply, h]
theorem pay102_of {w : Vec Ideal S1x512x128 .f32} {r : Fin 512} {x : Fin 128} {y : EReal} (h : w (ix3 0 r x) = y) : (k0_pay102 w : FVec Ideal S1x512x128 .bf16) (ix3 0 r x) = (y * ln2 : EReal) := by
  rw [pay102_apply, h]
theorem pay4_of {w : Vec Ideal S1x512x128 .f32} {r : Fin 512} {x : Fin 128} {y : EReal} (h : w (ix3 0 r x) = y) : (k0_pay4 (k0_pay105 w) : FVec Ideal S1x512x128 .bf16) (ix3 0 r x) = (y * ln2 : EReal) := by
  rw [pay4_apply, h]
theorem pay6_of {w0 w1 w2 w3 : Vec Ideal S1x512x128 .f32} {r : Fin 512} {x : Fin 128} {y0 y1 y2 y3 : EReal} (h0 : w0 (ix3 0 r x) = y0) (h1 : w1 (ix3 0 r x) = y1)
    (h2 : w2 (ix3 0 r x) = y2) (h3 : w3 (ix3 0 r x) = y3) : (k0_pay6 (k0_pay104 (k0_pay98 w0) w1 w2) w3 : FVec Ideal S1x512x128 .f32) (ix3 0 r x) = ((((0 + y0) + y1) + y2) + y3) * ln2 := by
  rw [pay6_apply, h0, h1, h2, h3]

/-- Feature `x` of head `h`'s 128. -/
def hd128 (h : Fin 4) (x : Fin 128) : Fin 512 := ⟨128 * h.val + x.val, by omega⟩

/-- Four heads' columns written, the newest first: a column holds what was written to it. -/
theorem read4c {e : EltTy} (M : View sig .tc .vmem S1x512x512 e) (f : M.ty.Contents (Elt Ideal)) (i0 i1 i2 i3)
    (w0 w1 w2 w3 : S1x512x128.Idx → Elt Ideal e) (h : Fin 4) (r : Fin 512) (x : Fin 128) :
    M.read (Elt Ideal) (M.writes (Elt Ideal) f [⟨Rect.unit (s := S1x512x512) ![0, 0, 384] S1x512x128.size i3, w3⟩,
      ⟨Rect.unit (s := S1x512x512) ![0, 0, 256] S1x512x128.size i2, w2⟩,
      ⟨Rect.unit (s := S1x512x512) ![0, 0, 128] S1x512x128.size i1, w1⟩,
      ⟨Rect.unit (s := S1x512x512) ![0, 0, 0] S1x512x128.size i0, w0⟩]) (ix3 0 r (hd128 h x))
      = (![w0, w1, w2, w3] h) (ix3 0 r x) := by
  have hin : ∀ (k : Fin 4) (a : Fin 3), ((ix3 0 r (hd128 k x) : S1x512x512.Idx) a).val = (![0, 0, 128 * k.val] : Fin 3 → ℕ) a + ((ix3 0 r x : S1x512x128.Idx) a).val := by
    intro k a
    match a with
    | ⟨0, _⟩ => rfl
    | ⟨1, _⟩ => show r.val = 0 + r.val; omega
    | ⟨2, _⟩ => rfl
  match h with
  | ⟨3, _⟩ => exact View.read_writes_cons_unit_of_mem M f i3 w3 _ (ix3 0 r (hd128 3 x)) (ix3 0 r x) rfl (hin 3)
  | ⟨2, _⟩ =>
    rw [View.read_writes_cons_unit_of_not_mem M f i3 w3 _ _ rfl 2 (Or.inl (by show 128 * 2 + x.val < 384; omega))]
    exact View.read_writes_cons_unit_of_mem M f i2 w2 _ (ix3 0 r (hd128 2 x)) (ix3 0 r x) rfl (hin 2)
  | ⟨1, _⟩ =>
    rw [View.read_writes_cons_unit_of_not_mem M f i3 w3 _ _ rfl 2 (Or.inl (by show 128 * 1 + x.val < 384; omega)),
      View.read_writes_cons_unit_of_not_mem M f i2 w2 _ _ rfl 2 (Or.inl (by show 128 * 1 + x.val < 256; omega))]
    exact View.read_writes_cons_unit_of_mem M f i1 w1 _ (ix3 0 r (hd128 1 x)) (ix3 0 r x) rfl (hin 1)
  | ⟨0, _⟩ =>
    rw [View.read_writes_cons_unit_of_not_mem M f i3 w3 _ _ rfl 2 (Or.inl (by show 128 * 0 + x.val < 384; omega)),
      View.read_writes_cons_unit_of_not_mem M f i2 w2 _ _ rfl 2 (Or.inl (by show 128 * 0 + x.val < 256; omega)),
      View.read_writes_cons_unit_of_not_mem M f i1 w1 _ _ rfl 2 (Or.inl (by show 128 * 0 + x.val < 128; omega))]
    exact View.read_writes_cons_unit_of_mem M f i0 w0 _ (ix3 0 r (hd128 0 x)) (ix3 0 r x) rfl (hin 0)

/-- The first and the second 128 features of a head's 256. -/
def lo128 (x : Fin 128) : Fin 256 := ⟨x.val, by omega⟩
def hi128 (x : Fin 128) : Fin 256 := ⟨128 + x.val, by omega⟩

section Words
variable (A : Memref sig .tc .vmem S4x512x256 .f32) (LK : List (View.Piece (Elt Ideal) S4x512x256 .f32)) (RK : S4x512x256.Idx → EReal)
  (hK : ∀ f, A.view.read (Elt Ideal) (A.view.writes (Elt Ideal) f LK) = RK)
  (B : Memref sig .tc .vmem S4x512x128 .f32) (LV : List (View.Piece (Elt Ideal) S4x512x128 .f32)) (RV : S4x512x128.Idx → EReal)
  (hV : ∀ f, B.view.read (Elt Ideal) (B.view.writes (Elt Ideal) f LV) = RV)

include hK in
theorem wordLo (h : Fin 4) (off : Fin 3 → ℕ) (ho : off = ![h.val, 0, 0]) (inb) (r : Fin 512) (x : Fin 128) :
    View.readCov (Val := Elt Ideal) A.view LK (Rect.unit (s := S4x512x256) off S1x512x128.size inb).toLoadRect (ix3 0 r x) = RK (ix3 h r (lo128 x)) := by
  subst ho
  refine (congrFun (hK _) _).trans (congrArg RK ?_)
  funext a; apply Fin.ext
  match a with
  | ⟨0, _⟩ => show h.val + 1 * 0 = h.val; omega
  | ⟨1, _⟩ => show 0 + 1 * r.val = r.val; omega
  | ⟨2, _⟩ => show 0 + 1 * x.val = x.val; omega

include hK in
theorem wordHi (h : Fin 4) (off : Fin 3 → ℕ) (ho : off = ![h.val, 0, 128]) (inb) (r : Fin 512) (x : Fin 128) :
    View.readCov (Val := Elt Ideal) A.view LK (Rect.unit (s := S4x512x256) off S1x512x128.size inb).toLoadRect (ix3 0 r x) = RK (ix3 h r (hi128 x)) := by
  subst ho
  refine (congrFun (hK _) _).trans (congrArg RK ?_)
  funext a; apply Fin.ext
  match a with
  | ⟨0, _⟩ => show h.val + 1 * 0 = h.val; omega
  | ⟨1, _⟩ => show 0 + 1 * r.val = r.val; omega
  | ⟨2, _⟩ => show 128 + 1 * x.val = 128 + x.val; omega

include hV in
theorem wordV (h : Fin 4) (off : Fin 3 → ℕ) (ho : off = ![h.val, 0, 0]) (inb) (r : Fin 512) (x : Fin 128) :
    View.readCov (Val := Elt Ideal) B.view LV (Rect.unit (s := S4x512x128) off S1x512x128.size inb).toLoadRect (ix3 0 r x) = RV (ix3 h r x) := by
  subst ho
  refine (congrFun (hV _) _).trans (congrArg RV ?_)
  funext a; apply Fin.ext
  match a with
  | ⟨0, _⟩ => show h.val + 1 * 0 = h.val; omega
  | ⟨1, _⟩ => show 0 + 1 * r.val = r.val; omega
  | ⟨2, _⟩ => show 0 + 1 * x.val = x.val; omega

theorem sel4 {α β : Type} {a b c d : α → β} {i : α} (y : Fin 4 → β) (ha : a i = y 0) (hb : b i = y 1) (hc : c i = y 2) (hd : d i = y 3) (h : Fin 4) :
    (![a, b, c, d] h) i = y h := by
  match h with
  | 0 => exact ha
  | 1 => exact hb
  | 2 => exact hc
  | 3 => exact hd

theorem storeN_of (M : View sig .tc .vmem S1x512x512 .bf16) (f : M.ty.Contents (Elt Ideal)) (i0 i1 i2 i3) (w0 w1 w2 w3 : Vec Ideal S1x512x128 .f32) (y : Fin 4 → EReal) (h : Fin 4) (r : Fin 512) (x : Fin 128)
    (h0 : w0 (ix3 0 r x) = y 0) (h1 : w1 (ix3 0 r x) = y 1) (h2 : w2 (ix3 0 r x) = y 2) (h3 : w3 (ix3 0 r x) = y 3) :
    M.read (Elt Ideal) (M.writes (Elt Ideal) f [
      ⟨Rect.unit (s := S1x512x512) ![0, 0, 384] S1x512x128.size i3, k0_pay4 (k0_pay105 w3)⟩,
      ⟨Rect.unit (s := S1x512x512) ![0, 0, 256] S1x512x128.size i2, k0_pay102 w2⟩,
      ⟨Rect.unit (s := S1x512x512) ![0, 0, 128] S1x512x128.size i1, k0_pay99 w1⟩,
      ⟨Rect.unit (s := S1x512x512) ![0, 0, 0] S1x512x128.size i0, k0_pay96 w0⟩]) (ix3 0 r (hd128 h x))
      = (y h * ln2 : EReal) := by
  exact (read4c M f i0 i1 i2 i3 _ _ _ _ h r x).trans (sel4 (fun k => y k * ln2) (pay96_of h0) (pay99_of h1) (pay102_of h2) (pay4_of h3) h)

include hK in
theorem storeN (M : View sig .tc .vmem S1x512x512 .bf16) (f : M.ty.Contents (Elt Ideal)) (i0 i1 i2 i3 j0 j1 j2 j3) (h : Fin 4) (r : Fin 512) (x : Fin 128) :
    M.read (Elt Ideal) (M.writes (Elt Ideal) f [
      ⟨Rect.unit (s := S1x512x512) ![0, 0, 384] S1x512x128.size i3, k0_pay4 (k0_pay105 (View.readCov (Val := Elt Ideal) A.view LK (Rect.unit (s := S4x512x256) ![3, 0, 0] S1x512x128.size j3).toLoadRect))⟩,
      ⟨Rect.unit (s := S1x512x512) ![0, 0, 256] S1x512x128.size i2, k0_pay102 (View.readCov (Val := Elt Ideal) A.view LK (Rect.unit (s := S4x512x256) ![2, 0, 0] S1x512x128.size j2).toLoadRect)⟩,
      ⟨Rect.unit (s := S1x512x512) ![0, 0, 128] S1x512x128.size i1, k0_pay99 (View.readCov (Val := Elt Ideal) A.view LK (Rect.unit (s := S4x512x256) ![1, 0, 0] S1x512x128.size j1).toLoadRect)⟩,
      ⟨Rect.unit (s := S1x512x512) ![0, 0, 0] S1x512x128.size i0, k0_pay96 (View.readCov (Val := Elt Ideal) A.view LK (Rect.unit (s := S4x512x256) ![0, 0, 0] S1x512x128.size j0).toLoadRect)⟩]) (ix3 0 r (hd128 h x))
      = (RK (ix3 h r (lo128 x)) * ln2 : EReal) := by
  exact storeN_of M f i0 i1 i2 i3 _ _ _ _ (fun h => RK (ix3 h r (lo128 x))) h r x (wordLo A LK RK hK 0 _ rfl j0 r x) (wordLo A LK RK hK 1 _ rfl j1 r x) (wordLo A LK RK hK 2 _ rfl j2 r x) (wordLo A LK RK hK 3 _ rfl j3 r x)

theorem storeV_of (M : View sig .tc .vmem S1x512x512 .bf16) (f : M.ty.Contents (Elt Ideal)) (i0 i1 i2 i3) (w0 w1 w2 w3 : Vec Ideal S1x512x128 .f32) (y : Fin 4 → EReal) (h : Fin 4) (r : Fin 512) (x : Fin 128)
    (h0 : w0 (ix3 0 r x) = y 0) (h1 : w1 (ix3 0 r x) = y 1) (h2 : w2 (ix3 0 r x) = y 2) (h3 : w3 (ix3 0 r x) = y 3) :
    M.read (Elt Ideal) (M.writes (Elt Ideal) f [
      ⟨Rect.unit (s := S1x512x512) ![0, 0, 384] S1x512x128.size i3, k0_pay5 w3⟩,
      ⟨Rect.unit (s := S1x512x512) ![0, 0, 256] S1x512x128.size i2, k0_pay103 w2⟩,
      ⟨Rect.unit (s := S1x512x512) ![0, 0, 128] S1x512x128.size i1, k0_pay101 (k0_pay100 w1)⟩,
      ⟨Rect.unit (s := S1x512x512) ![0, 0, 0] S1x512x128.size i0, k0_pay97 w0⟩]) (ix3 0 r (hd128 h x)) = y h := by
  exact (read4c M f i0 i1 i2 i3 _ _ _ _ h r x).trans (sel4 y ((pay97_apply w0 r x).trans h0) ((pay101_apply w1 r x).trans h1) ((pay103_apply w2 r x).trans h2) ((pay5_apply w3 r x).trans h3) h)

include hV in
theorem storeV (M : View sig .tc .vmem S1x512x512 .bf16) (f : M.ty.Contents (Elt Ideal)) (i0 i1 i2 i3 j0 j1 j2 j3) (h : Fin 4) (r : Fin 512) (x : Fin 128) :
    M.read (Elt Ideal) (M.writes (Elt Ideal) f [
      ⟨Rect.unit (s := S1x512x512) ![0, 0, 384] S1x512x128.size i3, k0_pay5 (View.readCov (Val := Elt Ideal) B.view LV (Rect.unit (s := S4x512x128) ![3, 0, 0] S1x512x128.size j3).toLoadRect)⟩,
      ⟨Rect.unit (s := S1x512x512) ![0, 0, 256] S1x512x128.size i2, k0_pay103 (View.readCov (Val := Elt Ideal) B.view LV (Rect.unit (s := S4x512x128) ![2, 0, 0] S1x512x128.size j2).toLoadRect)⟩,
      ⟨Rect.unit (s := S1x512x512) ![0, 0, 128] S1x512x128.size i1, k0_pay101 (k0_pay100 (View.readCov (Val := Elt Ideal) B.view LV (Rect.unit (s := S4x512x128) ![1, 0, 0] S1x512x128.size j1).toLoadRect))⟩,
      ⟨Rect.unit (s := S1x512x512) ![0, 0, 0] S1x512x128.size i0, k0_pay97 (View.readCov (Val := Elt Ideal) B.view LV (Rect.unit (s := S4x512x128) ![0, 0, 0] S1x512x128.size j0).toLoadRect)⟩]) (ix3 0 r (hd128 h x))
      = RV (ix3 h r x) := by
  exact storeV_of M f i0 i1 i2 i3 _ _ _ _ (fun h => RV (ix3 h r x)) h r x (wordV B LV RV hV 0 _ rfl j0 r x) (wordV B LV RV hV 1 _ rfl j1 r x) (wordV B LV RV hV 2 _ rfl j2 r x) (wordV B LV RV hV 3 _ rfl j3 r x)

include hK in
theorem storeR (M : View sig .tc .vmem S1x512x128 .f32) (f : M.ty.Contents (Elt Ideal)) (i0 j0 j1 j2 j3) (r : Fin 512) (x : Fin 128) :
    M.read (Elt Ideal) (M.writes (Elt Ideal) f [
      ⟨Rect.unit (s := S1x512x128) ![0, 0, 0] S1x512x128.size i0, k0_pay6 (k0_pay104 (k0_pay98 (View.readCov (Val := Elt Ideal) A.view LK (Rect.unit (s := S4x512x256) ![0, 0, 128] S1x512x128.size j0).toLoadRect))
          (View.readCov (Val := Elt Ideal) A.view LK (Rect.unit (s := S4x512x256) ![1, 0, 128] S1x512x128.size j1).toLoadRect)
          (View.readCov (Val := Elt Ideal) A.view LK (Rect.unit (s := S4x512x256) ![2, 0, 128] S1x512x128.size j2).toLoadRect))
        (View.readCov (Val := Elt Ideal) A.view LK (Rect.unit (s := S4x512x256) ![3, 0, 128] S1x512x128.size j3).toLoadRect)⟩]) (ix3 0 r x)
      = ((((0 + RK (ix3 0 r (hi128 x))) + RK (ix3 1 r (hi128 x))) + RK (ix3 2 r (hi128 x))) + RK (ix3 3 r (hi128 x))) * ln2 := by
  refine (View.read_writes_cons_unit_of_mem M f i0 _ _ (ix3 0 r x) (ix3 0 r x) rfl (fun a => ?_)).trans ?_
  · match a with
    | ⟨0, _⟩ => rfl
    | ⟨1, _⟩ => show r.val = 0 + r.val; omega
    | ⟨2, _⟩ => show x.val = 0 + x.val; omega
  · exact pay6_of (wordHi A LK RK hK 0 _ rfl j0 r x) (wordHi A LK RK hK 1 _ rfl j1 r x) (wordHi A LK RK hK 2 _ rfl j2 r x) (wordHi A LK RK hK 3 _ rfl j3 r x)

end Words

variable (m : (ℓ : Loc nD τ sig) → Buf (Elt Ideal) ℓ) (c : Dev nD)

/-- The accumulators after a point are what its pieces leave, whatever was there. -/
theorem readK (t : Fin cfg0.N) (f) : scK.view.read (Elt Ideal) (scK.view.writes (Elt Ideal) f (pcsAt m c t).LK) = (stAt m c (t.val + 1)).1 := by
  rw [stAt_succ]
  refine View.read_writes_of_cover scK.view f scK.view _ (pcsAt m c t).LK ?_
  by_cases hd : condDiag (grid0.coords t)
  · rw [pcsAt, pcs_diag m c t hd]; exact covDiagK m c t hd (iblk m c 2 t) (iblk m c 2 t) (iblk m c 6 t) (stAt m c t.val).1 (stAt m c t.val).2
  · rw [pcsAt, pcs_off m c t hd]; exact covOffK m c t hd (iblk m c 2 t) (iblk m c 2 t) (iblk m c 6 t) (stAt m c t.val).1 (stAt m c t.val).2

theorem readV (t : Fin cfg0.N) (f) : scV.view.read (Elt Ideal) (scV.view.writes (Elt Ideal) f (pcsAt m c t).LV) = (stAt m c (t.val + 1)).2 := by
  rw [stAt_succ]
  refine View.read_writes_of_cover scV.view f scV.view _ (pcsAt m c t).LV ?_
  by_cases hd : condDiag (grid0.coords t)
  · rw [pcsAt, pcs_diag m c t hd]; exact covDiagV m c t hd (iblk m c 2 t) (iblk m c 2 t) (iblk m c 6 t) (stAt m c t.val).1 (stAt m c t.val).2
  · rw [pcsAt, pcs_off m c t hd]; exact covOffV m c t hd (iblk m c 2 t) (iblk m c 2 t) (iblk m c 6 t) (stAt m c t.val).1 (stAt m c t.val).2

theorem out8_apply (t : Fin cfg0.N) (h : Fin 4) (r : Fin 512) (x : Fin 128) :
    out8 m c t (ix3 0 r (hd128 h x)) = (stAt m c (t.val + 1)).1 (ix3 h r (lo128 x)) * ln2 := by
  have hR := readK m c t
  by_cases hd : condDiag (grid0.coords t)
  · unfold out8; unfold pcsAt at hR ⊢; rw [pcs_diag m c t hd] at hR ⊢
    exact storeN scK _ _ hR _ _ _ _ _ _ _ _ _ _ h r x
  · unfold out8; unfold pcsAt at hR ⊢; rw [pcs_off m c t hd] at hR ⊢
    exact storeN scK _ _ hR _ _ _ _ _ _ _ _ _ _ h r x

theorem out9_apply (t : Fin cfg0.N) (h : Fin 4) (r : Fin 512) (x : Fin 128) :
    out9 m c t (ix3 0 r (hd128 h x)) = (stAt m c (t.val + 1)).2 (ix3 h r x) := by
  have hR := readV m c t
  by_cases hd : condDiag (grid0.coords t)
  · unfold out9; unfold pcsAt at hR ⊢; rw [pcs_diag m c t hd] at hR ⊢
    exact storeV scV _ _ hR _ _ _ _ _ _ _ _ _ _ h r x
  · unfold out9; unfold pcsAt at hR ⊢; rw [pcs_off m c t hd] at hR ⊢
    exact storeV scV _ _ hR _ _ _ _ _ _ _ _ _ _ h r x

theorem out10_apply (t : Fin cfg0.N) (r : Fin 512) (x : Fin 128) :
    out10 m c t (ix3 0 r x) = ((((0 + (stAt m c (t.val + 1)).1 (ix3 0 r (hi128 x))) + (stAt m c (t.val + 1)).1 (ix3 1 r (hi128 x)))
      + (stAt m c (t.val + 1)).1 (ix3 2 r (hi128 x))) + (stAt m c (t.val + 1)).1 (ix3 3 r (hi128 x))) * ln2 := by
  have hR := readK m c t
  by_cases hd : condDiag (grid0.coords t)
  · unfold out10; unfold pcsAt at hR ⊢; rw [pcs_diag m c t hd] at hR ⊢
    exact storeR scK _ _ hR _ _ _ _ _ _ _ r x
  · unfold out10; unfold pcsAt at hR ⊢; rw [pcs_off m c t hd] at hR ⊢
    exact storeR scK _ _ hR _ _ _ _ _ _ _ r x

/-! ## What a point leaves in the accumulators -/

theorem pcsDiag_LK (t : Fin cfg0.N) (hd : condDiag (grid0.coords t)) (xk : Vec Ideal S4x512x256 .f32) (xv : Vec Ideal S4x512x128 .f32) :
    (pcsDiag m c t hd xk xv).LK = runDiag.sl.HK_5 c (ms0 t) (hs0 t) (ms1 t) (hs1 t) (ms2 t) (hs2 t) (ms3 t) (hs3 t) (ms4 t) (hs4 t) (ms5 t) (hs5 t) (Memref.whole cc0_scratch0) (iblk m c 0 t) (iblk m c 1 t) (iblk m c 2 t) (iblk m c 3 t) (iblk m c 4 t) (iblk m c 5 t) := by
  unfold pcsDiag runDiagAt
  dsimp only
  unfold runDiag
  dsimp only

theorem pcsDiag_LV (t : Fin cfg0.N) (hd : condDiag (grid0.coords t)) (xk : Vec Ideal S4x512x256 .f32) (xv : Vec Ideal S4x512x128 .f32) :
    (pcsDiag m c t hd xk xv).LV = runDiag.sl.HV_5 c (ms0 t) (hs0 t) (ms1 t) (hs1 t) (ms3 t) (hs3 t) (ms4 t) (hs4 t) (Memref.whole cc0_scratch1) (iblk m c 0 t) (iblk m c 1 t) (iblk m c 3 t) (iblk m c 4 t) := by
  unfold pcsDiag runDiagAt
  dsimp only
  unfold runDiag
  dsimp only

theorem pcsOff_LK (t : Fin cfg0.N) (hd : ¬condDiag (grid0.coords t)) (xk : Vec Ideal S4x512x256 .f32) (xv : Vec Ideal S4x512x128 .f32) :
    (pcsOff m c t hd xk xv).LK = runOff.sl.HK_4 c (ms0 t) (hs0 t) (ms1 t) (hs1 t) (ms2 t) (hs2 t) (ms3 t) (hs3 t) (ms4 t) (hs4 t) (ms5 t) (hs5 t) (Memref.whole cc0_scratch0) (Memref.isWhole_whole _) (iblk m c 0 t) (iblk m c 1 t) (iblk m c 2 t) (iblk m c 3 t) (iblk m c 4 t) (iblk m c 5 t) xk := by
  unfold pcsOff runOffAt
  dsimp only
  unfold runOff
  dsimp only

theorem pcsOff_LV (t : Fin cfg0.N) (hd : ¬condDiag (grid0.coords t)) (xk : Vec Ideal S4x512x256 .f32) (xv : Vec Ideal S4x512x128 .f32) :
    (pcsOff m c t hd xk xv).LV = runOff.sl.HV_4 c (ms0 t) (hs0 t) (ms1 t) (hs1 t) (ms3 t) (hs3 t) (ms4 t) (hs4 t) (Memref.whole cc0_scratch1) (Memref.isWhole_whole _) (iblk m c 0 t) (iblk m c 1 t) (iblk m c 3 t) (iblk m c 4 t) xv := by
  unfold pcsOff runOffAt
  dsimp only
  unfold runOff
  dsimp only

theorem stK_diag (t : Fin cfg0.N) (hd : condDiag (grid0.coords t)) (h : Fin 4) (r : Fin 512) (x : Fin 256) :
    (stAt m c (t.val + 1)).1 (ix3 h r x)
      = 0 + addKD (iblk m c 0 t) (iblk m c 1 t) (iblk m c 2 t) (iblk m c 3 t) (iblk m c 4 t) (iblk m c 5 t) h r x := by
  refine (congrFun (readK m c t (View.junk _)) _).symm.trans ((congrArg (fun p => scK.view.read (Elt Ideal) (scK.view.writes (Elt Ideal) (View.junk _) p) (ix3 h r x)) ((congrArg Pcs.LK (pcs_diag m c t hd _ _)).trans (pcsDiag_LK m c t hd _ _))).trans ?_)
  exact diagHK (iblk m c 0 t) (iblk m c 1 t) (iblk m c 2 t) (iblk m c 3 t) (iblk m c 4 t) (iblk m c 5 t) c (ms0 t) (hs0 t) (ms1 t) (hs1 t) (ms2 t) (hs2 t) (ms3 t) (hs3 t) (ms4 t) (hs4 t) (ms5 t) (hs5 t) scK _ h r x

theorem stK_off (t : Fin cfg0.N) (hd : ¬condDiag (grid0.coords t)) (h : Fin 4) (r : Fin 512) (x : Fin 256) :
    (stAt m c (t.val + 1)).1 (ix3 h r x)
      = (stAt m c t.val).1 (ix3 h r x) + addK (iblk m c 0 t) (iblk m c 1 t) (iblk m c 2 t) (iblk m c 3 t) (iblk m c 4 t) (iblk m c 5 t) h r x := by
  refine (congrFun (readK m c t (View.junk _)) _).symm.trans ((congrArg (fun p => scK.view.read (Elt Ideal) (scK.view.writes (Elt Ideal) (View.junk _) p) (ix3 h r x)) ((congrArg Pcs.LK (pcs_off m c t hd _ _)).trans (pcsOff_LK m c t hd _ _))).trans ?_)
  exact offHK (iblk m c 0 t) (iblk m c 1 t) (iblk m c 2 t) (iblk m c 3 t) (iblk m c 4 t) (iblk m c 5 t) c (ms0 t) (hs0 t) (ms1 t) (hs1 t) (ms2 t) (hs2 t) (ms3 t) (hs3 t) (ms4 t) (hs4 t) (ms5 t) (hs5 t) scK (Memref.isWhole_whole _) _ _ h r x

theorem stV_diag (t : Fin cfg0.N) (hd : condDiag (grid0.coords t)) (h : Fin 4) (r : Fin 512) (x : Fin 128) :
    (stAt m c (t.val + 1)).2 (ix3 h r x)
      = 0 + addVD (iblk m c 0 t) (iblk m c 1 t) (iblk m c 3 t) (iblk m c 4 t) h r x := by
  refine (congrFun (readV m c t (View.junk _)) _).symm.trans ((congrArg (fun p => scV.view.read (Elt Ideal) (scV.view.writes (Elt Ideal) (View.junk _) p) (ix3 h r x)) ((congrArg Pcs.LV (pcs_diag m c t hd _ _)).trans (pcsDiag_LV m c t hd _ _))).trans ?_)
  exact diagHV (iblk m c 0 t) (iblk m c 1 t) (iblk m c 3 t) (iblk m c 4 t) c (ms0 t) (hs0 t) (ms1 t) (hs1 t) (ms3 t) (hs3 t) (ms4 t) (hs4 t) scV _ h r x

theorem stV_off (t : Fin cfg0.N) (hd : ¬condDiag (grid0.coords t)) (h : Fin 4) (r : Fin 512) (x : Fin 128) :
    (stAt m c (t.val + 1)).2 (ix3 h r x)
      = (stAt m c t.val).2 (ix3 h r x) + addV (iblk m c 0 t) (iblk m c 1 t) (iblk m c 3 t) (iblk m c 4 t) h r x := by
  refine (congrFun (readV m c t (View.junk _)) _).symm.trans ((congrArg (fun p => scV.view.read (Elt Ideal) (scV.view.writes (Elt Ideal) (View.junk _) p) (ix3 h r x)) ((congrArg Pcs.LV (pcs_off m c t hd _ _)).trans (pcsOff_LV m c t hd _ _))).trans ?_)
  exact offHV (iblk m c 0 t) (iblk m c 1 t) (iblk m c 3 t) (iblk m c 4 t) c (ms0 t) (hs0 t) (ms1 t) (hs1 t) (ms3 t) (hs3 t) (ms4 t) (hs4 t) scV (Memref.isWhole_whole _) _ _ h r x

end Cert.AttnIdeal.Att

end
-- ==== Proof.AttnVal.lean ====
module

public import proofs.«01_k».proof.Proof.AttnOut
public import Idealize.ShloMosaic.Lib.Pipeline.Value
public import Idealize.ShloMosaic.Lib.Pointwise
public import Idealize.ShloMosaic.Lib.Tactic

@[expose] public section

set_option maxRecDepth 16384

noncomputable section

namespace Cert.AttnIdeal.Att

open Cert.AttnIdeal Cert.AttnIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-! ## The grid: point `t` is example `t / 20`, head group `t / 10 % 2`, and one of ten pairs of blocks -/

/-- The key block and the query block of the pair `t % 10`. -/
def jN (t : ℕ) : ℕ := if t % 10 < 4 then 0 else if t % 10 < 7 then 1 else if t % 10 < 9 then 2 else 3
def iN (t : ℕ) : ℕ := if t % 10 < 4 then t % 10 else if t % 10 < 7 then t % 10 - 3 else if t % 10 < 9 then t % 10 - 5 else 3

theorem jN_lt (t : ℕ) : jN t < 4 := by unfold jN; split_ifs <;> omega
theorem iN_lt (t : ℕ) : iN t < 4 := by unfold iN; split_ifs <;> omega
theorem t_lt (t : Fin cfg0.N) : t.val < 80 := lt_of_lt_of_eq t.isLt N_0

def bt (t : Fin cfg0.N) : Fin 4 := ⟨t.val / 20, by have := t_lt t; omega⟩
def jt (t : Fin cfg0.N) : Fin 4 := ⟨jN t.val, jN_lt _⟩
def it (t : Fin cfg0.N) : Fin 4 := ⟨iN t.val, iN_lt _⟩

/-- Head `h` of the point's group. -/
def hd (t : Fin cfg0.N) (h : Fin 4) : Fin 8 := ⟨4 * (t.val / 10 % 2) + h.val, by omega⟩

/-- Row `r` of block `i`. -/
def row (i : Fin 4) (r : Fin 512) : Fin 2048 := ⟨512 * i.val + r.val, by omega⟩

/-- Feature `x` of head `H` of the queries and the keys, and of the values. -/
def colq (H : Fin 8) (x : Fin 256) : Fin 2048 := ⟨256 * H.val + x.val, by omega⟩
def colv (H : Fin 8) (x : Fin 128) : Fin 1024 := ⟨128 * H.val + x.val, by omega⟩

theorem idx0 : ∀ t : Fin cfg0.N, win0_0.index t 0 = t.val / 20 ∧ win0_0.index t 1 = iN t.val ∧ win0_0.index t 2 = t.val / 10 % 2 :=
  (by decide +kernel : ∀ t : Fin grid0.N, win0_0.index t 0 = t.val / 20 ∧ win0_0.index t 1 = iN t.val ∧ win0_0.index t 2 = t.val / 10 % 2)
theorem idx1 : ∀ t : Fin cfg0.N, win0_1.index t 0 = t.val / 20 ∧ win0_1.index t 1 = jN t.val ∧ win0_1.index t 2 = t.val / 10 % 2 :=
  (by decide +kernel : ∀ t : Fin grid0.N, win0_1.index t 0 = t.val / 20 ∧ win0_1.index t 1 = jN t.val ∧ win0_1.index t 2 = t.val / 10 % 2)
theorem idx2 : ∀ t : Fin cfg0.N, win0_2.index t 0 = t.val / 20 ∧ win0_2.index t 1 = jN t.val ∧ win0_2.index t 2 = t.val / 10 % 2 :=
  (by decide +kernel : ∀ t : Fin grid0.N, win0_2.index t 0 = t.val / 20 ∧ win0_2.index t 1 = jN t.val ∧ win0_2.index t 2 = t.val / 10 % 2)
theorem idx3 : ∀ t : Fin cfg0.N, win0_3.index t 0 = t.val / 20 ∧ win0_3.index t 1 = iN t.val ∧ win0_3.index t 2 = t.val / 10 % 2 :=
  (by decide +kernel : ∀ t : Fin grid0.N, win0_3.index t 0 = t.val / 20 ∧ win0_3.index t 1 = iN t.val ∧ win0_3.index t 2 = t.val / 10 % 2)
theorem idx4 : ∀ t : Fin cfg0.N, win0_4.index t 0 = t.val / 20 ∧ win0_4.index t 1 = t.val / 10 % 2 ∧ win0_4.index t 2 = 0 ∧ win0_4.index t 3 = iN t.val :=
  (by decide +kernel : ∀ t : Fin grid0.N, win0_4.index t 0 = t.val / 20 ∧ win0_4.index t 1 = t.val / 10 % 2 ∧ win0_4.index t 2 = 0 ∧ win0_4.index t 3 = iN t.val)
theorem idx5 : ∀ t : Fin cfg0.N, win0_5.index t 0 = t.val / 20 ∧ win0_5.index t 1 = t.val / 10 % 2 ∧ win0_5.index t 2 = 0 ∧ win0_5.index t 3 = iN t.val :=
  (by decide +kernel : ∀ t : Fin grid0.N, win0_5.index t 0 = t.val / 20 ∧ win0_5.index t 1 = t.val / 10 % 2 ∧ win0_5.index t 2 = 0 ∧ win0_5.index t 3 = iN t.val)
theorem idx8 : ∀ t : Fin cfg0.N, win0_8.index t 0 = t.val / 20 ∧ win0_8.index t 1 = jN t.val ∧ win0_8.index t 2 = t.val / 10 % 2 :=
  (by decide +kernel : ∀ t : Fin grid0.N, win0_8.index t 0 = t.val / 20 ∧ win0_8.index t 1 = jN t.val ∧ win0_8.index t 2 = t.val / 10 % 2)
theorem idx9 : ∀ t : Fin cfg0.N, win0_9.index t 0 = t.val / 20 ∧ win0_9.index t 1 = jN t.val ∧ win0_9.index t 2 = t.val / 10 % 2 :=
  (by decide +kernel : ∀ t : Fin grid0.N, win0_9.index t 0 = t.val / 20 ∧ win0_9.index t 1 = jN t.val ∧ win0_9.index t 2 = t.val / 10 % 2)
theorem idx10 : ∀ t : Fin cfg0.N, win0_10.index t 0 = t.val / 20 ∧ win0_10.index t 1 = jN t.val ∧ win0_10.index t 2 = t.val / 10 % 2 :=
  (by decide +kernel : ∀ t : Fin grid0.N, win0_10.index t 0 = t.val / 20 ∧ win0_10.index t 1 = jN t.val ∧ win0_10.index t 2 = t.val / 10 % 2)
theorem diag_iff : ∀ t : Fin cfg0.N, condDiag (grid0.coords t) ↔ (t.val % 10 = 0 ∨ t.val % 10 = 4 ∨ t.val % 10 = 7 ∨ t.val % 10 = 9) :=
  (by decide +kernel : ∀ t : Fin grid0.N, condDiag (grid0.coords t) ↔ (t.val % 10 = 0 ∨ t.val % 10 = 4 ∨ t.val % 10 = 7 ∨ t.val % 10 = 9))
theorem last8 : ∀ t : Fin cfg0.N, (cfg0.win 8).flush t = true ↔ iN t.val = 3 :=
  (by decide +kernel : ∀ t : Fin grid0.N, win0_8.flush t = true ↔ iN t.val = 3)
theorem last9 : ∀ t : Fin cfg0.N, (cfg0.win 9).flush t = true ↔ iN t.val = 3 :=
  (by decide +kernel : ∀ t : Fin grid0.N, win0_9.flush t = true ↔ iN t.val = 3)
theorem last10 : ∀ t : Fin cfg0.N, (cfg0.win 10).flush t = true ↔ iN t.val = 3 :=
  (by decide +kernel : ∀ t : Fin grid0.N, win0_10.flush t = true ↔ iN t.val = 3)

/-! ## The arguments, and the two gradients' terms -/

def aQ : S4x2048x2048.Idx → EReal := m ((c : Thread nD τ).loc main_arg0)
def aK : S4x2048x2048.Idx → EReal := m ((c : Thread nD τ).loc main_arg1)
def aV : S4x2048x1024.Idx → EReal := m ((c : Thread nD τ).loc main_arg2)
def aG : S4x2048x1024.Idx → EReal := m ((c : Thread nD τ).loc main_arg3)
def aL : S4x8x1x2048.Idx → EReal := m ((c : Thread nD τ).loc main_arg4)
def aD : S4x8x1x2048.Idx → EReal := m ((c : Thread nD τ).loc main_arg5)

/-- The weight of query `n` on key `r`, -/
def wG (b : Fin 4) (H : Fin 8) (r n : Fin 2048) : EReal :=
  Ideal.exp2 ((∑ e : Fin 256, aK m c (ix3 b r (colq H e)) * aQ m c (ix3 b n (colq H e))) - aL m c (ix4 b H 0 n))
/-- its gradient before its own factor, -/
def dG (b : Fin 4) (H : Fin 8) (r n : Fin 2048) : EReal :=
  (∑ e : Fin 128, aV m c (ix3 b r (colv H e)) * aG m c (ix3 b n (colv H e))) - aD m c (ix4 b H 0 n)
/-- and what the query adds to the key's gradient and to the value's: nothing if it comes before the key. -/
def tK (b : Fin 4) (H : Fin 8) (r : Fin 2048) (x : Fin 256) (n : Fin 2048) : EReal :=
  (if r ≤ n then wG m c b H r n else 0) * dG m c b H r n * aQ m c (ix3 b n (colq H x))
def tV (b : Fin 4) (H : Fin 8) (r : Fin 2048) (x : Fin 128) (n : Fin 2048) : EReal :=
  (if r ≤ n then wG m c b H r n else 0) * aG m c (ix3 b n (colv H x))

/-! ## The blocks of the arguments -/

theorem blk0 (t : Fin cfg0.N) (h : Fin 4) (r : Fin 512) (e : Fin 256) : hq (iblk m c 0 t) h (ix3 0 r e) = aQ m c (ix3 (bt t) (row (it t) r) (colq (hd t h) e)) := by
  unfold hq iblk
  rw [View.read_apply]
  show V m c main_arg0 _ = aQ m c _
  obtain ⟨h0, h1, h2⟩ := idx0 t
  refine congrArg (aQ m c) ?_
  funext a; apply Fin.ext
  match a with
  | ⟨0, _⟩ => show win0_0.index t 0 * 1 + 1 * 0 = t.val / 20; rw [h0]; omega
  | ⟨1, _⟩ => show win0_0.index t 1 * 512 + 1 * r.val = 512 * iN t.val + r.val; rw [h1]; omega
  | ⟨2, _⟩ => show win0_0.index t 2 * 1024 + 1 * (256 * h.val + e.val) = 256 * (4 * (t.val / 10 % 2) + h.val) + e.val; rw [h2]; omega

theorem blk1 (t : Fin cfg0.N) (h : Fin 4) (r : Fin 512) (e : Fin 256) : hq (iblk m c 1 t) h (ix3 0 r e) = aK m c (ix3 (bt t) (row (jt t) r) (colq (hd t h) e)) := by
  unfold hq iblk
  rw [View.read_apply]
  show V m c main_arg1 _ = aK m c _
  obtain ⟨h0, h1, h2⟩ := idx1 t
  refine congrArg (aK m c) ?_
  funext a; apply Fin.ext
  match a with
  | ⟨0, _⟩ => show win0_1.index t 0 * 1 + 1 * 0 = t.val / 20; rw [h0]; omega
  | ⟨1, _⟩ => show win0_1.index t 1 * 512 + 1 * r.val = 512 * jN t.val + r.val; rw [h1]; omega
  | ⟨2, _⟩ => show win0_1.index t 2 * 1024 + 1 * (256 * h.val + e.val) = 256 * (4 * (t.val / 10 % 2) + h.val) + e.val; rw [h2]; omega

theorem blk2 (t : Fin cfg0.N) (h : Fin 4) (r : Fin 512) (e : Fin 128) : hv (iblk m c 2 t) h (ix3 0 r e) = aV m c (ix3 (bt t) (row (jt t) r) (colv (hd t h) e)) := by
  unfold hv iblk
  rw [View.read_apply]
  show V m c main_arg2 _ = aV m c _
  obtain ⟨h0, h1, h2⟩ := idx2 t
  refine congrArg (aV m c) ?_
  funext a; apply Fin.ext
  match a with
  | ⟨0, _⟩ => show win0_2.index t 0 * 1 + 1 * 0 = t.val / 20; rw [h0]; omega
  | ⟨1, _⟩ => show win0_2.index t 1 * 512 + 1 * r.val = 512 * jN t.val + r.val; rw [h1]; omega
  | ⟨2, _⟩ => show win0_2.index t 2 * 512 + 1 * (128 * h.val + e.val) = 128 * (4 * (t.val / 10 % 2) + h.val) + e.val; rw [h2]; omega

theorem blk3 (t : Fin cfg0.N) (h : Fin 4) (r : Fin 512) (e : Fin 128) : hv (iblk m c 3 t) h (ix3 0 r e) = aG m c (ix3 (bt t) (row (it t) r) (colv (hd t h) e)) := by
  unfold hv iblk
  rw [View.read_apply]
  show V m c main_arg3 _ = aG m c _
  obtain ⟨h0, h1, h2⟩ := idx3 t
  refine congrArg (aG m c) ?_
  funext a; apply Fin.ext
  match a with
  | ⟨0, _⟩ => show win0_3.index t 0 * 1 + 1 * 0 = t.val / 20; rw [h0]; omega
  | ⟨1, _⟩ => show win0_3.index t 1 * 512 + 1 * r.val = 512 * iN t.val + r.val; rw [h1]; omega
  | ⟨2, _⟩ => show win0_3.index t 2 * 512 + 1 * (128 * h.val + e.val) = 128 * (4 * (t.val / 10 % 2) + h.val) + e.val; rw [h2]; omega

theorem blk4 (t : Fin cfg0.N) (h : Fin 4) (n : Fin 512) : hl (iblk m c 4 t) h (ix4 0 0 0 n) = aL m c (ix4 (bt t) (hd t h) 0 (row (it t) n)) := by
  unfold hl iblk
  rw [View.read_apply]
  show V m c main_arg4 _ = aL m c _
  obtain ⟨h0, h1, h2, h3⟩ := idx4 t
  refine congrArg (aL m c) ?_
  funext a; apply Fin.ext
  match a with
  | ⟨0, _⟩ => show win0_4.index t 0 * 1 + 1 * 0 = t.val / 20; rw [h0]; omega
  | ⟨1, _⟩ => show win0_4.index t 1 * 4 + 1 * h.val = 4 * (t.val / 10 % 2) + h.val; rw [h1]; omega
  | ⟨2, _⟩ => show win0_4.index t 2 * 1 + 1 * 0 = 0; rw [h2]
  | ⟨3, _⟩ => show win0_4.index t 3 * 512 + 1 * n.val = 512 * iN t.val + n.val; rw [h3]; omega

theorem blk5 (t : Fin cfg0.N) (h : Fin 4) (n : Fin 512) : hl (iblk m c 5 t) h (ix4 0 0 0 n) = aD m c (ix4 (bt t) (hd t h) 0 (row (it t) n)) := by
  unfold hl iblk
  rw [View.read_apply]
  show V m c main_arg5 _ = aD m c _
  obtain ⟨h0, h1, h2, h3⟩ := idx5 t
  refine congrArg (aD m c) ?_
  funext a; apply Fin.ext
  match a with
  | ⟨0, _⟩ => show win0_5.index t 0 * 1 + 1 * 0 = t.val / 20; rw [h0]; omega
  | ⟨1, _⟩ => show win0_5.index t 1 * 4 + 1 * h.val = 4 * (t.val / 10 % 2) + h.val; rw [h1]; omega
  | ⟨2, _⟩ => show win0_5.index t 2 * 1 + 1 * 0 = 0; rw [h2]
  | ⟨3, _⟩ => show win0_5.index t 3 * 512 + 1 * n.val = 512 * iN t.val + n.val; rw [h3]; omega

/-! ## Sums over blocks of queries -/

/-- The terms of one block of queries, -/
def blkSum (T : Fin 2048 → EReal) (i : Fin 4) : EReal := ∑ n : Fin 512, T (row i n)
/-- and of the blocks before block `n`. -/
def part (T : Fin 2048 → EReal) (n : ℕ) : EReal := ∑ i : Fin 4, if i.val < n then blkSum T i else 0

theorem part_succ (T : Fin 2048 → EReal) (i : Fin 4) : part T (i.val + 1) = part T i.val + blkSum T i := by
  match i with
  | 0 => simp [part, Fin.sum_univ_four]
  | 1 => simp [part, Fin.sum_univ_four]
  | 2 => simp [part, Fin.sum_univ_four]
  | 3 => simp [part, Fin.sum_univ_four]

theorem part_all (T : Fin 2048 → EReal) : part T 4 = ∑ n : Fin 2048, T n := by
  have e : ∑ n : Fin 2048, T n = ∑ i : Fin 4, ∑ n : Fin 512, T (row i n) := by
    rw [← Fintype.sum_prod_type' (fun i n => T (row i n))]
    exact (Fintype.sum_equiv (finProdFinEquiv (m := 4) (n := 512)) _ _ (fun p => congrArg T (Fin.ext (by show 512 * p.1.val + p.2.val = p.2.val + 512 * p.1.val; omega)))).symm
  rw [e]
  exact Finset.sum_congr rfl fun i _ => if_pos i.isLt

theorem part_zero (T : Fin 2048 → EReal) (j : Fin 4) (r : Fin 512) (h : ∀ n : Fin 2048, ¬row j r ≤ n → T n = 0) : part T j.val = 0 := by
  refine Finset.sum_eq_zero fun i _ => ?_
  by_cases hi : i.val < j.val
  · rw [if_pos hi]
    refine Finset.sum_eq_zero fun n _ => h _ ?_
    intro hle
    have : 512 * j.val + r.val ≤ 512 * i.val + n.val := hle
    omega
  · rw [if_neg hi]

theorem tK_zero (b : Fin 4) (H : Fin 8) (r : Fin 2048) (x : Fin 256) (n : Fin 2048) (h : ¬r ≤ n) : tK m c b H r x n = 0 := by
  unfold tK; rw [if_neg h, zero_mul, zero_mul]
theorem tV_zero (b : Fin 4) (H : Fin 8) (r : Fin 2048) (x : Fin 128) (n : Fin 2048) (h : ¬r ≤ n) : tV m c b H r x n = 0 := by
  unfold tV; rw [if_neg h, zero_mul]

/-! ## What a point adds -/

theorem wgt_eq (t : Fin cfg0.N) (h : Fin 4) (r n : Fin 512) : wgt (hq (iblk m c 0 t) h) (hq (iblk m c 1 t) h) (hl (iblk m c 4 t) h) r n
    = wG m c (bt t) (hd t h) (row (jt t) r) (row (it t) n) := by
  unfold wgt wG; rw [blk4]
  exact congrArg (fun z => Ideal.exp2 (z - _)) (Finset.sum_congr rfl fun e _ => by rw [blk0, blk1])

theorem dwg_eq (t : Fin cfg0.N) (h : Fin 4) (r n : Fin 512) : dwg (hv (iblk m c 2 t) h) (hv (iblk m c 3 t) h) (hl (iblk m c 5 t) h) r n
    = dG m c (bt t) (hd t h) (row (jt t) r) (row (it t) n) := by
  unfold dwg dG; rw [blk5]
  exact congrArg (fun z => z - _) (Finset.sum_congr rfl fun e _ => by rw [blk2, blk3])

/-- On the diagonal the block's own mask is the whole one's; -/
theorem wgtD_eq (t : Fin cfg0.N) (hd' : condDiag (grid0.coords t)) (h : Fin 4) (r n : Fin 512) : wgtD (hq (iblk m c 0 t) h) (hq (iblk m c 1 t) h) (hl (iblk m c 4 t) h) r n
    = if row (jt t) r ≤ row (it t) n then wG m c (bt t) (hd t h) (row (jt t) r) (row (it t) n) else 0 := by
  have e : jN t.val = iN t.val := by
    have := (diag_iff t).mp hd'
    unfold jN iN; split_ifs <;> omega
  have hm : r ≤ n ↔ row (jt t) r ≤ row (it t) n := by
    show r.val ≤ n.val ↔ 512 * jN t.val + r.val ≤ 512 * iN t.val + n.val
    omega
  unfold wgtD; rw [wgt_eq]; simp only [hm]

/-- off it every query of the block comes after every key. -/
theorem wgt_off (t : Fin cfg0.N) (hd' : ¬condDiag (grid0.coords t)) (h : Fin 4) (r n : Fin 512) : wgt (hq (iblk m c 0 t) h) (hq (iblk m c 1 t) h) (hl (iblk m c 4 t) h) r n
    = if row (jt t) r ≤ row (it t) n then wG m c (bt t) (hd t h) (row (jt t) r) (row (it t) n) else 0 := by
  have e : jN t.val < iN t.val := by
    have : ¬(t.val % 10 = 0 ∨ t.val % 10 = 4 ∨ t.val % 10 = 7 ∨ t.val % 10 = 9) := fun h => hd' ((diag_iff t).mpr h)
    unfold jN iN; split_ifs <;> omega
  have hm : row (jt t) r ≤ row (it t) n := by
    show 512 * jN t.val + r.val ≤ 512 * iN t.val + n.val
    omega
  rw [wgt_eq, if_pos hm]

theorem addKD_eq (t : Fin cfg0.N) (hd' : condDiag (grid0.coords t)) (h : Fin 4) (r : Fin 512) (x : Fin 256) :
    addKD (iblk m c 0 t) (iblk m c 1 t) (iblk m c 2 t) (iblk m c 3 t) (iblk m c 4 t) (iblk m c 5 t) h r x = blkSum (tK m c (bt t) (hd t h) (row (jt t) r) x) (it t) :=
  Finset.sum_congr rfl fun n _ => by rw [wgtD_eq m c t hd', dwg_eq, blk0]; rfl
theorem addVD_eq (t : Fin cfg0.N) (hd' : condDiag (grid0.coords t)) (h : Fin 4) (r : Fin 512) (x : Fin 128) :
    addVD (iblk m c 0 t) (iblk m c 1 t) (iblk m c 3 t) (iblk m c 4 t) h r x = blkSum (tV m c (bt t) (hd t h) (row (jt t) r) x) (it t) :=
  Finset.sum_congr rfl fun n _ => by rw [wgtD_eq m c t hd', blk3]; rfl
theorem addK_eq (t : Fin cfg0.N) (hd' : ¬condDiag (grid0.coords t)) (h : Fin 4) (r : Fin 512) (x : Fin 256) :
    addK (iblk m c 0 t) (iblk m c 1 t) (iblk m c 2 t) (iblk m c 3 t) (iblk m c 4 t) (iblk m c 5 t) h r x = blkSum (tK m c (bt t) (hd t h) (row (jt t) r) x) (it t) :=
  Finset.sum_congr rfl fun n _ => by rw [wgt_off m c t hd', dwg_eq, blk0]; rfl
theorem addV_eq (t : Fin cfg0.N) (hd' : ¬condDiag (grid0.coords t)) (h : Fin 4) (r : Fin 512) (x : Fin 128) :
    addV (iblk m c 0 t) (iblk m c 1 t) (iblk m c 3 t) (iblk m c 4 t) h r x = blkSum (tV m c (bt t) (hd t h) (row (jt t) r) x) (it t) :=
  Finset.sum_congr rfl fun n _ => by rw [wgt_off m c t hd', blk3]; rfl

/-- A point off the diagonal follows one of the same keys, one block of queries before. -/
theorem prev (t : Fin cfg0.N) (hd' : ¬condDiag (grid0.coords t)) : ∃ t' : Fin cfg0.N, t'.val + 1 = t.val ∧ bt t' = bt t ∧ (∀ h, hd t' h = hd t h) ∧ jt t' = jt t ∧ (it t').val + 1 = (it t).val := by
  have hn : ¬(t.val % 10 = 0 ∨ t.val % 10 = 4 ∨ t.val % 10 = 7 ∨ t.val % 10 = 9) := fun h => hd' ((diag_iff t).mpr h)
  have hp : t.val - 1 < cfg0.N := lt_of_le_of_lt (Nat.sub_le _ _) t.isLt
  refine ⟨⟨t.val - 1, hp⟩, ?_, Fin.ext ?_, fun h => Fin.ext ?_, Fin.ext ?_, ?_⟩
  · show t.val - 1 + 1 = t.val; omega
  · show (t.val - 1) / 20 = t.val / 20; omega
  · show 4 * ((t.val - 1) / 10 % 2) + h.val = 4 * (t.val / 10 % 2) + h.val; omega
  · show jN (t.val - 1) = jN t.val; unfold jN; split_ifs <;> omega
  · show iN (t.val - 1) + 1 = iN t.val; unfold iN; split_ifs <;> omega

/-- After a point the accumulators hold the terms of the blocks of queries so far. -/
theorem stK_eq (n : ℕ) : ∀ t : Fin cfg0.N, t.val = n → ∀ (h : Fin 4) (r : Fin 512) (x : Fin 256),
    (stAt m c (t.val + 1)).1 (ix3 h r x) = part (tK m c (bt t) (hd t h) (row (jt t) r) x) ((it t).val + 1) := by
  induction n with
  | zero =>
    intro t ht h r x
    have hd' := (diag_iff t).mpr (Or.inl (by omega))
    have e : jt t = it t := Fin.ext (by show jN t.val = iN t.val; rw [ht]; rfl)
    rw [stK_diag m c t hd', addKD_eq m c t hd', part_succ, ← e, part_zero _ (jt t) r (fun n hn => tK_zero m c _ _ _ _ _ hn)]
  | succ n ih =>
    intro t ht h r x
    by_cases hd' : condDiag (grid0.coords t)
    · have e : jt t = it t := Fin.ext (by show jN t.val = iN t.val; have := (diag_iff t).mp hd'; unfold jN iN; split_ifs <;> omega)
      rw [stK_diag m c t hd', addKD_eq m c t hd', part_succ, ← e, part_zero _ (jt t) r (fun n hn => tK_zero m c _ _ _ _ _ hn)]
    · obtain ⟨t', h1, hb, hh, hj, hi⟩ := prev t hd'
      have := ih t' (by omega) h r x
      rw [h1, hb, hh, hj, hi] at this
      rw [stK_off m c t hd', addK_eq m c t hd', part_succ, this]

theorem stV_eq (n : ℕ) : ∀ t : Fin cfg0.N, t.val = n → ∀ (h : Fin 4) (r : Fin 512) (x : Fin 128),
    (stAt m c (t.val + 1)).2 (ix3 h r x) = part (tV m c (bt t) (hd t h) (row (jt t) r) x) ((it t).val + 1) := by
  induction n with
  | zero =>
    intro t ht h r x
    have hd' := (diag_iff t).mpr (Or.inl (by omega))
    have e : jt t = it t := Fin.ext (by show jN t.val = iN t.val; rw [ht]; rfl)
    rw [stV_diag m c t hd', addVD_eq m c t hd', part_succ, ← e, part_zero _ (jt t) r (fun n hn => tV_zero m c _ _ _ _ _ hn)]
  | succ n ih =>
    intro t ht h r x
    by_cases hd' : condDiag (grid0.coords t)
    · have e : jt t = it t := Fin.ext (by show jN t.val = iN t.val; have := (diag_iff t).mp hd'; unfold jN iN; split_ifs <;> omega)
      rw [stV_diag m c t hd', addVD_eq m c t hd', part_succ, ← e, part_zero _ (jt t) r (fun n hn => tV_zero m c _ _ _ _ _ hn)]
    · obtain ⟨t', h1, hb, hh, hj, hi⟩ := prev t hd'
      have := ih t' (by omega) h r x
      rw [h1, hb, hh, hj, hi] at this
      rw [stV_off m c t hd', addV_eq m c t hd', part_succ, this]

/-! ## The results -/

/-- The gradient of the keys: of key `s`, head `H`, feature `x`, over all the queries; -/
def dK (b : Fin 4) (H : Fin 8) (s : Fin 2048) (x : Fin 256) : EReal := ∑ n : Fin 2048, tK m c b H s x n
/-- and of the values. -/
def dV (b : Fin 4) (H : Fin 8) (s : Fin 2048) (x : Fin 128) : EReal := ∑ n : Fin 2048, tV m c b H s x n

theorem lastK (t : Fin cfg0.N) (h3 : iN t.val = 3) (h : Fin 4) (r : Fin 512) (x : Fin 256) :
    (stAt m c (t.val + 1)).1 (ix3 h r x) = dK m c (bt t) (hd t h) (row (jt t) r) x := by
  rw [stK_eq m c _ t rfl, show (it t).val + 1 = 4 from congrArg (· + 1) h3, part_all]; rfl
theorem lastV (t : Fin cfg0.N) (h3 : iN t.val = 3) (h : Fin 4) (r : Fin 512) (x : Fin 128) :
    (stAt m c (t.val + 1)).2 (ix3 h r x) = dV m c (bt t) (hd t h) (row (jt t) r) x := by
  rw [stV_eq m c _ t rfl, show (it t).val + 1 = 4 from congrArg (· + 1) h3, part_all]; rfl

/-- The head a column of the 1024 belongs to, and its feature there. -/
def headOf (x : Fin 1024) : Fin 8 := ⟨x.val / 128, by omega⟩
def featOf (x : Fin 1024) : Fin 128 := ⟨x.val % 128, by omega⟩

def R8 : S4x2048x1024.Idx → EReal := fun i => dK m c (i 0) (headOf (i 2)) (i 1) (lo128 (featOf (i 2))) * ln2
def R9 : S4x2048x1024.Idx → EReal := fun i => dV m c (i 0) (headOf (i 2)) (i 1) (featOf (i 2))

/-- Head `h` of group `p`. -/
def grpHead (p : Fin 2) (h : Fin 4) : Fin 8 := ⟨4 * p.val + h.val, by omega⟩
def grpOf (x : Fin 256) : Fin 2 := ⟨x.val / 128, by omega⟩
def gfeatOf (x : Fin 256) : Fin 128 := ⟨x.val % 128, by omega⟩

/-- The gradient of the keys' shared part: feature `x` of group `p`, over the group's heads. -/
def dR (b : Fin 4) (p : Fin 2) (s : Fin 2048) (x : Fin 128) : EReal :=
  ((((0 + dK m c b (grpHead p 0) s (hi128 x)) + dK m c b (grpHead p 1) s (hi128 x)) + dK m c b (grpHead p 2) s (hi128 x)) + dK m c b (grpHead p 3) s (hi128 x)) * ln2
def R10 : S4x2048x256.Idx → EReal := fun i => dR m c (i 0) (grpOf (i 2)) (i 1) (gfeatOf (i 2))

/-- The last point of key block `j` of an example and a head group. -/
def lastS (j : ℕ) : ℕ := if j = 0 then 3 else if j = 1 then 6 else if j = 2 then 8 else 9
theorem lastS_lt (j : ℕ) : lastS j < 10 := by unfold lastS; split_ifs <;> omega
theorem jN_last (b p j : ℕ) (hj : j < 4) : jN (b * 20 + p * 10 + lastS j) = j := by unfold jN lastS; split_ifs <;> omega
theorem iN_last (b p j : ℕ) (hj : j < 4) : iN (b * 20 + p * 10 + lastS j) = 3 := by unfold iN lastS; split_ifs <;> omega

theorem hd128_split (j : Fin 512) : hd128 ⟨j.val / 128, by omega⟩ ⟨j.val % 128, by omega⟩ = j :=
  Fin.ext (by show 128 * (j.val / 128) + j.val % 128 = j.val; omega)

theorem flushed8 (t : Fin cfg0.N) (hf : (cfg0.win 8).flush t = true) : (dats m 0 c).flushed 8 t = ((cfg0.win 8).blk t).view.read (Elt Ideal) (R8 m c) := by
  have h3 := (last8 t).mp hf
  obtain ⟨h0, h1, h2⟩ := idx8 t
  have hp : t.val / 10 % 2 < 2 := by omega
  rw [show (dats m 0 c).flushed 8 t = out8 m c t from after8 m c t]
  funext j
  idx_vars j
  obtain rfl : j0 = 0 := Subsingleton.elim _ _
  rw [View.read_apply]
  have hix : (((cfg0.win 8).blk t).view.emb (ix3 0 j1 j2) : S4x2048x1024.Idx) = ix3 (bt t) (row (jt t) j1) ⟨(t.val / 10 % 2) * 512 + j2.val, by omega⟩ := by
    funext a; apply Fin.ext
    match a with
    | ⟨0, _⟩ => show win0_8.index t 0 * 1 + 1 * 0 = t.val / 20; rw [h0]; omega
    | ⟨1, _⟩ => show win0_8.index t 1 * 512 + 1 * j1.val = 512 * jN t.val + j1.val; rw [h1]; omega
    | ⟨2, _⟩ => show win0_8.index t 2 * 512 + 1 * j2.val = (t.val / 10 % 2) * 512 + j2.val; rw [h2]; omega
  refine Eq.trans ?_ (congrArg (R8 m c) hix).symm
  rw [← hd128_split j2, out8_apply, lastK m c t h3]
  have eh : headOf ⟨(t.val / 10 % 2) * 512 + j2.val, by omega⟩ = hd t ⟨j2.val / 128, by omega⟩ := Fin.ext (by show ((t.val / 10 % 2) * 512 + j2.val) / 128 = 4 * (t.val / 10 % 2) + j2.val / 128; omega)
  have ef : featOf ⟨(t.val / 10 % 2) * 512 + j2.val, by omega⟩ = ⟨j2.val % 128, by omega⟩ := Fin.ext (by show ((t.val / 10 % 2) * 512 + j2.val) % 128 = j2.val % 128; omega)
  rw [hd128_split j2]
  show _ = dK m c (bt t) (headOf ⟨(t.val / 10 % 2) * 512 + j2.val, by omega⟩) (row (jt t) j1) (lo128 (featOf ⟨(t.val / 10 % 2) * 512 + j2.val, by omega⟩)) * ln2
  rw [eh, ef]

theorem final8 : (dats m 0 c).arrAt 8 cfg0.N = R8 m c :=
  (dats m 0 c).arrAt_eq_of_cover 8 (R8 m c) (flushed8 m c) fun i => by
    have hi0 : (i 0 : Nat) < 4 := (i 0).isLt
    have hi1 : (i 1 : Nat) < 2048 := (i 1).isLt
    have hi2 : (i 2 : Nat) < 1024 := (i 2).isLt
    have hl := lastS_lt ((i 1).val / 512)
    have ht : (i 0).val * 20 + (i 2).val / 512 * 10 + lastS ((i 1).val / 512) < cfg0.N := lt_of_lt_of_eq (by omega) N_0.symm
    refine ⟨⟨_, ht⟩, (last8 _).mpr (iN_last _ _ _ (by omega)), ?_⟩
    obtain ⟨h0, h1, h2⟩ := idx8 ⟨_, ht⟩
    have e1 := jN_last (i 0).val ((i 2).val / 512) ((i 1).val / 512) (by omega)
    show i ∈ ((View.whole main_v0_0).slice (win0_8.rect ⟨_, ht⟩)).set
    rw [View.set_slice_whole, Rect.mem_set_unit]
    intro a
    match a with
    | ⟨0, _⟩ => show win0_8.index _ 0 * 1 ≤ (i 0 : Nat) ∧ (i 0 : Nat) < win0_8.index _ 0 * 1 + 1; rw [h0]; dsimp only; omega
    | ⟨1, _⟩ => show win0_8.index _ 1 * 512 ≤ (i 1 : Nat) ∧ (i 1 : Nat) < win0_8.index _ 1 * 512 + 512; rw [h1]; dsimp only; rw [e1]; omega
    | ⟨2, _⟩ => show win0_8.index _ 2 * 512 ≤ (i 2 : Nat) ∧ (i 2 : Nat) < win0_8.index _ 2 * 512 + 512; rw [h2]; dsimp only; omega

theorem flushed9 (t : Fin cfg0.N) (hf : (cfg0.win 9).flush t = true) : (dats m 0 c).flushed 9 t = ((cfg0.win 9).blk t).view.read (Elt Ideal) (R9 m c) := by
  have h3 := (last9 t).mp hf
  obtain ⟨h0, h1, h2⟩ := idx9 t
  have hp : t.val / 10 % 2 < 2 := by omega
  rw [show (dats m 0 c).flushed 9 t = out9 m c t from after9 m c t]
  funext j
  idx_vars j
  obtain rfl : j0 = 0 := Subsingleton.elim _ _
  rw [View.read_apply]
  have hix : (((cfg0.win 9).blk t).view.emb (ix3 0 j1 j2) : S4x2048x1024.Idx) = ix3 (bt t) (row (jt t) j1) ⟨(t.val / 10 % 2) * 512 + j2.val, by omega⟩ := by
    funext a; apply Fin.ext
    match a with
    | ⟨0, _⟩ => show win0_9.index t 0 * 1 + 1 * 0 = t.val / 20; rw [h0]; omega
    | ⟨1, _⟩ => show win0_9.index t 1 * 512 + 1 * j1.val = 512 * jN t.val + j1.val; rw [h1]; omega
    | ⟨2, _⟩ => show win0_9.index t 2 * 512 + 1 * j2.val = (t.val / 10 % 2) * 512 + j2.val; rw [h2]; omega
  refine Eq.trans ?_ (congrArg (R9 m c) hix).symm
  rw [← hd128_split j2, out9_apply, lastV m c t h3]
  have eh : headOf ⟨(t.val / 10 % 2) * 512 + j2.val, by omega⟩ = hd t ⟨j2.val / 128, by omega⟩ := Fin.ext (by show ((t.val / 10 % 2) * 512 + j2.val) / 128 = 4 * (t.val / 10 % 2) + j2.val / 128; omega)
  have ef : featOf ⟨(t.val / 10 % 2) * 512 + j2.val, by omega⟩ = ⟨j2.val % 128, by omega⟩ := Fin.ext (by show ((t.val / 10 % 2) * 512 + j2.val) % 128 = j2.val % 128; omega)
  rw [hd128_split j2]
  show _ = dV m c (bt t) (headOf ⟨(t.val / 10 % 2) * 512 + j2.val, by omega⟩) (row (jt t) j1) (featOf ⟨(t.val / 10 % 2) * 512 + j2.val, by omega⟩)
  rw [eh, ef]

theorem final9 : (dats m 0 c).arrAt 9 cfg0.N = R9 m c :=
  (dats m 0 c).arrAt_eq_of_cover 9 (R9 m c) (flushed9 m c) fun i => by
    have hi0 : (i 0 : Nat) < 4 := (i 0).isLt
    have hi1 : (i 1 : Nat) < 2048 := (i 1).isLt
    have hi2 : (i 2 : Nat) < 1024 := (i 2).isLt
    have hl := lastS_lt ((i 1).val / 512)
    have ht : (i 0).val * 20 + (i 2).val / 512 * 10 + lastS ((i 1).val / 512) < cfg0.N := lt_of_lt_of_eq (by omega) N_0.symm
    refine ⟨⟨_, ht⟩, (last9 _).mpr (iN_last _ _ _ (by omega)), ?_⟩
    obtain ⟨h0, h1, h2⟩ := idx9 ⟨_, ht⟩
    have e1 := jN_last (i 0).val ((i 2).val / 512) ((i 1).val / 512) (by omega)
    show i ∈ ((View.whole main_v0_1).slice (win0_9.rect ⟨_, ht⟩)).set
    rw [View.set_slice_whole, Rect.mem_set_unit]
    intro a
    match a with
    | ⟨0, _⟩ => show win0_9.index _ 0 * 1 ≤ (i 0 : Nat) ∧ (i 0 : Nat) < win0_9.index _ 0 * 1 + 1; rw [h0]; dsimp only; omega
    | ⟨1, _⟩ => show win0_9.index _ 1 * 512 ≤ (i 1 : Nat) ∧ (i 1 : Nat) < win0_9.index _ 1 * 512 + 512; rw [h1]; dsimp only; rw [e1]; omega
    | ⟨2, _⟩ => show win0_9.index _ 2 * 512 ≤ (i 2 : Nat) ∧ (i 2 : Nat) < win0_9.index _ 2 * 512 + 512; rw [h2]; dsimp only; omega

theorem flushed10 (t : Fin cfg0.N) (hf : (cfg0.win 10).flush t = true) : (dats m 0 c).flushed 10 t = ((cfg0.win 10).blk t).view.read (Elt Ideal) (R10 m c) := by
  have h3 := (last10 t).mp hf
  obtain ⟨h0, h1, h2⟩ := idx10 t
  have hp : t.val / 10 % 2 < 2 := by omega
  rw [show (dats m 0 c).flushed 10 t = out10 m c t from after10 m c t]
  funext j
  idx_vars j
  obtain rfl : j0 = 0 := Subsingleton.elim _ _
  rw [View.read_apply]
  have hix : (((cfg0.win 10).blk t).view.emb (ix3 0 j1 j2) : S4x2048x256.Idx) = ix3 (bt t) (row (jt t) j1) ⟨(t.val / 10 % 2) * 128 + j2.val, by omega⟩ := by
    funext a; apply Fin.ext
    match a with
    | ⟨0, _⟩ => show win0_10.index t 0 * 1 + 1 * 0 = t.val / 20; rw [h0]; omega
    | ⟨1, _⟩ => show win0_10.index t 1 * 512 + 1 * j1.val = 512 * jN t.val + j1.val; rw [h1]; omega
    | ⟨2, _⟩ => show win0_10.index t 2 * 128 + 1 * j2.val = (t.val / 10 % 2) * 128 + j2.val; rw [h2]; omega
  refine Eq.trans ?_ (congrArg (R10 m c) hix).symm
  rw [out10_apply, lastK m c t h3, lastK m c t h3, lastK m c t h3, lastK m c t h3]
  have eg : grpOf (⟨(t.val / 10 % 2) * 128 + j2.val, by omega⟩ : Fin 256) = ⟨t.val / 10 % 2, hp⟩ := Fin.ext (by show ((t.val / 10 % 2) * 128 + j2.val) / 128 = t.val / 10 % 2; omega)
  have ef : gfeatOf (⟨(t.val / 10 % 2) * 128 + j2.val, by omega⟩ : Fin 256) = j2 := Fin.ext (by show ((t.val / 10 % 2) * 128 + j2.val) % 128 = j2.val; omega)
  show _ = dR m c (bt t) (grpOf (⟨(t.val / 10 % 2) * 128 + j2.val, by omega⟩ : Fin 256)) (row (jt t) j1) (gfeatOf (⟨(t.val / 10 % 2) * 128 + j2.val, by omega⟩ : Fin 256))
  rw [eg, ef]
  rfl

theorem final10 : (dats m 0 c).arrAt 10 cfg0.N = R10 m c :=
  (dats m 0 c).arrAt_eq_of_cover 10 (R10 m c) (flushed10 m c) fun i => by
    have hi0 : (i 0 : Nat) < 4 := (i 0).isLt
    have hi1 : (i 1 : Nat) < 2048 := (i 1).isLt
    have hi2 : (i 2 : Nat) < 256 := (i 2).isLt
    have hl := lastS_lt ((i 1).val / 512)
    have ht : (i 0).val * 20 + (i 2).val / 128 * 10 + lastS ((i 1).val / 512) < cfg0.N := lt_of_lt_of_eq (by omega) N_0.symm
    refine ⟨⟨_, ht⟩, (last10 _).mpr (iN_last _ _ _ (by omega)), ?_⟩
    obtain ⟨h0, h1, h2⟩ := idx10 ⟨_, ht⟩
    have e1 := jN_last (i 0).val ((i 2).val / 128) ((i 1).val / 512) (by omega)
    show i ∈ ((View.whole main_v0_2).slice (win0_10.rect ⟨_, ht⟩)).set
    rw [View.set_slice_whole, Rect.mem_set_unit]
    intro a
    match a with
    | ⟨0, _⟩ => show win0_10.index _ 0 * 1 ≤ (i 0 : Nat) ∧ (i 0 : Nat) < win0_10.index _ 0 * 1 + 1; rw [h0]; dsimp only; omega
    | ⟨1, _⟩ => show win0_10.index _ 1 * 512 ≤ (i 1 : Nat) ∧ (i 1 : Nat) < win0_10.index _ 1 * 512 + 512; rw [h1]; dsimp only; rw [e1]; omega
    | ⟨2, _⟩ => show win0_10.index _ 2 * 128 ≤ (i 2 : Nat) ∧ (i 2 : Nat) < win0_10.index _ 2 * 128 + 128; rw [h2]; dsimp only; omega

end Cert.AttnIdeal.Att

end
-- ==== Proof.AttnRefVal.lean ====
module

public import proofs.«01_k».proof.Proof.Gen.AttnRefIdeal.Read
public import proofs.«01_k».proof.Proof.AttnVal
public import Idealize.ShloMosaic.Lib.Pipeline.Value
public import Idealize.ShloMosaic.Lib.Pointwise
public import Idealize.ShloMosaic.Lib.IdealHost
public import Idealize.ShloMosaic.Lib.Affine
public import Idealize.ShloMosaic.Lib.Tactic

@[expose] public section

set_option maxRecDepth 16384

noncomputable section

namespace Cert.AttnRefIdeal.Hand

open Cert.AttnRefIdeal Cert.AttnRefIdeal.Gen Idealize.ShloMosaic Idealize.ShloMosaic.TcCoe Idealize.SL.Sem
open Cert.AttnRefIdeal.Read
open Cert.AttnIdeal.Att (colq colv ln2)

variable (x0 x1 : (⟨S4x2048x2048, .bf16⟩ : BufTy).Contents (Elt Ideal)) (x2 : (⟨S4x2048x1024, .bf16⟩ : BufTy).Contents (Elt Ideal))
  (x3 : (⟨S4x2048x1024, .f32⟩ : BufTy).Contents (Elt Ideal)) (x4 x5 : (⟨S4x8x1x2048, .f32⟩ : BufTy).Contents (Elt Ideal))

/-! ## The arguments with the heads an axis of their own -/

theorem v1_at (b : Fin 4) (n : Fin 2048) (H : Fin 8) (e : Fin 256) : val_main_v1 (F := Ideal) x0 (ix4 b n H e) = x0 (ix3 b n (colq H e)) := by
  rw [val_main_v1_apply]
  refine congrArg (fun i => x0 i) ?_
  funext a; apply Fin.ext
  match a with
  | ⟨0, _⟩ => show (((b.val * 2048 + n.val) * 8 + H.val) * 256 + e.val) / 4194304 = b.val; omega
  | ⟨1, _⟩ => show (((b.val * 2048 + n.val) * 8 + H.val) * 256 + e.val) / 2048 % 2048 = n.val; omega
  | ⟨2, _⟩ => show (((b.val * 2048 + n.val) * 8 + H.val) * 256 + e.val) % 2048 = 256 * H.val + e.val; omega

theorem v3_at (b : Fin 4) (n : Fin 2048) (H : Fin 8) (e : Fin 256) : val_main_v3 (F := Ideal) x1 (ix4 b n H e) = x1 (ix3 b n (colq H e)) := by
  rw [val_main_v3_apply]
  refine congrArg (fun i => x1 i) ?_
  funext a; apply Fin.ext
  match a with
  | ⟨0, _⟩ => show (((b.val * 2048 + n.val) * 8 + H.val) * 256 + e.val) / 4194304 = b.val; omega
  | ⟨1, _⟩ => show (((b.val * 2048 + n.val) * 8 + H.val) * 256 + e.val) / 2048 % 2048 = n.val; omega
  | ⟨2, _⟩ => show (((b.val * 2048 + n.val) * 8 + H.val) * 256 + e.val) % 2048 = 256 * H.val + e.val; omega

theorem v5_at (b : Fin 4) (n : Fin 2048) (H : Fin 8) (e : Fin 128) : val_main_v5 (F := Ideal) x2 (ix4 b n H e) = x2 (ix3 b n (colv H e)) := by
  rw [val_main_v5_apply]
  refine congrArg (fun i => x2 i) ?_
  funext a; apply Fin.ext
  match a with
  | ⟨0, _⟩ => show (((b.val * 2048 + n.val) * 8 + H.val) * 128 + e.val) / 2097152 = b.val; omega
  | ⟨1, _⟩ => show (((b.val * 2048 + n.val) * 8 + H.val) * 128 + e.val) / 1024 % 2048 = n.val; omega
  | ⟨2, _⟩ => show (((b.val * 2048 + n.val) * 8 + H.val) * 128 + e.val) % 1024 = 128 * H.val + e.val; omega

theorem v28_at (b : Fin 4) (H : Fin 8) (e : Fin 128) (n : Fin 2048) : val_main_v28 (F := Ideal) x3 (ix4 b H e n) = x3 (ix3 b n (colv H e)) := by
  rw [val_main_v28_apply, val_main_v6_apply]
  refine congrArg (fun i => x3 i) ?_
  funext a; apply Fin.ext
  match a with
  | ⟨0, _⟩ => show (((b.val * 2048 + n.val) * 8 + H.val) * 128 + e.val) / 2097152 = b.val; omega
  | ⟨1, _⟩ => show (((b.val * 2048 + n.val) * 8 + H.val) * 128 + e.val) / 1024 % 2048 = n.val; omega
  | ⟨2, _⟩ => show (((b.val * 2048 + n.val) * 8 + H.val) * 128 + e.val) % 1024 = 128 * H.val + e.val; omega

/-! ## The weights -/

/-- The score of key `r` for query `n`, less the query's logarithm. -/
def rS (b : Fin 4) (H : Fin 8) (n r : Fin 2048) : EReal :=
  (∑ e : Fin 256, x0 (ix3 b n (colq H e)) * x1 (ix3 b r (colq H e))) - x4 (ix4 b H 0 n)

theorem v8_at (b : Fin 4) (H : Fin 8) (n r : Fin 2048) : val_main_v8 (F := Ideal) x0 x1 (ix4 b H n r)
    = ∑ e : Fin 256, x0 (ix3 b n (colq H e)) * x1 (ix3 b r (colq H e)) := by
  rw [val_main_v8_apply]
  refine Finset.sum_congr rfl fun e _ => ?_
  have hl : lidx_main_v8 (ix4 b H n r) e = ix4 b n H e := by
    funext a; match a with | ⟨0, _⟩ => rfl | ⟨1, _⟩ => rfl | ⟨2, _⟩ => rfl | ⟨3, _⟩ => rfl
  have hr : ridx_main_v8 (ix4 b H n r) e = ix4 b r H e := by
    funext a; match a with | ⟨0, _⟩ => rfl | ⟨1, _⟩ => rfl | ⟨2, _⟩ => rfl | ⟨3, _⟩ => rfl
  rw [hl, hr, v1_at, v3_at]

theorem v12_at (b : Fin 4) (H : Fin 8) (n r : Fin 2048) : val_main_v12 (F := Ideal) x4 (ix4 b H n r) = x4 (ix4 b H 0 n) := by
  rw [val_main_v12_apply, val_main_v7_apply]
  refine congrArg (fun i => x4 i) ?_
  funext a; match a with | ⟨0, _⟩ => rfl | ⟨1, _⟩ => rfl | ⟨2, _⟩ => rfl | ⟨3, _⟩ => rfl

theorem two_log : Ideal.log (Ideal.ofBits .f32 0x40000000#32) = ln2 := by
  have h2 : Ideal.ofBits .f32 0x40000000#32 = ((2 : ℝ) : EReal) := by
    simp only [Ideal.ofBits, Ideal.ieee]
    simp
    rw [← EReal.coe_mul]
    exact congrArg _ (by norm_num)
  rw [h2, Ideal.log_coe, if_neg (by norm_num)]
  rfl

theorem v11_at (i : S_.Idx) : val_main_v11 (F := Ideal) i = ln2 := two_log

theorem v16_at (b : Fin 4) (H : Fin 8) (n r : Fin 2048) : val_main_v16 (F := Ideal) x0 x1 x4 (ix4 b H n r) = Ideal.exp (ln2 * rS x0 x1 x4 b H n r) := by
  rw [val_main_v16_apply, val_main_v15_apply, val_main_v14_apply, v11_at, val_main_v13_apply, v8_at, v12_at]
  rfl

/-- The mask lets a query see the keys up to itself. -/
theorem mask_at (b : Fin 4) (H : Fin 8) (n r : Fin 2048) : val_main_v17_1 (F := Ideal) (ix4 b H n r) = if r ≤ n then 1#1 else 0#1 := by
  rw [val_main_v17_1_apply, val_main_v10_apply, val_main_v9_apply, val_main_c_apply, val_main_call0_v5_apply, val_main_call0_c_0_apply,
    val_main_call0_v4_apply, val_main_call0_v2_apply, val_main_call0_v0_apply, val_main_call0_v1_apply, val_main_call0_c_apply, val_main_call0_v3_apply]
  show Scalar.select (IntOp.cmpi .sge (BitVec.ofNat 32 n.val + 0#32) (BitVec.ofNat 32 r.val)) 1#1 0#1 = _
  rw [BitVec.add_zero]
  have hn : (BitVec.ofNat 32 n.val).toInt = n.val := by
    rw [BitVec.toInt_eq_toNat_of_lt (by rw [BitVec.toNat_ofNat]; omega), BitVec.toNat_ofNat]; omega
  have hr : (BitVec.ofNat 32 r.val).toInt = r.val := by
    rw [BitVec.toInt_eq_toNat_of_lt (by rw [BitVec.toNat_ofNat]; omega), BitVec.toNat_ofNat]; omega
  have key : IntOp.cmpi .sge (BitVec.ofNat 32 n.val) (BitVec.ofNat 32 r.val) = 1#1 ↔ r ≤ n := by
    rw [IntOp.cmpi_sge, hn, hr]
    exact ⟨fun h => Fin.le_def.mpr (by omega), fun h => by have := Fin.le_def.mp h; omega⟩
  unfold Scalar.select
  by_cases h : r ≤ n
  · rw [if_pos h]; simp [key.mpr h]
  · rw [if_neg h]; simp [show ¬(IntOp.cmpi .sge (BitVec.ofNat 32 n.val) (BitVec.ofNat 32 r.val) = 1#1) from fun e => h (key.mp e)]

theorem sel_at (p : Prop) [Decidable p] (x y : EReal) : Scalar.select (if p then 1#1 else 0#1) x y = if p then x else y := by
  by_cases h : p
  · simp [Scalar.select, h]
  · simp [Scalar.select, h]

theorem zero_f32 : (FloatOps.ofBits (F := Ideal) .f32 0x00000000#32 : EReal) = 0 := by
  show Ideal.ofBits .f32 0x00000000#32 = 0
  simp [Ideal.ofBits, Ideal.ieee]

theorem v19_at (b : Fin 4) (H : Fin 8) (n r : Fin 2048) : val_main_v19 (F := Ideal) x0 x1 x4 (ix4 b H n r)
    = if r ≤ n then Ideal.exp (ln2 * rS x0 x1 x4 b H n r) else 0 := by
  rw [val_main_v19_apply, val_main_v18_apply, val_main_v17_0_apply, mask_at, v16_at, val_main_call1_v2_apply, val_main_call1_v0_apply, val_main_cst_0_apply]
  refine Eq.trans ?_ (congrArg (fun z => if r ≤ n then Ideal.exp (ln2 * rS x0 x1 x4 b H n r) else z) zero_f32)
  exact sel_at (r ≤ n) _ _

/-! ## The weights' gradients -/

theorem v29_at (b : Fin 4) (H : Fin 8) (n r : Fin 2048) : val_main_v29 (F := Ideal) x2 x3 (ix4 b H n r)
    = ∑ e : Fin 128, x3 (ix3 b n (colv H e)) * x2 (ix3 b r (colv H e)) := by
  rw [val_main_v29_apply]
  refine Finset.sum_congr rfl fun e _ => ?_
  have hl : lidx_main_v29 (ix4 b H n r) e = ix4 b H e n := by
    funext a; match a with | ⟨0, _⟩ => rfl | ⟨1, _⟩ => rfl | ⟨2, _⟩ => rfl | ⟨3, _⟩ => rfl
  have hr : ridx_main_v29 (ix4 b H n r) e = ix4 b r H e := by
    funext a; match a with | ⟨0, _⟩ => rfl | ⟨1, _⟩ => rfl | ⟨2, _⟩ => rfl | ⟨3, _⟩ => rfl
  rw [hl, hr, v28_at, v5_at]

theorem v27_at (b : Fin 4) (H : Fin 8) (n r : Fin 2048) : val_main_v27 (F := Ideal) x5 (ix4 b H n r) = -x5 (ix4 b H 0 n) := by
  rw [val_main_v27_apply, val_main_v26_apply, val_main_cst_2_apply, zero_f32, zero_add, Fin.sum_univ_one, val_main_v25_apply, val_main_v24_apply]
  show -x5 _ = -x5 _
  refine congrArg (fun i => -x5 i) ?_
  funext a; match a with | ⟨0, _⟩ => rfl | ⟨1, _⟩ => rfl | ⟨2, _⟩ => rfl | ⟨3, _⟩ => rfl

/-- The gradient of a weight before its own factor. -/
def rD (b : Fin 4) (H : Fin 8) (n r : Fin 2048) : EReal :=
  -x5 (ix4 b H 0 n) + ∑ e : Fin 128, x3 (ix3 b n (colv H e)) * x2 (ix3 b r (colv H e))

theorem v38_at (b : Fin 4) (H : Fin 8) (n r : Fin 2048) : val_main_v38 (F := Ideal) x0 x1 x2 x3 x4 x5 (ix4 b H n r)
    = ln2 * ((if r ≤ n then rD x2 x3 x5 b H n r else 0) * Ideal.exp (ln2 * rS x0 x1 x4 b H n r)) := by
  rw [val_main_v38_apply, val_main_v37_apply, v11_at, val_main_v36_apply, v16_at, val_main_v35_apply, mask_at, val_main_call2_v0_apply, val_main_call2_cst_apply,
    val_main_v34_apply, v27_at, val_main_v33_apply, val_main_v32_apply, v29_at]
  refine congrArg (fun z : EReal => ln2 * (z * Ideal.exp (ln2 * rS x0 x1 x4 b H n r))) ?_
  refine Eq.trans ?_ (congrArg (fun z => if r ≤ n then rD x2 x3 x5 b H n r else z) zero_f32)
  exact sel_at (r ≤ n) _ _

/-! ## The gradients -/

/-- The gradient of key `r`, -/
def rK (b : Fin 4) (H : Fin 8) (r : Fin 2048) (x : Fin 256) : EReal :=
  ∑ n : Fin 2048, ln2 * ((if r ≤ n then rD x2 x3 x5 b H n r else 0) * Ideal.exp (ln2 * rS x0 x1 x4 b H n r)) * x0 (ix3 b n (colq H x))
/-- and of value `r`. -/
def rV (b : Fin 4) (H : Fin 8) (r : Fin 2048) (x : Fin 128) : EReal :=
  ∑ n : Fin 2048, x3 (ix3 b n (colv H x)) * (if r ≤ n then Ideal.exp (ln2 * rS x0 x1 x4 b H n r) else 0)

theorem v40_at (b : Fin 4) (r : Fin 2048) (H : Fin 8) (x : Fin 256) : val_main_v40 (F := Ideal) x0 x1 x2 x3 x4 x5 (ix4 b r H x) = rK x0 x1 x2 x3 x4 x5 b H r x := by
  have hi : idx_main_v40 (ix4 b r H x) = ix4 b H r x := by
    funext a; match a with | ⟨0, _⟩ => rfl | ⟨1, _⟩ => rfl | ⟨2, _⟩ => rfl | ⟨3, _⟩ => rfl
  rw [val_main_v40_apply, hi, val_main_v39_apply]
  refine Finset.sum_congr rfl fun n _ => ?_
  have hl : lidx_main_v39 (ix4 b H r x) n = ix4 b H n r := by
    funext a; match a with | ⟨0, _⟩ => rfl | ⟨1, _⟩ => rfl | ⟨2, _⟩ => rfl | ⟨3, _⟩ => rfl
  have hr : ridx_main_v39 (ix4 b H r x) n = ix4 b n H x := by
    funext a; match a with | ⟨0, _⟩ => rfl | ⟨1, _⟩ => rfl | ⟨2, _⟩ => rfl | ⟨3, _⟩ => rfl
  rw [hl, hr, v38_at, v1_at]

theorem v31_at (b : Fin 4) (r : Fin 2048) (H : Fin 8) (x : Fin 128) : val_main_v31 (F := Ideal) x0 x1 x3 x4 (ix4 b r H x) = rV x0 x1 x3 x4 b H r x := by
  have hi : idx_main_v31 (ix4 b r H x) = ix4 b H x r := by
    funext a; match a with | ⟨0, _⟩ => rfl | ⟨1, _⟩ => rfl | ⟨2, _⟩ => rfl | ⟨3, _⟩ => rfl
  rw [val_main_v31_apply, hi, val_main_v30_apply]
  refine Finset.sum_congr rfl fun n _ => ?_
  have hl : lidx_main_v30 (ix4 b H x r) n = ix4 b H x n := by
    funext a; match a with | ⟨0, _⟩ => rfl | ⟨1, _⟩ => rfl | ⟨2, _⟩ => rfl | ⟨3, _⟩ => rfl
  have hr : ridx_main_v30 (ix4 b H x r) n = ix4 b H n r := by
    funext a; match a with | ⟨0, _⟩ => rfl | ⟨1, _⟩ => rfl | ⟨2, _⟩ => rfl | ⟨3, _⟩ => rfl
  rw [hl, hr, v28_at, v19_at]

open Cert.AttnIdeal.Att (headOf featOf lo128 hi128 grpHead grpOf gfeatOf)

theorem v43_at (b : Fin 4) (r : Fin 2048) (x : Fin 1024) : val_main_v43 (F := Ideal) x0 x1 x2 x3 x4 x5 (ix3 b r x)
    = rK x0 x1 x2 x3 x4 x5 b (headOf x) r (lo128 (featOf x)) := by
  rw [val_main_v43_apply, val_main_v42_apply, val_main_v41_apply, ← v40_at]
  refine congrArg (fun i => val_main_v40 (F := Ideal) x0 x1 x2 x3 x4 x5 i) ?_
  funext a; apply Fin.ext
  match a with
  | ⟨0, _⟩ => show ((b.val * 2048 + r.val) * 1024 + x.val) / 2097152 = b.val; omega
  | ⟨1, _⟩ => show ((b.val * 2048 + r.val) * 1024 + x.val) / 1024 % 2048 = r.val; omega
  | ⟨2, _⟩ => show ((b.val * 2048 + r.val) * 1024 + x.val) / 128 % 8 = x.val / 128; omega
  | ⟨3, _⟩ => show ((b.val * 2048 + r.val) * 1024 + x.val) % 128 = x.val % 128; omega

theorem v45_at (b : Fin 4) (r : Fin 2048) (x : Fin 1024) : val_main_v45 (F := Ideal) x0 x1 x3 x4 (ix3 b r x)
    = rV x0 x1 x3 x4 b (headOf x) r (featOf x) := by
  rw [val_main_v45_apply, val_main_v44_apply, ← v31_at]
  refine congrArg (fun i => val_main_v31 (F := Ideal) x0 x1 x3 x4 i) ?_
  funext a; apply Fin.ext
  match a with
  | ⟨0, _⟩ => show ((b.val * 2048 + r.val) * 1024 + x.val) / 2097152 = b.val; omega
  | ⟨1, _⟩ => show ((b.val * 2048 + r.val) * 1024 + x.val) / 1024 % 2048 = r.val; omega
  | ⟨2, _⟩ => show ((b.val * 2048 + r.val) * 1024 + x.val) / 128 % 8 = x.val / 128; omega
  | ⟨3, _⟩ => show ((b.val * 2048 + r.val) * 1024 + x.val) % 128 = x.val % 128; omega

theorem v49_at (b : Fin 4) (r : Fin 2048) (x : Fin 256) : val_main_v49 (F := Ideal) x0 x1 x2 x3 x4 x5 (ix3 b r x)
    = ∑ h : Fin 4, rK x0 x1 x2 x3 x4 x5 b (grpHead (grpOf x) h) r (hi128 (gfeatOf x)) := by
  rw [val_main_v49_apply, val_main_v48_apply, val_main_cst_3_apply, zero_f32, zero_add]
  refine Finset.sum_congr rfl fun h _ => ?_
  rw [val_main_v47_apply, val_main_v46_apply, ← v40_at]
  refine congrArg (fun i => val_main_v40 (F := Ideal) x0 x1 x2 x3 x4 x5 i) ?_
  have hp : x.val / 128 < 2 := by omega
  have hq : x.val % 128 < 128 := by omega
  have e0 : ((b.val * 2048 + r.val) * 256 + x.val) / 524288 = b.val := by omega
  have e1 : ((b.val * 2048 + r.val) * 256 + x.val) / 256 % 2048 = r.val := by omega
  have e2 : ((b.val * 2048 + r.val) * 256 + x.val) / 128 % 2 = x.val / 128 := by omega
  have e3 : ((b.val * 2048 + r.val) * 256 + x.val) % 128 = x.val % 128 := by omega
  funext a; apply Fin.ext
  match a with
  | ⟨0, _⟩ =>
    show ((((((b.val * 2048 + r.val) * 256 + x.val) / 524288 * 2048 + ((b.val * 2048 + r.val) * 256 + x.val) / 256 % 2048) * 2 + ((b.val * 2048 + r.val) * 256 + x.val) / 128 % 2) * 4 + h.val) * 128 + ((b.val * 2048 + r.val) * 256 + x.val) % 128) / 2097152 = b.val
    rw [e0, e1, e2, e3]; generalize x.val / 128 = p at hp; generalize x.val % 128 = q at hq; omega
  | ⟨1, _⟩ =>
    show ((((((b.val * 2048 + r.val) * 256 + x.val) / 524288 * 2048 + ((b.val * 2048 + r.val) * 256 + x.val) / 256 % 2048) * 2 + ((b.val * 2048 + r.val) * 256 + x.val) / 128 % 2) * 4 + h.val) * 128 + ((b.val * 2048 + r.val) * 256 + x.val) % 128) / 1024 % 2048 = r.val
    rw [e0, e1, e2, e3]; generalize x.val / 128 = p at hp; generalize x.val % 128 = q at hq; omega
  | ⟨2, _⟩ =>
    show ((((((b.val * 2048 + r.val) * 256 + x.val) / 524288 * 2048 + ((b.val * 2048 + r.val) * 256 + x.val) / 256 % 2048) * 2 + ((b.val * 2048 + r.val) * 256 + x.val) / 128 % 2) * 4 + h.val) * 128 + ((b.val * 2048 + r.val) * 256 + x.val) % 128) / 128 % 8 = 4 * (x.val / 128) + h.val
    rw [e0, e1, e2, e3]; generalize x.val / 128 = p at hp; generalize x.val % 128 = q at hq; omega
  | ⟨3, _⟩ =>
    show 128 + ((((((b.val * 2048 + r.val) * 256 + x.val) / 524288 * 2048 + ((b.val * 2048 + r.val) * 256 + x.val) / 256 % 2048) * 2 + ((b.val * 2048 + r.val) * 256 + x.val) / 128 % 2) * 4 + h.val) * 128 + ((b.val * 2048 + r.val) * 256 + x.val) % 128) % 128 = 128 + x.val % 128
    rw [e0, e1, e2, e3]; generalize x.val / 128 = p at hp; generalize x.val % 128 = q at hq; omega

end Cert.AttnRefIdeal.Hand

end
-- ==== Proof.AttnAlg.lean ====
module

public import proofs.«01_k».proof.Proof.AttnRefVal

@[expose] public section

set_option maxRecDepth 16384

noncomputable section

namespace Cert.AttnIdeal.Att

open Cert.AttnIdeal Cert.AttnIdeal.Gen Idealize.ShloMosaic Idealize.ShloMosaic.TcCoe Idealize.SL.Sem
open Cert.AttnRefIdeal.Hand (rS rD rK rV v43_at v45_at v49_at)

/-! ## The logarithm of two -/

theorem log2_pos : 0 < Real.log 2 := Real.log_pos (by norm_num)

/-- A power of two is an exponential; the infinities go where they go. -/
theorem exp2_eq (x : EReal) : Ideal.exp2 x = Ideal.exp (ln2 * x) := by
  induction x using EReal.rec with
  | bot => rw [ln2, EReal.coe_mul_bot_of_pos log2_pos]; rfl
  | top => rw [ln2, EReal.coe_mul_top_of_pos log2_pos]; rfl
  | coe r =>
    rw [ln2, ← EReal.coe_mul, Ideal.exp2_coe, Ideal.exp_coe]
    exact congrArg _ (Real.rpow_def_of_pos (by norm_num) r)

theorem add_ln2 (x y : EReal) : (x + y) * ln2 = x * ln2 + y * ln2 :=
  EReal.right_distrib_of_nonneg_of_ne_top (EReal.coe_nonneg.mpr log2_pos.le) (EReal.coe_ne_top _) x y

theorem sum_ln2 {ι : Type} [Fintype ι] (f : ι → EReal) : (∑ i, f i) * ln2 = ∑ i, f i * ln2 := by
  classical
  refine Finset.induction_on (Finset.univ : Finset ι) ?_ ?_
  · simp
  · intro i s hi ih
    rw [Finset.sum_insert hi, Finset.sum_insert hi, add_ln2, ih]

/-! ## The two programs' results -/

variable (m : (ℓ : Loc nD τ sig) → Buf (Elt Ideal) ℓ) (c : Dev nD)

theorem wG_eq (b : Fin 4) (H : Fin 8) (r n : Fin 2048) : wG m c b H r n = Ideal.exp (ln2 * rS (aQ m c) (aK m c) (aL m c) b H n r) := by
  unfold wG rS
  rw [exp2_eq]
  exact congrArg (fun z => Ideal.exp (ln2 * (z - _))) (Finset.sum_congr rfl fun e _ => mul_comm _ _)

theorem dG_eq (b : Fin 4) (H : Fin 8) (r n : Fin 2048) : dG m c b H r n = rD (aV m c) (aG m c) (aD m c) b H n r := by
  unfold dG rD
  rw [sub_eq_add_neg, add_comm]
  exact congrArg (fun z => _ + z) (Finset.sum_congr rfl fun e _ => mul_comm _ _)

theorem dV_eq (b : Fin 4) (H : Fin 8) (r : Fin 2048) (x : Fin 128) : dV m c b H r x = rV (aQ m c) (aK m c) (aG m c) (aL m c) b H r x :=
  Finset.sum_congr rfl fun n _ => by unfold tV; rw [wG_eq]; exact mul_comm _ _

theorem dK_eq (b : Fin 4) (H : Fin 8) (r : Fin 2048) (x : Fin 256) :
    dK m c b H r x * ln2 = rK (aQ m c) (aK m c) (aV m c) (aG m c) (aL m c) (aD m c) b H r x := by
  unfold dK
  rw [sum_ln2]
  refine Finset.sum_congr rfl fun n _ => ?_
  unfold tK
  rw [wG_eq, dG_eq]
  by_cases h : r ≤ n
  · rw [if_pos h, if_pos h]
    rw [mul_comm _ ln2, ← mul_assoc, mul_comm (Ideal.exp _)]
  · rw [if_neg h, if_neg h]
    simp only [zero_mul, mul_zero]

theorem res8 : R8 m c = Cert.AttnRefIdeal.Read.val_main_v43 (F := Ideal) (aQ m c) (aK m c) (aV m c) (aG m c) (aL m c) (aD m c) := by
  funext i; idx_vars i
  exact (dK_eq m c _ _ _ _).trans (v43_at _ _ _ _ _ _ i0 i1 i2).symm

theorem res9 : R9 m c = Cert.AttnRefIdeal.Read.val_main_v45 (F := Ideal) (aQ m c) (aK m c) (aG m c) (aL m c) := by
  funext i; idx_vars i
  exact (dV_eq m c _ _ _ _).trans (v45_at _ _ _ _ i0 i1 i2).symm

theorem dR_eq (b : Fin 4) (p : Fin 2) (s : Fin 2048) (x : Fin 128) :
    dR m c b p s x = ∑ h : Fin 4, rK (aQ m c) (aK m c) (aV m c) (aG m c) (aL m c) (aD m c) b (grpHead p h) s (hi128 x) := by
  unfold dR
  rw [zero_add, add_ln2, add_ln2, add_ln2, dK_eq, dK_eq, dK_eq, dK_eq, Fin.sum_univ_four]

theorem res10 : R10 m c = Cert.AttnRefIdeal.Read.val_main_v49 (F := Ideal) (aQ m c) (aK m c) (aV m c) (aG m c) (aL m c) (aD m c) := by
  funext i; idx_vars i
  exact (dR_eq m c _ _ _ _).trans (v49_at _ _ _ _ _ _ i0 i1 i2).symm

end Cert.AttnIdeal.Att

end
-- ==== Proof.MmSum.lean ====
module

public import Idealize.ShloMosaic.Lib.Pipeline.Value
public import Idealize.ShloMosaic.Lib.Pointwise
public import Idealize.ShloMosaic.Lib.Tactic

@[expose] public section

noncomputable section

/-! ## Sums cut into blocks, and accumulators that add one block at a time -/

namespace Cert.Mm

theorem hz2 : (![0, 0] : Fin 2 → Nat) = fun _ => 0 := funext fun a => by fin_cases a <;> rfl

/-- The sum of the products, place by place. -/
def dot {K : ℕ} (a w : Fin K → EReal) : EReal := ∑ x : Fin K, a x * w x

/-- Place `q` of block `b`, among `n` blocks of `k`. -/
def blkIx {n k N : ℕ} (h : N = n * k) (b : Fin n) (q : Fin k) : Fin N :=
  ⟨b.val * k + q.val, by
    subst h
    have h1 : b.val * k + k ≤ n * k := by
      have := Nat.mul_le_mul_right k (Nat.succ_le_of_lt b.isLt)
      rwa [Nat.succ_mul] at this
    have := q.isLt
    omega⟩

/-- A sum is the sum of its blocks' sums. -/
theorem sum_blk {n k N : ℕ} (h : N = n * k) (f : Fin N → EReal) : ∑ x : Fin N, f x = ∑ b : Fin n, ∑ q : Fin k, f (blkIx h b q) := by
  subst h
  rw [← Fintype.sum_prod_type' (f := fun b q => f (blkIx rfl b q)), ← Equiv.sum_comp finProdFinEquiv]
  refine Finset.sum_congr rfl fun p _ => congrArg f (Fin.ext ?_)
  show p.2.val + k * p.1.val = p.1.val * k + p.2.val
  rw [Nat.mul_comm, Nat.add_comm]

/-- An accumulator set at the first of every four points, and added to at the others, ends at the four points' sum. -/
theorem acc_four {N : ℕ} (X P : (n : ℕ) → n < N → EReal) (hA : ∀ n h, n % 4 = 0 → X n h = P n h)
    (hB : ∀ n h, ¬ n % 4 = 0 → X n h = X (n - 1) (Nat.lt_of_le_of_lt (Nat.sub_le _ _) h) + P n h)
    (F : Fin 4 → EReal) (n : ℕ) (h : n < N) (h3 : n % 4 = 3)
    (hP : ∀ (b : Fin 4) (h' : n - 3 + b.val < N), P (n - 3 + b.val) h' = F b) : X n h = ∑ b : Fin 4, F b := by
  have hc : ∀ a b (ha : a < N) (hb : b < N), a = b → X a ha = X b hb := by rintro a _ ha hb rfl; rfl
  have e3 := hB (n - 3 + 3) (by omega) (by omega)
  have e2 := hB (n - 3 + 2) (by omega) (by omega)
  have e1 := hB (n - 3 + 1) (by omega) (by omega)
  have e0 := hA (n - 3 + 0) (by omega) (by omega)
  rw [hc n (n - 3 + 3) h (by omega) (by omega), e3, hc (n - 3 + 3 - 1) (n - 3 + 2) (by omega) (by omega) (by omega), e2,
    hc (n - 3 + 2 - 1) (n - 3 + 1) (by omega) (by omega) (by omega), e1,
    hc (n - 3 + 1 - 1) (n - 3 + 0) (by omega) (by omega) (by omega), e0, Fin.sum_univ_four]
  rw [← hP 0 (by show n - 3 + 0 < N; omega), ← hP 1 (by show n - 3 + 1 < N; omega), ← hP 2 (by show n - 3 + 2 < N; omega),
    ← hP 3 (by show n - 3 + 3 < N; omega)]
  rfl

end Cert.Mm

end
-- ==== Proof.UpDxVal.lean ====
module

public import proofs.«01_k».proof.Proof.Gen.UpDxIdeal.Value
public import proofs.«01_k».proof.Proof.Gen.UpDxRefIdeal.Read
public import proofs.«01_k».proof.Proof.MmSum
public import Idealize.ShloMosaic.Lib.Pipeline.Value
public import Idealize.ShloMosaic.Lib.Pointwise
public import Idealize.ShloMosaic.Lib.Tactic

@[expose] public section

set_option maxRecDepth 16384

noncomputable section

namespace Cert.UpDxIdeal.Hand

open Cert.UpDxIdeal Cert.UpDxIdeal.Gen Idealize.ShloMosaic Idealize.ShloMosaic.TcCoe Idealize.SL.Sem
open Idealize.ShloMosaic.Pipeline (Dat)
open Cert.Mm (hz2 blkIx sum_blk)

variable (m : (ℓ : Loc nD τ sig) → Buf (Elt Ideal) ℓ) (c : Dev nD)

/-! ## The grid: point `t` is column block `t % 2` of row block `t / 2` -/

theorem idx0 : ∀ t : Fin cfg0.N, win0_0.index t 0 = t.val / 2 ∧ win0_0.index t 1 = 0 :=
  (by decide +kernel : ∀ t : Fin grid0.N, win0_0.index t 0 = t.val / 2 ∧ win0_0.index t 1 = 0)
theorem idx1 : ∀ t : Fin cfg0.N, win0_1.index t 0 = t.val / 2 ∧ win0_1.index t 1 = 0 :=
  (by decide +kernel : ∀ t : Fin grid0.N, win0_1.index t 0 = t.val / 2 ∧ win0_1.index t 1 = 0)
theorem idx2 : ∀ t : Fin cfg0.N, win0_2.index t 0 = t.val % 2 ∧ win0_2.index t 1 = 0 :=
  (by decide +kernel : ∀ t : Fin grid0.N, win0_2.index t 0 = t.val % 2 ∧ win0_2.index t 1 = 0)
theorem idx3 : ∀ t : Fin cfg0.N, win0_3.index t 0 = t.val / 2 ∧ win0_3.index t 1 = t.val % 2 :=
  (by decide +kernel : ∀ t : Fin grid0.N, win0_3.index t 0 = t.val / 2 ∧ win0_3.index t 1 = t.val % 2)

theorem t_lt (t : Fin cfg0.N) : t.val < 32 := lt_of_lt_of_eq t.isLt N_0

/-- The point's row block and column block. -/
def it (t : Fin cfg0.N) : Fin 16 := ⟨t.val / 2, by have := t_lt t; omega⟩
def jt (t : Fin cfg0.N) : Fin 2 := ⟨t.val % 2, Nat.mod_lt _ (by decide)⟩

/-- A row of the result, and a column. -/
abbrev row (i : Fin 16) (r : Fin 512) : Fin 8192 := blkIx rfl i r
abbrev col (j : Fin 2) (l : Fin 512) : Fin 1024 := blkIx rfl j l

/-- A feature of one of the two halves. -/
abbrev half (p : Fin 2) (f : Fin 2816) : Fin 5632 := blkIx rfl p f

/-! ## The arguments and their blocks -/

def aG : S8192x2816.Idx → EReal := m ((c : Thread nD τ).loc main_arg0)
def aV : S8192x2816.Idx → EReal := m ((c : Thread nD τ).loc main_arg1)
def aW : S1024x5632.Idx → EReal := m ((c : Thread nD τ).loc main_arg2)

theorem iblk0 (t : Fin cfg0.N) (r : Fin 512) (x : Fin 2816) : iblk m c 0 t (ix2 r x) = aG m c (ix2 (row (it t) r) x) := by
  unfold iblk
  rw [View.read_apply]
  show V m c main_arg0 _ = m ((c : Thread nD τ).loc main_arg0) _
  obtain ⟨h0, h1⟩ := idx0 t
  refine (congrFun (V_main_arg0 m c) _).trans (congrArg (m ((c : Thread nD τ).loc main_arg0)) ?_)
  funext a; apply Fin.ext
  match a with
  | ⟨0, _⟩ => show win0_0.index t 0 * 512 + 1 * r.val = t.val / 2 * 512 + r.val; rw [h0]; omega
  | ⟨1, _⟩ => show win0_0.index t 1 * 2816 + 1 * x.val = x.val; rw [h1]; omega

theorem iblk1 (t : Fin cfg0.N) (r : Fin 512) (x : Fin 2816) : iblk m c 1 t (ix2 r x) = aV m c (ix2 (row (it t) r) x) := by
  unfold iblk
  rw [View.read_apply]
  show V m c main_arg1 _ = m ((c : Thread nD τ).loc main_arg1) _
  obtain ⟨h0, h1⟩ := idx1 t
  refine (congrFun (V_main_arg1 m c) _).trans (congrArg (m ((c : Thread nD τ).loc main_arg1)) ?_)
  funext a; apply Fin.ext
  match a with
  | ⟨0, _⟩ => show win0_1.index t 0 * 512 + 1 * r.val = t.val / 2 * 512 + r.val; rw [h0]; omega
  | ⟨1, _⟩ => show win0_1.index t 1 * 2816 + 1 * x.val = x.val; rw [h1]; omega

theorem iblk2 (t : Fin cfg0.N) (l : Fin 512) (x : Fin 5632) : iblk m c 2 t (ix2 l x) = aW m c (ix2 (col (jt t) l) x) := by
  unfold iblk
  rw [View.read_apply]
  show V m c main_arg2 _ = m ((c : Thread nD τ).loc main_arg2) _
  obtain ⟨h0, h1⟩ := idx2 t
  refine (congrFun (V_main_arg2 m c) _).trans (congrArg (m ((c : Thread nD τ).loc main_arg2)) ?_)
  funext a; apply Fin.ext
  match a with
  | ⟨0, _⟩ => show win0_2.index t 0 * 512 + 1 * l.val = t.val % 2 * 512 + l.val; rw [h0]; omega
  | ⟨1, _⟩ => show win0_2.index t 1 * 5632 + 1 * x.val = x.val; rw [h1]; omega

/-! ## What a point computes -/

/-- One half's product at a row and a column. -/
def dotH (a : Fin 2816 → EReal) (w : Fin 5632 → EReal) (p : Fin 2) : EReal := ∑ f : Fin 2816, a f * w (half p f)

theorem pay1_apply (v0 v1 v3 v4 : Vec Ideal S512x2816 .bf16) (r l : Fin 512) :
    k0_pay1 v0 v1 v3 v4 (ix2 r l) = (∑ x : Fin 2816, v1 (ix2 r x) * v0 (ix2 l x)) + ∑ x : Fin 2816, v4 (ix2 r x) * v3 (ix2 l x) := by
  unfold k0_pay1; pointwise

theorem ld_half {e : EltTy} (X : S512x5632.Idx → Elt Ideal e) (off : Fin 2 → ℕ) (p : Fin 2) (hoff : off = ![0, p.val * 2816]) (inb) (l : Fin 512) (x : Fin 2816) :
    View.ld X (Rect.unit (s := S512x5632) off S512x2816.size inb) (ix2 l x) = X (ix2 l (half p x)) := by
  subst hoff
  refine congrArg X (funext fun a => Fin.ext ?_)
  match a with
  | ⟨0, _⟩ => show 0 + 1 * l.val = l.val; omega
  | ⟨1, _⟩ => show p.val * 2816 + 1 * x.val = p.val * 2816 + x.val; omega

theorem out_at (t : Fin cfg0.N) (r l : Fin 512) :
    outsAt0 m c t (ix2 r l) = dotH (fun x => iblk m c 0 t (ix2 r x)) (fun x => iblk m c 2 t (ix2 l x)) 0
      + dotH (fun x => iblk m c 1 t (ix2 r x)) (fun x => iblk m c 2 t (ix2 l x)) 1 := by
  unfold outsAt0 out0_A_3
  rw [View.read_writes_eq_canon _ _ _ (fun y => cover0_A_3 ..)]
  unfold kernelRun0_A
  dsimp only
  sl_unfold_words
  simp only [View.readAt_eq_ld, (hs0_0 t).read_unread, (hs0_1 t).read_unread, (hs0_2 t).read_unread, View.ld_unit_zero (S := S512x2816) hz2]
  rw [View.canon_unit_zero hz2, pay1_apply]
  refine congrArg₂ (· + ·) (Finset.sum_congr rfl fun x _ => congrArg₂ (· * ·) rfl ?_) (Finset.sum_congr rfl fun x _ => congrArg₂ (· * ·) rfl ?_)
  · exact ld_half _ ![0, 0] 0 rfl _ l x
  · exact ld_half _ ![0, 2816] 1 rfl _ l x

/-! ## The result -/

def R3 : S8192x1024.Idx → EReal := fun i =>
  dotH (fun x => aG m c (ix2 (i 0) x)) (fun x => aW m c (ix2 (i 1) x)) 0 + dotH (fun x => aV m c (ix2 (i 0) x)) (fun x => aW m c (ix2 (i 1) x)) 1

theorem flushed3_eq (t : Fin cfg0.N) : (dats m 0 c).flushed 3 t = ((cfg0.win 3).blk t).view.read (Elt Ideal) (R3 m c) := by
  rw [Value.flushed3]
  funext j
  idx_vars j
  obtain ⟨h0, h1⟩ := idx3 t
  rw [View.read_apply]
  refine (out_at m c t j0 j1).trans ?_
  simp only [iblk0, iblk1, iblk2]
  show R3 m c (ix2 (row (it t) j0) (col (jt t) j1)) = R3 m c _
  refine congrArg (R3 m c) ?_
  funext a; apply Fin.ext
  match a with
  | ⟨0, _⟩ => show t.val / 2 * 512 + j0.val = win0_3.index t 0 * 512 + 1 * j0.val; rw [h0]; omega
  | ⟨1, _⟩ => show t.val % 2 * 512 + j1.val = win0_3.index t 1 * 512 + 1 * j1.val; rw [h1]; omega

theorem final3 : (dats m 0 c).arrAt 3 cfg0.N = R3 m c :=
  (dats m 0 c).arrAt_eq_of_cover 3 (R3 m c) (fun t _ => flushed3_eq m c t) fun i => by
    have hi0 : (i 0 : Nat) < 8192 := (i 0).isLt
    have hi1 : (i 1 : Nat) < 1024 := (i 1).isLt
    have ht : (i 0).val / 512 * 2 + (i 1).val / 512 < cfg0.N := lt_of_lt_of_eq (by omega) N_0.symm
    refine ⟨⟨(i 0).val / 512 * 2 + (i 1).val / 512, ht⟩, flush0_3 _, ?_⟩
    obtain ⟨h0, h1⟩ := idx3 ⟨(i 0).val / 512 * 2 + (i 1).val / 512, ht⟩
    show i ∈ ((View.whole main_v0).slice (win0_3.rect ⟨(i 0).val / 512 * 2 + (i 1).val / 512, ht⟩)).set
    rw [View.set_slice_whole, Rect.mem_set_unit]
    intro a
    match a with
    | ⟨0, _⟩ => show win0_3.index _ 0 * 512 ≤ (i 0 : Nat) ∧ (i 0 : Nat) < win0_3.index _ 0 * 512 + 512; rw [h0]; dsimp only; omega
    | ⟨1, _⟩ => show win0_3.index _ 1 * 512 ≤ (i 1 : Nat) ∧ (i 1 : Nat) < win0_3.index _ 1 * 512 + 512; rw [h1]; dsimp only; omega

/-! ## The reference -/

open Cert.UpDxRefIdeal.Read in
/-- The two halves side by side, read at a feature of the first. -/
theorem cat_left (x0 x1 : S8192x2816.Idx → EReal) (s : Fin 8192) (f : Fin 2816) :
    val_main_v3 (F := Ideal) x0 x1 (ix2 s (half 0 f)) = x0 (ix2 s f) := by
  unfold val_main_v3
  have e := concatenate_pair_apply_left (t := Cert.UpDxRefIdeal.S8192x5632) (s₁ := Cert.UpDxRefIdeal.S8192x2816) (s₂ := Cert.UpDxRefIdeal.S8192x2816) 1
    (val_main_v0 (F := Ideal) x0) (val_main_v1 (F := Ideal) x1) Cert.UpDxRefIdeal.Gen.concatenates_S8192x2816_S8192x2816_S8192x5632_d1 (ix2 s (half 0 f)) rfl (ix2 s f)
    fun b => match b with
      | ⟨0, _⟩ => rfl
      | ⟨1, _⟩ => show f.val = 0 * 2816 + f.val by omega
  exact e.trans rfl

open Cert.UpDxRefIdeal.Read in
/-- … and of the second. -/
theorem cat_right (x0 x1 : S8192x2816.Idx → EReal) (s : Fin 8192) (f : Fin 2816) :
    val_main_v3 (F := Ideal) x0 x1 (ix2 s (half 1 f)) = x1 (ix2 s f) := by
  unfold val_main_v3
  have e := concatenate_pair_apply_right (t := Cert.UpDxRefIdeal.S8192x5632) (s₁ := Cert.UpDxRefIdeal.S8192x2816) (s₂ := Cert.UpDxRefIdeal.S8192x2816) 1
    (val_main_v0 (F := Ideal) x0) (val_main_v1 (F := Ideal) x1) Cert.UpDxRefIdeal.Gen.concatenates_S8192x2816_S8192x2816_S8192x5632_d1 (ix2 s (half 1 f)) rfl rfl (ix2 s f)
    (fun b hb => match b, hb with
      | ⟨0, _⟩, _ => rfl
      | ⟨1, _⟩, hb => absurd rfl hb)
    (show f.val + 2816 = 1 * 2816 + f.val by omega)
  exact e.trans rfl

open Cert.UpDxRefIdeal.Read in
theorem res3 : R3 m c = val_main_v7 (F := Ideal) (aG m c) (aV m c) (aW m c) := by
  funext i; idx_vars i
  rw [val_main_v7_apply]
  show _ = val_main_v6 (F := Ideal) (aG m c) (aV m c) (aW m c) (ix2 i0 i1)
  rw [val_main_v6_apply, sum_blk (n := 2) (k := 2816) rfl, Fin.sum_univ_two]
  refine congrArg₂ (· + ·) (Finset.sum_congr rfl fun f _ => ?_) (Finset.sum_congr rfl fun f _ => ?_)
  · refine congrArg₂ (· * ·) ((cat_left (aG m c) (aV m c) i0 f).symm.trans (congrArg _ ?_)) (congrArg (aW m c) ?_)
    · funext a; match a with
      | ⟨0, _⟩ => rfl
      | ⟨1, _⟩ => rfl
    · funext a; match a with
      | ⟨0, _⟩ => rfl
      | ⟨1, _⟩ => rfl
  · refine congrArg₂ (· * ·) ((cat_right (aG m c) (aV m c) i0 f).symm.trans (congrArg _ ?_)) (congrArg (aW m c) ?_)
    · funext a; match a with
      | ⟨0, _⟩ => rfl
      | ⟨1, _⟩ => rfl
    · funext a; match a with
      | ⟨0, _⟩ => rfl
      | ⟨1, _⟩ => rfl

end Cert.UpDxIdeal.Hand

end
-- ==== Proof.UpDwVal.lean ====
module

public import proofs.«01_k».proof.Proof.Gen.UpDwIdeal.Value
public import proofs.«01_k».proof.Proof.Gen.UpDwRefIdeal.Read
public import proofs.«01_k».proof.Proof.MmSum
public import Idealize.ShloMosaic.Lib.Pipeline.Value
public import Idealize.ShloMosaic.Lib.Pipeline.ReadBack
public import Idealize.ShloMosaic.Lib.WholeRead
public import Idealize.ShloMosaic.Lib.WritesUnit
public import Idealize.ShloMosaic.Lib.Pointwise
public import Idealize.ShloMosaic.Lib.Tactic

@[expose] public section

set_option maxRecDepth 16384

noncomputable section

namespace Cert.UpDwIdeal.Hand

open Cert.UpDwIdeal Cert.UpDwIdeal.Gen Idealize.ShloMosaic Idealize.ShloMosaic.TcCoe Idealize.SL.Sem
open Idealize.ShloMosaic.Pipeline (Dat)
open Cert.Mm (hz2 blkIx sum_blk acc_four)

variable (m : (ℓ : Loc nD τ sig) → Buf (Elt Ideal) ℓ) (c : Dev nD)

/-! ## The grid: point `t` is row block `t % 4` of column block `t / 4` -/

theorem idx0 : ∀ t : Fin cfg0.N, win0_0.index t 0 = t.val % 4 ∧ win0_0.index t 1 = 0 :=
  (by decide +kernel : ∀ t : Fin grid0.N, win0_0.index t 0 = t.val % 4 ∧ win0_0.index t 1 = 0)
theorem idx1 : ∀ t : Fin cfg0.N, win0_1.index t 0 = t.val % 4 ∧ win0_1.index t 1 = t.val / 4 :=
  (by decide +kernel : ∀ t : Fin grid0.N, win0_1.index t 0 = t.val % 4 ∧ win0_1.index t 1 = t.val / 4)
theorem idx2 : ∀ t : Fin cfg0.N, win0_2.index t 0 = 0 ∧ win0_2.index t 1 = t.val / 4 :=
  (by decide +kernel : ∀ t : Fin grid0.N, win0_2.index t 0 = 0 ∧ win0_2.index t 1 = t.val / 4)

theorem t_lt (t : Fin cfg0.N) : t.val < 8 := lt_of_lt_of_eq t.isLt N_0

/-- The point's row block and column block. -/
def kt (t : Fin cfg0.N) : Fin 4 := ⟨t.val % 4, Nat.mod_lt _ (by decide)⟩
def jt (t : Fin cfg0.N) : Fin 2 := ⟨t.val / 4, by have := t_lt t; omega⟩

/-- A row of the arguments, and a column of the result. -/
abbrev row (b : Fin 4) (q : Fin 2048) : Fin 8192 := blkIx rfl b q
abbrev col (j : Fin 2) (l : Fin 1408) : Fin 2816 := blkIx rfl j l

/-! ## The arguments and their blocks -/

def aH : S8192x1024.Idx → EReal := m ((c : Thread nD τ).loc main_arg0)
def aD : S8192x2816.Idx → EReal := m ((c : Thread nD τ).loc main_arg1)

theorem iblk0 (t : Fin cfg0.N) (q : Fin 2048) (r : Fin 1024) : iblk m c 0 t (ix2 q r) = aH m c (ix2 (row (kt t) q) r) := by
  unfold iblk
  rw [View.read_apply]
  show V m c main_arg0 _ = m ((c : Thread nD τ).loc main_arg0) _
  obtain ⟨h0, h1⟩ := idx0 t
  refine (congrFun (V_main_arg0 m c) _).trans (congrArg (m ((c : Thread nD τ).loc main_arg0)) ?_)
  funext a; apply Fin.ext
  match a with
  | ⟨0, _⟩ => show win0_0.index t 0 * 2048 + 1 * q.val = t.val % 4 * 2048 + q.val; rw [h0]; omega
  | ⟨1, _⟩ => show win0_0.index t 1 * 1024 + 1 * r.val = r.val; rw [h1]; omega

theorem iblk1 (t : Fin cfg0.N) (q : Fin 2048) (l : Fin 1408) : iblk m c 1 t (ix2 q l) = aD m c (ix2 (row (kt t) q) (col (jt t) l)) := by
  unfold iblk
  rw [View.read_apply]
  show V m c main_arg1 _ = m ((c : Thread nD τ).loc main_arg1) _
  obtain ⟨h0, h1⟩ := idx1 t
  refine (congrFun (V_main_arg1 m c) _).trans (congrArg (m ((c : Thread nD τ).loc main_arg1)) ?_)
  funext a; apply Fin.ext
  match a with
  | ⟨0, _⟩ => show win0_1.index t 0 * 2048 + 1 * q.val = t.val % 4 * 2048 + q.val; rw [h0]; omega
  | ⟨1, _⟩ => show win0_1.index t 1 * 1408 + 1 * l.val = t.val / 4 * 1408 + l.val; rw [h1]; omega

/-! ## What a point adds, and what four of them come to -/

/-- The product of one block of rows, at a row and a column of the result. -/
def dotB (r : Fin 1024) (s : Fin 2816) (b : Fin 4) : EReal := ∑ q : Fin 2048, aH m c (ix2 (row b q) r) * aD m c (ix2 (row b q) s)

theorem pay1_apply (v0 : Vec Ideal S2048x1408 .bf16) (v1 : Vec Ideal S2048x1024 .bf16) (r : Fin 1024) (l : Fin 1408) :
    k0_pay1 v0 v1 (ix2 r l) = ∑ q : Fin 2048, v1 (ix2 q r) * v0 (ix2 q l) := by
  unfold k0_pay1; pointwise

theorem pay1_blk (t : Fin cfg0.N) (r : Fin 1024) (l : Fin 1408) : k0_pay1 (F := Ideal) (iblk m c 1 t) (iblk m c 0 t) (ix2 r l) = dotB m c r (col (jt t) l) (kt t) := by
  rw [pay1_apply]
  exact Finset.sum_congr rfl fun q _ => by rw [iblk0, iblk1]

theorem sc_A (t : Fin cfg0.N) (h0 : t.val % 4 = 0) (r : Fin 1024) (l : Fin 1408) :
    (outsAt0 m c t.val t.isLt).2 (ix2 r l) = dotB m c r (col (jt t) l) (kt t) := by
  rw [outsAt0_A m c t h0 (by omega) (by omega)]
  dsimp only
  unfold sout0_A_0
  rw [View.read_writes_eq_canon _ _ _ (fun y => scover0_A_0 ..)]
  unfold kernelRun0_A
  dsimp only
  sl_unfold_words
  simp only [View.readAt_eq_ld, (hs0_0 t).read_unread, (hs0_1 t).read_unread, View.ld_unit_zero (S := S2048x1024) hz2, View.ld_unit_zero (S := S2048x1408) hz2]
  rw [View.canon_unit_zero hz2]
  unfold k0_pay2
  rw [shapeCast_self, pay1_blk]

theorem sc_BC (t : Fin cfg0.N) (h0 : ¬ t.val % 4 = 0) (r : Fin 1024) (l : Fin 1408) :
    (outsAt0 m c t.val t.isLt).2 (ix2 r l)
      = (outsAt0 m c (t.val - 1) (Nat.lt_of_le_of_lt (Nat.sub_le _ _) t.isLt)).2 (ix2 r l) + dotB m c r (col (jt t) l) (kt t) := by
  by_cases h2 : t.val % 4 = 3
  · rw [outsAt0_C m c t h0 (by omega) h2]
    dsimp only
    unfold sout0_C_0
    rw [View.read_writes_eq_canon _ _ _ (fun y => scover0_C_0 ..)]
    unfold kernelRun0_C
    dsimp only
    sl_unfold_words
    simp only [View.readAt_eq_ld, (hs0_0 t).read_unread, (hs0_1 t).read_unread, (Memref.isWhole_whole cc0_scratch0).read_unread, View.ld_unit_zero (S := S2048x1024) hz2, View.ld_unit_zero (S := S2048x1408) hz2, View.ld_unit_zero (S := S1024x1408) hz2]
    rw [View.canon_unit_zero hz2]
    unfold k0_pay3
    rw [shapeCast_self, ← pay1_blk]
    rfl
  · rw [outsAt0_B m c t h0 (by omega) h2]
    dsimp only
    unfold sout0_B_0
    rw [View.read_writes_eq_canon _ _ _ (fun y => scover0_B_0 ..)]
    unfold kernelRun0_B
    dsimp only
    sl_unfold_words
    simp only [View.readAt_eq_ld, (hs0_0 t).read_unread, (hs0_1 t).read_unread, (Memref.isWhole_whole cc0_scratch0).read_unread, View.ld_unit_zero (S := S2048x1024) hz2, View.ld_unit_zero (S := S2048x1408) hz2, View.ld_unit_zero (S := S1024x1408) hz2]
    rw [View.canon_unit_zero hz2]
    unfold k0_pay3
    rw [shapeCast_self, ← pay1_blk]
    rfl

/-- At the last point of four the output is what the scratch holds. -/
theorem out_C (t : Fin cfg0.N) (h2 : t.val % 4 = 3) (r : Fin 1024) (l : Fin 1408) :
    (outsAt0 m c t.val t.isLt).1 (ix2 r l)
      = (outsAt0 m c (t.val - 1) (Nat.lt_of_le_of_lt (Nat.sub_le _ _) t.isLt)).2 (ix2 r l) + dotB m c r (col (jt t) l) (kt t) := by
  rw [outsAt0_C m c t (by omega) (by omega) h2]
  dsimp only
  unfold out0_C_2
  rw [View.read_writes_eq_canon _ _ _ (fun y => cover0_C_2 ..)]
  unfold kernelRun0_C
  dsimp only
  sl_unfold_words
  simp only [View.readAt_eq_ld, (hs0_0 t).read_unread, (hs0_1 t).read_unread, (Memref.isWhole_whole cc0_scratch0).read_unread, View.ld_unit_zero (S := S2048x1024) hz2, View.ld_unit_zero (S := S2048x1408) hz2, View.ld_unit_zero (S := S1024x1408) hz2]
  rw [View.canon_unit_zero hz2, View.readCov_cons_toLoadRect]
  unfold k0_pay3
  rw [shapeCast_self, ← pay1_blk]
  rfl

theorem out_last (t : Fin cfg0.N) (h2 : t.val % 4 = 3) (r : Fin 1024) (l : Fin 1408) :
    (outsAt0 m c t.val t.isLt).1 (ix2 r l) = ∑ b : Fin 4, dotB m c r (col (jt t) l) b := by
  rw [out_C m c t h2, ← sc_BC m c t (by omega)]
  refine acc_four (fun n h => (outsAt0 m c n h).2 (ix2 r l)) (fun n h => dotB m c r (col (jt ⟨n, h⟩) l) (kt ⟨n, h⟩))
    (fun n h h0 => sc_A m c ⟨n, h⟩ h0 r l) (fun n h h0 => sc_BC m c ⟨n, h⟩ h0 r l) _ t.val t.isLt h2 fun b h' => ?_
  have hb := b.isLt
  refine congrArg₂ (fun j k => dotB m c r (col j l) k) (Fin.ext ?_) (Fin.ext ?_)
  · show (t.val - 3 + b.val) / 4 = t.val / 4; omega
  · show (t.val - 3 + b.val) % 4 = b.val; omega

/-! ## The result -/

def R2 : S1024x2816.Idx → EReal := fun i => ∑ b : Fin 4, dotB m c (i 0) (i 1) b

theorem flushed2_val (t : Fin cfg0.N) (hf : (cfg0.win 2).flush t = true) : (dats m 0 c).flushed 2 t = ((cfg0.win 2).blk t).view.read (Elt Ideal) (R2 m c) := by
  have h3 : t.val % 4 = 3 := by have := flush0_2 t; first | exact this.mp hf | simpa [hf] using this
  rw [Value.flushed2]
  funext j
  idx_vars j
  obtain ⟨h0, h1⟩ := idx2 t
  rw [View.read_apply]
  refine (out_last m c t h3 j0 j1).trans ?_
  show R2 m c (ix2 j0 (col (jt t) j1)) = R2 m c _
  refine congrArg (R2 m c) ?_
  funext a; apply Fin.ext
  match a with
  | ⟨0, _⟩ => show j0.val = win0_2.index t 0 * 1024 + 1 * j0.val; rw [h0]; omega
  | ⟨1, _⟩ => show t.val / 4 * 1408 + j1.val = win0_2.index t 1 * 1408 + 1 * j1.val; rw [h1]; omega

theorem final2_val : (dats m 0 c).arrAt 2 cfg0.N = R2 m c :=
  (dats m 0 c).arrAt_eq_of_cover 2 (R2 m c) (fun t hf => flushed2_val m c t hf) fun i => by
    have hi0 : (i 0 : Nat) < 1024 := (i 0).isLt
    have hi1 : (i 1 : Nat) < 2816 := (i 1).isLt
    have ht : (i 1).val / 1408 * 4 + 3 < cfg0.N := lt_of_lt_of_eq (by omega) N_0.symm
    refine ⟨⟨(i 1).val / 1408 * 4 + 3, ht⟩, by have := flush0_2 ⟨(i 1).val / 1408 * 4 + 3, ht⟩; exact this.mpr (by dsimp only; omega), ?_⟩
    obtain ⟨h0, h1⟩ := idx2 ⟨(i 1).val / 1408 * 4 + 3, ht⟩
    show i ∈ ((View.whole main_v0).slice (win0_2.rect ⟨(i 1).val / 1408 * 4 + 3, ht⟩)).set
    rw [View.set_slice_whole, Rect.mem_set_unit]
    intro a
    match a with
    | ⟨0, _⟩ => show win0_2.index _ 0 * 1024 ≤ (i 0 : Nat) ∧ (i 0 : Nat) < win0_2.index _ 0 * 1024 + 1024; rw [h0]; omega
    | ⟨1, _⟩ => show win0_2.index _ 1 * 1408 ≤ (i 1 : Nat) ∧ (i 1 : Nat) < win0_2.index _ 1 * 1408 + 1408; rw [h1]; dsimp only; omega

/-! ## The reference -/

open Cert.UpDwRefIdeal.Read in
theorem res2 : R2 m c = val_main_v5 (F := Ideal) (aH m c) (aD m c) := by
  funext i; idx_vars i
  rw [val_main_v5_apply, val_main_v4_apply, sum_blk (n := 4) (k := 2048) rfl]
  refine Finset.sum_congr rfl fun b _ => Finset.sum_congr rfl fun q _ => ?_
  rw [mul_comm]
  refine congrArg₂ (· * ·) (congrArg (aD m c) ?_) (congrArg (aH m c) ?_)
  · funext a; match a with
    | ⟨0, _⟩ => rfl
    | ⟨1, _⟩ => rfl
  · funext a; match a with
    | ⟨0, _⟩ => rfl
    | ⟨1, _⟩ => rfl

end Cert.UpDwIdeal.Hand

end
-- ==== Proof.DownDxVal.lean ====
module

public import proofs.«01_k».proof.Proof.Gen.DownDxIdeal.Value
public import proofs.«01_k».proof.Proof.Gen.DownDxRefIdeal.Read
public import proofs.«01_k».proof.Proof.MmSum
public import Idealize.ShloMosaic.Lib.Pipeline.Value
public import Idealize.ShloMosaic.Lib.Pointwise
public import Idealize.ShloMosaic.Lib.Tactic

@[expose] public section

set_option maxRecDepth 16384

noncomputable section

namespace Cert.DownDxIdeal.Hand

open Cert.DownDxIdeal Cert.DownDxIdeal.Gen Idealize.ShloMosaic Idealize.ShloMosaic.TcCoe Idealize.SL.Sem
open Idealize.ShloMosaic.Pipeline (Dat)
open Cert.Mm (hz2 blkIx dot)

variable (m : (ℓ : Loc nD τ sig) → Buf (Elt Ideal) ℓ) (c : Dev nD)

/-! ## The grid: point `t` is column block `t % 2` of row block `t / 2` -/

theorem idx0 : ∀ t : Fin cfg0.N, win0_0.index t 0 = t.val / 2 ∧ win0_0.index t 1 = 0 :=
  (by decide +kernel : ∀ t : Fin grid0.N, win0_0.index t 0 = t.val / 2 ∧ win0_0.index t 1 = 0)
theorem idx1 : ∀ t : Fin cfg0.N, win0_1.index t 0 = t.val % 2 ∧ win0_1.index t 1 = 0 :=
  (by decide +kernel : ∀ t : Fin grid0.N, win0_1.index t 0 = t.val % 2 ∧ win0_1.index t 1 = 0)
theorem idx2 : ∀ t : Fin cfg0.N, win0_2.index t 0 = t.val / 2 ∧ win0_2.index t 1 = t.val % 2 :=
  (by decide +kernel : ∀ t : Fin grid0.N, win0_2.index t 0 = t.val / 2 ∧ win0_2.index t 1 = t.val % 2)

theorem t_lt (t : Fin cfg0.N) : t.val < 16 := lt_of_lt_of_eq t.isLt N_0

/-- The point's row block and column block. -/
def it (t : Fin cfg0.N) : Fin 8 := ⟨t.val / 2, by have := t_lt t; omega⟩
def jt (t : Fin cfg0.N) : Fin 2 := ⟨t.val % 2, Nat.mod_lt _ (by decide)⟩

/-- A row of the result, and a column. -/
abbrev row (i : Fin 8) (r : Fin 1024) : Fin 8192 := blkIx rfl i r
abbrev col (j : Fin 2) (l : Fin 1408) : Fin 2816 := blkIx rfl j l

/-! ## The arguments and their blocks -/

def aG : S8192x1024.Idx → EReal := m ((c : Thread nD τ).loc main_arg0)
def aW : S2816x1024.Idx → EReal := m ((c : Thread nD τ).loc main_arg1)

theorem iblk0 (t : Fin cfg0.N) (r : Fin 1024) (x : Fin 1024) : iblk m c 0 t (ix2 r x) = aG m c (ix2 (row (it t) r) x) := by
  unfold iblk
  rw [View.read_apply]
  show V m c main_arg0 _ = m ((c : Thread nD τ).loc main_arg0) _
  obtain ⟨h0, h1⟩ := idx0 t
  refine (congrFun (V_main_arg0 m c) _).trans (congrArg (m ((c : Thread nD τ).loc main_arg0)) ?_)
  funext a; apply Fin.ext
  match a with
  | ⟨0, _⟩ => show win0_0.index t 0 * 1024 + 1 * r.val = t.val / 2 * 1024 + r.val; rw [h0]; omega
  | ⟨1, _⟩ => show win0_0.index t 1 * 1024 + 1 * x.val = x.val; rw [h1]; omega

theorem iblk1 (t : Fin cfg0.N) (l : Fin 1408) (x : Fin 1024) : iblk m c 1 t (ix2 l x) = aW m c (ix2 (col (jt t) l) x) := by
  unfold iblk
  rw [View.read_apply]
  show V m c main_arg1 _ = m ((c : Thread nD τ).loc main_arg1) _
  obtain ⟨h0, h1⟩ := idx1 t
  refine (congrFun (V_main_arg1 m c) _).trans (congrArg (m ((c : Thread nD τ).loc main_arg1)) ?_)
  funext a; apply Fin.ext
  match a with
  | ⟨0, _⟩ => show win0_1.index t 0 * 1408 + 1 * l.val = t.val % 2 * 1408 + l.val; rw [h0]; omega
  | ⟨1, _⟩ => show win0_1.index t 1 * 1024 + 1 * x.val = x.val; rw [h1]; omega

/-! ## What a point computes -/

theorem pay1_apply (v0 : Vec Ideal S1408x1024 .bf16) (v1 : Vec Ideal S1024x1024 .bf16) (r : Fin 1024) (l : Fin 1408) :
    k0_pay1 v0 v1 (ix2 r l) = ∑ x : Fin 1024, v1 (ix2 r x) * v0 (ix2 l x) := by
  unfold k0_pay1; pointwise

theorem out_at (t : Fin cfg0.N) (r : Fin 1024) (l : Fin 1408) :
    outsAt0 m c t (ix2 r l) = dot (fun x => iblk m c 0 t (ix2 r x)) (fun x => iblk m c 1 t (ix2 l x)) := by
  unfold outsAt0 out0_A_2
  rw [View.read_writes_eq_canon _ _ _ (fun y => cover0_A_2 ..)]
  unfold kernelRun0_A
  dsimp only
  sl_unfold_words
  simp only [View.readAt_eq_ld, (hs0_0 t).read_unread, (hs0_1 t).read_unread, View.ld_unit_zero (S := S1024x1024) hz2, View.ld_unit_zero (S := S1408x1024) hz2]
  rw [View.canon_unit_zero hz2]
  exact pay1_apply _ _ r l

/-! ## The result -/

def R2 : S8192x2816.Idx → EReal := fun i => dot (fun x => aG m c (ix2 (i 0) x)) (fun x => aW m c (ix2 (i 1) x))

theorem flushed2_val (t : Fin cfg0.N) : (dats m 0 c).flushed 2 t = ((cfg0.win 2).blk t).view.read (Elt Ideal) (R2 m c) := by
  rw [Value.flushed2]
  funext j
  idx_vars j
  obtain ⟨h0, h1⟩ := idx2 t
  rw [View.read_apply]
  refine (out_at m c t j0 j1).trans ?_
  simp only [iblk0, iblk1]
  show R2 m c (ix2 (row (it t) j0) (col (jt t) j1)) = R2 m c _
  refine congrArg (R2 m c) ?_
  funext a; apply Fin.ext
  match a with
  | ⟨0, _⟩ => show t.val / 2 * 1024 + j0.val = win0_2.index t 0 * 1024 + 1 * j0.val; rw [h0]; omega
  | ⟨1, _⟩ => show t.val % 2 * 1408 + j1.val = win0_2.index t 1 * 1408 + 1 * j1.val; rw [h1]; omega

theorem final2_val : (dats m 0 c).arrAt 2 cfg0.N = R2 m c :=
  (dats m 0 c).arrAt_eq_of_cover 2 (R2 m c) (fun t _ => flushed2_val m c t) fun i => by
    have hi0 : (i 0 : Nat) < 8192 := (i 0).isLt
    have hi1 : (i 1 : Nat) < 2816 := (i 1).isLt
    have ht : (i 0).val / 1024 * 2 + (i 1).val / 1408 < cfg0.N := lt_of_lt_of_eq (by omega) N_0.symm
    refine ⟨⟨(i 0).val / 1024 * 2 + (i 1).val / 1408, ht⟩, flush0_2 _, ?_⟩
    obtain ⟨h0, h1⟩ := idx2 ⟨(i 0).val / 1024 * 2 + (i 1).val / 1408, ht⟩
    show i ∈ ((View.whole main_v0).slice (win0_2.rect ⟨(i 0).val / 1024 * 2 + (i 1).val / 1408, ht⟩)).set
    rw [View.set_slice_whole, Rect.mem_set_unit]
    intro a
    match a with
    | ⟨0, _⟩ => show win0_2.index _ 0 * 1024 ≤ (i 0 : Nat) ∧ (i 0 : Nat) < win0_2.index _ 0 * 1024 + 1024; rw [h0]; dsimp only; omega
    | ⟨1, _⟩ => show win0_2.index _ 1 * 1408 ≤ (i 1 : Nat) ∧ (i 1 : Nat) < win0_2.index _ 1 * 1408 + 1408; rw [h1]; dsimp only; omega

/-! ## The reference -/

open Cert.DownDxRefIdeal.Read in
theorem res2 : R2 m c = val_main_v5 (F := Ideal) (aG m c) (aW m c) := by
  funext i; idx_vars i
  rw [val_main_v5_apply]
  show _ = val_main_v4 (F := Ideal) (aG m c) (aW m c) (ix2 i0 i1)
  rw [val_main_v4_apply]
  show ∑ x : Fin 1024, aG m c (ix2 i0 x) * aW m c (ix2 i1 x) = _
  refine Finset.sum_congr rfl fun f _ => congrArg₂ (· * ·) (congrArg (aG m c) ?_) (congrArg (aW m c) ?_)
  · funext a; match a with
    | ⟨0, _⟩ => rfl
    | ⟨1, _⟩ => rfl
  · funext a; match a with
    | ⟨0, _⟩ => rfl
    | ⟨1, _⟩ => rfl

end Cert.DownDxIdeal.Hand

end
-- ==== Proof.DownDwVal.lean ====
module

public import proofs.«01_k».proof.Proof.Gen.DownDwIdeal.Value
public import proofs.«01_k».proof.Proof.Gen.DownDwRefIdeal.Read
public import proofs.«01_k».proof.Proof.MmSum
public import Idealize.ShloMosaic.Lib.Pipeline.Value
public import Idealize.ShloMosaic.Lib.Pipeline.ReadBack
public import Idealize.ShloMosaic.Lib.WholeRead
public import Idealize.ShloMosaic.Lib.WritesUnit
public import Idealize.ShloMosaic.Lib.Pointwise
public import Idealize.ShloMosaic.Lib.Tactic

@[expose] public section

set_option maxRecDepth 16384

noncomputable section

namespace Cert.DownDwIdeal.Hand

open Cert.DownDwIdeal Cert.DownDwIdeal.Gen Idealize.ShloMosaic Idealize.ShloMosaic.TcCoe Idealize.SL.Sem
open Idealize.ShloMosaic.Pipeline (Dat)
open Cert.Mm (hz2 blkIx sum_blk acc_four)

variable (m : (ℓ : Loc nD τ sig) → Buf (Elt Ideal) ℓ) (c : Dev nD)

/-! ## The grid: point `t` is row block `t % 4` of the result's block `t / 4`, which is column block `t / 4 % 2` of row block `t / 8` -/

theorem idx0 : ∀ t : Fin cfg0.N, win0_0.index t 0 = t.val % 4 ∧ win0_0.index t 1 = t.val / 8 :=
  (by decide +kernel : ∀ t : Fin grid0.N, win0_0.index t 0 = t.val % 4 ∧ win0_0.index t 1 = t.val / 8)
theorem idx1 : ∀ t : Fin cfg0.N, win0_1.index t 0 = t.val % 4 ∧ win0_1.index t 1 = t.val / 4 % 2 :=
  (by decide +kernel : ∀ t : Fin grid0.N, win0_1.index t 0 = t.val % 4 ∧ win0_1.index t 1 = t.val / 4 % 2)
theorem idx2 : ∀ t : Fin cfg0.N, win0_2.index t 0 = t.val / 8 ∧ win0_2.index t 1 = t.val / 4 % 2 :=
  (by decide +kernel : ∀ t : Fin grid0.N, win0_2.index t 0 = t.val / 8 ∧ win0_2.index t 1 = t.val / 4 % 2)

theorem t_lt (t : Fin cfg0.N) : t.val < 16 := lt_of_lt_of_eq t.isLt N_0

/-- The point's block of rows of the arguments, and its row block and column block of the result. -/
def kt (t : Fin cfg0.N) : Fin 4 := ⟨t.val % 4, Nat.mod_lt _ (by decide)⟩
def it (t : Fin cfg0.N) : Fin 2 := ⟨t.val / 8, by have := t_lt t; omega⟩
def jt (t : Fin cfg0.N) : Fin 2 := ⟨t.val / 4 % 2, Nat.mod_lt _ (by decide)⟩

/-- A row of the arguments, and a row and a column of the result. -/
abbrev row (b : Fin 4) (q : Fin 2048) : Fin 8192 := blkIx rfl b q
abbrev orow (i : Fin 2) (r : Fin 1408) : Fin 2816 := blkIx rfl i r
abbrev col (j : Fin 2) (l : Fin 512) : Fin 1024 := blkIx rfl j l

/-! ## The arguments and their blocks -/

def aH : S8192x2816.Idx → EReal := m ((c : Thread nD τ).loc main_arg0)
def aD : S8192x1024.Idx → EReal := m ((c : Thread nD τ).loc main_arg1)

theorem iblk0 (t : Fin cfg0.N) (q : Fin 2048) (r : Fin 1408) : iblk m c 0 t (ix2 q r) = aH m c (ix2 (row (kt t) q) (orow (it t) r)) := by
  unfold iblk
  rw [View.read_apply]
  show V m c main_arg0 _ = m ((c : Thread nD τ).loc main_arg0) _
  obtain ⟨h0, h1⟩ := idx0 t
  refine (congrFun (V_main_arg0 m c) _).trans (congrArg (m ((c : Thread nD τ).loc main_arg0)) ?_)
  funext a; apply Fin.ext
  match a with
  | ⟨0, _⟩ => show win0_0.index t 0 * 2048 + 1 * q.val = t.val % 4 * 2048 + q.val; rw [h0]; omega
  | ⟨1, _⟩ => show win0_0.index t 1 * 1408 + 1 * r.val = t.val / 8 * 1408 + r.val; rw [h1]; omega

theorem iblk1 (t : Fin cfg0.N) (q : Fin 2048) (l : Fin 512) : iblk m c 1 t (ix2 q l) = aD m c (ix2 (row (kt t) q) (col (jt t) l)) := by
  unfold iblk
  rw [View.read_apply]
  show V m c main_arg1 _ = m ((c : Thread nD τ).loc main_arg1) _
  obtain ⟨h0, h1⟩ := idx1 t
  refine (congrFun (V_main_arg1 m c) _).trans (congrArg (m ((c : Thread nD τ).loc main_arg1)) ?_)
  funext a; apply Fin.ext
  match a with
  | ⟨0, _⟩ => show win0_1.index t 0 * 2048 + 1 * q.val = t.val % 4 * 2048 + q.val; rw [h0]; omega
  | ⟨1, _⟩ => show win0_1.index t 1 * 512 + 1 * l.val = t.val / 4 % 2 * 512 + l.val; rw [h1]; omega

/-! ## What a point adds, and what four of them come to -/

/-- The product of one block of rows, at a row and a column of the result. -/
def dotB (r : Fin 2816) (s : Fin 1024) (b : Fin 4) : EReal := ∑ q : Fin 2048, aH m c (ix2 (row b q) r) * aD m c (ix2 (row b q) s)

theorem pay1_apply (v0 : Vec Ideal S2048x512 .bf16) (v1 : Vec Ideal S2048x1408 .bf16) (r : Fin 1408) (l : Fin 512) :
    k0_pay1 v0 v1 (ix2 r l) = ∑ q : Fin 2048, v1 (ix2 q r) * v0 (ix2 q l) := by
  unfold k0_pay1; pointwise

theorem pay1_blk (t : Fin cfg0.N) (r : Fin 1408) (l : Fin 512) : k0_pay1 (F := Ideal) (iblk m c 1 t) (iblk m c 0 t) (ix2 r l) = dotB m c (orow (it t) r) (col (jt t) l) (kt t) := by
  rw [pay1_apply]
  exact Finset.sum_congr rfl fun q _ => by rw [iblk0, iblk1]

theorem sc_A (t : Fin cfg0.N) (h0 : t.val % 4 = 0) (r : Fin 1408) (l : Fin 512) :
    (outsAt0 m c t.val t.isLt).2 (ix2 r l) = dotB m c (orow (it t) r) (col (jt t) l) (kt t) := by
  rw [outsAt0_A m c t h0 (by omega) (by omega)]
  dsimp only
  unfold sout0_A_0
  rw [View.read_writes_eq_canon _ _ _ (fun y => scover0_A_0 ..)]
  unfold kernelRun0_A
  dsimp only
  sl_unfold_words
  simp only [View.readAt_eq_ld, (hs0_0 t).read_unread, (hs0_1 t).read_unread, View.ld_unit_zero (S := S2048x1408) hz2, View.ld_unit_zero (S := S2048x512) hz2]
  rw [View.canon_unit_zero hz2]
  unfold k0_pay2
  rw [shapeCast_self, pay1_blk]

theorem sc_BC (t : Fin cfg0.N) (h0 : ¬ t.val % 4 = 0) (r : Fin 1408) (l : Fin 512) :
    (outsAt0 m c t.val t.isLt).2 (ix2 r l)
      = (outsAt0 m c (t.val - 1) (Nat.lt_of_le_of_lt (Nat.sub_le _ _) t.isLt)).2 (ix2 r l) + dotB m c (orow (it t) r) (col (jt t) l) (kt t) := by
  by_cases h2 : t.val % 4 = 3
  · rw [outsAt0_C m c t h0 (by omega) h2]
    dsimp only
    unfold sout0_C_0
    rw [View.read_writes_eq_canon _ _ _ (fun y => scover0_C_0 ..)]
    unfold kernelRun0_C
    dsimp only
    sl_unfold_words
    simp only [View.readAt_eq_ld, (hs0_0 t).read_unread, (hs0_1 t).read_unread, (Memref.isWhole_whole cc0_scratch0).read_unread, View.ld_unit_zero (S := S2048x1408) hz2, View.ld_unit_zero (S := S2048x512) hz2, View.ld_unit_zero (S := S1408x512) hz2]
    rw [View.canon_unit_zero hz2]
    unfold k0_pay3
    rw [shapeCast_self, ← pay1_blk]
    rfl
  · rw [outsAt0_B m c t h0 (by omega) h2]
    dsimp only
    unfold sout0_B_0
    rw [View.read_writes_eq_canon _ _ _ (fun y => scover0_B_0 ..)]
    unfold kernelRun0_B
    dsimp only
    sl_unfold_words
    simp only [View.readAt_eq_ld, (hs0_0 t).read_unread, (hs0_1 t).read_unread, (Memref.isWhole_whole cc0_scratch0).read_unread, View.ld_unit_zero (S := S2048x1408) hz2, View.ld_unit_zero (S := S2048x512) hz2, View.ld_unit_zero (S := S1408x512) hz2]
    rw [View.canon_unit_zero hz2]
    unfold k0_pay3
    rw [shapeCast_self, ← pay1_blk]
    rfl

/-- At the last point of four the output is what the scratch holds. -/
theorem out_C (t : Fin cfg0.N) (h2 : t.val % 4 = 3) (r : Fin 1408) (l : Fin 512) :
    (outsAt0 m c t.val t.isLt).1 (ix2 r l)
      = (outsAt0 m c (t.val - 1) (Nat.lt_of_le_of_lt (Nat.sub_le _ _) t.isLt)).2 (ix2 r l) + dotB m c (orow (it t) r) (col (jt t) l) (kt t) := by
  rw [outsAt0_C m c t (by omega) (by omega) h2]
  dsimp only
  unfold out0_C_2
  rw [View.read_writes_eq_canon _ _ _ (fun y => cover0_C_2 ..)]
  unfold kernelRun0_C
  dsimp only
  sl_unfold_words
  simp only [View.readAt_eq_ld, (hs0_0 t).read_unread, (hs0_1 t).read_unread, (Memref.isWhole_whole cc0_scratch0).read_unread, View.ld_unit_zero (S := S2048x1408) hz2, View.ld_unit_zero (S := S2048x512) hz2, View.ld_unit_zero (S := S1408x512) hz2]
  rw [View.canon_unit_zero hz2, View.readCov_cons_toLoadRect]
  unfold k0_pay3
  rw [shapeCast_self, ← pay1_blk]
  rfl

theorem out_last (t : Fin cfg0.N) (h2 : t.val % 4 = 3) (r : Fin 1408) (l : Fin 512) :
    (outsAt0 m c t.val t.isLt).1 (ix2 r l) = ∑ b : Fin 4, dotB m c (orow (it t) r) (col (jt t) l) b := by
  rw [out_C m c t h2, ← sc_BC m c t (by omega)]
  refine acc_four (fun n h => (outsAt0 m c n h).2 (ix2 r l)) (fun n h => dotB m c (orow (it ⟨n, h⟩) r) (col (jt ⟨n, h⟩) l) (kt ⟨n, h⟩))
    (fun n h h0 => sc_A m c ⟨n, h⟩ h0 r l) (fun n h h0 => sc_BC m c ⟨n, h⟩ h0 r l) _ t.val t.isLt h2 fun b h' => ?_
  have hb := b.isLt
  have hi : it ⟨t.val - 3 + b.val, h'⟩ = it t := Fin.ext (show (t.val - 3 + b.val) / 8 = t.val / 8 by omega)
  rw [hi]
  refine congrArg₂ (fun j k => dotB m c (orow (it t) r) (col j l) k) (Fin.ext ?_) (Fin.ext ?_)
  · show (t.val - 3 + b.val) / 4 % 2 = t.val / 4 % 2; omega
  · show (t.val - 3 + b.val) % 4 = b.val; omega

/-! ## The result -/

def R2 : S2816x1024.Idx → EReal := fun i => ∑ b : Fin 4, dotB m c (i 0) (i 1) b

theorem flushed2_val (t : Fin cfg0.N) (hf : (cfg0.win 2).flush t = true) : (dats m 0 c).flushed 2 t = ((cfg0.win 2).blk t).view.read (Elt Ideal) (R2 m c) := by
  have h3 : t.val % 4 = 3 := by have := flush0_2 t; first | exact this.mp hf | simpa [hf] using this
  rw [Value.flushed2]
  funext j
  idx_vars j
  obtain ⟨h0, h1⟩ := idx2 t
  rw [View.read_apply]
  refine (out_last m c t h3 j0 j1).trans ?_
  show R2 m c (ix2 (orow (it t) j0) (col (jt t) j1)) = R2 m c _
  refine congrArg (R2 m c) ?_
  funext a; apply Fin.ext
  match a with
  | ⟨0, _⟩ => show t.val / 8 * 1408 + j0.val = win0_2.index t 0 * 1408 + 1 * j0.val; rw [h0]; omega
  | ⟨1, _⟩ => show t.val / 4 % 2 * 512 + j1.val = win0_2.index t 1 * 512 + 1 * j1.val; rw [h1]; omega

theorem final2_val : (dats m 0 c).arrAt 2 cfg0.N = R2 m c :=
  (dats m 0 c).arrAt_eq_of_cover 2 (R2 m c) (fun t hf => flushed2_val m c t hf) fun i => by
    have hi0 : (i 0 : Nat) < 2816 := (i 0).isLt
    have hi1 : (i 1 : Nat) < 1024 := (i 1).isLt
    have ht : ((i 0).val / 1408 * 2 + (i 1).val / 512) * 4 + 3 < cfg0.N := lt_of_lt_of_eq (by omega) N_0.symm
    refine ⟨⟨((i 0).val / 1408 * 2 + (i 1).val / 512) * 4 + 3, ht⟩, by have := flush0_2 ⟨((i 0).val / 1408 * 2 + (i 1).val / 512) * 4 + 3, ht⟩; exact this.mpr (by dsimp only; omega), ?_⟩
    obtain ⟨h0, h1⟩ := idx2 ⟨((i 0).val / 1408 * 2 + (i 1).val / 512) * 4 + 3, ht⟩
    show i ∈ ((View.whole main_v0).slice (win0_2.rect ⟨((i 0).val / 1408 * 2 + (i 1).val / 512) * 4 + 3, ht⟩)).set
    rw [View.set_slice_whole, Rect.mem_set_unit]
    intro a
    match a with
    | ⟨0, _⟩ => show win0_2.index _ 0 * 1408 ≤ (i 0 : Nat) ∧ (i 0 : Nat) < win0_2.index _ 0 * 1408 + 1408; rw [h0]; dsimp only; omega
    | ⟨1, _⟩ => show win0_2.index _ 1 * 512 ≤ (i 1 : Nat) ∧ (i 1 : Nat) < win0_2.index _ 1 * 512 + 512; rw [h1]; dsimp only; omega

/-! ## The reference -/

open Cert.DownDwRefIdeal.Read in
theorem res2 : R2 m c = val_main_v5 (F := Ideal) (aH m c) (aD m c) := by
  funext i; idx_vars i
  rw [val_main_v5_apply, val_main_v4_apply, sum_blk (n := 4) (k := 2048) rfl]
  refine Finset.sum_congr rfl fun b _ => Finset.sum_congr rfl fun q _ => ?_
  rw [mul_comm]
  refine congrArg₂ (· * ·) (congrArg (aD m c) ?_) (congrArg (aH m c) ?_)
  · funext a; match a with
    | ⟨0, _⟩ => rfl
    | ⟨1, _⟩ => rfl
  · funext a; match a with
    | ⟨0, _⟩ => rfl
    | ⟨1, _⟩ => rfl

end Cert.DownDwIdeal.Hand

end
-- ==== Proof.OutDxVal.lean ====
module

public import proofs.«01_k».proof.Proof.Gen.OutDxIdeal.Value
public import proofs.«01_k».proof.Proof.Gen.OutDxRefIdeal.Read
public import proofs.«01_k».proof.Proof.MmSum
public import Idealize.ShloMosaic.Lib.Pipeline.Value
public import Idealize.ShloMosaic.Lib.Pointwise
public import Idealize.ShloMosaic.Lib.Tactic

@[expose] public section

set_option maxRecDepth 16384

noncomputable section

namespace Cert.OutDxIdeal.Hand

open Cert.OutDxIdeal Cert.OutDxIdeal.Gen Idealize.ShloMosaic Idealize.ShloMosaic.TcCoe Idealize.SL.Sem
open Idealize.ShloMosaic.Pipeline (Dat)
open Cert.Mm (hz2 blkIx dot)

variable (m : (ℓ : Loc nD τ sig) → Buf (Elt Ideal) ℓ) (c : Dev nD)

/-! ## The grid: point `t` is column block `t % 4` of row block `t / 4` -/

theorem idx0 : ∀ t : Fin cfg0.N, win0_0.index t 0 = t.val / 4 ∧ win0_0.index t 1 = 0 :=
  (by decide +kernel : ∀ t : Fin grid0.N, win0_0.index t 0 = t.val / 4 ∧ win0_0.index t 1 = 0)
theorem idx1 : ∀ t : Fin cfg0.N, win0_1.index t 0 = t.val % 4 ∧ win0_1.index t 1 = 0 :=
  (by decide +kernel : ∀ t : Fin grid0.N, win0_1.index t 0 = t.val % 4 ∧ win0_1.index t 1 = 0)
theorem idx2 : ∀ t : Fin cfg0.N, win0_2.index t 0 = t.val / 4 ∧ win0_2.index t 1 = t.val % 4 :=
  (by decide +kernel : ∀ t : Fin grid0.N, win0_2.index t 0 = t.val / 4 ∧ win0_2.index t 1 = t.val % 4)

theorem t_lt (t : Fin cfg0.N) : t.val < 32 := lt_of_lt_of_eq t.isLt N_0

/-- The point's row block and column block. -/
def it (t : Fin cfg0.N) : Fin 8 := ⟨t.val / 4, by have := t_lt t; omega⟩
def jt (t : Fin cfg0.N) : Fin 4 := ⟨t.val % 4, Nat.mod_lt _ (by decide)⟩

/-- A row of the result, and a column. -/
abbrev row (i : Fin 8) (r : Fin 1024) : Fin 8192 := blkIx rfl i r
abbrev col (j : Fin 4) (l : Fin 512) : Fin 2048 := blkIx rfl j l

/-! ## The arguments and their blocks -/

def aG : S8192x1024.Idx → EReal := m ((c : Thread nD τ).loc main_arg0)
def aW : S2048x1024.Idx → EReal := m ((c : Thread nD τ).loc main_arg1)

theorem iblk0 (t : Fin cfg0.N) (r : Fin 1024) (x : Fin 1024) : iblk m c 0 t (ix2 r x) = aG m c (ix2 (row (it t) r) x) := by
  unfold iblk
  rw [View.read_apply]
  show V m c main_arg0 _ = m ((c : Thread nD τ).loc main_arg0) _
  obtain ⟨h0, h1⟩ := idx0 t
  refine (congrFun (V_main_arg0 m c) _).trans (congrArg (m ((c : Thread nD τ).loc main_arg0)) ?_)
  funext a; apply Fin.ext
  match a with
  | ⟨0, _⟩ => show win0_0.index t 0 * 1024 + 1 * r.val = t.val / 4 * 1024 + r.val; rw [h0]; omega
  | ⟨1, _⟩ => show win0_0.index t 1 * 1024 + 1 * x.val = x.val; rw [h1]; omega

theorem iblk1 (t : Fin cfg0.N) (l : Fin 512) (x : Fin 1024) : iblk m c 1 t (ix2 l x) = aW m c (ix2 (col (jt t) l) x) := by
  unfold iblk
  rw [View.read_apply]
  show V m c main_arg1 _ = m ((c : Thread nD τ).loc main_arg1) _
  obtain ⟨h0, h1⟩ := idx1 t
  refine (congrFun (V_main_arg1 m c) _).trans (congrArg (m ((c : Thread nD τ).loc main_arg1)) ?_)
  funext a; apply Fin.ext
  match a with
  | ⟨0, _⟩ => show win0_1.index t 0 * 512 + 1 * l.val = t.val % 4 * 512 + l.val; rw [h0]; omega
  | ⟨1, _⟩ => show win0_1.index t 1 * 1024 + 1 * x.val = x.val; rw [h1]; omega

/-! ## What a point computes -/

theorem pay1_apply (v0 : Vec Ideal S512x1024 .bf16) (v1 : Vec Ideal S1024x1024 .bf16) (r : Fin 1024) (l : Fin 512) :
    k0_pay1 v0 v1 (ix2 r l) = ∑ x : Fin 1024, v1 (ix2 r x) * v0 (ix2 l x) := by
  unfold k0_pay1; pointwise

theorem out_at (t : Fin cfg0.N) (r : Fin 1024) (l : Fin 512) :
    outsAt0 m c t (ix2 r l) = dot (fun x => iblk m c 0 t (ix2 r x)) (fun x => iblk m c 1 t (ix2 l x)) := by
  unfold outsAt0 out0_A_2
  rw [View.read_writes_eq_canon _ _ _ (fun y => cover0_A_2 ..)]
  unfold kernelRun0_A
  dsimp only
  sl_unfold_words
  simp only [View.readAt_eq_ld, (hs0_0 t).read_unread, (hs0_1 t).read_unread, View.ld_unit_zero (S := S1024x1024) hz2, View.ld_unit_zero (S := S512x1024) hz2]
  rw [View.canon_unit_zero hz2]
  exact pay1_apply _ _ r l

/-! ## The result -/

def R2 : S8192x2048.Idx → EReal := fun i => dot (fun x => aG m c (ix2 (i 0) x)) (fun x => aW m c (ix2 (i 1) x))

theorem flushed2_val (t : Fin cfg0.N) : (dats m 0 c).flushed 2 t = ((cfg0.win 2).blk t).view.read (Elt Ideal) (R2 m c) := by
  rw [Value.flushed2]
  funext j
  idx_vars j
  obtain ⟨h0, h1⟩ := idx2 t
  rw [View.read_apply]
  refine (out_at m c t j0 j1).trans ?_
  simp only [iblk0, iblk1]
  show R2 m c (ix2 (row (it t) j0) (col (jt t) j1)) = R2 m c _
  refine congrArg (R2 m c) ?_
  funext a; apply Fin.ext
  match a with
  | ⟨0, _⟩ => show t.val / 4 * 1024 + j0.val = win0_2.index t 0 * 1024 + 1 * j0.val; rw [h0]; omega
  | ⟨1, _⟩ => show t.val % 4 * 512 + j1.val = win0_2.index t 1 * 512 + 1 * j1.val; rw [h1]; omega

theorem final2_val : (dats m 0 c).arrAt 2 cfg0.N = R2 m c :=
  (dats m 0 c).arrAt_eq_of_cover 2 (R2 m c) (fun t _ => flushed2_val m c t) fun i => by
    have hi0 : (i 0 : Nat) < 8192 := (i 0).isLt
    have hi1 : (i 1 : Nat) < 2048 := (i 1).isLt
    have ht : (i 0).val / 1024 * 4 + (i 1).val / 512 < cfg0.N := lt_of_lt_of_eq (by omega) N_0.symm
    refine ⟨⟨(i 0).val / 1024 * 4 + (i 1).val / 512, ht⟩, flush0_2 _, ?_⟩
    obtain ⟨h0, h1⟩ := idx2 ⟨(i 0).val / 1024 * 4 + (i 1).val / 512, ht⟩
    show i ∈ ((View.whole main_v0).slice (win0_2.rect ⟨(i 0).val / 1024 * 4 + (i 1).val / 512, ht⟩)).set
    rw [View.set_slice_whole, Rect.mem_set_unit]
    intro a
    match a with
    | ⟨0, _⟩ => show win0_2.index _ 0 * 1024 ≤ (i 0 : Nat) ∧ (i 0 : Nat) < win0_2.index _ 0 * 1024 + 1024; rw [h0]; dsimp only; omega
    | ⟨1, _⟩ => show win0_2.index _ 1 * 512 ≤ (i 1 : Nat) ∧ (i 1 : Nat) < win0_2.index _ 1 * 512 + 512; rw [h1]; dsimp only; omega

/-! ## The reference -/

open Cert.OutDxRefIdeal.Read in
theorem res2 : R2 m c = val_main_v5 (F := Ideal) (aG m c) (aW m c) := by
  funext i; idx_vars i
  rw [val_main_v5_apply]
  show _ = val_main_v4 (F := Ideal) (aG m c) (aW m c) (ix2 i0 i1)
  rw [val_main_v4_apply]
  show ∑ x : Fin 1024, aG m c (ix2 i0 x) * aW m c (ix2 i1 x) = _
  refine Finset.sum_congr rfl fun f _ => congrArg₂ (· * ·) (congrArg (aG m c) ?_) (congrArg (aW m c) ?_)
  · funext a; match a with
    | ⟨0, _⟩ => rfl
    | ⟨1, _⟩ => rfl
  · funext a; match a with
    | ⟨0, _⟩ => rfl
    | ⟨1, _⟩ => rfl

end Cert.OutDxIdeal.Hand

end
-- ==== Proof.OutDwVal.lean ====
module

public import proofs.«01_k».proof.Proof.Gen.OutDwIdeal.Value
public import proofs.«01_k».proof.Proof.Gen.OutDwRefIdeal.Read
public import proofs.«01_k».proof.Proof.MmSum
public import Idealize.ShloMosaic.Lib.Pipeline.Value
public import Idealize.ShloMosaic.Lib.Pipeline.ReadBack
public import Idealize.ShloMosaic.Lib.WholeRead
public import Idealize.ShloMosaic.Lib.WritesUnit
public import Idealize.ShloMosaic.Lib.Pointwise
public import Idealize.ShloMosaic.Lib.Tactic

@[expose] public section

set_option maxRecDepth 16384

noncomputable section

namespace Cert.OutDwIdeal.Hand

open Cert.OutDwIdeal Cert.OutDwIdeal.Gen Idealize.ShloMosaic Idealize.ShloMosaic.TcCoe Idealize.SL.Sem
open Idealize.ShloMosaic.Pipeline (Dat)
open Cert.Mm (hz2 blkIx sum_blk acc_four)

variable (m : (ℓ : Loc nD τ sig) → Buf (Elt Ideal) ℓ) (c : Dev nD)

/-! ## The grid: point `t` is row block `t % 4` of the result's block `t / 4`, which is column block `t / 4 % 2` of row block `t / 8` -/

theorem idx0 : ∀ t : Fin cfg0.N, win0_0.index t 0 = t.val % 4 ∧ win0_0.index t 1 = t.val / 8 :=
  (by decide +kernel : ∀ t : Fin grid0.N, win0_0.index t 0 = t.val % 4 ∧ win0_0.index t 1 = t.val / 8)
theorem idx1 : ∀ t : Fin cfg0.N, win0_1.index t 0 = t.val % 4 ∧ win0_1.index t 1 = t.val / 4 % 2 :=
  (by decide +kernel : ∀ t : Fin grid0.N, win0_1.index t 0 = t.val % 4 ∧ win0_1.index t 1 = t.val / 4 % 2)
theorem idx2 : ∀ t : Fin cfg0.N, win0_2.index t 0 = t.val / 8 ∧ win0_2.index t 1 = t.val / 4 % 2 :=
  (by decide +kernel : ∀ t : Fin grid0.N, win0_2.index t 0 = t.val / 8 ∧ win0_2.index t 1 = t.val / 4 % 2)

theorem t_lt (t : Fin cfg0.N) : t.val < 8 := lt_of_lt_of_eq t.isLt N_0

/-- The point's block of rows of the arguments, and its row block and column block of the result. -/
def kt (t : Fin cfg0.N) : Fin 4 := ⟨t.val % 4, Nat.mod_lt _ (by decide)⟩
def it (t : Fin cfg0.N) : Fin 1 := ⟨t.val / 8, by have := t_lt t; omega⟩
def jt (t : Fin cfg0.N) : Fin 2 := ⟨t.val / 4 % 2, Nat.mod_lt _ (by decide)⟩

/-- A row of the arguments, and a row and a column of the result. -/
abbrev row (b : Fin 4) (q : Fin 2048) : Fin 8192 := blkIx rfl b q
abbrev orow (i : Fin 1) (r : Fin 1024) : Fin 1024 := blkIx rfl i r
abbrev col (j : Fin 2) (l : Fin 512) : Fin 1024 := blkIx rfl j l

/-! ## The arguments and their blocks -/

def aH : S8192x1024.Idx → EReal := m ((c : Thread nD τ).loc main_arg0)
def aD : S8192x1024.Idx → EReal := m ((c : Thread nD τ).loc main_arg1)

theorem iblk0 (t : Fin cfg0.N) (q : Fin 2048) (r : Fin 1024) : iblk m c 0 t (ix2 q r) = aH m c (ix2 (row (kt t) q) (orow (it t) r)) := by
  unfold iblk
  rw [View.read_apply]
  show V m c main_arg0 _ = m ((c : Thread nD τ).loc main_arg0) _
  obtain ⟨h0, h1⟩ := idx0 t
  refine (congrFun (V_main_arg0 m c) _).trans (congrArg (m ((c : Thread nD τ).loc main_arg0)) ?_)
  funext a; apply Fin.ext
  match a with
  | ⟨0, _⟩ => show win0_0.index t 0 * 2048 + 1 * q.val = t.val % 4 * 2048 + q.val; rw [h0]; omega
  | ⟨1, _⟩ => show win0_0.index t 1 * 1024 + 1 * r.val = t.val / 8 * 1024 + r.val; rw [h1]; omega

theorem iblk1 (t : Fin cfg0.N) (q : Fin 2048) (l : Fin 512) : iblk m c 1 t (ix2 q l) = aD m c (ix2 (row (kt t) q) (col (jt t) l)) := by
  unfold iblk
  rw [View.read_apply]
  show V m c main_arg1 _ = m ((c : Thread nD τ).loc main_arg1) _
  obtain ⟨h0, h1⟩ := idx1 t
  refine (congrFun (V_main_arg1 m c) _).trans (congrArg (m ((c : Thread nD τ).loc main_arg1)) ?_)
  funext a; apply Fin.ext
  match a with
  | ⟨0, _⟩ => show win0_1.index t 0 * 2048 + 1 * q.val = t.val % 4 * 2048 + q.val; rw [h0]; omega
  | ⟨1, _⟩ => show win0_1.index t 1 * 512 + 1 * l.val = t.val / 4 % 2 * 512 + l.val; rw [h1]; omega

/-! ## What a point adds, and what four of them come to -/

/-- The product of one block of rows, at a row and a column of the result. -/
def dotB (r : Fin 1024) (s : Fin 1024) (b : Fin 4) : EReal := ∑ q : Fin 2048, aH m c (ix2 (row b q) r) * aD m c (ix2 (row b q) s)

theorem pay1_apply (v0 : Vec Ideal S2048x512 .bf16) (v1 : Vec Ideal S2048x1024 .bf16) (r : Fin 1024) (l : Fin 512) :
    k0_pay1 v0 v1 (ix2 r l) = ∑ q : Fin 2048, v1 (ix2 q r) * v0 (ix2 q l) := by
  unfold k0_pay1; pointwise

theorem pay1_blk (t : Fin cfg0.N) (r : Fin 1024) (l : Fin 512) : k0_pay1 (F := Ideal) (iblk m c 1 t) (iblk m c 0 t) (ix2 r l) = dotB m c (orow (it t) r) (col (jt t) l) (kt t) := by
  rw [pay1_apply]
  exact Finset.sum_congr rfl fun q _ => by rw [iblk0, iblk1]

theorem sc_A (t : Fin cfg0.N) (h0 : t.val % 4 = 0) (r : Fin 1024) (l : Fin 512) :
    (outsAt0 m c t.val t.isLt).2 (ix2 r l) = dotB m c (orow (it t) r) (col (jt t) l) (kt t) := by
  rw [outsAt0_A m c t h0 (by omega) (by omega)]
  dsimp only
  unfold sout0_A_0
  rw [View.read_writes_eq_canon _ _ _ (fun y => scover0_A_0 ..)]
  unfold kernelRun0_A
  dsimp only
  sl_unfold_words
  simp only [View.readAt_eq_ld, (hs0_0 t).read_unread, (hs0_1 t).read_unread, View.ld_unit_zero (S := S2048x1024) hz2, View.ld_unit_zero (S := S2048x512) hz2]
  rw [View.canon_unit_zero hz2]
  unfold k0_pay2
  rw [shapeCast_self, pay1_blk]

theorem sc_BC (t : Fin cfg0.N) (h0 : ¬ t.val % 4 = 0) (r : Fin 1024) (l : Fin 512) :
    (outsAt0 m c t.val t.isLt).2 (ix2 r l)
      = (outsAt0 m c (t.val - 1) (Nat.lt_of_le_of_lt (Nat.sub_le _ _) t.isLt)).2 (ix2 r l) + dotB m c (orow (it t) r) (col (jt t) l) (kt t) := by
  by_cases h2 : t.val % 4 = 3
  · rw [outsAt0_C m c t h0 (by omega) h2]
    dsimp only
    unfold sout0_C_0
    rw [View.read_writes_eq_canon _ _ _ (fun y => scover0_C_0 ..)]
    unfold kernelRun0_C
    dsimp only
    sl_unfold_words
    simp only [View.readAt_eq_ld, (hs0_0 t).read_unread, (hs0_1 t).read_unread, (Memref.isWhole_whole cc0_scratch0).read_unread, View.ld_unit_zero (S := S2048x1024) hz2, View.ld_unit_zero (S := S2048x512) hz2, View.ld_unit_zero (S := S1024x512) hz2]
    rw [View.canon_unit_zero hz2]
    unfold k0_pay3
    rw [shapeCast_self, ← pay1_blk]
    rfl
  · rw [outsAt0_B m c t h0 (by omega) h2]
    dsimp only
    unfold sout0_B_0
    rw [View.read_writes_eq_canon _ _ _ (fun y => scover0_B_0 ..)]
    unfold kernelRun0_B
    dsimp only
    sl_unfold_words
    simp only [View.readAt_eq_ld, (hs0_0 t).read_unread, (hs0_1 t).read_unread, (Memref.isWhole_whole cc0_scratch0).read_unread, View.ld_unit_zero (S := S2048x1024) hz2, View.ld_unit_zero (S := S2048x512) hz2, View.ld_unit_zero (S := S1024x512) hz2]
    rw [View.canon_unit_zero hz2]
    unfold k0_pay3
    rw [shapeCast_self, ← pay1_blk]
    rfl

/-- At the last point of four the output is what the scratch holds. -/
theorem out_C (t : Fin cfg0.N) (h2 : t.val % 4 = 3) (r : Fin 1024) (l : Fin 512) :
    (outsAt0 m c t.val t.isLt).1 (ix2 r l)
      = (outsAt0 m c (t.val - 1) (Nat.lt_of_le_of_lt (Nat.sub_le _ _) t.isLt)).2 (ix2 r l) + dotB m c (orow (it t) r) (col (jt t) l) (kt t) := by
  rw [outsAt0_C m c t (by omega) (by omega) h2]
  dsimp only
  unfold out0_C_2
  rw [View.read_writes_eq_canon _ _ _ (fun y => cover0_C_2 ..)]
  unfold kernelRun0_C
  dsimp only
  sl_unfold_words
  simp only [View.readAt_eq_ld, (hs0_0 t).read_unread, (hs0_1 t).read_unread, (Memref.isWhole_whole cc0_scratch0).read_unread, View.ld_unit_zero (S := S2048x1024) hz2, View.ld_unit_zero (S := S2048x512) hz2, View.ld_unit_zero (S := S1024x512) hz2]
  rw [View.canon_unit_zero hz2, View.readCov_cons_toLoadRect]
  unfold k0_pay3
  rw [shapeCast_self, ← pay1_blk]
  rfl

theorem out_last (t : Fin cfg0.N) (h2 : t.val % 4 = 3) (r : Fin 1024) (l : Fin 512) :
    (outsAt0 m c t.val t.isLt).1 (ix2 r l) = ∑ b : Fin 4, dotB m c (orow (it t) r) (col (jt t) l) b := by
  rw [out_C m c t h2, ← sc_BC m c t (by omega)]
  refine acc_four (fun n h => (outsAt0 m c n h).2 (ix2 r l)) (fun n h => dotB m c (orow (it ⟨n, h⟩) r) (col (jt ⟨n, h⟩) l) (kt ⟨n, h⟩))
    (fun n h h0 => sc_A m c ⟨n, h⟩ h0 r l) (fun n h h0 => sc_BC m c ⟨n, h⟩ h0 r l) _ t.val t.isLt h2 fun b h' => ?_
  have hb := b.isLt
  have hi : it ⟨t.val - 3 + b.val, h'⟩ = it t := Fin.ext (show (t.val - 3 + b.val) / 8 = t.val / 8 by omega)
  rw [hi]
  refine congrArg₂ (fun j k => dotB m c (orow (it t) r) (col j l) k) (Fin.ext ?_) (Fin.ext ?_)
  · show (t.val - 3 + b.val) / 4 % 2 = t.val / 4 % 2; omega
  · show (t.val - 3 + b.val) % 4 = b.val; omega

/-! ## The result -/

def R2 : S1024x1024.Idx → EReal := fun i => ∑ b : Fin 4, dotB m c (i 0) (i 1) b

theorem flushed2_val (t : Fin cfg0.N) (hf : (cfg0.win 2).flush t = true) : (dats m 0 c).flushed 2 t = ((cfg0.win 2).blk t).view.read (Elt Ideal) (R2 m c) := by
  have h3 : t.val % 4 = 3 := by have := flush0_2 t; first | exact this.mp hf | simpa [hf] using this
  rw [Value.flushed2]
  funext j
  idx_vars j
  obtain ⟨h0, h1⟩ := idx2 t
  rw [View.read_apply]
  refine (out_last m c t h3 j0 j1).trans ?_
  show R2 m c (ix2 (orow (it t) j0) (col (jt t) j1)) = R2 m c _
  refine congrArg (R2 m c) ?_
  funext a; apply Fin.ext
  match a with
  | ⟨0, _⟩ => show t.val / 8 * 1024 + j0.val = win0_2.index t 0 * 1024 + 1 * j0.val; rw [h0]; omega
  | ⟨1, _⟩ => show t.val / 4 % 2 * 512 + j1.val = win0_2.index t 1 * 512 + 1 * j1.val; rw [h1]; omega

theorem final2_val : (dats m 0 c).arrAt 2 cfg0.N = R2 m c :=
  (dats m 0 c).arrAt_eq_of_cover 2 (R2 m c) (fun t hf => flushed2_val m c t hf) fun i => by
    have hi0 : (i 0 : Nat) < 1024 := (i 0).isLt
    have hi1 : (i 1 : Nat) < 1024 := (i 1).isLt
    have ht : ((i 0).val / 1024 * 2 + (i 1).val / 512) * 4 + 3 < cfg0.N := lt_of_lt_of_eq (by omega) N_0.symm
    refine ⟨⟨((i 0).val / 1024 * 2 + (i 1).val / 512) * 4 + 3, ht⟩, by have := flush0_2 ⟨((i 0).val / 1024 * 2 + (i 1).val / 512) * 4 + 3, ht⟩; exact this.mpr (by dsimp only; omega), ?_⟩
    obtain ⟨h0, h1⟩ := idx2 ⟨((i 0).val / 1024 * 2 + (i 1).val / 512) * 4 + 3, ht⟩
    show i ∈ ((View.whole main_v0).slice (win0_2.rect ⟨((i 0).val / 1024 * 2 + (i 1).val / 512) * 4 + 3, ht⟩)).set
    rw [View.set_slice_whole, Rect.mem_set_unit]
    intro a
    match a with
    | ⟨0, _⟩ => show win0_2.index _ 0 * 1024 ≤ (i 0 : Nat) ∧ (i 0 : Nat) < win0_2.index _ 0 * 1024 + 1024; rw [h0]; dsimp only; omega
    | ⟨1, _⟩ => show win0_2.index _ 1 * 512 ≤ (i 1 : Nat) ∧ (i 1 : Nat) < win0_2.index _ 1 * 512 + 512; rw [h1]; dsimp only; omega

/-! ## The reference -/

open Cert.OutDwRefIdeal.Read in
theorem res2 : R2 m c = val_main_v5 (F := Ideal) (aH m c) (aD m c) := by
  funext i; idx_vars i
  rw [val_main_v5_apply, val_main_v4_apply, sum_blk (n := 4) (k := 2048) rfl]
  refine Finset.sum_congr rfl fun b _ => Finset.sum_congr rfl fun q _ => ?_
  rw [mul_comm]
  refine congrArg₂ (· * ·) (congrArg (aD m c) ?_) (congrArg (aH m c) ?_)
  · funext a; match a with
    | ⟨0, _⟩ => rfl
    | ⟨1, _⟩ => rfl
  · funext a; match a with
    | ⟨0, _⟩ => rfl
    | ⟨1, _⟩ => rfl

end Cert.OutDwIdeal.Hand

end
-- ==== Proof.InDxVal.lean ====
module

public import proofs.«01_k».proof.Proof.Gen.InDxIdeal.Value
public import proofs.«01_k».proof.Proof.Gen.InDxRefIdeal.Read
public import proofs.«01_k».proof.Proof.MmSum
public import Idealize.ShloMosaic.Lib.Pipeline.Value
public import Idealize.ShloMosaic.Lib.Pointwise
public import Idealize.ShloMosaic.Lib.Tactic

@[expose] public section

set_option maxRecDepth 16384

noncomputable section

namespace Cert.InDxIdeal.Hand

open Cert.InDxIdeal Cert.InDxIdeal.Gen Idealize.ShloMosaic Idealize.ShloMosaic.TcCoe Idealize.SL.Sem
open Idealize.ShloMosaic.Pipeline (Dat)
open Cert.Mm (hz2 blkIx dot)

variable (m : (ℓ : Loc nD τ sig) → Buf (Elt Ideal) ℓ) (c : Dev nD)

/-! ## The grid: point `t` is column block `t % 2` of row block `t / 2` -/

theorem idx0 : ∀ t : Fin cfg0.N, win0_0.index t 0 = t.val / 2 ∧ win0_0.index t 1 = 0 :=
  (by decide +kernel : ∀ t : Fin grid0.N, win0_0.index t 0 = t.val / 2 ∧ win0_0.index t 1 = 0)
theorem idx1 : ∀ t : Fin cfg0.N, win0_1.index t 0 = t.val % 2 ∧ win0_1.index t 1 = 0 :=
  (by decide +kernel : ∀ t : Fin grid0.N, win0_1.index t 0 = t.val % 2 ∧ win0_1.index t 1 = 0)
theorem idx2 : ∀ t : Fin cfg0.N, win0_2.index t 0 = t.val / 2 ∧ win0_2.index t 1 = t.val % 2 :=
  (by decide +kernel : ∀ t : Fin grid0.N, win0_2.index t 0 = t.val / 2 ∧ win0_2.index t 1 = t.val % 2)

theorem t_lt (t : Fin cfg0.N) : t.val < 16 := lt_of_lt_of_eq t.isLt N_0

/-- The point's row block and column block. -/
def it (t : Fin cfg0.N) : Fin 8 := ⟨t.val / 2, by have := t_lt t; omega⟩
def jt (t : Fin cfg0.N) : Fin 2 := ⟨t.val % 2, Nat.mod_lt _ (by decide)⟩

/-- A row of the result, and a column. -/
abbrev row (i : Fin 8) (r : Fin 1024) : Fin 8192 := blkIx rfl i r
abbrev col (j : Fin 2) (l : Fin 512) : Fin 1024 := blkIx rfl j l

/-! ## The arguments and their blocks -/

def aG : S8192x3456.Idx → EReal := m ((c : Thread nD τ).loc main_arg0)
def aW : S1024x3456.Idx → EReal := m ((c : Thread nD τ).loc main_arg1)

theorem iblk0 (t : Fin cfg0.N) (r : Fin 1024) (x : Fin 3456) : iblk m c 0 t (ix2 r x) = aG m c (ix2 (row (it t) r) x) := by
  unfold iblk
  rw [View.read_apply]
  show V m c main_arg0 _ = m ((c : Thread nD τ).loc main_arg0) _
  obtain ⟨h0, h1⟩ := idx0 t
  refine (congrFun (V_main_arg0 m c) _).trans (congrArg (m ((c : Thread nD τ).loc main_arg0)) ?_)
  funext a; apply Fin.ext
  match a with
  | ⟨0, _⟩ => show win0_0.index t 0 * 1024 + 1 * r.val = t.val / 2 * 1024 + r.val; rw [h0]; omega
  | ⟨1, _⟩ => show win0_0.index t 1 * 3456 + 1 * x.val = x.val; rw [h1]; omega

theorem iblk1 (t : Fin cfg0.N) (l : Fin 512) (x : Fin 3456) : iblk m c 1 t (ix2 l x) = aW m c (ix2 (col (jt t) l) x) := by
  unfold iblk
  rw [View.read_apply]
  show V m c main_arg1 _ = m ((c : Thread nD τ).loc main_arg1) _
  obtain ⟨h0, h1⟩ := idx1 t
  refine (congrFun (V_main_arg1 m c) _).trans (congrArg (m ((c : Thread nD τ).loc main_arg1)) ?_)
  funext a; apply Fin.ext
  match a with
  | ⟨0, _⟩ => show win0_1.index t 0 * 512 + 1 * l.val = t.val % 2 * 512 + l.val; rw [h0]; omega
  | ⟨1, _⟩ => show win0_1.index t 1 * 3456 + 1 * x.val = x.val; rw [h1]; omega

/-! ## What a point computes -/

theorem pay1_apply (v0 : Vec Ideal S512x3456 .bf16) (v1 : Vec Ideal S1024x3456 .bf16) (r : Fin 1024) (l : Fin 512) :
    k0_pay1 v0 v1 (ix2 r l) = ∑ x : Fin 3456, v1 (ix2 r x) * v0 (ix2 l x) := by
  unfold k0_pay1; pointwise

theorem out_at (t : Fin cfg0.N) (r : Fin 1024) (l : Fin 512) :
    outsAt0 m c t (ix2 r l) = dot (fun x => iblk m c 0 t (ix2 r x)) (fun x => iblk m c 1 t (ix2 l x)) := by
  unfold outsAt0 out0_A_2
  rw [View.read_writes_eq_canon _ _ _ (fun y => cover0_A_2 ..)]
  unfold kernelRun0_A
  dsimp only
  sl_unfold_words
  simp only [View.readAt_eq_ld, (hs0_0 t).read_unread, (hs0_1 t).read_unread, View.ld_unit_zero (S := S1024x3456) hz2, View.ld_unit_zero (S := S512x3456) hz2]
  rw [View.canon_unit_zero hz2]
  exact pay1_apply _ _ r l

/-! ## The result -/

def R2 : S8192x1024.Idx → EReal := fun i => dot (fun x => aG m c (ix2 (i 0) x)) (fun x => aW m c (ix2 (i 1) x))

theorem flushed2_val (t : Fin cfg0.N) : (dats m 0 c).flushed 2 t = ((cfg0.win 2).blk t).view.read (Elt Ideal) (R2 m c) := by
  rw [Value.flushed2]
  funext j
  idx_vars j
  obtain ⟨h0, h1⟩ := idx2 t
  rw [View.read_apply]
  refine (out_at m c t j0 j1).trans ?_
  simp only [iblk0, iblk1]
  show R2 m c (ix2 (row (it t) j0) (col (jt t) j1)) = R2 m c _
  refine congrArg (R2 m c) ?_
  funext a; apply Fin.ext
  match a with
  | ⟨0, _⟩ => show t.val / 2 * 1024 + j0.val = win0_2.index t 0 * 1024 + 1 * j0.val; rw [h0]; omega
  | ⟨1, _⟩ => show t.val % 2 * 512 + j1.val = win0_2.index t 1 * 512 + 1 * j1.val; rw [h1]; omega

theorem final2_val : (dats m 0 c).arrAt 2 cfg0.N = R2 m c :=
  (dats m 0 c).arrAt_eq_of_cover 2 (R2 m c) (fun t _ => flushed2_val m c t) fun i => by
    have hi0 : (i 0 : Nat) < 8192 := (i 0).isLt
    have hi1 : (i 1 : Nat) < 1024 := (i 1).isLt
    have ht : (i 0).val / 1024 * 2 + (i 1).val / 512 < cfg0.N := lt_of_lt_of_eq (by omega) N_0.symm
    refine ⟨⟨(i 0).val / 1024 * 2 + (i 1).val / 512, ht⟩, flush0_2 _, ?_⟩
    obtain ⟨h0, h1⟩ := idx2 ⟨(i 0).val / 1024 * 2 + (i 1).val / 512, ht⟩
    show i ∈ ((View.whole main_v0).slice (win0_2.rect ⟨(i 0).val / 1024 * 2 + (i 1).val / 512, ht⟩)).set
    rw [View.set_slice_whole, Rect.mem_set_unit]
    intro a
    match a with
    | ⟨0, _⟩ => show win0_2.index _ 0 * 1024 ≤ (i 0 : Nat) ∧ (i 0 : Nat) < win0_2.index _ 0 * 1024 + 1024; rw [h0]; dsimp only; omega
    | ⟨1, _⟩ => show win0_2.index _ 1 * 512 ≤ (i 1 : Nat) ∧ (i 1 : Nat) < win0_2.index _ 1 * 512 + 512; rw [h1]; dsimp only; omega

/-! ## The reference -/

open Cert.InDxRefIdeal.Read in
theorem res2 : R2 m c = val_main_v5 (F := Ideal) (aG m c) (aW m c) := by
  funext i; idx_vars i
  rw [val_main_v5_apply]
  show _ = val_main_v4 (F := Ideal) (aG m c) (aW m c) (ix2 i0 i1)
  rw [val_main_v4_apply]
  show ∑ x : Fin 3456, aG m c (ix2 i0 x) * aW m c (ix2 i1 x) = _
  refine Finset.sum_congr rfl fun f _ => congrArg₂ (· * ·) (congrArg (aG m c) ?_) (congrArg (aW m c) ?_)
  · funext a; match a with
    | ⟨0, _⟩ => rfl
    | ⟨1, _⟩ => rfl
  · funext a; match a with
    | ⟨0, _⟩ => rfl
    | ⟨1, _⟩ => rfl

end Cert.InDxIdeal.Hand

end
-- ==== Proof.InDwVal.lean ====
module

public import proofs.«01_k».proof.Proof.Gen.InDwIdeal.Value
public import proofs.«01_k».proof.Proof.Gen.InDwRefIdeal.Read
public import proofs.«01_k».proof.Proof.MmSum
public import Idealize.ShloMosaic.Lib.Pipeline.Value
public import Idealize.ShloMosaic.Lib.Pipeline.ReadBack
public import Idealize.ShloMosaic.Lib.WholeRead
public import Idealize.ShloMosaic.Lib.WritesUnit
public import Idealize.ShloMosaic.Lib.Pointwise
public import Idealize.ShloMosaic.Lib.Tactic

@[expose] public section

set_option maxRecDepth 16384

noncomputable section

namespace Cert.InDwIdeal.Hand

open Cert.InDwIdeal Cert.InDwIdeal.Gen Idealize.ShloMosaic Idealize.ShloMosaic.TcCoe Idealize.SL.Sem
open Idealize.ShloMosaic.Pipeline (Dat)
open Cert.Mm (hz2 blkIx sum_blk acc_four)

variable (m : (ℓ : Loc nD τ sig) → Buf (Elt Ideal) ℓ) (c : Dev nD)

/-! ## The grid: point `t` is row block `t % 4` of the result's block `t / 4`, which is column block `t / 4 % 9` of row block `t / 36` -/

theorem idx0 : ∀ t : Fin cfg0.N, win0_0.index t 0 = t.val % 4 ∧ win0_0.index t 1 = t.val / 36 :=
  (by decide +kernel : ∀ t : Fin grid0.N, win0_0.index t 0 = t.val % 4 ∧ win0_0.index t 1 = t.val / 36)
theorem idx1 : ∀ t : Fin cfg0.N, win0_1.index t 0 = t.val % 4 ∧ win0_1.index t 1 = t.val / 4 % 9 :=
  (by decide +kernel : ∀ t : Fin grid0.N, win0_1.index t 0 = t.val % 4 ∧ win0_1.index t 1 = t.val / 4 % 9)
theorem idx2 : ∀ t : Fin cfg0.N, win0_2.index t 0 = t.val / 36 ∧ win0_2.index t 1 = t.val / 4 % 9 :=
  (by decide +kernel : ∀ t : Fin grid0.N, win0_2.index t 0 = t.val / 36 ∧ win0_2.index t 1 = t.val / 4 % 9)

theorem t_lt (t : Fin cfg0.N) : t.val < 36 := lt_of_lt_of_eq t.isLt N_0

/-- The point's block of rows of the arguments, and its row block and column block of the result. -/
def kt (t : Fin cfg0.N) : Fin 4 := ⟨t.val % 4, Nat.mod_lt _ (by decide)⟩
def it (t : Fin cfg0.N) : Fin 1 := ⟨t.val / 36, by have := t_lt t; omega⟩
def jt (t : Fin cfg0.N) : Fin 9 := ⟨t.val / 4 % 9, Nat.mod_lt _ (by decide)⟩

/-- A row of the arguments, and a row and a column of the result. -/
abbrev row (b : Fin 4) (q : Fin 2048) : Fin 8192 := blkIx rfl b q
abbrev orow (i : Fin 1) (r : Fin 1024) : Fin 1024 := blkIx rfl i r
abbrev col (j : Fin 9) (l : Fin 384) : Fin 3456 := blkIx rfl j l

/-! ## The arguments and their blocks -/

def aH : S8192x1024.Idx → EReal := m ((c : Thread nD τ).loc main_arg0)
def aD : S8192x3456.Idx → EReal := m ((c : Thread nD τ).loc main_arg1)

theorem iblk0 (t : Fin cfg0.N) (q : Fin 2048) (r : Fin 1024) : iblk m c 0 t (ix2 q r) = aH m c (ix2 (row (kt t) q) (orow (it t) r)) := by
  unfold iblk
  rw [View.read_apply]
  show V m c main_arg0 _ = m ((c : Thread nD τ).loc main_arg0) _
  obtain ⟨h0, h1⟩ := idx0 t
  refine (congrFun (V_main_arg0 m c) _).trans (congrArg (m ((c : Thread nD τ).loc main_arg0)) ?_)
  funext a; apply Fin.ext
  match a with
  | ⟨0, _⟩ => show win0_0.index t 0 * 2048 + 1 * q.val = t.val % 4 * 2048 + q.val; rw [h0]; omega
  | ⟨1, _⟩ => show win0_0.index t 1 * 1024 + 1 * r.val = t.val / 36 * 1024 + r.val; rw [h1]; omega

theorem iblk1 (t : Fin cfg0.N) (q : Fin 2048) (l : Fin 384) : iblk m c 1 t (ix2 q l) = aD m c (ix2 (row (kt t) q) (col (jt t) l)) := by
  unfold iblk
  rw [View.read_apply]
  show V m c main_arg1 _ = m ((c : Thread nD τ).loc main_arg1) _
  obtain ⟨h0, h1⟩ := idx1 t
  refine (congrFun (V_main_arg1 m c) _).trans (congrArg (m ((c : Thread nD τ).loc main_arg1)) ?_)
  funext a; apply Fin.ext
  match a with
  | ⟨0, _⟩ => show win0_1.index t 0 * 2048 + 1 * q.val = t.val % 4 * 2048 + q.val; rw [h0]; omega
  | ⟨1, _⟩ => show win0_1.index t 1 * 384 + 1 * l.val = t.val / 4 % 9 * 384 + l.val; rw [h1]; omega

/-! ## What a point adds, and what four of them come to -/

/-- The product of one block of rows, at a row and a column of the result. -/
def dotB (r : Fin 1024) (s : Fin 3456) (b : Fin 4) : EReal := ∑ q : Fin 2048, aH m c (ix2 (row b q) r) * aD m c (ix2 (row b q) s)

theorem pay1_apply (v0 : Vec Ideal S2048x384 .bf16) (v1 : Vec Ideal S2048x1024 .bf16) (r : Fin 1024) (l : Fin 384) :
    k0_pay1 v0 v1 (ix2 r l) = ∑ q : Fin 2048, v1 (ix2 q r) * v0 (ix2 q l) := by
  unfold k0_pay1; pointwise

theorem pay1_blk (t : Fin cfg0.N) (r : Fin 1024) (l : Fin 384) : k0_pay1 (F := Ideal) (iblk m c 1 t) (iblk m c 0 t) (ix2 r l) = dotB m c (orow (it t) r) (col (jt t) l) (kt t) := by
  rw [pay1_apply]
  exact Finset.sum_congr rfl fun q _ => by rw [iblk0, iblk1]

theorem sc_A (t : Fin cfg0.N) (h0 : t.val % 4 = 0) (r : Fin 1024) (l : Fin 384) :
    (outsAt0 m c t.val t.isLt).2 (ix2 r l) = dotB m c (orow (it t) r) (col (jt t) l) (kt t) := by
  rw [outsAt0_A m c t h0 (by omega) (by omega)]
  dsimp only
  unfold sout0_A_0
  rw [View.read_writes_eq_canon _ _ _ (fun y => scover0_A_0 ..)]
  unfold kernelRun0_A
  dsimp only
  sl_unfold_words
  simp only [View.readAt_eq_ld, (hs0_0 t).read_unread, (hs0_1 t).read_unread, View.ld_unit_zero (S := S2048x1024) hz2, View.ld_unit_zero (S := S2048x384) hz2]
  rw [View.canon_unit_zero hz2]
  unfold k0_pay2
  rw [shapeCast_self, pay1_blk]

theorem sc_BC (t : Fin cfg0.N) (h0 : ¬ t.val % 4 = 0) (r : Fin 1024) (l : Fin 384) :
    (outsAt0 m c t.val t.isLt).2 (ix2 r l)
      = (outsAt0 m c (t.val - 1) (Nat.lt_of_le_of_lt (Nat.sub_le _ _) t.isLt)).2 (ix2 r l) + dotB m c (orow (it t) r) (col (jt t) l) (kt t) := by
  by_cases h2 : t.val % 4 = 3
  · rw [outsAt0_C m c t h0 (by omega) h2]
    dsimp only
    unfold sout0_C_0
    rw [View.read_writes_eq_canon _ _ _ (fun y => scover0_C_0 ..)]
    unfold kernelRun0_C
    dsimp only
    sl_unfold_words
    simp only [View.readAt_eq_ld, (hs0_0 t).read_unread, (hs0_1 t).read_unread, (Memref.isWhole_whole cc0_scratch0).read_unread, View.ld_unit_zero (S := S2048x1024) hz2, View.ld_unit_zero (S := S2048x384) hz2, View.ld_unit_zero (S := S1024x384) hz2]
    rw [View.canon_unit_zero hz2]
    unfold k0_pay3
    rw [shapeCast_self, ← pay1_blk]
    rfl
  · rw [outsAt0_B m c t h0 (by omega) h2]
    dsimp only
    unfold sout0_B_0
    rw [View.read_writes_eq_canon _ _ _ (fun y => scover0_B_0 ..)]
    unfold kernelRun0_B
    dsimp only
    sl_unfold_words
    simp only [View.readAt_eq_ld, (hs0_0 t).read_unread, (hs0_1 t).read_unread, (Memref.isWhole_whole cc0_scratch0).read_unread, View.ld_unit_zero (S := S2048x1024) hz2, View.ld_unit_zero (S := S2048x384) hz2, View.ld_unit_zero (S := S1024x384) hz2]
    rw [View.canon_unit_zero hz2]
    unfold k0_pay3
    rw [shapeCast_self, ← pay1_blk]
    rfl

/-- At the last point of four the output is what the scratch holds. -/
theorem out_C (t : Fin cfg0.N) (h2 : t.val % 4 = 3) (r : Fin 1024) (l : Fin 384) :
    (outsAt0 m c t.val t.isLt).1 (ix2 r l)
      = (outsAt0 m c (t.val - 1) (Nat.lt_of_le_of_lt (Nat.sub_le _ _) t.isLt)).2 (ix2 r l) + dotB m c (orow (it t) r) (col (jt t) l) (kt t) := by
  rw [outsAt0_C m c t (by omega) (by omega) h2]
  dsimp only
  unfold out0_C_2
  rw [View.read_writes_eq_canon _ _ _ (fun y => cover0_C_2 ..)]
  unfold kernelRun0_C
  dsimp only
  sl_unfold_words
  simp only [View.readAt_eq_ld, (hs0_0 t).read_unread, (hs0_1 t).read_unread, (Memref.isWhole_whole cc0_scratch0).read_unread, View.ld_unit_zero (S := S2048x1024) hz2, View.ld_unit_zero (S := S2048x384) hz2, View.ld_unit_zero (S := S1024x384) hz2]
  rw [View.canon_unit_zero hz2, View.readCov_cons_toLoadRect]
  unfold k0_pay3
  rw [shapeCast_self, ← pay1_blk]
  rfl

theorem out_last (t : Fin cfg0.N) (h2 : t.val % 4 = 3) (r : Fin 1024) (l : Fin 384) :
    (outsAt0 m c t.val t.isLt).1 (ix2 r l) = ∑ b : Fin 4, dotB m c (orow (it t) r) (col (jt t) l) b := by
  rw [out_C m c t h2, ← sc_BC m c t (by omega)]
  refine acc_four (fun n h => (outsAt0 m c n h).2 (ix2 r l)) (fun n h => dotB m c (orow (it ⟨n, h⟩) r) (col (jt ⟨n, h⟩) l) (kt ⟨n, h⟩))
    (fun n h h0 => sc_A m c ⟨n, h⟩ h0 r l) (fun n h h0 => sc_BC m c ⟨n, h⟩ h0 r l) _ t.val t.isLt h2 fun b h' => ?_
  have hb := b.isLt
  have hi : it ⟨t.val - 3 + b.val, h'⟩ = it t := Fin.ext (show (t.val - 3 + b.val) / 36 = t.val / 36 by omega)
  rw [hi]
  refine congrArg₂ (fun j k => dotB m c (orow (it t) r) (col j l) k) (Fin.ext ?_) (Fin.ext ?_)
  · show (t.val - 3 + b.val) / 4 % 9 = t.val / 4 % 9; omega
  · show (t.val - 3 + b.val) % 4 = b.val; omega

/-! ## The result -/

def R2 : S1024x3456.Idx → EReal := fun i => ∑ b : Fin 4, dotB m c (i 0) (i 1) b

theorem flushed2_val (t : Fin cfg0.N) (hf : (cfg0.win 2).flush t = true) : (dats m 0 c).flushed 2 t = ((cfg0.win 2).blk t).view.read (Elt Ideal) (R2 m c) := by
  have h3 : t.val % 4 = 3 := by have := flush0_2 t; first | exact this.mp hf | simpa [hf] using this
  rw [Value.flushed2]
  funext j
  idx_vars j
  obtain ⟨h0, h1⟩ := idx2 t
  rw [View.read_apply]
  refine (out_last m c t h3 j0 j1).trans ?_
  show R2 m c (ix2 (orow (it t) j0) (col (jt t) j1)) = R2 m c _
  refine congrArg (R2 m c) ?_
  funext a; apply Fin.ext
  match a with
  | ⟨0, _⟩ => show t.val / 36 * 1024 + j0.val = win0_2.index t 0 * 1024 + 1 * j0.val; rw [h0]; omega
  | ⟨1, _⟩ => show t.val / 4 % 9 * 384 + j1.val = win0_2.index t 1 * 384 + 1 * j1.val; rw [h1]; omega

theorem final2_val : (dats m 0 c).arrAt 2 cfg0.N = R2 m c :=
  (dats m 0 c).arrAt_eq_of_cover 2 (R2 m c) (fun t hf => flushed2_val m c t hf) fun i => by
    have hi0 : (i 0 : Nat) < 1024 := (i 0).isLt
    have hi1 : (i 1 : Nat) < 3456 := (i 1).isLt
    have ht : ((i 0).val / 1024 * 9 + (i 1).val / 384) * 4 + 3 < cfg0.N := lt_of_lt_of_eq (by omega) N_0.symm
    refine ⟨⟨((i 0).val / 1024 * 9 + (i 1).val / 384) * 4 + 3, ht⟩, by have := flush0_2 ⟨((i 0).val / 1024 * 9 + (i 1).val / 384) * 4 + 3, ht⟩; exact this.mpr (by dsimp only; omega), ?_⟩
    obtain ⟨h0, h1⟩ := idx2 ⟨((i 0).val / 1024 * 9 + (i 1).val / 384) * 4 + 3, ht⟩
    show i ∈ ((View.whole main_v0).slice (win0_2.rect ⟨((i 0).val / 1024 * 9 + (i 1).val / 384) * 4 + 3, ht⟩)).set
    rw [View.set_slice_whole, Rect.mem_set_unit]
    intro a
    match a with
    | ⟨0, _⟩ => show win0_2.index _ 0 * 1024 ≤ (i 0 : Nat) ∧ (i 0 : Nat) < win0_2.index _ 0 * 1024 + 1024; rw [h0]; dsimp only; omega
    | ⟨1, _⟩ => show win0_2.index _ 1 * 384 ≤ (i 1 : Nat) ∧ (i 1 : Nat) < win0_2.index _ 1 * 384 + 384; rw [h1]; dsimp only; omega

/-! ## The reference -/

open Cert.InDwRefIdeal.Read in
theorem res2 : R2 m c = val_main_v5 (F := Ideal) (aH m c) (aD m c) := by
  funext i; idx_vars i
  rw [val_main_v5_apply, val_main_v4_apply, sum_blk (n := 4) (k := 2048) rfl]
  refine Finset.sum_congr rfl fun b _ => Finset.sum_congr rfl fun q _ => ?_
  rw [mul_comm]
  refine congrArg₂ (· * ·) (congrArg (aD m c) ?_) (congrArg (aH m c) ?_)
  · funext a; match a with
    | ⟨0, _⟩ => rfl
    | ⟨1, _⟩ => rfl
  · funext a; match a with
    | ⟨0, _⟩ => rfl
    | ⟨1, _⟩ => rfl

end Cert.InDwIdeal.Hand

end
-- ==== Proof.UpFwdVal.lean ====
module

public import proofs.«01_k».proof.Proof.Gen.UpFwdIdeal.Value
public import proofs.«01_k».proof.Proof.Gen.UpFwdRefIdeal.Read
public import proofs.«01_k».proof.Proof.MmSum
public import Idealize.ShloMosaic.Lib.Pipeline.Value
public import Idealize.ShloMosaic.Lib.Pointwise
public import Idealize.ShloMosaic.Lib.Tactic

@[expose] public section

set_option maxRecDepth 16384

noncomputable section

namespace Cert.UpFwdIdeal.Hand

open Cert.UpFwdIdeal Cert.UpFwdIdeal.Gen Idealize.ShloMosaic Idealize.ShloMosaic.TcCoe Idealize.SL.Sem
open Idealize.ShloMosaic.Pipeline (Dat)
open Cert.Mm (hz2 blkIx dot)

variable (m : (ℓ : Loc nD τ sig) → Buf (Elt Ideal) ℓ) (c : Dev nD)

/-! ## The grid: point `t` is column block `t % 11` of row block `t / 11` -/

theorem idx0 : ∀ t : Fin cfg0.N, win0_0.index t 0 = t.val / 11 ∧ win0_0.index t 1 = 0 :=
  (by decide +kernel : ∀ t : Fin grid0.N, win0_0.index t 0 = t.val / 11 ∧ win0_0.index t 1 = 0)
theorem idx1 : ∀ t : Fin cfg0.N, win0_1.index t 0 = 0 ∧ win0_1.index t 1 = t.val % 11 :=
  (by decide +kernel : ∀ t : Fin grid0.N, win0_1.index t 0 = 0 ∧ win0_1.index t 1 = t.val % 11)
theorem idx2 : ∀ t : Fin cfg0.N, win0_2.index t 0 = t.val / 11 ∧ win0_2.index t 1 = t.val % 11 :=
  (by decide +kernel : ∀ t : Fin grid0.N, win0_2.index t 0 = t.val / 11 ∧ win0_2.index t 1 = t.val % 11)

theorem t_lt (t : Fin cfg0.N) : t.val < 88 := lt_of_lt_of_eq t.isLt N_0

/-- The point's row block and column block. -/
def it (t : Fin cfg0.N) : Fin 8 := ⟨t.val / 11, by have := t_lt t; omega⟩
def jt (t : Fin cfg0.N) : Fin 11 := ⟨t.val % 11, Nat.mod_lt _ (by decide)⟩

/-- A row of the result, and a column. -/
abbrev row (i : Fin 8) (r : Fin 1024) : Fin 8192 := blkIx rfl i r
abbrev col (j : Fin 11) (l : Fin 512) : Fin 5632 := blkIx rfl j l

/-! ## The arguments and their blocks -/

def aG : S8192x1024.Idx → EReal := m ((c : Thread nD τ).loc main_arg0)
def aW : S1024x5632.Idx → EReal := m ((c : Thread nD τ).loc main_arg1)

theorem iblk0 (t : Fin cfg0.N) (r : Fin 1024) (x : Fin 1024) : iblk m c 0 t (ix2 r x) = aG m c (ix2 (row (it t) r) x) := by
  unfold iblk
  rw [View.read_apply]
  show V m c main_arg0 _ = m ((c : Thread nD τ).loc main_arg0) _
  obtain ⟨h0, h1⟩ := idx0 t
  refine (congrFun (V_main_arg0 m c) _).trans (congrArg (m ((c : Thread nD τ).loc main_arg0)) ?_)
  funext a; apply Fin.ext
  match a with
  | ⟨0, _⟩ => show win0_0.index t 0 * 1024 + 1 * r.val = t.val / 11 * 1024 + r.val; rw [h0]; omega
  | ⟨1, _⟩ => show win0_0.index t 1 * 1024 + 1 * x.val = x.val; rw [h1]; omega

theorem iblk1 (t : Fin cfg0.N) (x : Fin 1024) (l : Fin 512) : iblk m c 1 t (ix2 x l) = aW m c (ix2 x (col (jt t) l)) := by
  unfold iblk
  rw [View.read_apply]
  show V m c main_arg1 _ = m ((c : Thread nD τ).loc main_arg1) _
  obtain ⟨h0, h1⟩ := idx1 t
  refine (congrFun (V_main_arg1 m c) _).trans (congrArg (m ((c : Thread nD τ).loc main_arg1)) ?_)
  funext a; apply Fin.ext
  match a with
  | ⟨0, _⟩ => show win0_1.index t 0 * 1024 + 1 * x.val = x.val; rw [h0]; omega
  | ⟨1, _⟩ => show win0_1.index t 1 * 512 + 1 * l.val = t.val % 11 * 512 + l.val; rw [h1]; omega

/-! ## What a point computes -/

theorem pay1_apply (v0 : Vec Ideal S1024x512 .bf16) (v1 : Vec Ideal S1024x1024 .bf16) (r : Fin 1024) (l : Fin 512) :
    k0_pay1 v0 v1 (ix2 r l) = ∑ x : Fin 1024, v1 (ix2 r x) * v0 (ix2 x l) := by
  unfold k0_pay1; pointwise

theorem out_at (t : Fin cfg0.N) (r : Fin 1024) (l : Fin 512) :
    outsAt0 m c t (ix2 r l) = dot (fun x => iblk m c 0 t (ix2 r x)) (fun x => iblk m c 1 t (ix2 x l)) := by
  unfold outsAt0 out0_A_2
  rw [View.read_writes_eq_canon _ _ _ (fun y => cover0_A_2 ..)]
  unfold kernelRun0_A
  dsimp only
  sl_unfold_words
  simp only [View.readAt_eq_ld, (hs0_0 t).read_unread, (hs0_1 t).read_unread, View.ld_unit_zero (S := S1024x1024) hz2, View.ld_unit_zero (S := S1024x512) hz2]
  rw [View.canon_unit_zero hz2]
  exact pay1_apply _ _ r l

/-! ## The result -/

def R2 : S8192x5632.Idx → EReal := fun i => dot (fun x => aG m c (ix2 (i 0) x)) (fun x => aW m c (ix2 x (i 1)))

theorem flushed2_val (t : Fin cfg0.N) : (dats m 0 c).flushed 2 t = ((cfg0.win 2).blk t).view.read (Elt Ideal) (R2 m c) := by
  rw [Value.flushed2]
  funext j
  idx_vars j
  obtain ⟨h0, h1⟩ := idx2 t
  rw [View.read_apply]
  refine (out_at m c t j0 j1).trans ?_
  simp only [iblk0, iblk1]
  show R2 m c (ix2 (row (it t) j0) (col (jt t) j1)) = R2 m c _
  refine congrArg (R2 m c) ?_
  funext a; apply Fin.ext
  match a with
  | ⟨0, _⟩ => show t.val / 11 * 1024 + j0.val = win0_2.index t 0 * 1024 + 1 * j0.val; rw [h0]; omega
  | ⟨1, _⟩ => show t.val % 11 * 512 + j1.val = win0_2.index t 1 * 512 + 1 * j1.val; rw [h1]; omega

theorem final2_val : (dats m 0 c).arrAt 2 cfg0.N = R2 m c :=
  (dats m 0 c).arrAt_eq_of_cover 2 (R2 m c) (fun t _ => flushed2_val m c t) fun i => by
    have hi0 : (i 0 : Nat) < 8192 := (i 0).isLt
    have hi1 : (i 1 : Nat) < 5632 := (i 1).isLt
    have ht : (i 0).val / 1024 * 11 + (i 1).val / 512 < cfg0.N := lt_of_lt_of_eq (by omega) N_0.symm
    refine ⟨⟨(i 0).val / 1024 * 11 + (i 1).val / 512, ht⟩, flush0_2 _, ?_⟩
    obtain ⟨h0, h1⟩ := idx2 ⟨(i 0).val / 1024 * 11 + (i 1).val / 512, ht⟩
    show i ∈ ((View.whole main_v0).slice (win0_2.rect ⟨(i 0).val / 1024 * 11 + (i 1).val / 512, ht⟩)).set
    rw [View.set_slice_whole, Rect.mem_set_unit]
    intro a
    match a with
    | ⟨0, _⟩ => show win0_2.index _ 0 * 1024 ≤ (i 0 : Nat) ∧ (i 0 : Nat) < win0_2.index _ 0 * 1024 + 1024; rw [h0]; dsimp only; omega
    | ⟨1, _⟩ => show win0_2.index _ 1 * 512 ≤ (i 1 : Nat) ∧ (i 1 : Nat) < win0_2.index _ 1 * 512 + 512; rw [h1]; dsimp only; omega

/-! ## The reference -/

open Cert.UpFwdRefIdeal.Read in
theorem res2 : R2 m c = val_main_v3 (F := Ideal) (aG m c) (aW m c) := by
  funext i; idx_vars i
  rw [val_main_v3_apply]
  show _ = val_main_v2 (F := Ideal) (aG m c) (aW m c) (ix2 i0 i1)
  rw [val_main_v2_apply]
  show ∑ x : Fin 1024, aG m c (ix2 i0 x) * aW m c (ix2 x i1) = _
  refine Finset.sum_congr rfl fun f _ => congrArg₂ (· * ·) (congrArg (aG m c) ?_) (congrArg (aW m c) ?_)
  · funext a; match a with
    | ⟨0, _⟩ => rfl
    | ⟨1, _⟩ => rfl
  · funext a; match a with
    | ⟨0, _⟩ => rfl
    | ⟨1, _⟩ => rfl

end Cert.UpFwdIdeal.Hand

end
-- ==== Proof.InFwdVal.lean ====
module

public import proofs.«01_k».proof.Proof.Gen.InFwdIdeal.Value
public import proofs.«01_k».proof.Proof.Gen.InFwdRefIdeal.Read
public import proofs.«01_k».proof.Proof.MmSum
public import Idealize.ShloMosaic.Lib.Pipeline.Value
public import Idealize.ShloMosaic.Lib.Pointwise
public import Idealize.ShloMosaic.Lib.Tactic

@[expose] public section

set_option maxRecDepth 16384

noncomputable section

namespace Cert.InFwdIdeal.Hand

open Cert.InFwdIdeal Cert.InFwdIdeal.Gen Idealize.ShloMosaic Idealize.ShloMosaic.TcCoe Idealize.SL.Sem
open Idealize.ShloMosaic.Pipeline (Dat)
open Cert.Mm (hz2 blkIx dot)

variable (m : (ℓ : Loc nD τ sig) → Buf (Elt Ideal) ℓ) (c : Dev nD)

/-! ## The grid: point `t` is column block `t % 9` of row block `t / 9` -/

theorem idx0 : ∀ t : Fin cfg0.N, win0_0.index t 0 = t.val / 9 ∧ win0_0.index t 1 = 0 :=
  (by decide +kernel : ∀ t : Fin grid0.N, win0_0.index t 0 = t.val / 9 ∧ win0_0.index t 1 = 0)
theorem idx1 : ∀ t : Fin cfg0.N, win0_1.index t 0 = 0 ∧ win0_1.index t 1 = t.val % 9 :=
  (by decide +kernel : ∀ t : Fin grid0.N, win0_1.index t 0 = 0 ∧ win0_1.index t 1 = t.val % 9)
theorem idx2 : ∀ t : Fin cfg0.N, win0_2.index t 0 = t.val / 9 ∧ win0_2.index t 1 = t.val % 9 :=
  (by decide +kernel : ∀ t : Fin grid0.N, win0_2.index t 0 = t.val / 9 ∧ win0_2.index t 1 = t.val % 9)

theorem t_lt (t : Fin cfg0.N) : t.val < 72 := lt_of_lt_of_eq t.isLt N_0

/-- The point's row block and column block. -/
def it (t : Fin cfg0.N) : Fin 8 := ⟨t.val / 9, by have := t_lt t; omega⟩
def jt (t : Fin cfg0.N) : Fin 9 := ⟨t.val % 9, Nat.mod_lt _ (by decide)⟩

/-- A row of the result, and a column. -/
abbrev row (i : Fin 8) (r : Fin 1024) : Fin 8192 := blkIx rfl i r
abbrev col (j : Fin 9) (l : Fin 384) : Fin 3456 := blkIx rfl j l

/-! ## The arguments and their blocks -/

def aG : S8192x1024.Idx → EReal := m ((c : Thread nD τ).loc main_arg0)
def aW : S1024x3456.Idx → EReal := m ((c : Thread nD τ).loc main_arg1)

theorem iblk0 (t : Fin cfg0.N) (r : Fin 1024) (x : Fin 1024) : iblk m c 0 t (ix2 r x) = aG m c (ix2 (row (it t) r) x) := by
  unfold iblk
  rw [View.read_apply]
  show V m c main_arg0 _ = m ((c : Thread nD τ).loc main_arg0) _
  obtain ⟨h0, h1⟩ := idx0 t
  refine (congrFun (V_main_arg0 m c) _).trans (congrArg (m ((c : Thread nD τ).loc main_arg0)) ?_)
  funext a; apply Fin.ext
  match a with
  | ⟨0, _⟩ => show win0_0.index t 0 * 1024 + 1 * r.val = t.val / 9 * 1024 + r.val; rw [h0]; omega
  | ⟨1, _⟩ => show win0_0.index t 1 * 1024 + 1 * x.val = x.val; rw [h1]; omega

theorem iblk1 (t : Fin cfg0.N) (x : Fin 1024) (l : Fin 384) : iblk m c 1 t (ix2 x l) = aW m c (ix2 x (col (jt t) l)) := by
  unfold iblk
  rw [View.read_apply]
  show V m c main_arg1 _ = m ((c : Thread nD τ).loc main_arg1) _
  obtain ⟨h0, h1⟩ := idx1 t
  refine (congrFun (V_main_arg1 m c) _).trans (congrArg (m ((c : Thread nD τ).loc main_arg1)) ?_)
  funext a; apply Fin.ext
  match a with
  | ⟨0, _⟩ => show win0_1.index t 0 * 1024 + 1 * x.val = x.val; rw [h0]; omega
  | ⟨1, _⟩ => show win0_1.index t 1 * 384 + 1 * l.val = t.val % 9 * 384 + l.val; rw [h1]; omega

/-! ## What a point computes -/

theorem pay1_apply (v0 : Vec Ideal S1024x384 .bf16) (v1 : Vec Ideal S1024x1024 .bf16) (r : Fin 1024) (l : Fin 384) :
    k0_pay1 v0 v1 (ix2 r l) = ∑ x : Fin 1024, v1 (ix2 r x) * v0 (ix2 x l) := by
  unfold k0_pay1; pointwise

theorem out_at (t : Fin cfg0.N) (r : Fin 1024) (l : Fin 384) :
    outsAt0 m c t (ix2 r l) = dot (fun x => iblk m c 0 t (ix2 r x)) (fun x => iblk m c 1 t (ix2 x l)) := by
  unfold outsAt0 out0_A_2
  rw [View.read_writes_eq_canon _ _ _ (fun y => cover0_A_2 ..)]
  unfold kernelRun0_A
  dsimp only
  sl_unfold_words
  simp only [View.readAt_eq_ld, (hs0_0 t).read_unread, (hs0_1 t).read_unread, View.ld_unit_zero (S := S1024x1024) hz2, View.ld_unit_zero (S := S1024x384) hz2]
  rw [View.canon_unit_zero hz2]
  exact pay1_apply _ _ r l

/-! ## The result -/

def R2 : S8192x3456.Idx → EReal := fun i => dot (fun x => aG m c (ix2 (i 0) x)) (fun x => aW m c (ix2 x (i 1)))

theorem flushed2_val (t : Fin cfg0.N) : (dats m 0 c).flushed 2 t = ((cfg0.win 2).blk t).view.read (Elt Ideal) (R2 m c) := by
  rw [Value.flushed2]
  funext j
  idx_vars j
  obtain ⟨h0, h1⟩ := idx2 t
  rw [View.read_apply]
  refine (out_at m c t j0 j1).trans ?_
  simp only [iblk0, iblk1]
  show R2 m c (ix2 (row (it t) j0) (col (jt t) j1)) = R2 m c _
  refine congrArg (R2 m c) ?_
  funext a; apply Fin.ext
  match a with
  | ⟨0, _⟩ => show t.val / 9 * 1024 + j0.val = win0_2.index t 0 * 1024 + 1 * j0.val; rw [h0]; omega
  | ⟨1, _⟩ => show t.val % 9 * 384 + j1.val = win0_2.index t 1 * 384 + 1 * j1.val; rw [h1]; omega

theorem final2_val : (dats m 0 c).arrAt 2 cfg0.N = R2 m c :=
  (dats m 0 c).arrAt_eq_of_cover 2 (R2 m c) (fun t _ => flushed2_val m c t) fun i => by
    have hi0 : (i 0 : Nat) < 8192 := (i 0).isLt
    have hi1 : (i 1 : Nat) < 3456 := (i 1).isLt
    have ht : (i 0).val / 1024 * 9 + (i 1).val / 384 < cfg0.N := lt_of_lt_of_eq (by omega) N_0.symm
    refine ⟨⟨(i 0).val / 1024 * 9 + (i 1).val / 384, ht⟩, flush0_2 _, ?_⟩
    obtain ⟨h0, h1⟩ := idx2 ⟨(i 0).val / 1024 * 9 + (i 1).val / 384, ht⟩
    show i ∈ ((View.whole main_v0).slice (win0_2.rect ⟨(i 0).val / 1024 * 9 + (i 1).val / 384, ht⟩)).set
    rw [View.set_slice_whole, Rect.mem_set_unit]
    intro a
    match a with
    | ⟨0, _⟩ => show win0_2.index _ 0 * 1024 ≤ (i 0 : Nat) ∧ (i 0 : Nat) < win0_2.index _ 0 * 1024 + 1024; rw [h0]; dsimp only; omega
    | ⟨1, _⟩ => show win0_2.index _ 1 * 384 ≤ (i 1 : Nat) ∧ (i 1 : Nat) < win0_2.index _ 1 * 384 + 384; rw [h1]; dsimp only; omega

/-! ## The reference -/

open Cert.InFwdRefIdeal.Read in
theorem res2 : R2 m c = val_main_v2 (F := Ideal) (aG m c) (aW m c) := by
  funext i; idx_vars i
  rw [val_main_v2_apply]
  show ∑ x : Fin 1024, aG m c (ix2 i0 x) * aW m c (ix2 x i1) = _
  refine Finset.sum_congr rfl fun f _ => congrArg₂ (· * ·) (congrArg (aG m c) ?_) (congrArg (aW m c) ?_)
  · funext a; match a with
    | ⟨0, _⟩ => rfl
    | ⟨1, _⟩ => rfl
  · funext a; match a with
    | ⟨0, _⟩ => rfl
    | ⟨1, _⟩ => rfl

end Cert.InFwdIdeal.Hand

end
-- ==== Proof.lean ====
module

public import proofs.«01_k».proof.Defs
public import proofs.«01_k».proof.Proof.Gen.Glu
public import proofs.«01_k».proof.Proof.Gen.Glu.Skeleton
public import proofs.«01_k».proof.Proof.Gen.Glu.Launch
public import proofs.«01_k».proof.Proof.Gen.Glu.Points
public import proofs.«01_k».proof.Proof.Gen.Glu.Frame
public import proofs.«01_k».proof.Proof.Gen.GluIdeal
public import proofs.«01_k».proof.Proof.Gen.GluIdeal.Skeleton
public import proofs.«01_k».proof.Proof.Gen.GluIdeal.Launch
public import proofs.«01_k».proof.Proof.Gen.GluIdeal.Points
public import proofs.«01_k».proof.Proof.Gen.GluIdeal.Frame
public import proofs.«01_k».proof.Proof.Gen.GluRefIdeal
public import proofs.«01_k».proof.Proof.Gen.Pre_glu_finite
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.AttnRefIdeal.Run
public import proofs.«01_k».proof.Proof.Gen.AttnRefIdeal.Read
public import Idealize.ShloMosaic.Adequacy
public import Idealize.ShloMosaic.Init
public import proofs.«01_k».proof.Proof.Gen.GluIdeal.Value
public import proofs.«01_k».proof.Proof.Gen.GluRefIdeal.Read
public import proofs.«01_k».proof.Proof.GluAlg
public import proofs.«01_k».proof.Proof.Gen.UpDx
public import proofs.«01_k».proof.Proof.Gen.UpDx.Skeleton
public import proofs.«01_k».proof.Proof.Gen.UpDx.Launch
public import proofs.«01_k».proof.Proof.Gen.UpDx.Points
public import proofs.«01_k».proof.Proof.Gen.UpDx.Frame
public import proofs.«01_k».proof.Proof.Gen.UpDxIdeal
public import proofs.«01_k».proof.Proof.Gen.UpDxIdeal.Skeleton
public import proofs.«01_k».proof.Proof.Gen.UpDxIdeal.Launch
public import proofs.«01_k».proof.Proof.Gen.UpDxIdeal.Points
public import proofs.«01_k».proof.Proof.Gen.UpDxIdeal.Frame
public import proofs.«01_k».proof.Proof.Gen.UpDxIdeal.Value
public import proofs.«01_k».proof.Proof.Gen.UpDxRefIdeal
public import proofs.«01_k».proof.Proof.Gen.UpDxRefIdeal.Run
public import proofs.«01_k».proof.Proof.Gen.UpDxRefIdeal.Read
public import proofs.«01_k».proof.Proof.Gen.UpDw
public import proofs.«01_k».proof.Proof.Gen.UpDw.Skeleton
public import proofs.«01_k».proof.Proof.Gen.UpDw.Launch
public import proofs.«01_k».proof.Proof.Gen.UpDw.Points
public import proofs.«01_k».proof.Proof.Gen.UpDw.Frame
public import proofs.«01_k».proof.Proof.Gen.UpDwIdeal
public import proofs.«01_k».proof.Proof.Gen.UpDwIdeal.Skeleton
public import proofs.«01_k».proof.Proof.Gen.UpDwIdeal.Launch
public import proofs.«01_k».proof.Proof.Gen.UpDwIdeal.Points
public import proofs.«01_k».proof.Proof.Gen.UpDwIdeal.Frame
public import proofs.«01_k».proof.Proof.Gen.UpDwIdeal.Value
public import proofs.«01_k».proof.Proof.Gen.UpDwRefIdeal
public import proofs.«01_k».proof.Proof.Gen.UpDwRefIdeal.Run
public import proofs.«01_k».proof.Proof.Gen.UpDwRefIdeal.Read
public import proofs.«01_k».proof.Proof.AttnRun
public import proofs.«01_k».proof.Proof.AttnRawRun
public import proofs.«01_k».proof.Proof.AttnAlg
public import proofs.«01_k».proof.Proof.UpDxVal
public import proofs.«01_k».proof.Proof.UpDwVal
public import proofs.«01_k».proof.Proof.Gen.DownDx
public import proofs.«01_k».proof.Proof.Gen.DownDx.Skeleton
public import proofs.«01_k».proof.Proof.Gen.DownDx.Launch
public import proofs.«01_k».proof.Proof.Gen.DownDx.Points
public import proofs.«01_k».proof.Proof.Gen.DownDx.Frame
public import proofs.«01_k».proof.Proof.Gen.DownDxIdeal
public import proofs.«01_k».proof.Proof.Gen.DownDxIdeal.Skeleton
public import proofs.«01_k».proof.Proof.Gen.DownDxIdeal.Launch
public import proofs.«01_k».proof.Proof.Gen.DownDxIdeal.Points
public import proofs.«01_k».proof.Proof.Gen.DownDxIdeal.Frame
public import proofs.«01_k».proof.Proof.Gen.DownDxIdeal.Value
public import proofs.«01_k».proof.Proof.Gen.DownDxRefIdeal
public import proofs.«01_k».proof.Proof.Gen.DownDxRefIdeal.Run
public import proofs.«01_k».proof.Proof.Gen.DownDxRefIdeal.Read
public import proofs.«01_k».proof.Proof.DownDxVal
public import proofs.«01_k».proof.Proof.Gen.DownDw
public import proofs.«01_k».proof.Proof.Gen.DownDw.Skeleton
public import proofs.«01_k».proof.Proof.Gen.DownDw.Launch
public import proofs.«01_k».proof.Proof.Gen.DownDw.Points
public import proofs.«01_k».proof.Proof.Gen.DownDw.Frame
public import proofs.«01_k».proof.Proof.Gen.DownDwIdeal
public import proofs.«01_k».proof.Proof.Gen.DownDwIdeal.Skeleton
public import proofs.«01_k».proof.Proof.Gen.DownDwIdeal.Launch
public import proofs.«01_k».proof.Proof.Gen.DownDwIdeal.Points
public import proofs.«01_k».proof.Proof.Gen.DownDwIdeal.Frame
public import proofs.«01_k».proof.Proof.Gen.DownDwIdeal.Value
public import proofs.«01_k».proof.Proof.Gen.DownDwRefIdeal
public import proofs.«01_k».proof.Proof.Gen.DownDwRefIdeal.Run
public import proofs.«01_k».proof.Proof.Gen.DownDwRefIdeal.Read
public import proofs.«01_k».proof.Proof.DownDwVal
public import proofs.«01_k».proof.Proof.Gen.OutDx
public import proofs.«01_k».proof.Proof.Gen.OutDx.Skeleton
public import proofs.«01_k».proof.Proof.Gen.OutDx.Launch
public import proofs.«01_k».proof.Proof.Gen.OutDx.Points
public import proofs.«01_k».proof.Proof.Gen.OutDx.Frame
public import proofs.«01_k».proof.Proof.Gen.OutDxIdeal
public import proofs.«01_k».proof.Proof.Gen.OutDxIdeal.Skeleton
public import proofs.«01_k».proof.Proof.Gen.OutDxIdeal.Launch
public import proofs.«01_k».proof.Proof.Gen.OutDxIdeal.Points
public import proofs.«01_k».proof.Proof.Gen.OutDxIdeal.Frame
public import proofs.«01_k».proof.Proof.Gen.OutDxIdeal.Value
public import proofs.«01_k».proof.Proof.Gen.OutDxRefIdeal
public import proofs.«01_k».proof.Proof.Gen.OutDxRefIdeal.Run
public import proofs.«01_k».proof.Proof.Gen.OutDxRefIdeal.Read
public import proofs.«01_k».proof.Proof.OutDxVal
public import proofs.«01_k».proof.Proof.Gen.OutDw
public import proofs.«01_k».proof.Proof.Gen.OutDw.Skeleton
public import proofs.«01_k».proof.Proof.Gen.OutDw.Launch
public import proofs.«01_k».proof.Proof.Gen.OutDw.Points
public import proofs.«01_k».proof.Proof.Gen.OutDw.Frame
public import proofs.«01_k».proof.Proof.Gen.OutDwIdeal
public import proofs.«01_k».proof.Proof.Gen.OutDwIdeal.Skeleton
public import proofs.«01_k».proof.Proof.Gen.OutDwIdeal.Launch
public import proofs.«01_k».proof.Proof.Gen.OutDwIdeal.Points
public import proofs.«01_k».proof.Proof.Gen.OutDwIdeal.Frame
public import proofs.«01_k».proof.Proof.Gen.OutDwIdeal.Value
public import proofs.«01_k».proof.Proof.Gen.OutDwRefIdeal
public import proofs.«01_k».proof.Proof.Gen.OutDwRefIdeal.Run
public import proofs.«01_k».proof.Proof.Gen.OutDwRefIdeal.Read
public import proofs.«01_k».proof.Proof.OutDwVal
public import proofs.«01_k».proof.Proof.Gen.InDx
public import proofs.«01_k».proof.Proof.Gen.InDx.Skeleton
public import proofs.«01_k».proof.Proof.Gen.InDx.Launch
public import proofs.«01_k».proof.Proof.Gen.InDx.Points
public import proofs.«01_k».proof.Proof.Gen.InDx.Frame
public import proofs.«01_k».proof.Proof.Gen.InDxIdeal
public import proofs.«01_k».proof.Proof.Gen.InDxIdeal.Skeleton
public import proofs.«01_k».proof.Proof.Gen.InDxIdeal.Launch
public import proofs.«01_k».proof.Proof.Gen.InDxIdeal.Points
public import proofs.«01_k».proof.Proof.Gen.InDxIdeal.Frame
public import proofs.«01_k».proof.Proof.Gen.InDxIdeal.Value
public import proofs.«01_k».proof.Proof.Gen.InDxRefIdeal
public import proofs.«01_k».proof.Proof.Gen.InDxRefIdeal.Run
public import proofs.«01_k».proof.Proof.Gen.InDxRefIdeal.Read
public import proofs.«01_k».proof.Proof.InDxVal
public import proofs.«01_k».proof.Proof.Gen.InDw
public import proofs.«01_k».proof.Proof.Gen.InDw.Skeleton
public import proofs.«01_k».proof.Proof.Gen.InDw.Launch
public import proofs.«01_k».proof.Proof.Gen.InDw.Points
public import proofs.«01_k».proof.Proof.Gen.InDw.Frame
public import proofs.«01_k».proof.Proof.Gen.InDwIdeal
public import proofs.«01_k».proof.Proof.Gen.InDwIdeal.Skeleton
public import proofs.«01_k».proof.Proof.Gen.InDwIdeal.Launch
public import proofs.«01_k».proof.Proof.Gen.InDwIdeal.Points
public import proofs.«01_k».proof.Proof.Gen.InDwIdeal.Frame
public import proofs.«01_k».proof.Proof.Gen.InDwIdeal.Value
public import proofs.«01_k».proof.Proof.Gen.InDwRefIdeal
public import proofs.«01_k».proof.Proof.Gen.InDwRefIdeal.Run
public import proofs.«01_k».proof.Proof.Gen.InDwRefIdeal.Read
public import proofs.«01_k».proof.Proof.InDwVal
public import proofs.«01_k».proof.Proof.Gen.UpFwd
public import proofs.«01_k».proof.Proof.Gen.UpFwd.Skeleton
public import proofs.«01_k».proof.Proof.Gen.UpFwd.Launch
public import proofs.«01_k».proof.Proof.Gen.UpFwd.Points
public import proofs.«01_k».proof.Proof.Gen.UpFwd.Frame
public import proofs.«01_k».proof.Proof.Gen.UpFwdIdeal
public import proofs.«01_k».proof.Proof.Gen.UpFwdIdeal.Skeleton
public import proofs.«01_k».proof.Proof.Gen.UpFwdIdeal.Launch
public import proofs.«01_k».proof.Proof.Gen.UpFwdIdeal.Points
public import proofs.«01_k».proof.Proof.Gen.UpFwdIdeal.Frame
public import proofs.«01_k».proof.Proof.Gen.UpFwdIdeal.Value
public import proofs.«01_k».proof.Proof.Gen.UpFwdRefIdeal
public import proofs.«01_k».proof.Proof.Gen.UpFwdRefIdeal.Run
public import proofs.«01_k».proof.Proof.Gen.UpFwdRefIdeal.Read
public import proofs.«01_k».proof.Proof.UpFwdVal
public import proofs.«01_k».proof.Proof.Gen.InFwd
public import proofs.«01_k».proof.Proof.Gen.InFwd.Skeleton
public import proofs.«01_k».proof.Proof.Gen.InFwd.Launch
public import proofs.«01_k».proof.Proof.Gen.InFwd.Points
public import proofs.«01_k».proof.Proof.Gen.InFwd.Frame
public import proofs.«01_k».proof.Proof.Gen.InFwdIdeal
public import proofs.«01_k».proof.Proof.Gen.InFwdIdeal.Skeleton
public import proofs.«01_k».proof.Proof.Gen.InFwdIdeal.Launch
public import proofs.«01_k».proof.Proof.Gen.InFwdIdeal.Points
public import proofs.«01_k».proof.Proof.Gen.InFwdIdeal.Frame
public import proofs.«01_k».proof.Proof.Gen.InFwdIdeal.Value
public import proofs.«01_k».proof.Proof.Gen.InFwdRefIdeal
public import proofs.«01_k».proof.Proof.Gen.InFwdRefIdeal.Run
public import proofs.«01_k».proof.Proof.Gen.InFwdRefIdeal.Read
public import proofs.«01_k».proof.Proof.InFwdVal

@[expose] public section

noncomputable section

namespace Cert.Proof

open Idealize.ShloMosaic Idealize.ShloMosaic.TcCoe Idealize.SL.Sem

/-- The frames. -/
theorem frame_kernel : Cert.quiescent_Glu := fun m ρ _ => Cert.Glu.Gen.frame m ρ
theorem frame_ideal : Cert.quiescent_GluIdeal := fun m ρ _ => Cert.GluIdeal.Gen.frame m ρ
theorem frame_ideal_pre : Cert.quiescent_GluIdeal_pre_glu_finite := fun m ρ _ => Cert.GluIdeal.Gen.frame m ρ
theorem frame_ref : Cert.quiescent_GluRefIdeal := fun m ρ _ =>
  (θ_run Cert.GluRefIdeal.defs _ _).mono (fun r h => ⟨fun c => (h c).2.2.2.2.2.2, sem_eq_zero_of_no_sems (by decide) r.2⟩)
    (Cert.GluRefIdeal.Value.run (F := Ideal) m ρ)
theorem frame_ref_pre : Cert.quiescent_GluRefIdeal_pre_glu_finite := fun m ρ _ =>
  (θ_run Cert.GluRefIdeal.defs _ _).mono (fun r h => ⟨fun c => (h c).2.2.2.2.2.2, sem_eq_zero_of_no_sems (by decide) r.2⟩)
    (Cert.GluRefIdeal.Value.run (F := Ideal) m ρ)

/-- The kernel's six results are the reference's. -/
theorem algebraic : Cert.algebraic_GluIdeal_GluRefIdeal_pre_glu_finite := by
  intro m ρ m' ρ' hpre hag
  refine ⟨fun c => Cert.GluIdeal.Hand.R7 m c, fun c => Cert.GluIdeal.Hand.R8 m c, fun c => Cert.GluIdeal.Hand.R9 m c,
    fun c => Cert.GluIdeal.Hand.R10 m c, fun c => Cert.GluIdeal.Hand.R11 m c, fun c => Cert.GluIdeal.Hand.R12 m c, ?_, ?_⟩
  · refine (θ_run Cert.GluIdeal.defs _ _).mono (fun r h c => ?_) (Cert.GluIdeal.Value.run_blocks m ρ)
    obtain ⟨e0, e1, e2, e3, e4, e5, e⟩ := h c
    exact ⟨e0.trans (Cert.GluIdeal.Hand.final7 m c), e1.trans (Cert.GluIdeal.Hand.final8 m c), e2.trans (Cert.GluIdeal.Hand.final9 m c),
      e3.trans (Cert.GluIdeal.Hand.final10 m c), e4.trans (Cert.GluIdeal.Hand.final11 m c), e5.trans (Cert.GluIdeal.Hand.final12 m c), e⟩
  · refine (θ_run Cert.GluRefIdeal.defs _ _).mono (fun r h c => ?_) (Cert.GluRefIdeal.Value.run m' ρ')
    obtain ⟨e0, e1, e2, e3, e4, e5, e⟩ := h c
    obtain ⟨a0, a1, a2, a3⟩ := hag c
    obtain ⟨h0, h1, h2, h3⟩ := Cert.GluIdeal.Hand.finite_of_pre (hpre c)
    rw [Cert.GluRefIdeal.Read.val_main_v73_eq, a0, a1, a2, a3] at e0
    rw [Cert.GluRefIdeal.Read.val_main_v75_eq, a0, a1, a2, a3] at e1
    rw [Cert.GluRefIdeal.Read.val_main_v76_eq, a0, a1, a2, a3] at e2
    rw [Cert.GluRefIdeal.Read.val_main_v77_eq, a0, a1, a2, a3] at e3
    rw [Cert.GluRefIdeal.Read.val_main_v79_eq, a0, a1, a2, a3] at e4
    rw [Cert.GluRefIdeal.Read.val_main_v81_eq, a0, a1, a2, a3] at e5
    exact ⟨e0.trans (Cert.GluIdeal.Hand.res7 m c h0 h1 h2 h3).symm, e1.trans (Cert.GluIdeal.Hand.res8 m c).symm,
      e2.trans (Cert.GluIdeal.Hand.res9 m c h0 h1 h2 h3).symm, e3.trans (Cert.GluIdeal.Hand.res10 m c).symm,
      e4.trans (Cert.GluIdeal.Hand.res11 m c h0 h1 h2 h3).symm, e5.trans (Cert.GluIdeal.Hand.res12 m c).symm, e⟩

/-! ## Attention's backward call -/

theorem frame_attn : Cert.quiescent_Attn := fun m ρ _ => Cert.Attn.Att.frame_claim m ρ
theorem frame_attn_ideal : Cert.quiescent_AttnIdeal := fun m ρ _ => Cert.AttnIdeal.Att.frame_claim m ρ
theorem frame_attn_ref : Cert.quiescent_AttnRefIdeal := fun m ρ _ =>
  (θ_run Cert.AttnRefIdeal.defs _ _).mono (fun r h => ⟨fun c => (h c).2.2.2, sem_eq_zero_of_no_sems (by decide) r.2⟩)
    (Cert.AttnRefIdeal.Value.run (F := Ideal) m ρ)

/-- The kernel's literal is the logarithm of two, rounded. -/
theorem preserves_attn : Cert.preserves_Attn_AttnIdeal :=
  IdealRules.named_const.statement Cert.AttnIdeal.κ "ln2" .f32 0x3F317218#32 ((Real.log 2 : ℝ) : EReal) rfl

/-- The kernel's three results are the reference's. -/
theorem algebraic_attn : Cert.algebraic_AttnIdeal_AttnRefIdeal := by
  intro m ρ m' ρ' _ hag
  refine ⟨fun c => Cert.AttnIdeal.Att.R8 m c, fun c => Cert.AttnIdeal.Att.R9 m c, fun c => Cert.AttnIdeal.Att.R10 m c, ?_, ?_⟩
  · refine (θ_run Cert.AttnIdeal.defs _ _).mono (fun r h c => ?_) (θ_run_and (Cert.AttnIdeal.Att.run_main m ρ) (Cert.AttnIdeal.Att.unchanged m ρ))
    exact ⟨((h.1 c).1 8).trans (Cert.AttnIdeal.Att.final8 m c), ((h.1 c).1 9).trans (Cert.AttnIdeal.Att.final9 m c),
      ((h.1 c).1 10).trans (Cert.AttnIdeal.Att.final10 m c), h.2 c⟩
  · refine (θ_run Cert.AttnRefIdeal.defs _ _).mono (fun r h c => ?_) (Cert.AttnRefIdeal.Value.run m' ρ')
    obtain ⟨e0, e1, e2, e⟩ := h c
    obtain ⟨a0, a1, a2, a3, a4, a5, _, _⟩ := hag c
    rw [Cert.AttnRefIdeal.Read.val_main_v43_eq, a0, a1, a2, a3, a4, a5] at e0
    rw [Cert.AttnRefIdeal.Read.val_main_v45_eq, a0, a1, a3, a4] at e1
    rw [Cert.AttnRefIdeal.Read.val_main_v49_eq, a0, a1, a2, a3, a4, a5] at e2
    exact ⟨e0.trans (Cert.AttnIdeal.Att.res8 m c).symm, e1.trans (Cert.AttnIdeal.Att.res9 m c).symm, e2.trans (Cert.AttnIdeal.Att.res10 m c).symm, e⟩

/-! ## The up projection's backward products -/

theorem frame_up_dx : Cert.quiescent_UpDx := fun m ρ _ => Cert.UpDx.Gen.frame m ρ
theorem frame_up_dx_ideal : Cert.quiescent_UpDxIdeal := fun m ρ _ => Cert.UpDxIdeal.Gen.frame m ρ
theorem frame_up_dx_ref : Cert.quiescent_UpDxRefIdeal := fun m ρ _ =>
  (θ_run Cert.UpDxRefIdeal.defs _ _).mono (fun r h => ⟨fun c => (h c).2, sem_eq_zero_of_no_sems (by decide) r.2⟩)
    (Cert.UpDxRefIdeal.Value.run (F := Ideal) m ρ)

/-- The gradient of the up projection's input is the reference's. -/
theorem algebraic_up_dx : Cert.algebraic_UpDxIdeal_UpDxRefIdeal := by
  intro m ρ m' ρ' _ hag
  refine ⟨fun c => Cert.UpDxIdeal.Hand.R3 m c, ?_, ?_⟩
  · refine (θ_run Cert.UpDxIdeal.defs _ _).mono (fun r h c => ?_) (Cert.UpDxIdeal.Value.run_blocks m ρ)
    exact ⟨(h c).1.trans (Cert.UpDxIdeal.Hand.final3 m c), (h c).2⟩
  · refine (θ_run Cert.UpDxRefIdeal.defs _ _).mono (fun r h c => ?_) (Cert.UpDxRefIdeal.Value.run m' ρ')
    obtain ⟨e0, e⟩ := h c
    obtain ⟨a0, a1, a2⟩ := hag c
    rw [Cert.UpDxRefIdeal.Read.val_main_v7_eq, a0, a1, a2] at e0
    exact ⟨e0.trans (Cert.UpDxIdeal.Hand.res3 m c).symm, e⟩

theorem frame_up_dw : Cert.quiescent_UpDw := fun m ρ _ => Cert.UpDw.Gen.frame m ρ
theorem frame_up_dw_ideal : Cert.quiescent_UpDwIdeal := fun m ρ _ => Cert.UpDwIdeal.Gen.frame m ρ
theorem frame_up_dw_ref : Cert.quiescent_UpDwRefIdeal := fun m ρ _ =>
  (θ_run Cert.UpDwRefIdeal.defs _ _).mono (fun r h => ⟨fun c => (h c).2, sem_eq_zero_of_no_sems (by decide) r.2⟩)
    (Cert.UpDwRefIdeal.Value.run (F := Ideal) m ρ)

/-- The gradient of one half of the up projection's matrix is the reference's. -/
theorem algebraic_up_dw : Cert.algebraic_UpDwIdeal_UpDwRefIdeal := by
  intro m ρ m' ρ' _ hag
  refine ⟨fun c => Cert.UpDwIdeal.Hand.R2 m c, ?_, ?_⟩
  · refine (θ_run Cert.UpDwIdeal.defs _ _).mono (fun r h c => ?_) (Cert.UpDwIdeal.Value.run_blocks m ρ)
    exact ⟨(h c).1.trans (Cert.UpDwIdeal.Hand.final2_val m c), (h c).2⟩
  · refine (θ_run Cert.UpDwRefIdeal.defs _ _).mono (fun r h c => ?_) (Cert.UpDwRefIdeal.Value.run m' ρ')
    obtain ⟨e0, e⟩ := h c
    obtain ⟨a0, a1⟩ := hag c
    rw [Cert.UpDwRefIdeal.Read.val_main_v5_eq, a0, a1] at e0
    exact ⟨e0.trans (Cert.UpDwIdeal.Hand.res2 m c).symm, e⟩

/-! ## The other backward products -/

theorem frame_down_dx : Cert.quiescent_DownDx := fun m ρ _ => Cert.DownDx.Gen.frame m ρ
theorem frame_down_dx_ideal : Cert.quiescent_DownDxIdeal := fun m ρ _ => Cert.DownDxIdeal.Gen.frame m ρ
theorem frame_down_dx_ref : Cert.quiescent_DownDxRefIdeal := fun m ρ _ =>
  (θ_run Cert.DownDxRefIdeal.defs _ _).mono (fun r h => ⟨fun c => (h c).2, sem_eq_zero_of_no_sems (by decide) r.2⟩)
    (Cert.DownDxRefIdeal.Value.run (F := Ideal) m ρ)

/-- The gradient of the down projection's input is the reference's. -/
theorem algebraic_down_dx : Cert.algebraic_DownDxIdeal_DownDxRefIdeal := by
  intro m ρ m' ρ' _ hag
  refine ⟨fun c => Cert.DownDxIdeal.Hand.R2 m c, ?_, ?_⟩
  · refine (θ_run Cert.DownDxIdeal.defs _ _).mono (fun r h c => ?_) (Cert.DownDxIdeal.Value.run_blocks m ρ)
    exact ⟨(h c).1.trans (Cert.DownDxIdeal.Hand.final2_val m c), (h c).2⟩
  · refine (θ_run Cert.DownDxRefIdeal.defs _ _).mono (fun r h c => ?_) (Cert.DownDxRefIdeal.Value.run m' ρ')
    obtain ⟨e0, e⟩ := h c
    obtain ⟨a0, a1⟩ := hag c
    rw [Cert.DownDxRefIdeal.Read.val_main_v5_eq, a0, a1] at e0
    exact ⟨e0.trans (Cert.DownDxIdeal.Hand.res2 m c).symm, e⟩

theorem frame_down_dw : Cert.quiescent_DownDw := fun m ρ _ => Cert.DownDw.Gen.frame m ρ
theorem frame_down_dw_ideal : Cert.quiescent_DownDwIdeal := fun m ρ _ => Cert.DownDwIdeal.Gen.frame m ρ
theorem frame_down_dw_ref : Cert.quiescent_DownDwRefIdeal := fun m ρ _ =>
  (θ_run Cert.DownDwRefIdeal.defs _ _).mono (fun r h => ⟨fun c => (h c).2, sem_eq_zero_of_no_sems (by decide) r.2⟩)
    (Cert.DownDwRefIdeal.Value.run (F := Ideal) m ρ)

/-- The gradient of the down projection's matrix is the reference's. -/
theorem algebraic_down_dw : Cert.algebraic_DownDwIdeal_DownDwRefIdeal := by
  intro m ρ m' ρ' _ hag
  refine ⟨fun c => Cert.DownDwIdeal.Hand.R2 m c, ?_, ?_⟩
  · refine (θ_run Cert.DownDwIdeal.defs _ _).mono (fun r h c => ?_) (Cert.DownDwIdeal.Value.run_blocks m ρ)
    exact ⟨(h c).1.trans (Cert.DownDwIdeal.Hand.final2_val m c), (h c).2⟩
  · refine (θ_run Cert.DownDwRefIdeal.defs _ _).mono (fun r h c => ?_) (Cert.DownDwRefIdeal.Value.run m' ρ')
    obtain ⟨e0, e⟩ := h c
    obtain ⟨a0, a1⟩ := hag c
    rw [Cert.DownDwRefIdeal.Read.val_main_v5_eq, a0, a1] at e0
    exact ⟨e0.trans (Cert.DownDwIdeal.Hand.res2 m c).symm, e⟩

theorem frame_out_dx : Cert.quiescent_OutDx := fun m ρ _ => Cert.OutDx.Gen.frame m ρ
theorem frame_out_dx_ideal : Cert.quiescent_OutDxIdeal := fun m ρ _ => Cert.OutDxIdeal.Gen.frame m ρ
theorem frame_out_dx_ref : Cert.quiescent_OutDxRefIdeal := fun m ρ _ =>
  (θ_run Cert.OutDxRefIdeal.defs _ _).mono (fun r h => ⟨fun c => (h c).2, sem_eq_zero_of_no_sems (by decide) r.2⟩)
    (Cert.OutDxRefIdeal.Value.run (F := Ideal) m ρ)

/-- The gradient of the mixers' joint output projection's input is the reference's. -/
theorem algebraic_out_dx : Cert.algebraic_OutDxIdeal_OutDxRefIdeal := by
  intro m ρ m' ρ' _ hag
  refine ⟨fun c => Cert.OutDxIdeal.Hand.R2 m c, ?_, ?_⟩
  · refine (θ_run Cert.OutDxIdeal.defs _ _).mono (fun r h c => ?_) (Cert.OutDxIdeal.Value.run_blocks m ρ)
    exact ⟨(h c).1.trans (Cert.OutDxIdeal.Hand.final2_val m c), (h c).2⟩
  · refine (θ_run Cert.OutDxRefIdeal.defs _ _).mono (fun r h c => ?_) (Cert.OutDxRefIdeal.Value.run m' ρ')
    obtain ⟨e0, e⟩ := h c
    obtain ⟨a0, a1⟩ := hag c
    rw [Cert.OutDxRefIdeal.Read.val_main_v5_eq, a0, a1] at e0
    exact ⟨e0.trans (Cert.OutDxIdeal.Hand.res2 m c).symm, e⟩

theorem frame_out_dw : Cert.quiescent_OutDw := fun m ρ _ => Cert.OutDw.Gen.frame m ρ
theorem frame_out_dw_ideal : Cert.quiescent_OutDwIdeal := fun m ρ _ => Cert.OutDwIdeal.Gen.frame m ρ
theorem frame_out_dw_ref : Cert.quiescent_OutDwRefIdeal := fun m ρ _ =>
  (θ_run Cert.OutDwRefIdeal.defs _ _).mono (fun r h => ⟨fun c => (h c).2, sem_eq_zero_of_no_sems (by decide) r.2⟩)
    (Cert.OutDwRefIdeal.Value.run (F := Ideal) m ρ)

/-- The gradient of one mixer's rows of the output projection's matrix is the reference's. -/
theorem algebraic_out_dw : Cert.algebraic_OutDwIdeal_OutDwRefIdeal := by
  intro m ρ m' ρ' _ hag
  refine ⟨fun c => Cert.OutDwIdeal.Hand.R2 m c, ?_, ?_⟩
  · refine (θ_run Cert.OutDwIdeal.defs _ _).mono (fun r h c => ?_) (Cert.OutDwIdeal.Value.run_blocks m ρ)
    exact ⟨(h c).1.trans (Cert.OutDwIdeal.Hand.final2_val m c), (h c).2⟩
  · refine (θ_run Cert.OutDwRefIdeal.defs _ _).mono (fun r h c => ?_) (Cert.OutDwRefIdeal.Value.run m' ρ')
    obtain ⟨e0, e⟩ := h c
    obtain ⟨a0, a1⟩ := hag c
    rw [Cert.OutDwRefIdeal.Read.val_main_v5_eq, a0, a1] at e0
    exact ⟨e0.trans (Cert.OutDwIdeal.Hand.res2 m c).symm, e⟩

theorem frame_in_dx : Cert.quiescent_InDx := fun m ρ _ => Cert.InDx.Gen.frame m ρ
theorem frame_in_dx_ideal : Cert.quiescent_InDxIdeal := fun m ρ _ => Cert.InDxIdeal.Gen.frame m ρ
theorem frame_in_dx_ref : Cert.quiescent_InDxRefIdeal := fun m ρ _ =>
  (θ_run Cert.InDxRefIdeal.defs _ _).mono (fun r h => ⟨fun c => (h c).2, sem_eq_zero_of_no_sems (by decide) r.2⟩)
    (Cert.InDxRefIdeal.Value.run (F := Ideal) m ρ)

/-- The gradient of the input projection's input is the reference's. -/
theorem algebraic_in_dx : Cert.algebraic_InDxIdeal_InDxRefIdeal := by
  intro m ρ m' ρ' _ hag
  refine ⟨fun c => Cert.InDxIdeal.Hand.R2 m c, ?_, ?_⟩
  · refine (θ_run Cert.InDxIdeal.defs _ _).mono (fun r h c => ?_) (Cert.InDxIdeal.Value.run_blocks m ρ)
    exact ⟨(h c).1.trans (Cert.InDxIdeal.Hand.final2_val m c), (h c).2⟩
  · refine (θ_run Cert.InDxRefIdeal.defs _ _).mono (fun r h c => ?_) (Cert.InDxRefIdeal.Value.run m' ρ')
    obtain ⟨e0, e⟩ := h c
    obtain ⟨a0, a1⟩ := hag c
    rw [Cert.InDxRefIdeal.Read.val_main_v5_eq, a0, a1] at e0
    exact ⟨e0.trans (Cert.InDxIdeal.Hand.res2 m c).symm, e⟩

theorem frame_in_dw : Cert.quiescent_InDw := fun m ρ _ => Cert.InDw.Gen.frame m ρ
theorem frame_in_dw_ideal : Cert.quiescent_InDwIdeal := fun m ρ _ => Cert.InDwIdeal.Gen.frame m ρ
theorem frame_in_dw_ref : Cert.quiescent_InDwRefIdeal := fun m ρ _ =>
  (θ_run Cert.InDwRefIdeal.defs _ _).mono (fun r h => ⟨fun c => (h c).2, sem_eq_zero_of_no_sems (by decide) r.2⟩)
    (Cert.InDwRefIdeal.Value.run (F := Ideal) m ρ)

/-- The gradient of the input projection's matrix is the reference's. -/
theorem algebraic_in_dw : Cert.algebraic_InDwIdeal_InDwRefIdeal := by
  intro m ρ m' ρ' _ hag
  refine ⟨fun c => Cert.InDwIdeal.Hand.R2 m c, ?_, ?_⟩
  · refine (θ_run Cert.InDwIdeal.defs _ _).mono (fun r h c => ?_) (Cert.InDwIdeal.Value.run_blocks m ρ)
    exact ⟨(h c).1.trans (Cert.InDwIdeal.Hand.final2_val m c), (h c).2⟩
  · refine (θ_run Cert.InDwRefIdeal.defs _ _).mono (fun r h c => ?_) (Cert.InDwRefIdeal.Value.run m' ρ')
    obtain ⟨e0, e⟩ := h c
    obtain ⟨a0, a1⟩ := hag c
    rw [Cert.InDwRefIdeal.Read.val_main_v5_eq, a0, a1] at e0
    exact ⟨e0.trans (Cert.InDwIdeal.Hand.res2 m c).symm, e⟩

/-! ## Forward products -/

theorem frame_up_fwd : Cert.quiescent_UpFwd := fun m ρ _ => Cert.UpFwd.Gen.frame m ρ
theorem frame_up_fwd_ideal : Cert.quiescent_UpFwdIdeal := fun m ρ _ => Cert.UpFwdIdeal.Gen.frame m ρ
theorem frame_up_fwd_ref : Cert.quiescent_UpFwdRefIdeal := fun m ρ _ =>
  (θ_run Cert.UpFwdRefIdeal.defs _ _).mono (fun r h => ⟨fun c => (h c).2, sem_eq_zero_of_no_sems (by decide) r.2⟩)
    (Cert.UpFwdRefIdeal.Value.run (F := Ideal) m ρ)

/-- The up projection is the reference's. -/
theorem algebraic_up_fwd : Cert.algebraic_UpFwdIdeal_UpFwdRefIdeal := by
  intro m ρ m' ρ' _ hag
  refine ⟨fun c => Cert.UpFwdIdeal.Hand.R2 m c, ?_, ?_⟩
  · refine (θ_run Cert.UpFwdIdeal.defs _ _).mono (fun r h c => ?_) (Cert.UpFwdIdeal.Value.run_blocks m ρ)
    exact ⟨(h c).1.trans (Cert.UpFwdIdeal.Hand.final2_val m c), (h c).2⟩
  · refine (θ_run Cert.UpFwdRefIdeal.defs _ _).mono (fun r h c => ?_) (Cert.UpFwdRefIdeal.Value.run m' ρ')
    obtain ⟨e0, e⟩ := h c
    obtain ⟨a0, a1⟩ := hag c
    rw [Cert.UpFwdRefIdeal.Read.val_main_v3_eq, a0, a1] at e0
    exact ⟨e0.trans (Cert.UpFwdIdeal.Hand.res2 m c).symm, e⟩

theorem frame_in_fwd : Cert.quiescent_InFwd := fun m ρ _ => Cert.InFwd.Gen.frame m ρ
theorem frame_in_fwd_ideal : Cert.quiescent_InFwdIdeal := fun m ρ _ => Cert.InFwdIdeal.Gen.frame m ρ
theorem frame_in_fwd_ref : Cert.quiescent_InFwdRefIdeal := fun m ρ _ =>
  (θ_run Cert.InFwdRefIdeal.defs _ _).mono (fun r h => ⟨fun c => (h c).2, sem_eq_zero_of_no_sems (by decide) r.2⟩)
    (Cert.InFwdRefIdeal.Value.run (F := Ideal) m ρ)

/-- The input projection is the reference's. -/
theorem algebraic_in_fwd : Cert.algebraic_InFwdIdeal_InFwdRefIdeal := by
  intro m ρ m' ρ' _ hag
  refine ⟨fun c => Cert.InFwdIdeal.Hand.R2 m c, ?_, ?_⟩
  · refine (θ_run Cert.InFwdIdeal.defs _ _).mono (fun r h c => ?_) (Cert.InFwdIdeal.Value.run_blocks m ρ)
    exact ⟨(h c).1.trans (Cert.InFwdIdeal.Hand.final2_val m c), (h c).2⟩
  · refine (θ_run Cert.InFwdRefIdeal.defs _ _).mono (fun r h c => ?_) (Cert.InFwdRefIdeal.Value.run m' ρ')
    obtain ⟨e0, e⟩ := h c
    obtain ⟨a0, a1⟩ := hag c
    rw [Cert.InFwdRefIdeal.Read.val_main_v2_eq, a0, a1] at e0
    exact ⟨e0.trans (Cert.InFwdIdeal.Hand.res2 m c).symm, e⟩

theorem claim : Cert.Claim := ⟨Cert.Glu.Gen.facts, Cert.GluIdeal.Gen.facts, Cert.GluRefIdeal.Gen.facts, Cert.Attn.Gen.facts, Cert.AttnIdeal.Gen.facts,
  Cert.AttnRefIdeal.Gen.facts, Cert.UpDx.Gen.facts, Cert.UpDxIdeal.Gen.facts, Cert.UpDxRefIdeal.Gen.facts,
  Cert.UpDw.Gen.facts, Cert.UpDwIdeal.Gen.facts, Cert.UpDwRefIdeal.Gen.facts, Cert.DownDx.Gen.facts, Cert.DownDxIdeal.Gen.facts, Cert.DownDxRefIdeal.Gen.facts,
  Cert.DownDw.Gen.facts, Cert.DownDwIdeal.Gen.facts, Cert.DownDwRefIdeal.Gen.facts,
  Cert.OutDx.Gen.facts, Cert.OutDxIdeal.Gen.facts, Cert.OutDxRefIdeal.Gen.facts,
  Cert.OutDw.Gen.facts, Cert.OutDwIdeal.Gen.facts, Cert.OutDwRefIdeal.Gen.facts,
  Cert.InDx.Gen.facts, Cert.InDxIdeal.Gen.facts, Cert.InDxRefIdeal.Gen.facts,
  Cert.InDw.Gen.facts, Cert.InDwIdeal.Gen.facts, Cert.InDwRefIdeal.Gen.facts, Cert.UpFwd.Gen.facts, Cert.UpFwdIdeal.Gen.facts, Cert.UpFwdRefIdeal.Gen.facts,
  Cert.InFwd.Gen.facts, Cert.InFwdIdeal.Gen.facts, Cert.InFwdRefIdeal.Gen.facts, Cert.Pre_glu_finite.Gen.facts,
  frame_kernel, frame_ideal, frame_ideal_pre, frame_ref, frame_ref_pre, frame_attn, frame_attn_ideal, frame_attn_ref,
  frame_up_dx, frame_up_dx_ideal, frame_up_dx_ref, frame_up_dw, frame_up_dw_ideal, frame_up_dw_ref,
  frame_down_dx, frame_down_dx_ideal, frame_down_dx_ref,
  frame_down_dw, frame_down_dw_ideal, frame_down_dw_ref,
  frame_out_dx, frame_out_dx_ideal, frame_out_dx_ref,
  frame_out_dw, frame_out_dw_ideal, frame_out_dw_ref,
  frame_in_dx, frame_in_dx_ideal, frame_in_dx_ref,
  frame_in_dw, frame_in_dw_ideal, frame_in_dw_ref,
  frame_up_fwd, frame_up_fwd_ideal, frame_up_fwd_ref,
  frame_in_fwd, frame_in_fwd_ideal, frame_in_fwd_ref,
  trivial, algebraic, preserves_attn, algebraic_attn,
  trivial, algebraic_up_dx, trivial, algebraic_up_dw,
  trivial, algebraic_down_dx, trivial, algebraic_down_dw,
  trivial, algebraic_out_dx, trivial, algebraic_out_dw,
  trivial, algebraic_in_dx, trivial, algebraic_in_dw,
  trivial, algebraic_up_fwd, trivial, algebraic_in_fwd⟩

end Cert.Proof

end
